-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite_scores_b [hPre_finite_scores_b : Cert.Pre_finite_scores_b.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite_scores_b.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite_scores_b [hPre_finite_scores_b : Cert.Pre_finite_scores_b.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite_scores_b.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4))) = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Kernel5Ideal_pre_finite_scores_b [hKernel5Ideal : Cert.Kernel5Ideal.Facts] [hPre_finite_scores_b : Cert.Pre_finite_scores_b.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite_scores_b m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Reference5Ideal_pre_finite_scores_b [hReference5Ideal : Cert.Reference5Ideal.Facts] [hPre_finite_scores_b : Cert.Pre_finite_scores_b.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite_scores_b m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7)
      ∧ r.2.mem ((c.tc : Thread Cert.Kernel6.nD Cert.Kernel6.τ).loc Cert.Kernel6.main_arg8) = m ((c.tc : Thread Cert.Kernel6.nD Cert.Kernel6.τ).loc Cert.Kernel6.main_arg8)
      ∧ r.2.mem ((c.tc : Thread Cert.Kernel6.nD Cert.Kernel6.τ).loc Cert.Kernel6.main_arg9) = m ((c.tc : Thread Cert.Kernel6.nD Cert.Kernel6.τ).loc Cert.Kernel6.main_arg9)
      ∧ r.2.mem ((c.tc : Thread Cert.Kernel6.nD Cert.Kernel6.τ).loc Cert.Kernel6.main_arg10) = m ((c.tc : Thread Cert.Kernel6.nD Cert.Kernel6.τ).loc Cert.Kernel6.main_arg10)
      ∧ r.2.mem ((c.tc : Thread Cert.Kernel6.nD Cert.Kernel6.τ).loc Cert.Kernel6.main_arg11) = m ((c.tc : Thread Cert.Kernel6.nD Cert.Kernel6.τ).loc Cert.Kernel6.main_arg11)
      ∧ r.2.mem ((c.tc : Thread Cert.Kernel6.nD Cert.Kernel6.τ).loc Cert.Kernel6.main_arg12) = m ((c.tc : Thread Cert.Kernel6.nD Cert.Kernel6.τ).loc Cert.Kernel6.main_arg12))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
      ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9)
      ∧ r.2.mem ((c.tc : Thread Cert.Kernel6Ideal.nD Cert.Kernel6Ideal.τ).loc Cert.Kernel6Ideal.main_arg10) = m ((c.tc : Thread Cert.Kernel6Ideal.nD Cert.Kernel6Ideal.τ).loc Cert.Kernel6Ideal.main_arg10)
      ∧ r.2.mem ((c.tc : Thread Cert.Kernel6Ideal.nD Cert.Kernel6Ideal.τ).loc Cert.Kernel6Ideal.main_arg11) = m ((c.tc : Thread Cert.Kernel6Ideal.nD Cert.Kernel6Ideal.τ).loc Cert.Kernel6Ideal.main_arg11)
      ∧ r.2.mem ((c.tc : Thread Cert.Kernel6Ideal.nD Cert.Kernel6Ideal.τ).loc Cert.Kernel6Ideal.main_arg12) = m ((c.tc : Thread Cert.Kernel6Ideal.nD Cert.Kernel6Ideal.τ).loc Cert.Kernel6Ideal.main_arg12))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8)
      ∧ r.2.mem ((c.tc : Thread Cert.Reference6Ideal.nD Cert.Reference6Ideal.τ).loc Cert.Reference6Ideal.main_arg9) = m ((c.tc : Thread Cert.Reference6Ideal.nD Cert.Reference6Ideal.τ).loc Cert.Reference6Ideal.main_arg9)
      ∧ r.2.mem ((c.tc : Thread Cert.Reference6Ideal.nD Cert.Reference6Ideal.τ).loc Cert.Reference6Ideal.main_arg10) = m ((c.tc : Thread Cert.Reference6Ideal.nD Cert.Reference6Ideal.τ).loc Cert.Reference6Ideal.main_arg10)
      ∧ r.2.mem ((c.tc : Thread Cert.Reference6Ideal.nD Cert.Reference6Ideal.τ).loc Cert.Reference6Ideal.main_arg11) = m ((c.tc : Thread Cert.Reference6Ideal.nD Cert.Reference6Ideal.τ).loc Cert.Reference6Ideal.main_arg11)
      ∧ r.2.mem ((c.tc : Thread Cert.Reference6Ideal.nD Cert.Reference6Ideal.τ).loc Cert.Reference6Ideal.main_arg12) = m ((c.tc : Thread Cert.Reference6Ideal.nD Cert.Reference6Ideal.τ).loc Cert.Reference6Ideal.main_arg12))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6)
      ∧ r.2.mem ((c.tc : Thread Cert.Kernel7.nD Cert.Kernel7.τ).loc Cert.Kernel7.main_arg7) = m ((c.tc : Thread Cert.Kernel7.nD Cert.Kernel7.τ).loc Cert.Kernel7.main_arg7)
      ∧ r.2.mem ((c.tc : Thread Cert.Kernel7.nD Cert.Kernel7.τ).loc Cert.Kernel7.main_arg8) = m ((c.tc : Thread Cert.Kernel7.nD Cert.Kernel7.τ).loc Cert.Kernel7.main_arg8)
      ∧ r.2.mem ((c.tc : Thread Cert.Kernel7.nD Cert.Kernel7.τ).loc Cert.Kernel7.main_arg9) = m ((c.tc : Thread Cert.Kernel7.nD Cert.Kernel7.τ).loc Cert.Kernel7.main_arg9)
      ∧ r.2.mem ((c.tc : Thread Cert.Kernel7.nD Cert.Kernel7.τ).loc Cert.Kernel7.main_arg10) = m ((c.tc : Thread Cert.Kernel7.nD Cert.Kernel7.τ).loc Cert.Kernel7.main_arg10)
      ∧ r.2.mem ((c.tc : Thread Cert.Kernel7.nD Cert.Kernel7.τ).loc Cert.Kernel7.main_arg11) = m ((c.tc : Thread Cert.Kernel7.nD Cert.Kernel7.τ).loc Cert.Kernel7.main_arg11)
      ∧ r.2.mem ((c.tc : Thread Cert.Kernel7.nD Cert.Kernel7.τ).loc Cert.Kernel7.main_arg12) = m ((c.tc : Thread Cert.Kernel7.nD Cert.Kernel7.τ).loc Cert.Kernel7.main_arg12)
      ∧ r.2.mem ((c.tc : Thread Cert.Kernel7.nD Cert.Kernel7.τ).loc Cert.Kernel7.main_arg13) = m ((c.tc : Thread Cert.Kernel7.nD Cert.Kernel7.τ).loc Cert.Kernel7.main_arg13))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
      ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8)
      ∧ r.2.mem ((c.tc : Thread Cert.Kernel7Ideal.nD Cert.Kernel7Ideal.τ).loc Cert.Kernel7Ideal.main_arg9) = m ((c.tc : Thread Cert.Kernel7Ideal.nD Cert.Kernel7Ideal.τ).loc Cert.Kernel7Ideal.main_arg9)
      ∧ r.2.mem ((c.tc : Thread Cert.Kernel7Ideal.nD Cert.Kernel7Ideal.τ).loc Cert.Kernel7Ideal.main_arg10) = m ((c.tc : Thread Cert.Kernel7Ideal.nD Cert.Kernel7Ideal.τ).loc Cert.Kernel7Ideal.main_arg10)
      ∧ r.2.mem ((c.tc : Thread Cert.Kernel7Ideal.nD Cert.Kernel7Ideal.τ).loc Cert.Kernel7Ideal.main_arg11) = m ((c.tc : Thread Cert.Kernel7Ideal.nD Cert.Kernel7Ideal.τ).loc Cert.Kernel7Ideal.main_arg11)
      ∧ r.2.mem ((c.tc : Thread Cert.Kernel7Ideal.nD Cert.Kernel7Ideal.τ).loc Cert.Kernel7Ideal.main_arg12) = m ((c.tc : Thread Cert.Kernel7Ideal.nD Cert.Kernel7Ideal.τ).loc Cert.Kernel7Ideal.main_arg12)
      ∧ r.2.mem ((c.tc : Thread Cert.Kernel7Ideal.nD Cert.Kernel7Ideal.τ).loc Cert.Kernel7Ideal.main_arg13) = m ((c.tc : Thread Cert.Kernel7Ideal.nD Cert.Kernel7Ideal.τ).loc Cert.Kernel7Ideal.main_arg13))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7)
      ∧ r.2.mem ((c.tc : Thread Cert.Reference7Ideal.nD Cert.Reference7Ideal.τ).loc Cert.Reference7Ideal.main_arg8) = m ((c.tc : Thread Cert.Reference7Ideal.nD Cert.Reference7Ideal.τ).loc Cert.Reference7Ideal.main_arg8)
      ∧ r.2.mem ((c.tc : Thread Cert.Reference7Ideal.nD Cert.Reference7Ideal.τ).loc Cert.Reference7Ideal.main_arg9) = m ((c.tc : Thread Cert.Reference7Ideal.nD Cert.Reference7Ideal.τ).loc Cert.Reference7Ideal.main_arg9)
      ∧ r.2.mem ((c.tc : Thread Cert.Reference7Ideal.nD Cert.Reference7Ideal.τ).loc Cert.Reference7Ideal.main_arg10) = m ((c.tc : Thread Cert.Reference7Ideal.nD Cert.Reference7Ideal.τ).loc Cert.Reference7Ideal.main_arg10)
      ∧ r.2.mem ((c.tc : Thread Cert.Reference7Ideal.nD Cert.Reference7Ideal.τ).loc Cert.Reference7Ideal.main_arg11) = m ((c.tc : Thread Cert.Reference7Ideal.nD Cert.Reference7Ideal.τ).loc Cert.Reference7Ideal.main_arg11)
      ∧ r.2.mem ((c.tc : Thread Cert.Reference7Ideal.nD Cert.Reference7Ideal.τ).loc Cert.Reference7Ideal.main_arg12) = m ((c.tc : Thread Cert.Reference7Ideal.nD Cert.Reference7Ideal.τ).loc Cert.Reference7Ideal.main_arg12)
      ∧ r.2.mem ((c.tc : Thread Cert.Reference7Ideal.nD Cert.Reference7Ideal.τ).loc Cert.Reference7Ideal.main_arg13) = m ((c.tc : Thread Cert.Reference7Ideal.nD Cert.Reference7Ideal.τ).loc Cert.Reference7Ideal.main_arg13))
      ∧ r.2.sem = fun _ => 0)

def preserves_Kernel_KernelIdeal : Prop :=
  True

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v38) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v14) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v14) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal_pre_finite_scores_b [hKernel5Ideal : Cert.Kernel5Ideal.Facts] [hReference5Ideal : Cert.Reference5Ideal.Facts] [hPre_finite_scores_b : Cert.Pre_finite_scores_b.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite_scores_b m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v33) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)
      ∧ m' ((c.tc : Thread Cert.Reference6Ideal.nD Cert.Reference6Ideal.τ).loc Cert.Reference6Ideal.main_arg8) = m ((c.tc : Thread Cert.Kernel6Ideal.nD Cert.Kernel6Ideal.τ).loc Cert.Kernel6Ideal.main_arg8)
      ∧ m' ((c.tc : Thread Cert.Reference6Ideal.nD Cert.Reference6Ideal.τ).loc Cert.Reference6Ideal.main_arg9) = m ((c.tc : Thread Cert.Kernel6Ideal.nD Cert.Kernel6Ideal.τ).loc Cert.Kernel6Ideal.main_arg9)
      ∧ m' ((c.tc : Thread Cert.Reference6Ideal.nD Cert.Reference6Ideal.τ).loc Cert.Reference6Ideal.main_arg10) = m ((c.tc : Thread Cert.Kernel6Ideal.nD Cert.Kernel6Ideal.τ).loc Cert.Kernel6Ideal.main_arg10)
      ∧ m' ((c.tc : Thread Cert.Reference6Ideal.nD Cert.Reference6Ideal.τ).loc Cert.Reference6Ideal.main_arg11) = m ((c.tc : Thread Cert.Kernel6Ideal.nD Cert.Kernel6Ideal.τ).loc Cert.Kernel6Ideal.main_arg11)
      ∧ m' ((c.tc : Thread Cert.Reference6Ideal.nD Cert.Reference6Ideal.τ).loc Cert.Reference6Ideal.main_arg12) = m ((c.tc : Thread Cert.Kernel6Ideal.nD Cert.Kernel6Ideal.τ).loc Cert.Kernel6Ideal.main_arg12)) →
    ∃ (v0 : (c : Dev Cert.Kernel6Ideal.nD) → Buf (Elt Ideal) ((c.tc : Thread Cert.Kernel6Ideal.nD Cert.Kernel6Ideal.τ).loc Cert.Kernel6Ideal.main_v8_0)) (v1 : (c : Dev Cert.Kernel6Ideal.nD) → Buf (Elt Ideal) ((c.tc : Thread Cert.Kernel6Ideal.nD Cert.Kernel6Ideal.τ).loc Cert.Kernel6Ideal.main_v8_1)) (v2 : (c : Dev Cert.Kernel6Ideal.nD) → Buf (Elt Ideal) ((c.tc : Thread Cert.Kernel6Ideal.nD Cert.Kernel6Ideal.τ).loc Cert.Kernel6Ideal.main_v8_2)) (v3 : (c : Dev Cert.Kernel6Ideal.nD) → Buf (Elt Ideal) ((c.tc : Thread Cert.Kernel6Ideal.nD Cert.Kernel6Ideal.τ).loc Cert.Kernel6Ideal.main_v8_3)) (v4 : (c : Dev Cert.Kernel6Ideal.nD) → Buf (Elt Ideal) ((c.tc : Thread Cert.Kernel6Ideal.nD Cert.Kernel6Ideal.τ).loc Cert.Kernel6Ideal.main_v8_4)) (v5 : (c : Dev Cert.Kernel6Ideal.nD) → Buf (Elt Ideal) ((c.tc : Thread Cert.Kernel6Ideal.nD Cert.Kernel6Ideal.τ).loc Cert.Kernel6Ideal.main_v8_5)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v8_0) = v0 c
          ∧ r.2.mem ((c.tc : Thread Cert.Kernel6Ideal.nD Cert.Kernel6Ideal.τ).loc Cert.Kernel6Ideal.main_v8_1) = v1 c
          ∧ r.2.mem ((c.tc : Thread Cert.Kernel6Ideal.nD Cert.Kernel6Ideal.τ).loc Cert.Kernel6Ideal.main_v8_2) = v2 c
          ∧ r.2.mem ((c.tc : Thread Cert.Kernel6Ideal.nD Cert.Kernel6Ideal.τ).loc Cert.Kernel6Ideal.main_v8_3) = v3 c
          ∧ r.2.mem ((c.tc : Thread Cert.Kernel6Ideal.nD Cert.Kernel6Ideal.τ).loc Cert.Kernel6Ideal.main_v8_4) = v4 c
          ∧ r.2.mem ((c.tc : Thread Cert.Kernel6Ideal.nD Cert.Kernel6Ideal.τ).loc Cert.Kernel6Ideal.main_v8_5) = v5 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
          ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
          ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9)
          ∧ r.2.mem ((c.tc : Thread Cert.Kernel6Ideal.nD Cert.Kernel6Ideal.τ).loc Cert.Kernel6Ideal.main_arg10) = m ((c.tc : Thread Cert.Kernel6Ideal.nD Cert.Kernel6Ideal.τ).loc Cert.Kernel6Ideal.main_arg10)
          ∧ r.2.mem ((c.tc : Thread Cert.Kernel6Ideal.nD Cert.Kernel6Ideal.τ).loc Cert.Kernel6Ideal.main_arg11) = m ((c.tc : Thread Cert.Kernel6Ideal.nD Cert.Kernel6Ideal.τ).loc Cert.Kernel6Ideal.main_arg11)
          ∧ r.2.mem ((c.tc : Thread Cert.Kernel6Ideal.nD Cert.Kernel6Ideal.τ).loc Cert.Kernel6Ideal.main_arg12) = m ((c.tc : Thread Cert.Kernel6Ideal.nD Cert.Kernel6Ideal.τ).loc Cert.Kernel6Ideal.main_arg12))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v170) = v0 c
          ∧ r.2.mem ((c.tc : Thread Cert.Reference6Ideal.nD Cert.Reference6Ideal.τ).loc Cert.Reference6Ideal.main_v172) = v1 c
          ∧ r.2.mem ((c.tc : Thread Cert.Reference6Ideal.nD Cert.Reference6Ideal.τ).loc Cert.Reference6Ideal.main_v174) = v2 c
          ∧ r.2.mem ((c.tc : Thread Cert.Reference6Ideal.nD Cert.Reference6Ideal.τ).loc Cert.Reference6Ideal.main_v178) = v3 c
          ∧ r.2.mem ((c.tc : Thread Cert.Reference6Ideal.nD Cert.Reference6Ideal.τ).loc Cert.Reference6Ideal.main_v180) = v4 c
          ∧ r.2.mem ((c.tc : Thread Cert.Reference6Ideal.nD Cert.Reference6Ideal.τ).loc Cert.Reference6Ideal.main_v182) = v5 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7)
          ∧ r.2.mem ((c.tc : Thread Cert.Reference6Ideal.nD Cert.Reference6Ideal.τ).loc Cert.Reference6Ideal.main_arg8) = m' ((c.tc : Thread Cert.Reference6Ideal.nD Cert.Reference6Ideal.τ).loc Cert.Reference6Ideal.main_arg8)
          ∧ r.2.mem ((c.tc : Thread Cert.Reference6Ideal.nD Cert.Reference6Ideal.τ).loc Cert.Reference6Ideal.main_arg9) = m' ((c.tc : Thread Cert.Reference6Ideal.nD Cert.Reference6Ideal.τ).loc Cert.Reference6Ideal.main_arg9)
          ∧ r.2.mem ((c.tc : Thread Cert.Reference6Ideal.nD Cert.Reference6Ideal.τ).loc Cert.Reference6Ideal.main_arg10) = m' ((c.tc : Thread Cert.Reference6Ideal.nD Cert.Reference6Ideal.τ).loc Cert.Reference6Ideal.main_arg10)
          ∧ r.2.mem ((c.tc : Thread Cert.Reference6Ideal.nD Cert.Reference6Ideal.τ).loc Cert.Reference6Ideal.main_arg11) = m' ((c.tc : Thread Cert.Reference6Ideal.nD Cert.Reference6Ideal.τ).loc Cert.Reference6Ideal.main_arg11)
          ∧ r.2.mem ((c.tc : Thread Cert.Reference6Ideal.nD Cert.Reference6Ideal.τ).loc Cert.Reference6Ideal.main_arg12) = m' ((c.tc : Thread Cert.Reference6Ideal.nD Cert.Reference6Ideal.τ).loc Cert.Reference6Ideal.main_arg12))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)
      ∧ m' ((c.tc : Thread Cert.Reference7Ideal.nD Cert.Reference7Ideal.τ).loc Cert.Reference7Ideal.main_arg7) = m ((c.tc : Thread Cert.Kernel7Ideal.nD Cert.Kernel7Ideal.τ).loc Cert.Kernel7Ideal.main_arg7)
      ∧ m' ((c.tc : Thread Cert.Reference7Ideal.nD Cert.Reference7Ideal.τ).loc Cert.Reference7Ideal.main_arg8) = m ((c.tc : Thread Cert.Kernel7Ideal.nD Cert.Kernel7Ideal.τ).loc Cert.Kernel7Ideal.main_arg8)
      ∧ m' ((c.tc : Thread Cert.Reference7Ideal.nD Cert.Reference7Ideal.τ).loc Cert.Reference7Ideal.main_arg9) = m ((c.tc : Thread Cert.Kernel7Ideal.nD Cert.Kernel7Ideal.τ).loc Cert.Kernel7Ideal.main_arg9)
      ∧ m' ((c.tc : Thread Cert.Reference7Ideal.nD Cert.Reference7Ideal.τ).loc Cert.Reference7Ideal.main_arg10) = m ((c.tc : Thread Cert.Kernel7Ideal.nD Cert.Kernel7Ideal.τ).loc Cert.Kernel7Ideal.main_arg10)
      ∧ m' ((c.tc : Thread Cert.Reference7Ideal.nD Cert.Reference7Ideal.τ).loc Cert.Reference7Ideal.main_arg11) = m ((c.tc : Thread Cert.Kernel7Ideal.nD Cert.Kernel7Ideal.τ).loc Cert.Kernel7Ideal.main_arg11)
      ∧ m' ((c.tc : Thread Cert.Reference7Ideal.nD Cert.Reference7Ideal.τ).loc Cert.Reference7Ideal.main_arg12) = m ((c.tc : Thread Cert.Kernel7Ideal.nD Cert.Kernel7Ideal.τ).loc Cert.Kernel7Ideal.main_arg12)
      ∧ m' ((c.tc : Thread Cert.Reference7Ideal.nD Cert.Reference7Ideal.τ).loc Cert.Reference7Ideal.main_arg13) = m ((c.tc : Thread Cert.Kernel7Ideal.nD Cert.Kernel7Ideal.τ).loc Cert.Kernel7Ideal.main_arg13)) →
    ∃ (v0 : (c : Dev Cert.Kernel7Ideal.nD) → Buf (Elt Ideal) ((c.tc : Thread Cert.Kernel7Ideal.nD Cert.Kernel7Ideal.τ).loc Cert.Kernel7Ideal.main_v0_1)) (v1 : (c : Dev Cert.Kernel7Ideal.nD) → Buf (Elt Ideal) ((c.tc : Thread Cert.Kernel7Ideal.nD Cert.Kernel7Ideal.τ).loc Cert.Kernel7Ideal.main_v0_2)) (v2 : (c : Dev Cert.Kernel7Ideal.nD) → Buf (Elt Ideal) ((c.tc : Thread Cert.Kernel7Ideal.nD Cert.Kernel7Ideal.τ).loc Cert.Kernel7Ideal.main_v0_3)) (v3 : (c : Dev Cert.Kernel7Ideal.nD) → Buf (Elt Ideal) ((c.tc : Thread Cert.Kernel7Ideal.nD Cert.Kernel7Ideal.τ).loc Cert.Kernel7Ideal.main_v0_4)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0_1) = v0 c
          ∧ r.2.mem ((c.tc : Thread Cert.Kernel7Ideal.nD Cert.Kernel7Ideal.τ).loc Cert.Kernel7Ideal.main_v0_2) = v1 c
          ∧ r.2.mem ((c.tc : Thread Cert.Kernel7Ideal.nD Cert.Kernel7Ideal.τ).loc Cert.Kernel7Ideal.main_v0_3) = v2 c
          ∧ r.2.mem ((c.tc : Thread Cert.Kernel7Ideal.nD Cert.Kernel7Ideal.τ).loc Cert.Kernel7Ideal.main_v0_4) = v3 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
          ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
          ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8)
          ∧ r.2.mem ((c.tc : Thread Cert.Kernel7Ideal.nD Cert.Kernel7Ideal.τ).loc Cert.Kernel7Ideal.main_arg9) = m ((c.tc : Thread Cert.Kernel7Ideal.nD Cert.Kernel7Ideal.τ).loc Cert.Kernel7Ideal.main_arg9)
          ∧ r.2.mem ((c.tc : Thread Cert.Kernel7Ideal.nD Cert.Kernel7Ideal.τ).loc Cert.Kernel7Ideal.main_arg10) = m ((c.tc : Thread Cert.Kernel7Ideal.nD Cert.Kernel7Ideal.τ).loc Cert.Kernel7Ideal.main_arg10)
          ∧ r.2.mem ((c.tc : Thread Cert.Kernel7Ideal.nD Cert.Kernel7Ideal.τ).loc Cert.Kernel7Ideal.main_arg11) = m ((c.tc : Thread Cert.Kernel7Ideal.nD Cert.Kernel7Ideal.τ).loc Cert.Kernel7Ideal.main_arg11)
          ∧ r.2.mem ((c.tc : Thread Cert.Kernel7Ideal.nD Cert.Kernel7Ideal.τ).loc Cert.Kernel7Ideal.main_arg12) = m ((c.tc : Thread Cert.Kernel7Ideal.nD Cert.Kernel7Ideal.τ).loc Cert.Kernel7Ideal.main_arg12)
          ∧ r.2.mem ((c.tc : Thread Cert.Kernel7Ideal.nD Cert.Kernel7Ideal.τ).loc Cert.Kernel7Ideal.main_arg13) = m ((c.tc : Thread Cert.Kernel7Ideal.nD Cert.Kernel7Ideal.τ).loc Cert.Kernel7Ideal.main_arg13))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v93) = v0 c
          ∧ r.2.mem ((c.tc : Thread Cert.Reference7Ideal.nD Cert.Reference7Ideal.τ).loc Cert.Reference7Ideal.main_v97) = v1 c
          ∧ r.2.mem ((c.tc : Thread Cert.Reference7Ideal.nD Cert.Reference7Ideal.τ).loc Cert.Reference7Ideal.main_v101) = v2 c
          ∧ r.2.mem ((c.tc : Thread Cert.Reference7Ideal.nD Cert.Reference7Ideal.τ).loc Cert.Reference7Ideal.main_v105) = v3 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6)
          ∧ r.2.mem ((c.tc : Thread Cert.Reference7Ideal.nD Cert.Reference7Ideal.τ).loc Cert.Reference7Ideal.main_arg7) = m' ((c.tc : Thread Cert.Reference7Ideal.nD Cert.Reference7Ideal.τ).loc Cert.Reference7Ideal.main_arg7)
          ∧ r.2.mem ((c.tc : Thread Cert.Reference7Ideal.nD Cert.Reference7Ideal.τ).loc Cert.Reference7Ideal.main_arg8) = m' ((c.tc : Thread Cert.Reference7Ideal.nD Cert.Reference7Ideal.τ).loc Cert.Reference7Ideal.main_arg8)
          ∧ r.2.mem ((c.tc : Thread Cert.Reference7Ideal.nD Cert.Reference7Ideal.τ).loc Cert.Reference7Ideal.main_arg9) = m' ((c.tc : Thread Cert.Reference7Ideal.nD Cert.Reference7Ideal.τ).loc Cert.Reference7Ideal.main_arg9)
          ∧ r.2.mem ((c.tc : Thread Cert.Reference7Ideal.nD Cert.Reference7Ideal.τ).loc Cert.Reference7Ideal.main_arg10) = m' ((c.tc : Thread Cert.Reference7Ideal.nD Cert.Reference7Ideal.τ).loc Cert.Reference7Ideal.main_arg10)
          ∧ r.2.mem ((c.tc : Thread Cert.Reference7Ideal.nD Cert.Reference7Ideal.τ).loc Cert.Reference7Ideal.main_arg11) = m' ((c.tc : Thread Cert.Reference7Ideal.nD Cert.Reference7Ideal.τ).loc Cert.Reference7Ideal.main_arg11)
          ∧ r.2.mem ((c.tc : Thread Cert.Reference7Ideal.nD Cert.Reference7Ideal.τ).loc Cert.Reference7Ideal.main_arg12) = m' ((c.tc : Thread Cert.Reference7Ideal.nD Cert.Reference7Ideal.τ).loc Cert.Reference7Ideal.main_arg12)
          ∧ r.2.mem ((c.tc : Thread Cert.Reference7Ideal.nD Cert.Reference7Ideal.τ).loc Cert.Reference7Ideal.main_arg13) = m' ((c.tc : Thread Cert.Reference7Ideal.nD Cert.Reference7Ideal.τ).loc Cert.Reference7Ideal.main_arg13))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hPre_finite_scores : Cert.Pre_finite_scores.Facts) (hPre_finite_scores_b : Cert.Pre_finite_scores_b.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel5Ideal_pre_finite_scores_b (hKernel5Ideal := hKernel5Ideal) (hPre_finite_scores_b := hPre_finite_scores_b)
    ∧ quiescent_Reference5Ideal (hReference5Ideal := hReference5Ideal)
    ∧ quiescent_Reference5Ideal_pre_finite_scores_b (hReference5Ideal := hReference5Ideal) (hPre_finite_scores_b := hPre_finite_scores_b)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_pre_finite_scores_b (hKernel5Ideal := hKernel5Ideal) (hReference5Ideal := hReference5Ideal) (hPre_finite_scores_b := hPre_finite_scores_b)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
-- ==== Pre_finite_scores.lean ====
abbrev S4x2048x1024 : Shape := ⟨3, ![4, 2048, 1024]⟩
abbrev S4x4x256x256 : Shape := ⟨4, ![4, 4, 256, 256]⟩
abbrev S4x2048x256 : Shape := ⟨3, ![4, 2048, 256]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S4x4x256x256 : S_.BroadcastsInDim S4x4x256x256 (![] : Fin 0 → Fin S4x4x256x256.rank)
  reducesTo_S4x4x256x256_S_d0_1_2_3 : S4x4x256x256.ReducesTo [0, 1, 2, 3] S_
  bcast_S_S4x2048x256 : S_.BroadcastsInDim S4x2048x256 (![] : Fin 0 → Fin S4x2048x256.rank)
  reducesTo_S4x2048x256_S_d0_1_2 : S4x2048x256.ReducesTo [0, 1, 2] S_

variable [Facts]

def fn {F : FTy → Type} [FloatOps F] (main_arg0 : FVec F S4x2048x1024 .bf16) (main_arg1 : FVec F S4x4x256x256 .bf16) (main_arg2 : FVec F S4x2048x256 .bf16) (main_arg3 : FVec F S4x4x256x256 .bf16) (main_arg4 : FVec F S4x2048x256 .bf16) : IVec S_ 1 :=
  let main_v0 : FVec F S4x2048x1024 .bf16 := Host.absf main_arg0
  let main_cst : FVec F S_ .bf16 := constant S_ .bf16 0x7F80#16
  let main_v1 : FVec F S4x2048x1024 .bf16 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S4x4x256x256 .bf16 := Host.absf main_arg1
  let main_cst_0 : FVec F S_ .bf16 := constant S_ .bf16 0x7F80#16
  let main_v5 : FVec F S4x4x256x256 .bf16 := broadcastInDim S4x4x256x256 ![] bcast_S_S4x4x256x256 main_cst_0
  let main_v6 : IVec S4x4x256x256 1 := cmpf .olt main_v4 main_v5
  let main_c_1 : IVec S_ 1 := constantI S_ 1 1#1
  let main_v7 : IVec S_ 1 := (fun x v => Host.reduce IntOp.andi x v reducesTo_S4x4x256x256_S_d0_1_2_3 h_S_) main_v6 main_c_1
  let main_v8 : IVec S_ 1 := andi main_v3 main_v7
  let main_v9 : FVec F S4x2048x256 .bf16 := Host.absf main_arg2
  let main_cst_2 : FVec F S_ .bf16 := constant S_ .bf16 0x7F80#16
  let main_v10 : FVec F S4x2048x256 .bf16 := broadcastInDim S4x2048x256 ![] bcast_S_S4x2048x256 main_cst_2
  let main_v11 : IVec S4x2048x256 1 := cmpf .olt main_v9 main_v10
  let main_c_3 : IVec S_ 1 := constantI S_ 1 1#1
  let main_v12 : IVec S_ 1 := (fun x v => Host.reduce IntOp.andi x v reducesTo_S4x2048x256_S_d0_1_2 h_S_) main_v11 main_c_3
  let main_v13 : IVec S_ 1 := andi main_v8 main_v12
  main_v13
-- ==== Pre_finite_scores_b.lean ====
abbrev S4x2048x2048 : Shape := ⟨3, ![4, 2048, 2048]⟩
abbrev S4x4x256x2048 : Shape := ⟨4, ![4, 4, 256, 2048]⟩
abbrev S4x4x256x1024 : Shape := ⟨4, ![4, 4, 256, 1024]⟩
abbrev S4x2048x1024 : Shape := ⟨3, ![4, 2048, 1024]⟩
abbrev S_ : Shape := ⟨0, ![]⟩

class Facts : Prop where
  bcast_S_S4x2048x2048 : S_.BroadcastsInDim S4x2048x2048 (![] : Fin 0 → Fin S4x2048x2048.rank)
  reducesTo_S4x2048x2048_S_d0_1_2 : S4x2048x2048.ReducesTo [0, 1, 2] S_
  h_S_ : 0 < S_.numel
  bcast_S_S4x4x256x2048 : S_.BroadcastsInDim S4x4x256x2048 (![] : Fin 0 → Fin S4x4x256x2048.rank)
  reducesTo_S4x4x256x2048_S_d0_1_2_3 : S4x4x256x2048.ReducesTo [0, 1, 2, 3] S_

variable [Facts]

def fn {F : FTy → Type} [FloatOps F] (main_arg0 : FVec F S4x2048x2048 .bf16) (main_arg1 : FVec F S4x4x256x2048 .bf16) (main_arg2 : FVec F S4x2048x2048 .bf16) (main_arg3 : FVec F S4x4x256x1024 .bf16) (main_arg4 : FVec F S4x2048x1024 .bf16) : IVec S_ 1 :=
  let main_v0 : FVec F S4x2048x2048 .bf16 := Host.absf main_arg0
  let main_cst : FVec F S_ .bf16 := constant S_ .bf16 0x7F80#16
  let main_v1 : FVec F S4x2048x2048 .bf16 := broadcastInDim S4x2048x2048 ![] bcast_S_S4x2048x2048 main_cst
  let main_v2 : IVec S4x2048x2048 1 := cmpf .olt main_v0 main_v1
  let main_c : IVec S_ 1 := constantI S_ 1 1#1
  let main_v3 : IVec S_ 1 := (fun x v => Host.reduce IntOp.andi x v reducesTo_S4x2048x2048_S_d0_1_2 h_S_) main_v2 main_c
  let main_v4 : FVec F S4x4x256x2048 .bf16 := Host.absf main_arg1
  let main_cst_0 : FVec F S_ .bf16 := constant S_ .bf16 0x7F80#16
  let main_v5 : FVec F S4x4x256x2048 .bf16 := broadcastInDim S4x4x256x2048 ![] bcast_S_S4x4x256x2048 main_cst_0
  let main_v6 : IVec S4x4x256x2048 1 := cmpf .olt main_v4 main_v5
  let main_c_1 : IVec S_ 1 := constantI S_ 1 1#1
  let main_v7 : IVec S_ 1 := (fun x v => Host.reduce IntOp.andi x v reducesTo_S4x4x256x2048_S_d0_1_2_3 h_S_) main_v6 main_c_1
  let main_v8 : IVec S_ 1 := andi main_v3 main_v7
  let main_v9 : FVec F S4x2048x2048 .bf16 := Host.absf main_arg2
  let main_cst_2 : FVec F S_ .bf16 := constant S_ .bf16 0x7F80#16
  let main_v10 : FVec F S4x2048x2048 .bf16 := broadcastInDim S4x2048x2048 ![] bcast_S_S4x2048x2048 main_cst_2
  let main_v11 : IVec S4x2048x2048 1 := cmpf .olt main_v9 main_v10
  let main_c_3 : IVec S_ 1 := constantI S_ 1 1#1
  let main_v12 : IVec S_ 1 := (fun x v => Host.reduce IntOp.andi x v reducesTo_S4x2048x2048_S_d0_1_2 h_S_) main_v11 main_c_3
  let main_v13 : IVec S_ 1 := andi main_v8 main_v12
  main_v13
-- ==== Kernel.lean ====
abbrev S4x2048x1024 : Shape := ⟨3, ![4, 2048, 1024]⟩
abbrev S4x4x256x256 : Shape := ⟨4, ![4, 4, 256, 256]⟩
abbrev S4x2048x256 : Shape := ⟨3, ![4, 2048, 256]⟩
abbrev S1x1024x1024 : Shape := ⟨3, ![1, 1024, 1024]⟩
abbrev S1x1x256x256 : Shape := ⟨4, ![1, 1, 256, 256]⟩
abbrev S1x2048x256 : Shape := ⟨3, ![1, 2048, 256]⟩
abbrev S2304x512 : Shape := ⟨2, ![2304, 512]⟩
abbrev S2304x256 : Shape := ⟨2, ![2304, 256]⟩
abbrev S256x128 : Shape := ⟨2, ![256, 128]⟩
abbrev S1x1x256x128 : Shape := ⟨4, ![1, 1, 256, 128]⟩
abbrev S2048x128 : Shape := ⟨2, ![2048, 128]⟩
abbrev S1x2048x128 : Shape := ⟨3, ![1, 2048, 128]⟩
abbrev S256x256 : Shape := ⟨2, ![256, 256]⟩
abbrev S2048x256 : Shape := ⟨2, ![2048, 256]⟩
abbrev S1x256x128 : Shape := ⟨3, ![1, 256, 128]⟩
abbrev S2304x128 : Shape := ⟨2, ![2304, 128]⟩
abbrev S256x2304 : Shape := ⟨2, ![256, 2304]⟩
abbrev S256 : Shape := ⟨1, ![256]⟩
abbrev S256x1 : Shape := ⟨2, ![256, 1]⟩

abbrev nBuf : Space → Nat
  | .hbm => 6
  | .vmem => 14
  | .smem => 0
  | _ => 0

abbrev bufTy : (tb : Table) → Fin (tcTables nBuf tb) → BufTy
  | .hbm, ⟨0, _⟩ => ⟨S4x2048x1024, .bf16⟩
  | .hbm, ⟨1, _⟩ => ⟨S4x4x256x256, .bf16⟩
  | .hbm, ⟨2, _⟩ => ⟨S4x2048x256, .bf16⟩
  | .hbm, ⟨3, _⟩ => ⟨S4x4x256x256, .bf16⟩
  | .hbm, ⟨4, _⟩ => ⟨S4x2048x256, .bf16⟩
  | .hbm, ⟨5, _⟩ => ⟨S4x2048x1024, .bf16⟩
  | .local _ .vmem, ⟨0, _⟩ => ⟨S1x1024x1024, .bf16⟩
  | .local _ .vmem, ⟨1, _⟩ => ⟨S1x1024x1024, .bf16⟩
  | .local _ .vmem, ⟨2, _⟩ => ⟨S1x1x256x256, .bf16⟩
  | .local _ .vmem, ⟨3, _⟩ => ⟨S1x1x256x256, .bf16⟩
  | .local _ .vmem, ⟨4, _⟩ => ⟨S1x2048x256, .bf16⟩
  | .local _ .vmem, ⟨5, _⟩ => ⟨S1x2048x256, .bf16⟩
  | .local _ .vmem, ⟨6, _⟩ => ⟨S1x1x256x256, .bf16⟩
  | .local _ .vmem, ⟨7, _⟩ => ⟨S1x1x256x256, .bf16⟩
  | .local _ .vmem, ⟨8, _⟩ => ⟨S1x2048x256, .bf16⟩
  | .local _ .vmem, ⟨9, _⟩ => ⟨S1x2048x256, .bf16⟩
  | .local _ .vmem, ⟨10, _⟩ => ⟨S1x1024x1024, .bf16⟩
  | .local _ .vmem, ⟨11, _⟩ => ⟨S1x1024x1024, .bf16⟩
  | .local _ .vmem, ⟨12, _⟩ => ⟨S2304x512, .bf16⟩
  | .local _ .vmem, ⟨13, _⟩ => ⟨S2304x256, .bf16⟩
  | _, _ => ⟨S4x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 1, 2], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  ![c1_i32.toNat, arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  ![c1_i32.toNat, arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== ReferenceIdeal.lean ====
abbrev S4x2048x1024 : Shape := ⟨3, ![4, 2048, 1024]⟩
abbrev S4x4x256x256 : Shape := ⟨4, ![4, 4, 256, 256]⟩
abbrev S4x2048x256 : Shape := ⟨3, ![4, 2048, 256]⟩
abbrev S4x2048x2x4x128 : Shape := ⟨5, ![4, 2048, 2, 4, 128]⟩
abbrev S1x4x256x256 : Shape := ⟨4, ![1, 4, 256, 256]⟩
abbrev S4x256x256 : Shape := ⟨3, ![4, 256, 256]⟩
abbrev S4x2304x256 : Shape := ⟨3, ![4, 2304, 256]⟩
abbrev S4x2304x2x128 : Shape := ⟨4, ![4, 2304, 2, 128]⟩
abbrev S4x2x2304x2048x4 : Shape := ⟨5, ![4, 2, 2304, 2048, 4]⟩
abbrev S4x2x4x2048x2304 : Shape := ⟨5, ![4, 2, 4, 2048, 2304]⟩
abbrev S_ : Shape := ⟨0, ![]⟩
abbrev S4x2x4x2048 : Shape := ⟨4, ![4, 2, 4, 2048]⟩
abbrev S4x2x4x2048x1 : Shape := ⟨5, ![4, 2, 4, 2048, 1]⟩
abbrev S4x2x128x4x2048 : Shape := ⟨5, ![4, 2, 128, 4, 2048]⟩

abbrev nBuf : Space → Nat
  | .hbm => 43
  | .vmem => 0
  | .smem => 0
  | _ => 0

abbrev bufTy : (tb : Table) → Fin (tcTables nBuf tb) → BufTy
  | .hbm, ⟨0, _⟩ => ⟨S4x2048x1024, .bf16⟩
  | .hbm, ⟨1, _⟩ => ⟨S4x4x256x256, .bf16⟩
  | .hbm, ⟨2, _⟩ => ⟨S4x2048x256, .bf16⟩
  | .hbm, ⟨3, _⟩ => ⟨S4x4x256x256, .bf16⟩
  | .hbm, ⟨4, _⟩ => ⟨S4x2048x256, .bf16⟩
  | .hbm, ⟨5, _⟩ => ⟨S4x2048x1024, .f32⟩
  | .hbm, ⟨6, _⟩ => ⟨S4x2048x2x4x128, .f32⟩
  | .hbm, ⟨7, _⟩ => ⟨S1x4x256x256, .bf16⟩
  | .hbm, ⟨8, _⟩ => ⟨S4x256x256, .bf16⟩
  | .hbm, ⟨9, _⟩ => ⟨S4x256x256, .f32⟩
  | .hbm, ⟨10, _⟩ => ⟨S4x2048x256, .f32⟩
  | .hbm, ⟨11, _⟩ => ⟨S4x2304x256, .f32⟩
  | .hbm, ⟨12, _⟩ => ⟨S4x2304x2x128, .f32⟩
  | .hbm, ⟨13, _⟩ => ⟨S1x4x256x256, .bf16⟩
  | .hbm, ⟨14, _⟩ => ⟨S4x256x256, .bf16⟩
  | .hbm, ⟨15, _⟩ => ⟨S4x256x256, .f32⟩
  | .hbm, ⟨16, _⟩ => ⟨S4x2048x256, .f32⟩
  | .hbm, ⟨17, _⟩ => ⟨S4x2304x256, .f32⟩
  | .hbm, ⟨18, _⟩ => ⟨S4x2304x2x128, .f32⟩
  | .hbm, ⟨19, _⟩ => ⟨S4x2x2304x2048x4, .f32⟩
  | .hbm, ⟨20, _⟩ => ⟨S4x2x4x2048x2304, .f32⟩
  | .hbm, ⟨21, _⟩ => ⟨S_, .f32⟩
  | .hbm, ⟨22, _⟩ => ⟨S_, .f32⟩
  | .hbm, ⟨23, _⟩ => ⟨S4x2x4x2048x2304, .f32⟩
  | .hbm, ⟨24, _⟩ => ⟨S4x2x4x2048x2304, .f32⟩
  | .hbm, ⟨25, _⟩ => ⟨S_, .f32⟩
  | .hbm, ⟨26, _⟩ => ⟨S4x2x4x2048, .f32⟩
  | .hbm, ⟨27, _⟩ => ⟨S_, .f32⟩
  | .hbm, ⟨28, _⟩ => ⟨S4x2x4x2048, .f32⟩
  | .hbm, ⟨29, _⟩ => ⟨S4x2x4x2048, .f32⟩
  | .hbm, ⟨30, _⟩ => ⟨S4x2x4x2048x1, .f32⟩
  | .hbm, ⟨31, _⟩ => ⟨S4x2x4x2048x2304, .f32⟩
  | .hbm, ⟨32, _⟩ => ⟨S4x2x4x2048x2304, .f32⟩
  | .hbm, ⟨33, _⟩ => ⟨S4x2x4x2048x2304, .f32⟩
  | .hbm, ⟨34, _⟩ => ⟨S_, .f32⟩
  | .hbm, ⟨35, _⟩ => ⟨S4x2x4x2048, .f32⟩
  | .hbm, ⟨36, _⟩ => ⟨S4x2x4x2048x1, .f32⟩
  | .hbm, ⟨37, _⟩ => ⟨S4x2x4x2048x2304, .f32⟩
  | .hbm, ⟨38, _⟩ => ⟨S4x2x4x2048x2304, .f32⟩
  | .hbm, ⟨39, _⟩ => ⟨S4x2x128x4x2048, .f32⟩
  | .hbm, ⟨40, _⟩ => ⟨S4x2048x2x4x128, .f32⟩
  | .hbm, ⟨41, _⟩ => ⟨S4x2048x1024, .f32⟩
  | .hbm, ⟨42, _⟩ => ⟨S4x2048x1024, .bf16⟩
  | _, _ => ⟨S4x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_0 : Ref sig .tc := ⟨.hbm, 25, rfl⟩
abbrev main_v19 : Ref sig .tc := ⟨.hbm, 26, rfl⟩
abbrev main_cst_1 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst_2 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩

abbrev nD : Nat := 1
abbrev τ : Topo := Topo.v7x

variable {F : FTy → Type} [FloatOps F]
-- ==== Kernel2.lean ====
abbrev S8192x2048 : Shape := ⟨2, ![8192, 2048]⟩
abbrev S4x8x6x2048 : Shape := ⟨4, ![4, 8, 6, 2048]⟩
abbrev S4x1x2048 : Shape := ⟨3, ![4, 1, 2048]⟩
abbrev S2048x5632 : Shape := ⟨2, ![2048, 5632]⟩
abbrev S5632x2048 : Shape := ⟨2, ![5632, 2048]⟩
abbrev S256x2048 : Shape := ⟨2, ![256, 2048]⟩
abbrev S1024x512 : Shape := ⟨2, ![1024, 512]⟩
abbrev S1x1x6x2048 : Shape := ⟨4, ![1, 1, 6, 2048]⟩
abbrev S1x1x6x512 : Shape := ⟨4, ![1, 1, 6, 512]⟩
abbrev S1x1x2048 : Shape := ⟨3, ![1, 1, 2048]⟩
abbrev S2048x512 : Shape := ⟨2, ![2048, 512]⟩
abbrev S5632x512 : Shape := ⟨2, ![5632, 512]⟩
abbrev S2x1024x2048 : Shape := ⟨3, ![2, 1024, 2048]⟩
abbrev S11x1024x512 : Shape := ⟨3, ![11, 1024, 512]⟩
abbrev S1x256x2048 : Shape := ⟨3, ![1, 256, 2048]⟩
abbrev S256x512 : Shape := ⟨2, ![256, 512]⟩
abbrev S1x256x512 : Shape := ⟨3, ![1, 256, 512]⟩
abbrev S256 : Shape := ⟨1, ![256]⟩
abbrev S256x1 : Shape := ⟨2, ![256, 1]⟩
abbrev S1x2048 : Shape := ⟨2, ![1, 2048]⟩
abbrev S1x1x1x2048 : Shape := ⟨4, ![1, 1, 1, 2048]⟩
abbrev S512x512 : Shape := ⟨2, ![512, 512]⟩
abbrev S1x1x1x512 : Shape := ⟨4, ![1, 1, 1, 512]⟩
abbrev S1x512 : Shape := ⟨2, ![1, 512]⟩

abbrev nBuf : Space → Nat
  | .hbm => 7
  | .vmem => 19
  | .smem => 0
  | _ => 0

abbrev bufTy : (tb : Table) → Fin (tcTables nBuf tb) → BufTy
  | .hbm, ⟨0, _⟩ => ⟨S8192x2048, .f32⟩
  | .hbm, ⟨1, _⟩ => ⟨S4x8x6x2048, .f32⟩
  | .hbm, ⟨2, _⟩ => ⟨S4x1x2048, .f32⟩
  | .hbm, ⟨3, _⟩ => ⟨S2048x5632, .bf16⟩
  | .hbm, ⟨4, _⟩ => ⟨S2048x5632, .bf16⟩
  | .hbm, ⟨5, _⟩ => ⟨S5632x2048, .bf16⟩
  | .hbm, ⟨6, _⟩ => ⟨S8192x2048, .f32⟩
  | .local _ .vmem, ⟨0, _⟩ => ⟨S256x2048, .f32⟩
  | .local _ .vmem, ⟨1, _⟩ => ⟨S256x2048, .f32⟩
  | .local _ .vmem, ⟨2, _⟩ => ⟨S1024x512, .f32⟩
  | .local _ .vmem, ⟨3, _⟩ => ⟨S1024x512, .f32⟩
  | .local _ .vmem, ⟨4, _⟩ => ⟨S1x1x6x2048, .f32⟩
  | .local _ .vmem, ⟨5, _⟩ => ⟨S1x1x6x2048, .f32⟩
  | .local _ .vmem, ⟨6, _⟩ => ⟨S1x1x6x512, .f32⟩
  | .local _ .vmem, ⟨7, _⟩ => ⟨S1x1x6x512, .f32⟩
  | .local _ .vmem, ⟨8, _⟩ => ⟨S1x1x2048, .f32⟩
  | .local _ .vmem, ⟨9, _⟩ => ⟨S2048x512, .bf16⟩
  | .local _ .vmem, ⟨10, _⟩ => ⟨S2048x512, .bf16⟩
  | .local _ .vmem, ⟨11, _⟩ => ⟨S2048x512, .bf16⟩
  | .local _ .vmem, ⟨12, _⟩ => ⟨S2048x512, .bf16⟩
  | .local _ .vmem, ⟨13, _⟩ => ⟨S5632x512, .bf16⟩
  | .local _ .vmem, ⟨14, _⟩ => ⟨S5632x512, .bf16⟩
  | .local _ .vmem, ⟨15, _⟩ => ⟨S1024x512, .f32⟩
  | .local _ .vmem, ⟨16, _⟩ => ⟨S1024x512, .f32⟩
  | .local _ .vmem, ⟨17, _⟩ => ⟨S2x1024x2048, .bf16⟩
  | .local _ .vmem, ⟨18, _⟩ => ⟨S11x1024x512, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_scratch0 : Ref sig .tc := ⟨.vmem, 17, rfl⟩
abbrev cc0_scratch1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨2, ![9, 15], ![false, false]⟩

def k0_cond1 (i : grid0.Coords) : BitVec 1 :=
  let arg1 : BitVec 32 := BitVec.ofNat 32 (i 1).val
  let c11_i32 : BitVec 32 := 11#32
  let v21 : BitVec 1 := Scalar.cmpi .slt arg1 c11_i32
  let arg0 : BitVec 32 := BitVec.ofNat 32 (i 0).val
  let c1_i32_10 : BitVec 32 := 1#32
  let v22 : BitVec 1 := Scalar.cmpi .sge arg0 c1_i32_10
  let v23 : BitVec 1 := Scalar.andi v21 v22
  let v24 : BitVec 32 := Scalar.extui v23
  let c0_i32_11 : BitVec 32 := 0#32
  let v25 : BitVec 1 := Scalar.cmpi .ne v24 c0_i32_11
  v25

def k0_off1 (i : grid0.Coords) : Fin 3 → Nat :=
  let arg0 : BitVec 32 := BitVec.ofNat 32 (i 0).val
  let c1_i32 : BitVec 32 := 1#32
  let v0 : BitVec 32 := Scalar.addi arg0 c1_i32
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi v0 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v43 : Index := Scalar.indexCast v10
  let c0 : Index := 0#32
  let c0_21 : Index := 0#32
  ![v43.toNat, 0, 0]
def k0_off2 (i : grid0.Coords) : Fin 3 → Nat :=
  let arg1 : BitVec 32 := BitVec.ofNat 32 (i 1).val
  let v54 : Index := Scalar.indexCast arg1
  let c0_27 : Index := 0#32
  let c0_28 : Index := 0#32
  ![v54.toNat, 0, 0]
def k0_off3 (i : grid0.Coords) : Fin 3 → Nat :=
  let arg0 : BitVec 32 := BitVec.ofNat 32 (i 0).val
  let c1_i32 : BitVec 32 := 1#32
  let v0 : BitVec 32 := Scalar.addi arg0 c1_i32
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi v0 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v58 : Index := Scalar.indexCast v10
  let c256 : Index := 256#32
  let c0_29 : Index := 0#32
  ![v58.toNat, 256, 0]
def k0_off4 (i : grid0.Coords) : Fin 3 → Nat :=
  let arg1 : BitVec 32 := BitVec.ofNat 32 (i 1).val
  let v69 : Index := Scalar.indexCast arg1
  let c256_36 : Index := 256#32
  let c0_37 : Index := 0#32
  ![v69.toNat, 256, 0]
def k0_off5 (i : grid0.Coords) : Fin 3 → Nat :=
  let arg0 : BitVec 32 := BitVec.ofNat 32 (i 0).val
  let c1_i32 : BitVec 32 := 1#32
  let v0 : BitVec 32 := Scalar.addi arg0 c1_i32
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi v0 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v73 : Index := Scalar.indexCast v10
  let c512 : Index := 512#32
  let c0_38 : Index := 0#32
  ![v73.toNat, 512, 0]
def k0_off6 (i : grid0.Coords) : Fin 3 → Nat :=
  let arg1 : BitVec 32 := BitVec.ofNat 32 (i 1).val
  let v84 : Index := Scalar.indexCast arg1
  let c512_45 : Index := 512#32
  let c0_46 : Index := 0#32
  ![v84.toNat, 512, 0]
def k0_off7 (i : grid0.Coords) : Fin 3 → Nat :=
  let arg0 : BitVec 32 := BitVec.ofNat 32 (i 0).val
  let c1_i32 : BitVec 32 := 1#32
  let v0 : BitVec 32 := Scalar.addi arg0 c1_i32
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi v0 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v88 : Index := Scalar.indexCast v10
  let c768 : Index := 768#32
  let c0_47 : Index := 0#32
  ![v88.toNat, 768, 0]
def k0_off8 (i : grid0.Coords) : Fin 3 → Nat :=
  let arg1 : BitVec 32 := BitVec.ofNat 32 (i 1).val
  let v99 : Index := Scalar.indexCast arg1
  let c768_54 : Index := 768#32
  let c0_55 : Index := 0#32
  ![v99.toNat, 768, 0]
def k0_cond2 (i : grid0.Coords) : BitVec 1 :=
  let arg1 : BitVec 32 := BitVec.ofNat 32 (i 1).val
  let c11_i32_12 : BitVec 32 := 11#32
  let v26 : BitVec 1 := Scalar.cmpi .sge arg1 c11_i32_12
  let arg0 : BitVec 32 := BitVec.ofNat 32 (i 0).val
  let c1_i32_13 : BitVec 32 := 1#32
  let v27 : BitVec 1 := Scalar.cmpi .sge arg0 c1_i32_13
  let v28 : BitVec 1 := Scalar.andi v26 v27
  let c8_i32 : BitVec 32 := 8#32
  let v29 : BitVec 1 := Scalar.cmpi .slt arg0 c8_i32
  let v30 : BitVec 1 := Scalar.andi v28 v29
  let v31 : BitVec 32 := Scalar.extui v30
  let c0_i32_14 : BitVec 32 := 0#32
  let v32 : BitVec 1 := Scalar.cmpi .ne v31 c0_i32_14
  v32

def k0_mult1 (i : grid0.Coords) : BitVec 32 :=
  let arg1 : BitVec 32 := BitVec.ofNat 32 (i 1).val
  let c11_i32_34 : BitVec 32 := 11#32
  let v68 : BitVec 32 := Scalar.subi arg1 c11_i32_34
  let c256_i32 : BitVec 32 := 256#32
  let v69 : BitVec 32 := Scalar.muli v68 c256_i32
  v69
def k0_off9 (i : grid0.Coords) : Fin 3 → Nat :=
  let arg0 : BitVec 32 := BitVec.ofNat 32 (i 0).val
  let c2_i32_4 : BitVec 32 := 2#32
  let c0_i32_5 : BitVec 32 := 0#32
  let v11 : BitVec 1 := Scalar.cmpi .eq c2_i32_4 c0_i32_5
  let c1_i32_6 : BitVec 32 := 1#32
  let v12 : BitVec 32 := Scalar.select v11 c1_i32_6 c2_i32_4
  let v13 : BitVec 32 := Scalar.remsi arg0 v12
  let c0_i32_8 : BitVec 32 := 0#32
  let v15 : BitVec 1 := Scalar.cmpi .slt v13 c0_i32_8
  let c0_i32_9 : BitVec 32 := 0#32
  let v16 : BitVec 1 := Scalar.cmpi .slt v12 c0_i32_9
  let v17 : BitVec 1 := Scalar.xori v15 v16
  let c0_i32_7 : BitVec 32 := 0#32
  let v14 : BitVec 1 := Scalar.cmpi .ne v13 c0_i32_7
  let v18 : BitVec 1 := Scalar.andi v17 v14
  let v19 : BitVec 32 := Scalar.addi v13 v12
  let v20 : BitVec 32 := Scalar.select v18 v19 v13
  let v72 : Index := Scalar.indexCast v20
  let arg1 : BitVec 32 := BitVec.ofNat 32 (i 1).val
  let c11_i32_34 : BitVec 32 := 11#32
  let v68 : BitVec 32 := Scalar.subi arg1 c11_i32_34
  let c256_i32 : BitVec 32 := 256#32
  let v69 : BitVec 32 := Scalar.muli v68 c256_i32
  let v70 : BitVec 32 := v69
  let v73 : Index := Scalar.indexCast v70
  let c0_35 : Index := 0#32
  ![v72.toNat, v73.toNat, 0]
def k0_cond3 (i : grid0.Coords) : BitVec 1 :=
  let arg1 : BitVec 32 := BitVec.ofNat 32 (i 1).val
  let c11_i32_15 : BitVec 32 := 11#32
  let v33 : BitVec 1 := Scalar.cmpi .sge arg1 c11_i32_15
  let arg0 : BitVec 32 := BitVec.ofNat 32 (i 0).val
  let c0_i32_16 : BitVec 32 := 0#32
  let v34 : BitVec 1 := Scalar.cmpi .eq arg0 c0_i32_16
  let v35 : BitVec 1 := Scalar.andi v33 v34
  let v36 : BitVec 32 := Scalar.extui v35
  let c0_i32_17 : BitVec 32 := 0#32
  let v37 : BitVec 1 := Scalar.cmpi .ne v36 c0_i32_17
  v37

def k0_mult2 (i : grid0.Coords) : BitVec 32 :=
  let arg1 : BitVec 32 := BitVec.ofNat 32 (i 1).val
  let c11_i32_34 : BitVec 32 := 11#32
  let v68 : BitVec 32 := Scalar.subi arg1 c11_i32_34
  let c256_i32 : BitVec 32 := 256#32
  let v69 : BitVec 32 := Scalar.muli v68 c256_i32
  v69
def k0_off10 (i : grid0.Coords) : Fin 3 → Nat :=
  let arg0 : BitVec 32 := BitVec.ofNat 32 (i 0).val
  let c2_i32_4 : BitVec 32 := 2#32
  let c0_i32_5 : BitVec 32 := 0#32
  let v11 : BitVec 1 := Scalar.cmpi .eq c2_i32_4 c0_i32_5
  let c1_i32_6 : BitVec 32 := 1#32
  let v12 : BitVec 32 := Scalar.select v11 c1_i32_6 c2_i32_4
  let v13 : BitVec 32 := Scalar.remsi arg0 v12
  let c0_i32_8 : BitVec 32 := 0#32
  let v15 : BitVec 1 := Scalar.cmpi .slt v13 c0_i32_8
  let c0_i32_9 : BitVec 32 := 0#32
  let v16 : BitVec 1 := Scalar.cmpi .slt v12 c0_i32_9
  let v17 : BitVec 1 := Scalar.xori v15 v16
  let c0_i32_7 : BitVec 32 := 0#32
  let v14 : BitVec 1 := Scalar.cmpi .ne v13 c0_i32_7
  let v18 : BitVec 1 := Scalar.andi v17 v14
  let v19 : BitVec 32 := Scalar.addi v13 v12
  let v20 : BitVec 32 := Scalar.select v18 v19 v13
  let v72 : Index := Scalar.indexCast v20
  let arg1 : BitVec 32 := BitVec.ofNat 32 (i 1).val
  let c11_i32_34 : BitVec 32 := 11#32
  let v68 : BitVec 32 := Scalar.subi arg1 c11_i32_34
  let c256_i32 : BitVec 32 := 256#32
  let v69 : BitVec 32 := Scalar.muli v68 c256_i32
  let v70 : BitVec 32 := v69
  let v73 : Index := Scalar.indexCast v70
  let c0_35 : Index := 0#32
  ![v72.toNat, v73.toNat, 0]
def k0_cond4 (i : grid0.Coords) : BitVec 1 :=
  let arg1 : BitVec 32 := BitVec.ofNat 32 (i 1).val
  let c11_i32_18 : BitVec 32 := 11#32
  let v38 : BitVec 1 := Scalar.cmpi .sge arg1 c11_i32_18
  let arg0 : BitVec 32 := BitVec.ofNat 32 (i 0).val
  let c8_i32_19 : BitVec 32 := 8#32
  let v39 : BitVec 1 := Scalar.cmpi .eq arg0 c8_i32_19
  let v40 : BitVec 1 := Scalar.andi v38 v39
  let v41 : BitVec 32 := Scalar.extui v40
  let c0_i32_20 : BitVec 32 := 0#32
  let v42 : BitVec 1 := Scalar.cmpi .ne v41 c0_i32_20
  v42

def cc0_transform_0 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.minsi arg0 c7_i32
  let c4_i32 : BitVec 32 := 4#32
  let v1 : BitVec 32 := Scalar.muli v0 c4_i32
  let c11_i32 : BitVec 32 := 11#32
  let v2 : BitVec 32 := Scalar.subi arg1 c11_i32
  let c0_i32 : BitVec 32 := 0#32
  let v3 : BitVec 32 := Scalar.maxsi v2 c0_i32
  let v4 : BitVec 32 := Scalar.addi v1 v3
  let c0_i32_0 : BitVec 32 := 0#32
  let c0_i32_1 : BitVec 32 := 0#32
  ![v4.toNat, c0_i32_0.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let v2 : BitVec 1 := Scalar.cmpi .eq arg0 c0_i32_0
  let c11_i32 : BitVec 32 := 11#32
  let v3 : BitVec 32 := Scalar.subi arg1 c11_i32
  let c0_i32_1 : BitVec 32 := 0#32
  let v4 : BitVec 32 := Scalar.maxsi v3 c0_i32_1
  let c0_i32_2 : BitVec 32 := 0#32
  let v5 : BitVec 32 := Scalar.select v2 c0_i32_2 v4
  let c0_i32_3 : BitVec 32 := 0#32
  ![v1.toNat, v5.toNat]

def cc0_transform_2 (i : grid0.Coords) : Fin 4 → Nat :=
  let arg0 : BitVec 32 := BitVec.ofNat 32 (i 0).val
  let arg1 : BitVec 32 := BitVec.ofNat 32 (i 1).val
  let c7_i32 : BitVec 32 := 7#32
  let v0 : BitVec 32 := Scalar.minsi arg0 c7_i32
  let c2_i32 : BitVec 32 := 2#32
  let v1 : BitVec 32 := Scalar.divsi v0 c2_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi v0 c2_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi c1_i32_4 v17
  let c3_i32 : BitVec 32 := 3#32
  let c0_i32_5 : BitVec 32 := 0#32
  let c0_i32_6 : BitVec 32 := 0#32
  let c0_i32_7 : BitVec 32 := 0#32
  ![c3_i32.toNat, v18.toNat, c0_i32_5.toNat, c0_i32_6.toNat]

def cc0_transform_3 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let v1 : BitVec 32 := Scalar.maxsi v0 c0_i32
  let c2_i32 : BitVec 32 := 2#32
  let v2 : BitVec 32 := Scalar.divsi v1 c2_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c1_i32_6 : BitVec 32 := 1#32
  let v19 : BitVec 32 := Scalar.addi c1_i32_6 v18
  let c0_i32_7 : BitVec 32 := 0#32
  let v20 : BitVec 1 := Scalar.cmpi .eq arg0 c0_i32_7
  let c11_i32 : BitVec 32 := 11#32
  let v21 : BitVec 32 := Scalar.subi arg1 c11_i32
  let c0_i32_8 : BitVec 32 := 0#32
  let v22 : BitVec 32 := Scalar.maxsi v21 c0_i32_8
  let c0_i32_9 : BitVec 32 := 0#32
  let v23 : BitVec 32 := Scalar.select v20 c0_i32_9 v22
  let c3_i32 : BitVec 32 := 3#32
  let c0_i32_10 : BitVec 32 := 0#32
  let c0_i32_11 : BitVec 32 := 0#32
  ![c3_i32.toNat, v19.toNat, c0_i32_10.toNat, v23.toNat]

def cc0_transform_4 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c10_i32 : BitVec 32 := 10#32
  let v1 : BitVec 32 := Scalar.minsi arg1 c10_i32
  let c0_i32_0 : BitVec 32 := 0#32
  let v2 : BitVec 32 := Scalar.select v0 c0_i32_0 v1
  let c0_i32_1 : BitVec 32 := 0#32
  let c0_i32_2 : BitVec 32 := 0#32
  ![c0_i32_1.toNat, v2.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c10_i32 : BitVec 32 := 10#32
  let v1 : BitVec 32 := Scalar.minsi arg1 c10_i32
  let c0_i32_0 : BitVec 32 := 0#32
  let v2 : BitVec 32 := Scalar.select v0 c0_i32_0 v1
  let c0_i32_1 : BitVec 32 := 0#32
  let c0_i32_2 : BitVec 32 := 0#32
  ![c0_i32_1.toNat, v2.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c11_i32 : BitVec 32 := 11#32
  let v1 : BitVec 32 := Scalar.subi arg1 c11_i32
  let c0_i32_0 : BitVec 32 := 0#32
  let v2 : BitVec 32 := Scalar.maxsi v1 c0_i32_0
  let c0_i32_1 : BitVec 32 := 0#32
  let v3 : BitVec 32 := Scalar.select v0 c0_i32_1 v2
  let c0_i32_2 : BitVec 32 := 0#32
  let c0_i32_3 : BitVec 32 := 0#32
  ![c0_i32_2.toNat, v3.toNat]

def cc0_transform_8 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let v2 : BitVec 1 := Scalar.cmpi .eq arg0 c0_i32_0
  let c11_i32 : BitVec 32 := 11#32
  let v3 : BitVec 32 := Scalar.subi arg1 c11_i32
  let c0_i32_1 : BitVec 32 := 0#32
  let v4 : BitVec 32 := Scalar.maxsi v3 c0_i32_1
  let c0_i32_2 : BitVec 32 := 0#32
  let v5 : BitVec 32 := Scalar.select v2 c0_i32_2 v4
  let c0_i32_3 : BitVec 32 := 0#32
  ![v1.toNat, v5.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x6x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x6x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2048x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S5632x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1024x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference2Ideal.lean ====
abbrev S8192x2048 : Shape := ⟨2, ![8192, 2048]⟩
abbrev S4x8x6x2048 : Shape := ⟨4, ![4, 8, 6, 2048]⟩
abbrev S4x1x2048 : Shape := ⟨3, ![4, 1, 2048]⟩
abbrev S2048x5632 : Shape := ⟨2, ![2048, 5632]⟩
abbrev S5632x2048 : Shape := ⟨2, ![5632, 2048]⟩
abbrev S4x2048x2048 : Shape := ⟨3, ![4, 2048, 2048]⟩
abbrev S1x4x6x2048 : Shape := ⟨4, ![1, 4, 6, 2048]⟩
abbrev S4x6x2048 : Shape := ⟨3, ![4, 6, 2048]⟩
abbrev S1x1x2048 : Shape := ⟨3, ![1, 1, 2048]⟩
abbrev S2048 : Shape := ⟨1, ![2048]⟩
abbrev S_ : Shape := ⟨0, ![]⟩
abbrev S4x2048 : Shape := ⟨2, ![4, 2048]⟩
abbrev S4x2048x1 : Shape := ⟨3, ![4, 2048, 1]⟩
abbrev S4x2048x5632 : Shape := ⟨3, ![4, 2048, 5632]⟩

abbrev nBuf : Space → Nat
  | .hbm => 57
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S4x8x6x2048, .f32⟩
  | .hbm, ⟨2, _⟩ => ⟨S4x1x2048, .f32⟩
  | .hbm, ⟨3, _⟩ => ⟨S2048x5632, .bf16⟩
  | .hbm, ⟨4, _⟩ => ⟨S2048x5632, .bf16⟩
  | .hbm, ⟨5, _⟩ => ⟨S5632x2048, .bf16⟩
  | .hbm, ⟨6, _⟩ => ⟨S4x2048x2048, .f32⟩
  | .hbm, ⟨7, _⟩ => ⟨S1x4x6x2048, .f32⟩
  | .hbm, ⟨8, _⟩ => ⟨S4x6x2048, .f32⟩
  | .hbm, ⟨9, _⟩ => ⟨S4x1x2048, .f32⟩
  | .hbm, ⟨10, _⟩ => ⟨S4x1x2048, .f32⟩
  | .hbm, ⟨11, _⟩ => ⟨S4x1x2048, .f32⟩
  | .hbm, ⟨12, _⟩ => ⟨S1x1x2048, .f32⟩
  | .hbm, ⟨13, _⟩ => ⟨S2048, .f32⟩
  | .hbm, ⟨14, _⟩ => ⟨S4x2048x2048, .f32⟩
  | .hbm, ⟨15, _⟩ => ⟨S_, .f32⟩
  | .hbm, ⟨16, _⟩ => ⟨S4x2048, .f32⟩
  | .hbm, ⟨17, _⟩ => ⟨S4x2048x1, .f32⟩
  | .hbm, ⟨18, _⟩ => ⟨S_, .f32⟩
  | .hbm, ⟨19, _⟩ => ⟨S4x2048x1, .f32⟩
  | .hbm, ⟨20, _⟩ => ⟨S4x2048x1, .f32⟩
  | .hbm, ⟨21, _⟩ => ⟨S_, .f32⟩
  | .hbm, ⟨22, _⟩ => ⟨S4x2048x1, .f32⟩
  | .hbm, ⟨23, _⟩ => ⟨S4x2048x1, .f32⟩
  | .hbm, ⟨24, _⟩ => ⟨S4x2048x1, .f32⟩
  | .hbm, ⟨25, _⟩ => ⟨S4x2048x2048, .f32⟩
  | .hbm, ⟨26, _⟩ => ⟨S4x2048x2048, .f32⟩
  | .hbm, ⟨27, _⟩ => ⟨S1x1x2048, .f32⟩
  | .hbm, ⟨28, _⟩ => ⟨S4x2048x2048, .f32⟩
  | .hbm, ⟨29, _⟩ => ⟨S4x2048x2048, .f32⟩
  | .hbm, ⟨30, _⟩ => ⟨S_, .f32⟩
  | .hbm, ⟨31, _⟩ => ⟨S4x1x2048, .f32⟩
  | .hbm, ⟨32, _⟩ => ⟨S4x1x2048, .f32⟩
  | .hbm, ⟨33, _⟩ => ⟨S4x2048x2048, .f32⟩
  | .hbm, ⟨34, _⟩ => ⟨S4x2048x2048, .f32⟩
  | .hbm, ⟨35, _⟩ => ⟨S4x2048x2048, .f32⟩
  | .hbm, ⟨36, _⟩ => ⟨S4x2048x2048, .f32⟩
  | .hbm, ⟨37, _⟩ => ⟨S2048x5632, .f32⟩
  | .hbm, ⟨38, _⟩ => ⟨S4x2048x5632, .f32⟩
  | .hbm, ⟨39, _⟩ => ⟨S2048x5632, .f32⟩
  | .hbm, ⟨40, _⟩ => ⟨S4x2048x5632, .f32⟩
  | .hbm, ⟨41, _⟩ => ⟨S4x2048x5632, .f32⟩
  | .hbm, ⟨42, _⟩ => ⟨S4x2048x5632, .f32⟩
  | .hbm, ⟨43, _⟩ => ⟨S_, .f32⟩
  | .hbm, ⟨44, _⟩ => ⟨S4x2048x5632, .f32⟩
  | .hbm, ⟨45, _⟩ => ⟨S4x2048x5632, .f32⟩
  | .hbm, ⟨46, _⟩ => ⟨S_, .f32⟩
  | .hbm, ⟨47, _⟩ => ⟨S4x2048x5632, .f32⟩
  | .hbm, ⟨48, _⟩ => ⟨S4x2048x5632, .f32⟩
  | .hbm, ⟨49, _⟩ => ⟨S4x2048x5632, .f32⟩
  | .hbm, ⟨50, _⟩ => ⟨S4x2048x5632, .f32⟩
  | .hbm, ⟨51, _⟩ => ⟨S5632x2048, .f32⟩
  | .hbm, ⟨52, _⟩ => ⟨S4x2048x2048, .f32⟩
  | .hbm, ⟨53, _⟩ => ⟨S4x2048x2048, .f32⟩
  | .hbm, ⟨54, _⟩ => ⟨S4x2048x2048, .f32⟩
  | .hbm, ⟨55, _⟩ => ⟨S4x2048x2048, .f32⟩
  | .hbm, ⟨56, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_2 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_call0_v0 : Ref sig .tc := ⟨.hbm, 41, rfl⟩
abbrev main_call0_v1 : Ref sig .tc := ⟨.hbm, 42, rfl⟩
abbrev main_call0_cst : Ref sig .tc := ⟨.hbm, 43, rfl⟩
abbrev main_call0_v2 : Ref sig .tc := ⟨.hbm, 44, rfl⟩
abbrev main_call0_v3 : Ref sig .tc := ⟨.hbm, 45, rfl⟩
abbrev main_call0_cst_0 : Ref sig .tc := ⟨.hbm, 46, rfl⟩
abbrev main_call0_v4 : Ref sig .tc := ⟨.hbm, 47, rfl⟩
abbrev main_call0_v5 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩

abbrev nD : Nat := 1
abbrev τ : Topo := Topo.v7x

variable {F : FTy → Type} [FloatOps F]
-- ==== Kernel3.lean ====
abbrev S8192x2048 : Shape := ⟨2, ![8192, 2048]⟩
abbrev S8192x1024 : Shape := ⟨2, ![8192, 1024]⟩
abbrev S4x8x6x2048 : Shape := ⟨4, ![4, 8, 6, 2048]⟩
abbrev S2048x2048 : Shape := ⟨2, ![2048, 2048]⟩
abbrev S512x2048 : Shape := ⟨2, ![512, 2048]⟩
abbrev S512x1024 : Shape := ⟨2, ![512, 1024]⟩
abbrev S1x1x6x2048 : Shape := ⟨4, ![1, 1, 6, 2048]⟩
abbrev S1024x2048 : Shape := ⟨2, ![1024, 2048]⟩
abbrev S1x1x1x2048 : Shape := ⟨4, ![1, 1, 1, 2048]⟩
abbrev S1x2048 : Shape := ⟨2, ![1, 2048]⟩

abbrev nBuf : Space → Nat
  | .hbm => 6
  | .vmem => 11
  | .smem => 0
  | _ => 0

abbrev bufTy : (tb : Table) → Fin (tcTables nBuf tb) → BufTy
  | .hbm, ⟨0, _⟩ => ⟨S8192x2048, .f32⟩
  | .hbm, ⟨1, _⟩ => ⟨S8192x1024, .bf16⟩
  | .hbm, ⟨2, _⟩ => ⟨S8192x1024, .bf16⟩
  | .hbm, ⟨3, _⟩ => ⟨S4x8x6x2048, .f32⟩
  | .hbm, ⟨4, _⟩ => ⟨S2048x2048, .bf16⟩
  | .hbm, ⟨5, _⟩ => ⟨S8192x2048, .f32⟩
  | .local _ .vmem, ⟨0, _⟩ => ⟨S512x2048, .f32⟩
  | .local _ .vmem, ⟨1, _⟩ => ⟨S512x2048, .f32⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S1x1x6x2048, .f32⟩
  | .local _ .vmem, ⟨7, _⟩ => ⟨S1x1x6x2048, .f32⟩
  | .local _ .vmem, ⟨8, _⟩ => ⟨S2048x2048, .bf16⟩
  | .local _ .vmem, ⟨9, _⟩ => ⟨S512x2048, .f32⟩
  | .local _ .vmem, ⟨10, _⟩ => ⟨S512x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi c1_i32_4 v16
  let c1_i32_5 : BitVec 32 := 1#32
  let c0_i32_6 : BitVec 32 := 0#32
  let c0_i32_7 : BitVec 32 := 0#32
  let c0_i32_8 : BitVec 32 := 0#32
  ![c1_i32_5.toNat, v17.toNat, c0_i32_6.toNat, c0_i32_7.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x6x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S2048x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference3Ideal.lean ====
abbrev S8192x2048 : Shape := ⟨2, ![8192, 2048]⟩
abbrev S8192x1024 : Shape := ⟨2, ![8192, 1024]⟩
abbrev S4x8x6x2048 : Shape := ⟨4, ![4, 8, 6, 2048]⟩
abbrev S2048x2048 : Shape := ⟨2, ![2048, 2048]⟩
abbrev S4x2048x2048 : Shape := ⟨3, ![4, 2048, 2048]⟩
abbrev S1x4x6x2048 : Shape := ⟨4, ![1, 4, 6, 2048]⟩
abbrev S4x6x2048 : Shape := ⟨3, ![4, 6, 2048]⟩
abbrev S4x1x2048 : Shape := ⟨3, ![4, 1, 2048]⟩
abbrev S4x2048x1024 : Shape := ⟨3, ![4, 2048, 1024]⟩

abbrev nBuf : Space → Nat
  | .hbm => 20
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x1024, .bf16⟩
  | .hbm, ⟨2, _⟩ => ⟨S8192x1024, .bf16⟩
  | .hbm, ⟨3, _⟩ => ⟨S4x8x6x2048, .f32⟩
  | .hbm, ⟨4, _⟩ => ⟨S2048x2048, .bf16⟩
  | .hbm, ⟨5, _⟩ => ⟨S4x2048x2048, .f32⟩
  | .hbm, ⟨6, _⟩ => ⟨S1x4x6x2048, .f32⟩
  | .hbm, ⟨7, _⟩ => ⟨S4x6x2048, .f32⟩
  | .hbm, ⟨8, _⟩ => ⟨S4x1x2048, .f32⟩
  | .hbm, ⟨9, _⟩ => ⟨S8192x1024, .f32⟩
  | .hbm, ⟨10, _⟩ => ⟨S4x2048x1024, .f32⟩
  | .hbm, ⟨11, _⟩ => ⟨S8192x1024, .f32⟩
  | .hbm, ⟨12, _⟩ => ⟨S4x2048x1024, .f32⟩
  | .hbm, ⟨13, _⟩ => ⟨S2048x2048, .f32⟩
  | .hbm, ⟨14, _⟩ => ⟨S4x2048x2048, .f32⟩
  | .hbm, ⟨15, _⟩ => ⟨S4x2048x2048, .f32⟩
  | .hbm, ⟨16, _⟩ => ⟨S4x2048x2048, .f32⟩
  | .hbm, ⟨17, _⟩ => ⟨S4x2048x2048, .f32⟩
  | .hbm, ⟨18, _⟩ => ⟨S4x2048x2048, .f32⟩
  | .hbm, ⟨19, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== Kernel4.lean ====
abbrev S8192x2048 : Shape := ⟨2, ![8192, 2048]⟩
abbrev S2048 : Shape := ⟨1, ![2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S1x2048, .f32⟩
  | .hbm, ⟨3, _⟩ => ⟨S8192x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .f32⟩
  | .local _ .vmem, ⟨4, _⟩ => ⟨S512x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference4Ideal.lean ====
abbrev S8192x2048 : Shape := ⟨2, ![8192, 2048]⟩
abbrev S2048 : Shape := ⟨1, ![2048]⟩
abbrev S4x2048x2048 : Shape := ⟨3, ![4, 2048, 2048]⟩
abbrev S_ : Shape := ⟨0, ![]⟩
abbrev S4x2048 : Shape := ⟨2, ![4, 2048]⟩
abbrev S4x2048x1 : Shape := ⟨3, ![4, 2048, 1]⟩
abbrev S1x1x2048 : Shape := ⟨3, ![1, 1, 2048]⟩

abbrev nBuf : Space → Nat
  | .hbm => 20
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S4x2048x2048, .f32⟩
  | .hbm, ⟨3, _⟩ => ⟨S4x2048x2048, .f32⟩
  | .hbm, ⟨4, _⟩ => ⟨S_, .f32⟩
  | .hbm, ⟨5, _⟩ => ⟨S4x2048, .f32⟩
  | .hbm, ⟨6, _⟩ => ⟨S4x2048x1, .f32⟩
  | .hbm, ⟨7, _⟩ => ⟨S_, .f32⟩
  | .hbm, ⟨8, _⟩ => ⟨S4x2048x1, .f32⟩
  | .hbm, ⟨9, _⟩ => ⟨S4x2048x1, .f32⟩
  | .hbm, ⟨10, _⟩ => ⟨S_, .f32⟩
  | .hbm, ⟨11, _⟩ => ⟨S4x2048x1, .f32⟩
  | .hbm, ⟨12, _⟩ => ⟨S4x2048x1, .f32⟩
  | .hbm, ⟨13, _⟩ => ⟨S4x2048x1, .f32⟩
  | .hbm, ⟨14, _⟩ => ⟨S4x2048x2048, .f32⟩
  | .hbm, ⟨15, _⟩ => ⟨S4x2048x2048, .f32⟩
  | .hbm, ⟨16, _⟩ => ⟨S1x1x2048, .f32⟩
  | .hbm, ⟨17, _⟩ => ⟨S4x2048x2048, .f32⟩
  | .hbm, ⟨18, _⟩ => ⟨S4x2048x2048, .f32⟩
  | .hbm, ⟨19, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== Kernel5.lean ====
abbrev S4x2048x2048 : Shape := ⟨3, ![4, 2048, 2048]⟩
abbrev S4x4x256x2048 : Shape := ⟨4, ![4, 4, 256, 2048]⟩
abbrev S4x4x256x1024 : Shape := ⟨4, ![4, 4, 256, 1024]⟩
abbrev S4x2048x1024 : Shape := ⟨3, ![4, 2048, 1024]⟩
abbrev S1x512x2048 : Shape := ⟨3, ![1, 512, 2048]⟩
abbrev S1x1x256x2048 : Shape := ⟨4, ![1, 1, 256, 2048]⟩
abbrev S1x2048x2048 : Shape := ⟨3, ![1, 2048, 2048]⟩
abbrev S1x1x256x1024 : Shape := ⟨4, ![1, 1, 256, 1024]⟩
abbrev S1x2048x1024 : Shape := ⟨3, ![1, 2048, 1024]⟩
abbrev S1x512x1024 : Shape := ⟨3, ![1, 512, 1024]⟩
abbrev S2304x2048 : Shape := ⟨2, ![2304, 2048]⟩
abbrev S256x128 : Shape := ⟨2, ![256, 128]⟩
abbrev S1x1x256x128 : Shape := ⟨4, ![1, 1, 256, 128]⟩
abbrev S2048x128 : Shape := ⟨2, ![2048, 128]⟩
abbrev S1x2048x128 : Shape := ⟨3, ![1, 2048, 128]⟩
abbrev S1x256x256 : Shape := ⟨3, ![1, 256, 256]⟩
abbrev S256x256 : Shape := ⟨2, ![256, 256]⟩
abbrev S1x1x256x256 : Shape := ⟨4, ![1, 1, 256, 256]⟩
abbrev S1x2048x256 : Shape := ⟨3, ![1, 2048, 256]⟩
abbrev S2048x256 : Shape := ⟨2, ![2048, 256]⟩
abbrev S256x2048 : Shape := ⟨2, ![256, 2048]⟩
abbrev S256 : Shape := ⟨1, ![256]⟩
abbrev S256x1 : Shape := ⟨2, ![256, 1]⟩
abbrev S2304x256 : Shape := ⟨2, ![2304, 256]⟩
abbrev S1x256x128 : Shape := ⟨3, ![1, 256, 128]⟩

abbrev nBuf : Space → Nat
  | .hbm => 6
  | .vmem => 13
  | .smem => 0
  | _ => 0

abbrev bufTy : (tb : Table) → Fin (tcTables nBuf tb) → BufTy
  | .hbm, ⟨0, _⟩ => ⟨S4x2048x2048, .bf16⟩
  | .hbm, ⟨1, _⟩ => ⟨S4x4x256x2048, .bf16⟩
  | .hbm, ⟨2, _⟩ => ⟨S4x2048x2048, .bf16⟩
  | .hbm, ⟨3, _⟩ => ⟨S4x4x256x1024, .bf16⟩
  | .hbm, ⟨4, _⟩ => ⟨S4x2048x1024, .bf16⟩
  | .hbm, ⟨5, _⟩ => ⟨S4x2048x1024, .bf16⟩
  | .local _ .vmem, ⟨0, _⟩ => ⟨S1x512x2048, .bf16⟩
  | .local _ .vmem, ⟨1, _⟩ => ⟨S1x512x2048, .bf16⟩
  | .local _ .vmem, ⟨2, _⟩ => ⟨S1x1x256x2048, .bf16⟩
  | .local _ .vmem, ⟨3, _⟩ => ⟨S1x1x256x2048, .bf16⟩
  | .local _ .vmem, ⟨4, _⟩ => ⟨S1x2048x2048, .bf16⟩
  | .local _ .vmem, ⟨5, _⟩ => ⟨S1x2048x2048, .bf16⟩
  | .local _ .vmem, ⟨6, _⟩ => ⟨S1x1x256x1024, .bf16⟩
  | .local _ .vmem, ⟨7, _⟩ => ⟨S1x1x256x1024, .bf16⟩
  | .local _ .vmem, ⟨8, _⟩ => ⟨S1x2048x1024, .bf16⟩
  | .local _ .vmem, ⟨9, _⟩ => ⟨S1x2048x1024, .bf16⟩
  | .local _ .vmem, ⟨10, _⟩ => ⟨S1x512x1024, .bf16⟩
  | .local _ .vmem, ⟨11, _⟩ => ⟨S1x512x1024, .bf16⟩
  | .local _ .vmem, ⟨12, _⟩ => ⟨S2304x2048, .bf16⟩
  | _, _ => ⟨S4x2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 1, 4], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  ![c1_i32.toNat, arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  ![c1_i32.toNat, arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x2048x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x2048x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== Reference5Ideal.lean ====
abbrev S4x2048x2048 : Shape := ⟨3, ![4, 2048, 2048]⟩
abbrev S4x4x256x2048 : Shape := ⟨4, ![4, 4, 256, 2048]⟩
abbrev S4x4x256x1024 : Shape := ⟨4, ![4, 4, 256, 1024]⟩
abbrev S4x2048x1024 : Shape := ⟨3, ![4, 2048, 1024]⟩
abbrev S4x2048x8x1x256 : Shape := ⟨5, ![4, 2048, 8, 1, 256]⟩
abbrev S1x4x256x2048 : Shape := ⟨4, ![1, 4, 256, 2048]⟩
abbrev S4x256x2048 : Shape := ⟨3, ![4, 256, 2048]⟩
abbrev S4x2304x2048 : Shape := ⟨3, ![4, 2304, 2048]⟩
abbrev S4x2304x8x256 : Shape := ⟨4, ![4, 2304, 8, 256]⟩
abbrev S1x4x256x1024 : Shape := ⟨4, ![1, 4, 256, 1024]⟩
abbrev S4x256x1024 : Shape := ⟨3, ![4, 256, 1024]⟩
abbrev S4x2304x1024 : Shape := ⟨3, ![4, 2304, 1024]⟩
abbrev S4x2304x8x128 : Shape := ⟨4, ![4, 2304, 8, 128]⟩
abbrev S4x8x2304x2048x1 : Shape := ⟨5, ![4, 8, 2304, 2048, 1]⟩
abbrev S4x8x1x2048x2304 : Shape := ⟨5, ![4, 8, 1, 2048, 2304]⟩
abbrev S_ : Shape := ⟨0, ![]⟩
abbrev S4x8x1x2048 : Shape := ⟨4, ![4, 8, 1, 2048]⟩
abbrev S4x8x1x2048x1 : Shape := ⟨5, ![4, 8, 1, 2048, 1]⟩
abbrev S4x8x128x1x2048 : Shape := ⟨5, ![4, 8, 128, 1, 2048]⟩
abbrev S4x2048x8x1x128 : Shape := ⟨5, ![4, 2048, 8, 1, 128]⟩

abbrev nBuf : Space → Nat
  | .hbm => 43
  | .vmem => 0
  | .smem => 0
  | _ => 0

abbrev bufTy : (tb : Table) → Fin (tcTables nBuf tb) → BufTy
  | .hbm, ⟨0, _⟩ => ⟨S4x2048x2048, .bf16⟩
  | .hbm, ⟨1, _⟩ => ⟨S4x4x256x2048, .bf16⟩
  | .hbm, ⟨2, _⟩ => ⟨S4x2048x2048, .bf16⟩
  | .hbm, ⟨3, _⟩ => ⟨S4x4x256x1024, .bf16⟩
  | .hbm, ⟨4, _⟩ => ⟨S4x2048x1024, .bf16⟩
  | .hbm, ⟨5, _⟩ => ⟨S4x2048x2048, .f32⟩
  | .hbm, ⟨6, _⟩ => ⟨S4x2048x8x1x256, .f32⟩
  | .hbm, ⟨7, _⟩ => ⟨S1x4x256x2048, .bf16⟩
  | .hbm, ⟨8, _⟩ => ⟨S4x256x2048, .bf16⟩
  | .hbm, ⟨9, _⟩ => ⟨S4x256x2048, .f32⟩
  | .hbm, ⟨10, _⟩ => ⟨S4x2048x2048, .f32⟩
  | .hbm, ⟨11, _⟩ => ⟨S4x2304x2048, .f32⟩
  | .hbm, ⟨12, _⟩ => ⟨S4x2304x8x256, .f32⟩
  | .hbm, ⟨13, _⟩ => ⟨S1x4x256x1024, .bf16⟩
  | .hbm, ⟨14, _⟩ => ⟨S4x256x1024, .bf16⟩
  | .hbm, ⟨15, _⟩ => ⟨S4x256x1024, .f32⟩
  | .hbm, ⟨16, _⟩ => ⟨S4x2048x1024, .f32⟩
  | .hbm, ⟨17, _⟩ => ⟨S4x2304x1024, .f32⟩
  | .hbm, ⟨18, _⟩ => ⟨S4x2304x8x128, .f32⟩
  | .hbm, ⟨19, _⟩ => ⟨S4x8x2304x2048x1, .f32⟩
  | .hbm, ⟨20, _⟩ => ⟨S4x8x1x2048x2304, .f32⟩
  | .hbm, ⟨21, _⟩ => ⟨S_, .f32⟩
  | .hbm, ⟨22, _⟩ => ⟨S_, .f32⟩
  | .hbm, ⟨23, _⟩ => ⟨S4x8x1x2048x2304, .f32⟩
  | .hbm, ⟨24, _⟩ => ⟨S4x8x1x2048x2304, .f32⟩
  | .hbm, ⟨25, _⟩ => ⟨S_, .f32⟩
  | .hbm, ⟨26, _⟩ => ⟨S4x8x1x2048, .f32⟩
  | .hbm, ⟨27, _⟩ => ⟨S_, .f32⟩
  | .hbm, ⟨28, _⟩ => ⟨S4x8x1x2048, .f32⟩
  | .hbm, ⟨29, _⟩ => ⟨S4x8x1x2048, .f32⟩
  | .hbm, ⟨30, _⟩ => ⟨S4x8x1x2048x1, .f32⟩
  | .hbm, ⟨31, _⟩ => ⟨S4x8x1x2048x2304, .f32⟩
  | .hbm, ⟨32, _⟩ => ⟨S4x8x1x2048x2304, .f32⟩
  | .hbm, ⟨33, _⟩ => ⟨S4x8x1x2048x2304, .f32⟩
  | .hbm, ⟨34, _⟩ => ⟨S_, .f32⟩
  | .hbm, ⟨35, _⟩ => ⟨S4x8x1x2048, .f32⟩
  | .hbm, ⟨36, _⟩ => ⟨S4x8x1x2048x1, .f32⟩
  | .hbm, ⟨37, _⟩ => ⟨S4x8x1x2048x2304, .f32⟩
  | .hbm, ⟨38, _⟩ => ⟨S4x8x1x2048x2304, .f32⟩
  | .hbm, ⟨39, _⟩ => ⟨S4x8x128x1x2048, .f32⟩
  | .hbm, ⟨40, _⟩ => ⟨S4x2048x8x1x128, .f32⟩
  | .hbm, ⟨41, _⟩ => ⟨S4x2048x1024, .f32⟩
  | .hbm, ⟨42, _⟩ => ⟨S4x2048x1024, .bf16⟩
  | _, _ => ⟨S4x2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_0 : Ref sig .tc := ⟨.hbm, 25, rfl⟩
abbrev main_v19 : Ref sig .tc := ⟨.hbm, 26, rfl⟩
abbrev main_cst_1 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst_2 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩

abbrev nD : Nat := 1
abbrev τ : Topo := Topo.v7x

variable {F : FTy → Type} [FloatOps F]
-- ==== Kernel6.lean ====
abbrev S8192x2048 : Shape := ⟨2, ![8192, 2048]⟩
abbrev S4x8x6x2048 : Shape := ⟨4, ![4, 8, 6, 2048]⟩
abbrev S4x1x2048 : Shape := ⟨3, ![4, 1, 2048]⟩
abbrev S4x2048x3968 : Shape := ⟨3, ![4, 2048, 3968]⟩
abbrev S4x1x128 : Shape := ⟨3, ![4, 1, 128]⟩
abbrev S4x1x256 : Shape := ⟨3, ![4, 1, 256]⟩
abbrev S4x256x1024 : Shape := ⟨3, ![4, 256, 1024]⟩
abbrev S2048x64 : Shape := ⟨2, ![2048, 64]⟩
abbrev S2048x32 : Shape := ⟨2, ![2048, 32]⟩
abbrev S_ : Shape := ⟨0, ![]⟩
abbrev S2048x128 : Shape := ⟨2, ![2048, 128]⟩
abbrev S8192x1024 : Shape := ⟨2, ![8192, 1024]⟩
abbrev S8192x256 : Shape := ⟨2, ![8192, 256]⟩
abbrev S512x2048 : Shape := ⟨2, ![512, 2048]⟩
abbrev S1x1x6x2048 : Shape := ⟨4, ![1, 1, 6, 2048]⟩
abbrev S1x1x2048 : Shape := ⟨3, ![1, 1, 2048]⟩
abbrev S1x2048x3968 : Shape := ⟨3, ![1, 2048, 3968]⟩
abbrev S1x1x128 : Shape := ⟨3, ![1, 1, 128]⟩
abbrev S1x1x256 : Shape := ⟨3, ![1, 1, 256]⟩
abbrev S1x256x1024 : Shape := ⟨3, ![1, 256, 1024]⟩
abbrev S512x128 : Shape := ⟨2, ![512, 128]⟩
abbrev S512x1024 : Shape := ⟨2, ![512, 1024]⟩
abbrev S512x256 : Shape := ⟨2, ![512, 256]⟩
abbrev S256x2048 : Shape := ⟨2, ![256, 2048]⟩
abbrev S256 : Shape := ⟨1, ![256]⟩
abbrev S256x1 : Shape := ⟨2, ![256, 1]⟩
abbrev S1x2048 : Shape := ⟨2, ![1, 2048]⟩
abbrev S1x1x1x2048 : Shape := ⟨4, ![1, 1, 1, 2048]⟩
abbrev S2048x3968 : Shape := ⟨2, ![2048, 3968]⟩
abbrev S256x3968 : Shape := ⟨2, ![256, 3968]⟩
abbrev S256x1024 : Shape := ⟨2, ![256, 1024]⟩
abbrev S1x128 : Shape := ⟨2, ![1, 128]⟩
abbrev S256x128 : Shape := ⟨2, ![256, 128]⟩
abbrev S256x256 : Shape := ⟨2, ![256, 256]⟩
abbrev S1x256 : Shape := ⟨2, ![1, 256]⟩

abbrev nBuf : Space → Nat
  | .hbm => 29
  | .vmem => 31
  | .smem => 0
  | _ => 0

abbrev bufTy : (tb : Table) → Fin (tcTables nBuf tb) → BufTy
  | .hbm, ⟨0, _⟩ => ⟨S8192x2048, .f32⟩
  | .hbm, ⟨1, _⟩ => ⟨S4x8x6x2048, .f32⟩
  | .hbm, ⟨2, _⟩ => ⟨S4x1x2048, .f32⟩
  | .hbm, ⟨3, _⟩ => ⟨S4x2048x3968, .bf16⟩
  | .hbm, ⟨4, _⟩ => ⟨S4x1x128, .f32⟩
  | .hbm, ⟨5, _⟩ => ⟨S4x1x128, .f32⟩
  | .hbm, ⟨6, _⟩ => ⟨S4x1x256, .f32⟩
  | .hbm, ⟨7, _⟩ => ⟨S4x256x1024, .bf16⟩
  | .hbm, ⟨8, _⟩ => ⟨S4x256x1024, .bf16⟩
  | .hbm, ⟨9, _⟩ => ⟨S2048x64, .f32⟩
  | .hbm, ⟨10, _⟩ => ⟨S2048x64, .f32⟩
  | .hbm, ⟨11, _⟩ => ⟨S2048x32, .f32⟩
  | .hbm, ⟨12, _⟩ => ⟨S2048x32, .f32⟩
  | .hbm, ⟨13, _⟩ => ⟨S_, .f32⟩
  | .hbm, ⟨14, _⟩ => ⟨S2048x32, .f32⟩
  | .hbm, ⟨15, _⟩ => ⟨S_, .f32⟩
  | .hbm, ⟨16, _⟩ => ⟨S2048x32, .f32⟩
  | .hbm, ⟨17, _⟩ => ⟨S2048x128, .f32⟩
  | .hbm, ⟨18, _⟩ => ⟨S2048x64, .f32⟩
  | .hbm, ⟨19, _⟩ => ⟨S2048x128, .f32⟩
  | .hbm, ⟨20, _⟩ => ⟨S2048x128, .f32⟩
  | .hbm, ⟨21, _⟩ => ⟨S2048x32, .f32⟩
  | .hbm, ⟨22, _⟩ => ⟨S2048x128, .f32⟩
  | .hbm, ⟨23, _⟩ => ⟨S8192x1024, .bf16⟩
  | .hbm, ⟨24, _⟩ => ⟨S8192x256, .bf16⟩
  | .hbm, ⟨25, _⟩ => ⟨S8192x256, .bf16⟩
  | .hbm, ⟨26, _⟩ => ⟨S8192x2048, .bf16⟩
  | .hbm, ⟨27, _⟩ => ⟨S8192x2048, .bf16⟩
  | .hbm, ⟨28, _⟩ => ⟨S8192x1024, .bf16⟩
  | .local _ .vmem, ⟨0, _⟩ => ⟨S512x2048, .f32⟩
  | .local _ .vmem, ⟨1, _⟩ => ⟨S512x2048, .f32⟩
  | .local _ .vmem, ⟨2, _⟩ => ⟨S1x1x6x2048, .f32⟩
  | .local _ .vmem, ⟨3, _⟩ => ⟨S1x1x6x2048, .f32⟩
  | .local _ .vmem, ⟨4, _⟩ => ⟨S1x1x2048, .f32⟩
  | .local _ .vmem, ⟨5, _⟩ => ⟨S1x2048x3968, .bf16⟩
  | .local _ .vmem, ⟨6, _⟩ => ⟨S1x1x128, .f32⟩
  | .local _ .vmem, ⟨7, _⟩ => ⟨S1x1x128, .f32⟩
  | .local _ .vmem, ⟨8, _⟩ => ⟨S1x1x256, .f32⟩
  | .local _ .vmem, ⟨9, _⟩ => ⟨S1x256x1024, .bf16⟩
  | .local _ .vmem, ⟨10, _⟩ => ⟨S1x256x1024, .bf16⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S512x128, .f32⟩
  | .local _ .vmem, ⟨15, _⟩ => ⟨S512x128, .f32⟩
  | .local _ .vmem, ⟨16, _⟩ => ⟨S512x128, .f32⟩
  | .local _ .vmem, ⟨17, _⟩ => ⟨S512x128, .f32⟩
  | .local _ .vmem, ⟨18, _⟩ => ⟨S512x128, .f32⟩
  | .local _ .vmem, ⟨19, _⟩ => ⟨S512x1024, .bf16⟩
  | .local _ .vmem, ⟨20, _⟩ => ⟨S512x1024, .bf16⟩
  | .local _ .vmem, ⟨21, _⟩ => ⟨S512x256, .bf16⟩
  | .local _ .vmem, ⟨22, _⟩ => ⟨S512x256, .bf16⟩
  | .local _ .vmem, ⟨23, _⟩ => ⟨S512x256, .bf16⟩
  | .local _ .vmem, ⟨24, _⟩ => ⟨S512x256, .bf16⟩
  | .local _ .vmem, ⟨25, _⟩ => ⟨S512x2048, .bf16⟩
  | .local _ .vmem, ⟨26, _⟩ => ⟨S512x2048, .bf16⟩
  | .local _ .vmem, ⟨27, _⟩ => ⟨S512x2048, .bf16⟩
  | .local _ .vmem, ⟨28, _⟩ => ⟨S512x2048, .bf16⟩
  | .local _ .vmem, ⟨29, _⟩ => ⟨S512x1024, .bf16⟩
  | .local _ .vmem, ⟨30, _⟩ => ⟨S512x1024, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_cst : Ref sig .tc := ⟨.hbm, 13, rfl⟩
abbrev main_v0 : Ref sig .tc := ⟨.hbm, 14, rfl⟩
abbrev main_cst_0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8_0 : Ref sig .tc := ⟨.hbm, 23, rfl⟩
abbrev main_v8_1 : Ref sig .tc := ⟨.hbm, 24, rfl⟩
abbrev main_v8_2 : Ref sig .tc := ⟨.hbm, 25, rfl⟩
abbrev main_v8_3 : Ref sig .tc := ⟨.hbm, 26, rfl⟩
abbrev main_v8_4 : Ref sig .tc := ⟨.hbm, 27, rfl⟩
abbrev main_v8_5 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_stg16_0 : Ref sig .tc := ⟨.vmem, 25, rfl⟩
abbrev cc0_stg16_1 : Ref sig .tc := ⟨.vmem, 26, rfl⟩
abbrev cc0_stg17_0 : Ref sig .tc := ⟨.vmem, 27, rfl⟩
abbrev cc0_stg17_1 : Ref sig .tc := ⟨.vmem, 28, rfl⟩
abbrev cc0_stg18_0 : Ref sig .tc := ⟨.vmem, 29, rfl⟩
abbrev cc0_stg18_1 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22
abbrev cc0_sem15_0 : DmaSem sig := 23
abbrev cc0_sem15_1 : DmaSem sig := 24
abbrev cc0_sem16_0 : DmaSem sig := 25
abbrev cc0_sem16_1 : DmaSem sig := 26
abbrev cc0_sem17_0 : DmaSem sig := 27
abbrev cc0_sem17_1 : DmaSem sig := 28
abbrev cc0_sem18_0 : DmaSem sig := 29
abbrev cc0_sem18_1 : DmaSem sig := 30

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi c1_i32_4 v16
  let c1_i32_5 : BitVec 32 := 1#32
  let c0_i32_6 : BitVec 32 := 0#32
  let c0_i32_7 : BitVec 32 := 0#32
  let c0_i32_8 : BitVec 32 := 0#32
  ![c1_i32_5.toNat, v17.toNat, c0_i32_6.toNat, c0_i32_7.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_5 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_6 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_7 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_8 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_9 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_10 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_11 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_12 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x6x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048x3968 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x256 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x256 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x2048 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x2048 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S512x1024 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]
-- ==== Reference6Ideal.lean ====
abbrev S8192x2048 : Shape := ⟨2, ![8192, 2048]⟩
abbrev S4x8x6x2048 : Shape := ⟨4, ![4, 8, 6, 2048]⟩
abbrev S4x1x2048 : Shape := ⟨3, ![4, 1, 2048]⟩
abbrev S4x2048x3968 : Shape := ⟨3, ![4, 2048, 3968]⟩
abbrev S4x1x128 : Shape := ⟨3, ![4, 1, 128]⟩
abbrev S4x1x256 : Shape := ⟨3, ![4, 1, 256]⟩
abbrev S4x256x1024 : Shape := ⟨3, ![4, 256, 1024]⟩
abbrev S2048x64 : Shape := ⟨2, ![2048, 64]⟩
abbrev S2048x32 : Shape := ⟨2, ![2048, 32]⟩
abbrev S4x2048x2048 : Shape := ⟨3, ![4, 2048, 2048]⟩
abbrev S1x4x6x2048 : Shape := ⟨4, ![1, 4, 6, 2048]⟩
abbrev S4x6x2048 : Shape := ⟨3, ![4, 6, 2048]⟩
abbrev S1x1x2048 : Shape := ⟨3, ![1, 1, 2048]⟩
abbrev S2048 : Shape := ⟨1, ![2048]⟩
abbrev S_ : Shape := ⟨0, ![]⟩
abbrev S4x2048 : Shape := ⟨2, ![4, 2048]⟩
abbrev S4x2048x1 : Shape := ⟨3, ![4, 2048, 1]⟩
abbrev S1x2048x3968 : Shape := ⟨3, ![1, 2048, 3968]⟩
abbrev S2048x3968 : Shape := ⟨2, ![2048, 3968]⟩
abbrev S1x1x128 : Shape := ⟨3, ![1, 1, 128]⟩
abbrev S128 : Shape := ⟨1, ![128]⟩
abbrev S1x1x256 : Shape := ⟨3, ![1, 1, 256]⟩
abbrev S256 : Shape := ⟨1, ![256]⟩
abbrev S4x2048x1024 : Shape := ⟨3, ![4, 2048, 1024]⟩
abbrev S4x2048x8x128 : Shape := ⟨4, ![4, 2048, 8, 128]⟩
abbrev S4x2048x8 : Shape := ⟨3, ![4, 2048, 8]⟩
abbrev S4x2048x8x1 : Shape := ⟨4, ![4, 2048, 8, 1]⟩
abbrev S1x1x1x128 : Shape := ⟨4, ![1, 1, 1, 128]⟩
abbrev S4x2048x256 : Shape := ⟨3, ![4, 2048, 256]⟩
abbrev S4x2048x2x128 : Shape := ⟨4, ![4, 2048, 2, 128]⟩
abbrev S4x2048x2 : Shape := ⟨3, ![4, 2048, 2]⟩
abbrev S4x2048x2x1 : Shape := ⟨4, ![4, 2048, 2, 1]⟩
abbrev S4x2048x8x256 : Shape := ⟨4, ![4, 2048, 8, 256]⟩
abbrev S4x2048x128 : Shape := ⟨3, ![4, 2048, 128]⟩
abbrev S4x2048x8x64 : Shape := ⟨4, ![4, 2048, 8, 64]⟩
abbrev S1x2048x1x64 : Shape := ⟨4, ![1, 2048, 1, 64]⟩
abbrev S4x2048x2x64 : Shape := ⟨4, ![4, 2048, 2, 64]⟩
abbrev S4x2048x1x128 : Shape := ⟨4, ![4, 2048, 1, 128]⟩
abbrev S4x2048x1x64 : Shape := ⟨4, ![4, 2048, 1, 64]⟩
abbrev S1x256x1024 : Shape := ⟨3, ![1, 256, 1024]⟩
abbrev S256x1024 : Shape := ⟨2, ![256, 1024]⟩
abbrev S8192x1024 : Shape := ⟨2, ![8192, 1024]⟩
abbrev S8192x256 : Shape := ⟨2, ![8192, 256]⟩

abbrev nBuf : Space → Nat
  | .hbm => 213
  | .vmem => 0
  | .smem => 0
  | _ => 0

abbrev hbmTy0_0 (i : Nat) : BufTy := match i % 128 with
  | 0 => ⟨S8192x2048, .f32⟩
  | 1 => ⟨S4x8x6x2048, .f32⟩
  | 2 => ⟨S4x1x2048, .f32⟩
  | 3 => ⟨S4x2048x3968, .bf16⟩
  | 4 => ⟨S4x1x128, .f32⟩
  | 5 => ⟨S4x1x128, .f32⟩
  | 6 => ⟨S4x1x256, .f32⟩
  | 7 => ⟨S4x256x1024, .bf16⟩
  | 8 => ⟨S4x256x1024, .bf16⟩
  | 9 => ⟨S2048x64, .f32⟩
  | 10 => ⟨S2048x64, .f32⟩
  | 11 => ⟨S2048x32, .f32⟩
  | 12 => ⟨S2048x32, .f32⟩
  | 13 => ⟨S4x2048x2048, .f32⟩
  | 14 => ⟨S1x4x6x2048, .f32⟩
  | 15 => ⟨S4x6x2048, .f32⟩
  | 16 => ⟨S4x1x2048, .f32⟩
  | 17 => ⟨S4x1x2048, .f32⟩
  | 18 => ⟨S1x1x2048, .f32⟩
  | 19 => ⟨S2048, .f32⟩
  | 20 => ⟨S4x2048x2048, .f32⟩
  | 21 => ⟨S_, .f32⟩
  | 22 => ⟨S4x2048, .f32⟩
  | 23 => ⟨S4x2048x1, .f32⟩
  | 24 => ⟨S_, .f32⟩
  | 25 => ⟨S4x2048x1, .f32⟩
  | 26 => ⟨S4x2048x1, .f32⟩
  | 27 => ⟨S_, .f32⟩
  | 28 => ⟨S4x2048x1, .f32⟩
  | 29 => ⟨S4x2048x1, .f32⟩
  | 30 => ⟨S4x2048x1, .f32⟩
  | 31 => ⟨S4x2048x2048, .f32⟩
  | 32 => ⟨S4x2048x2048, .f32⟩
  | 33 => ⟨S1x1x2048, .f32⟩
  | 34 => ⟨S4x2048x2048, .f32⟩
  | 35 => ⟨S4x2048x2048, .f32⟩
  | 36 => ⟨S_, .f32⟩
  | 37 => ⟨S4x1x2048, .f32⟩
  | 38 => ⟨S4x1x2048, .f32⟩
  | 39 => ⟨S4x2048x2048, .f32⟩
  | 40 => ⟨S4x2048x2048, .f32⟩
  | 41 => ⟨S4x2048x2048, .f32⟩
  | 42 => ⟨S4x2048x2048, .f32⟩
  | 43 => ⟨S1x2048x3968, .bf16⟩
  | 44 => ⟨S2048x3968, .bf16⟩
  | 45 => ⟨S2048x3968, .f32⟩
  | 46 => ⟨S1x1x128, .f32⟩
  | 47 => ⟨S128, .f32⟩
  | 48 => ⟨S1x1x128, .f32⟩
  | 49 => ⟨S128, .f32⟩
  | 50 => ⟨S1x1x256, .f32⟩
  | 51 => ⟨S256, .f32⟩
  | 52 => ⟨S4x2048x3968, .f32⟩
  | 53 => ⟨S4x2048x1024, .f32⟩
  | 54 => ⟨S4x2048x8x128, .f32⟩
  | 55 => ⟨S4x2048x8x128, .f32⟩
  | 56 => ⟨S_, .f32⟩
  | 57 => ⟨S4x2048x8, .f32⟩
  | 58 => ⟨S4x2048x8x1, .f32⟩
  | 59 => ⟨S_, .f32⟩
  | 60 => ⟨S4x2048x8x1, .f32⟩
  | 61 => ⟨S4x2048x8x1, .f32⟩
  | 62 => ⟨S_, .f32⟩
  | 63 => ⟨S4x2048x8x1, .f32⟩
  | 64 => ⟨S4x2048x8x1, .f32⟩
  | 65 => ⟨S4x2048x8x1, .f32⟩
  | 66 => ⟨S4x2048x8x128, .f32⟩
  | 67 => ⟨S4x2048x8x128, .f32⟩
  | 68 => ⟨S1x1x1x128, .f32⟩
  | 69 => ⟨S4x2048x8x128, .f32⟩
  | 70 => ⟨S4x2048x8x128, .f32⟩
  | 71 => ⟨S4x2048x256, .f32⟩
  | 72 => ⟨S4x2048x2x128, .f32⟩
  | 73 => ⟨S4x2048x2x128, .f32⟩
  | 74 => ⟨S_, .f32⟩
  | 75 => ⟨S4x2048x2, .f32⟩
  | 76 => ⟨S4x2048x2x1, .f32⟩
  | 77 => ⟨S_, .f32⟩
  | 78 => ⟨S4x2048x2x1, .f32⟩
  | 79 => ⟨S4x2048x2x1, .f32⟩
  | 80 => ⟨S_, .f32⟩
  | 81 => ⟨S4x2048x2x1, .f32⟩
  | 82 => ⟨S4x2048x2x1, .f32⟩
  | 83 => ⟨S4x2048x2x1, .f32⟩
  | 84 => ⟨S4x2048x2x128, .f32⟩
  | 85 => ⟨S4x2048x2x128, .f32⟩
  | 86 => ⟨S1x1x1x128, .f32⟩
  | 87 => ⟨S4x2048x2x128, .f32⟩
  | 88 => ⟨S4x2048x2x128, .f32⟩
  | 89 => ⟨S4x2048x256, .f32⟩
  | 90 => ⟨S4x2048x2x128, .f32⟩
  | 91 => ⟨S4x2048x2048, .f32⟩
  | 92 => ⟨S4x2048x8x256, .f32⟩
  | 93 => ⟨S4x2048x256, .f32⟩
  | 94 => ⟨S4x2048x256, .f32⟩
  | 95 => ⟨S_, .f32⟩
  | 96 => ⟨S4x2048, .f32⟩
  | 97 => ⟨S4x2048x1, .f32⟩
  | 98 => ⟨S_, .f32⟩
  | 99 => ⟨S4x2048x1, .f32⟩
  | 100 => ⟨S4x2048x1, .f32⟩
  | 101 => ⟨S_, .f32⟩
  | 102 => ⟨S4x2048x1, .f32⟩
  | 103 => ⟨S4x2048x1, .f32⟩
  | 104 => ⟨S4x2048x1, .f32⟩
  | 105 => ⟨S4x2048x256, .f32⟩
  | 106 => ⟨S4x2048x256, .f32⟩
  | 107 => ⟨S1x1x256, .f32⟩
  | 108 => ⟨S4x2048x256, .f32⟩
  | 109 => ⟨S4x2048x256, .f32⟩
  | 110 => ⟨S4x2048x128, .f32⟩
  | 111 => ⟨S4x2048x8x64, .f32⟩
  | 112 => ⟨S4x2048x8x64, .f32⟩
  | 113 => ⟨S1x2048x1x64, .f32⟩
  | 114 => ⟨S1x2048x1x64, .f32⟩
  | 115 => ⟨S4x2048x8x64, .f32⟩
  | 116 => ⟨S4x2048x8x64, .f32⟩
  | 117 => ⟨S4x2048x8x64, .f32⟩
  | 118 => ⟨S4x2048x8x64, .f32⟩
  | 119 => ⟨S4x2048x8x64, .f32⟩
  | 120 => ⟨S4x2048x8x64, .f32⟩
  | 121 => ⟨S4x2048x8x64, .f32⟩
  | 122 => ⟨S4x2048x8x64, .f32⟩
  | 123 => ⟨S4x2048x8x64, .f32⟩
  | 124 => ⟨S4x2048x8x64, .f32⟩
  | 125 => ⟨S4x2048x8x128, .f32⟩
  | 126 => ⟨S4x2048x2x64, .f32⟩
  | 127 => ⟨S4x2048x2x64, .f32⟩
  | _ => ⟨S8192x2048, .f32⟩

abbrev hbmTy0_1 (i : Nat) : BufTy := match i % 128 with
  | 0 => ⟨S1x2048x1x64, .f32⟩
  | 1 => ⟨S1x2048x1x64, .f32⟩
  | 2 => ⟨S4x2048x2x64, .f32⟩
  | 3 => ⟨S4x2048x2x64, .f32⟩
  | 4 => ⟨S4x2048x2x64, .f32⟩
  | 5 => ⟨S4x2048x2x64, .f32⟩
  | 6 => ⟨S4x2048x2x64, .f32⟩
  | 7 => ⟨S4x2048x2x64, .f32⟩
  | 8 => ⟨S4x2048x2x64, .f32⟩
  | 9 => ⟨S4x2048x2x64, .f32⟩
  | 10 => ⟨S4x2048x2x64, .f32⟩
  | 11 => ⟨S4x2048x2x64, .f32⟩
  | 12 => ⟨S4x2048x2x128, .f32⟩
  | 13 => ⟨S_, .f32⟩
  | 14 => ⟨S2048x32, .f32⟩
  | 15 => ⟨S2048x64, .f32⟩
  | 16 => ⟨S_, .f32⟩
  | 17 => ⟨S2048x32, .f32⟩
  | 18 => ⟨S2048x64, .f32⟩
  | 19 => ⟨S4x2048x8x128, .f32⟩
  | 20 => ⟨S4x2048x8x128, .f32⟩
  | 21 => ⟨S4x2048x8x64, .f32⟩
  | 22 => ⟨S4x2048x8x64, .f32⟩
  | 23 => ⟨S1x2048x1x64, .f32⟩
  | 24 => ⟨S1x2048x1x64, .f32⟩
  | 25 => ⟨S4x2048x8x64, .f32⟩
  | 26 => ⟨S4x2048x8x64, .f32⟩
  | 27 => ⟨S4x2048x8x64, .f32⟩
  | 28 => ⟨S4x2048x8x64, .f32⟩
  | 29 => ⟨S4x2048x8x64, .f32⟩
  | 30 => ⟨S4x2048x8x64, .f32⟩
  | 31 => ⟨S4x2048x8x64, .f32⟩
  | 32 => ⟨S4x2048x8x64, .f32⟩
  | 33 => ⟨S4x2048x8x64, .f32⟩
  | 34 => ⟨S4x2048x8x64, .f32⟩
  | 35 => ⟨S4x2048x8x128, .f32⟩
  | 36 => ⟨S4x2048x8x256, .f32⟩
  | 37 => ⟨S4x2048x1x128, .f32⟩
  | 38 => ⟨S4x2048x1x64, .f32⟩
  | 39 => ⟨S4x2048x1x64, .f32⟩
  | 40 => ⟨S1x2048x1x64, .f32⟩
  | 41 => ⟨S1x2048x1x64, .f32⟩
  | 42 => ⟨S4x2048x1x64, .f32⟩
  | 43 => ⟨S4x2048x1x64, .f32⟩
  | 44 => ⟨S4x2048x1x64, .f32⟩
  | 45 => ⟨S4x2048x1x64, .f32⟩
  | 46 => ⟨S4x2048x1x64, .f32⟩
  | 47 => ⟨S4x2048x1x64, .f32⟩
  | 48 => ⟨S4x2048x1x64, .f32⟩
  | 49 => ⟨S4x2048x1x64, .f32⟩
  | 50 => ⟨S4x2048x1x64, .f32⟩
  | 51 => ⟨S4x2048x1x64, .f32⟩
  | 52 => ⟨S4x2048x1x128, .f32⟩
  | 53 => ⟨S4x2048x128, .f32⟩
  | 54 => ⟨S1x256x1024, .bf16⟩
  | 55 => ⟨S256x1024, .bf16⟩
  | 56 => ⟨S256x1024, .f32⟩
  | 57 => ⟨S1x256x1024, .bf16⟩
  | 58 => ⟨S256x1024, .bf16⟩
  | 59 => ⟨S256x1024, .f32⟩
  | 60 => ⟨S4x2048x1024, .f32⟩
  | 61 => ⟨S4x2048x8x128, .f32⟩
  | 62 => ⟨S4x2048x1024, .f32⟩
  | 63 => ⟨S4x2048x8x128, .f32⟩
  | 64 => ⟨S4x2048x1x128, .f32⟩
  | 65 => ⟨S4x2048x8x128, .f32⟩
  | 66 => ⟨S4x2048x8x256, .f32⟩
  | 67 => ⟨S_, .f32⟩
  | 68 => ⟨S4x2048x8x128, .f32⟩
  | 69 => ⟨S4x2048x8x128, .f32⟩
  | 70 => ⟨S8192x1024, .f32⟩
  | 71 => ⟨S8192x1024, .bf16⟩
  | 72 => ⟨S8192x256, .f32⟩
  | 73 => ⟨S8192x256, .bf16⟩
  | 74 => ⟨S8192x256, .f32⟩
  | 75 => ⟨S8192x256, .bf16⟩
  | 76 => ⟨S_, .f32⟩
  | 77 => ⟨S4x2048x8x256, .f32⟩
  | 78 => ⟨S4x2048x8x256, .f32⟩
  | 79 => ⟨S8192x2048, .f32⟩
  | 80 => ⟨S8192x2048, .bf16⟩
  | 81 => ⟨S8192x2048, .f32⟩
  | 82 => ⟨S8192x2048, .bf16⟩
  | 83 => ⟨S8192x1024, .f32⟩
  | 84 => ⟨S8192x1024, .bf16⟩
  | _ => ⟨S8192x2048, .f32⟩

abbrev hbmTy (i : Nat) : BufTy := match i / 128 with
  | 0 => hbmTy0_0 i
  | 1 => hbmTy0_1 i
  | _ => ⟨S8192x2048, .f32⟩

abbrev bufTy : (tb : Table) → Fin (tcTables nBuf tb) → BufTy
  | .hbm, ⟨i, _⟩ => hbmTy i
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst : Ref sig .tc := ⟨.hbm, 21, rfl⟩
abbrev main_v8 : Ref sig .tc := ⟨.hbm, 22, rfl⟩
abbrev main_v9 : Ref sig .tc := ⟨.hbm, 23, rfl⟩
abbrev main_cst_0 : Ref sig .tc := ⟨.hbm, 24, rfl⟩
abbrev main_v10 : Ref sig .tc := ⟨.hbm, 25, rfl⟩
abbrev main_v11 : Ref sig .tc := ⟨.hbm, 26, rfl⟩
abbrev main_cst_1 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst_2 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_3 : Ref sig .tc := ⟨.hbm, 56, rfl⟩
abbrev main_v39 : Ref sig .tc := ⟨.hbm, 57, rfl⟩
abbrev main_v40 : Ref sig .tc := ⟨.hbm, 58, rfl⟩
abbrev main_cst_4 : Ref sig .tc := ⟨.hbm, 59, rfl⟩
abbrev main_v41 : Ref sig .tc := ⟨.hbm, 60, rfl⟩
abbrev main_v42 : Ref sig .tc := ⟨.hbm, 61, rfl⟩
abbrev main_cst_5 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_cst_6 : Ref sig .tc := ⟨.hbm, 74, rfl⟩
abbrev main_v54 : Ref sig .tc := ⟨.hbm, 75, rfl⟩
abbrev main_v55 : Ref sig .tc := ⟨.hbm, 76, rfl⟩
abbrev main_cst_7 : Ref sig .tc := ⟨.hbm, 77, rfl⟩
abbrev main_v56 : Ref sig .tc := ⟨.hbm, 78, rfl⟩
abbrev main_v57 : Ref sig .tc := ⟨.hbm, 79, rfl⟩
abbrev main_cst_8 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_cst_9 : Ref sig .tc := ⟨.hbm, 95, rfl⟩
abbrev main_v72 : Ref sig .tc := ⟨.hbm, 96, rfl⟩
abbrev main_v73 : Ref sig .tc := ⟨.hbm, 97, rfl⟩
abbrev main_cst_10 : Ref sig .tc := ⟨.hbm, 98, rfl⟩
abbrev main_v74 : Ref sig .tc := ⟨.hbm, 99, rfl⟩
abbrev main_v75 : Ref sig .tc := ⟨.hbm, 100, rfl⟩
abbrev main_cst_11 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩
abbrev main_v97 : Ref sig .tc := ⟨.hbm, 123, rfl⟩
abbrev main_v98 : Ref sig .tc := ⟨.hbm, 124, rfl⟩
abbrev main_v99 : Ref sig .tc := ⟨.hbm, 125, rfl⟩
abbrev main_v100 : Ref sig .tc := ⟨.hbm, 126, rfl⟩
abbrev main_v101 : Ref sig .tc := ⟨.hbm, 127, rfl⟩
abbrev main_v102 : Ref sig .tc := ⟨.hbm, 128, rfl⟩
abbrev main_v103 : Ref sig .tc := ⟨.hbm, 129, rfl⟩
abbrev main_v104 : Ref sig .tc := ⟨.hbm, 130, rfl⟩
abbrev main_v105 : Ref sig .tc := ⟨.hbm, 131, rfl⟩
abbrev main_v106 : Ref sig .tc := ⟨.hbm, 132, rfl⟩
abbrev main_v107 : Ref sig .tc := ⟨.hbm, 133, rfl⟩
abbrev main_v108 : Ref sig .tc := ⟨.hbm, 134, rfl⟩
abbrev main_v109 : Ref sig .tc := ⟨.hbm, 135, rfl⟩
abbrev main_v110 : Ref sig .tc := ⟨.hbm, 136, rfl⟩
abbrev main_v111 : Ref sig .tc := ⟨.hbm, 137, rfl⟩
abbrev main_v112 : Ref sig .tc := ⟨.hbm, 138, rfl⟩
abbrev main_v113 : Ref sig .tc := ⟨.hbm, 139, rfl⟩
abbrev main_v114 : Ref sig .tc := ⟨.hbm, 140, rfl⟩
abbrev main_cst_12 : Ref sig .tc := ⟨.hbm, 141, rfl⟩
abbrev main_v115 : Ref sig .tc := ⟨.hbm, 142, rfl⟩
abbrev main_v116 : Ref sig .tc := ⟨.hbm, 143, rfl⟩
abbrev main_cst_13 : Ref sig .tc := ⟨.hbm, 144, rfl⟩
abbrev main_v117 : Ref sig .tc := ⟨.hbm, 145, rfl⟩
abbrev main_v118 : Ref sig .tc := ⟨.hbm, 146, rfl⟩
abbrev main_v119 : Ref sig .tc := ⟨.hbm, 147, rfl⟩
abbrev main_v120 : Ref sig .tc := ⟨.hbm, 148, rfl⟩
abbrev main_v121 : Ref sig .tc := ⟨.hbm, 149, rfl⟩
abbrev main_v122 : Ref sig .tc := ⟨.hbm, 150, rfl⟩
abbrev main_v123 : Ref sig .tc := ⟨.hbm, 151, rfl⟩
abbrev main_v124 : Ref sig .tc := ⟨.hbm, 152, rfl⟩
abbrev main_v125 : Ref sig .tc := ⟨.hbm, 153, rfl⟩
abbrev main_v126 : Ref sig .tc := ⟨.hbm, 154, rfl⟩
abbrev main_v127 : Ref sig .tc := ⟨.hbm, 155, rfl⟩
abbrev main_v128 : Ref sig .tc := ⟨.hbm, 156, rfl⟩
abbrev main_v129 : Ref sig .tc := ⟨.hbm, 157, rfl⟩
abbrev main_v130 : Ref sig .tc := ⟨.hbm, 158, rfl⟩
abbrev main_v131 : Ref sig .tc := ⟨.hbm, 159, rfl⟩
abbrev main_v132 : Ref sig .tc := ⟨.hbm, 160, rfl⟩
abbrev main_v133 : Ref sig .tc := ⟨.hbm, 161, rfl⟩
abbrev main_v134 : Ref sig .tc := ⟨.hbm, 162, rfl⟩
abbrev main_v135 : Ref sig .tc := ⟨.hbm, 163, rfl⟩
abbrev main_v136 : Ref sig .tc := ⟨.hbm, 164, rfl⟩
abbrev main_v137 : Ref sig .tc := ⟨.hbm, 165, rfl⟩
abbrev main_v138 : Ref sig .tc := ⟨.hbm, 166, rfl⟩
abbrev main_v139 : Ref sig .tc := ⟨.hbm, 167, rfl⟩
abbrev main_v140 : Ref sig .tc := ⟨.hbm, 168, rfl⟩
abbrev main_v141 : Ref sig .tc := ⟨.hbm, 169, rfl⟩
abbrev main_v142 : Ref sig .tc := ⟨.hbm, 170, rfl⟩
abbrev main_v143 : Ref sig .tc := ⟨.hbm, 171, rfl⟩
abbrev main_v144 : Ref sig .tc := ⟨.hbm, 172, rfl⟩
abbrev main_v145 : Ref sig .tc := ⟨.hbm, 173, rfl⟩
abbrev main_v146 : Ref sig .tc := ⟨.hbm, 174, rfl⟩
abbrev main_v147 : Ref sig .tc := ⟨.hbm, 175, rfl⟩
abbrev main_v148 : Ref sig .tc := ⟨.hbm, 176, rfl⟩
abbrev main_v149 : Ref sig .tc := ⟨.hbm, 177, rfl⟩
abbrev main_v150 : Ref sig .tc := ⟨.hbm, 178, rfl⟩
abbrev main_v151 : Ref sig .tc := ⟨.hbm, 179, rfl⟩
abbrev main_v152 : Ref sig .tc := ⟨.hbm, 180, rfl⟩
abbrev main_v153 : Ref sig .tc := ⟨.hbm, 181, rfl⟩
abbrev main_v154 : Ref sig .tc := ⟨.hbm, 182, rfl⟩
abbrev main_v155 : Ref sig .tc := ⟨.hbm, 183, rfl⟩
abbrev main_v156 : Ref sig .tc := ⟨.hbm, 184, rfl⟩
abbrev main_v157 : Ref sig .tc := ⟨.hbm, 185, rfl⟩
abbrev main_v158 : Ref sig .tc := ⟨.hbm, 186, rfl⟩
abbrev main_v159 : Ref sig .tc := ⟨.hbm, 187, rfl⟩
abbrev main_v160 : Ref sig .tc := ⟨.hbm, 188, rfl⟩
abbrev main_v161 : Ref sig .tc := ⟨.hbm, 189, rfl⟩
abbrev main_v162 : Ref sig .tc := ⟨.hbm, 190, rfl⟩
abbrev main_v163 : Ref sig .tc := ⟨.hbm, 191, rfl⟩
abbrev main_v164 : Ref sig .tc := ⟨.hbm, 192, rfl⟩
abbrev main_v165 : Ref sig .tc := ⟨.hbm, 193, rfl⟩
abbrev main_v166 : Ref sig .tc := ⟨.hbm, 194, rfl⟩
abbrev main_cst_14 : Ref sig .tc := ⟨.hbm, 195, rfl⟩
abbrev main_v167 : Ref sig .tc := ⟨.hbm, 196, rfl⟩
abbrev main_v168 : Ref sig .tc := ⟨.hbm, 197, rfl⟩
abbrev main_v169 : Ref sig .tc := ⟨.hbm, 198, rfl⟩
abbrev main_v170 : Ref sig .tc := ⟨.hbm, 199, rfl⟩
abbrev main_v171 : Ref sig .tc := ⟨.hbm, 200, rfl⟩
abbrev main_v172 : Ref sig .tc := ⟨.hbm, 201, rfl⟩
abbrev main_v173 : Ref sig .tc := ⟨.hbm, 202, rfl⟩
abbrev main_v174 : Ref sig .tc := ⟨.hbm, 203, rfl⟩
abbrev main_cst_15 : Ref sig .tc := ⟨.hbm, 204, rfl⟩
abbrev main_v175 : Ref sig .tc := ⟨.hbm, 205, rfl⟩
abbrev main_v176 : Ref sig .tc := ⟨.hbm, 206, rfl⟩
abbrev main_v177 : Ref sig .tc := ⟨.hbm, 207, rfl⟩
abbrev main_v178 : Ref sig .tc := ⟨.hbm, 208, rfl⟩
abbrev main_v179 : Ref sig .tc := ⟨.hbm, 209, rfl⟩
abbrev main_v180 : Ref sig .tc := ⟨.hbm, 210, rfl⟩
abbrev main_v181 : Ref sig .tc := ⟨.hbm, 211, rfl⟩
abbrev main_v182 : Ref sig .tc := ⟨.hbm, 212, rfl⟩

abbrev nD : Nat := 1
abbrev τ : Topo := Topo.v7x

variable {F : FTy → Type} [FloatOps F]
-- ==== Kernel7.lean ====
abbrev S8192x2048 : Shape := ⟨2, ![8192, 2048]⟩
abbrev S4x8x6x2048 : Shape := ⟨4, ![4, 8, 6, 2048]⟩
abbrev S4x1x2048 : Shape := ⟨3, ![4, 1, 2048]⟩
abbrev S4x2048x3968 : Shape := ⟨3, ![4, 2048, 3968]⟩
abbrev S4x1x128 : Shape := ⟨3, ![4, 1, 128]⟩
abbrev S4x1x256 : Shape := ⟨3, ![4, 1, 256]⟩
abbrev S4x256x1024 : Shape := ⟨3, ![4, 256, 1024]⟩
abbrev S2048x2048 : Shape := ⟨2, ![2048, 2048]⟩
abbrev S32x4x256x2x128 : Shape := ⟨5, ![32, 4, 256, 2, 128]⟩
abbrev S32x4x256x256 : Shape := ⟨4, ![32, 4, 256, 256]⟩
abbrev S32x4x256x64 : Shape := ⟨4, ![32, 4, 256, 64]⟩
abbrev S512x2048 : Shape := ⟨2, ![512, 2048]⟩
abbrev S1x1x6x2048 : Shape := ⟨4, ![1, 1, 6, 2048]⟩
abbrev S1x1x2048 : Shape := ⟨3, ![1, 1, 2048]⟩
abbrev S1x2048x3968 : Shape := ⟨3, ![1, 2048, 3968]⟩
abbrev S1x1x128 : Shape := ⟨3, ![1, 1, 128]⟩
abbrev S1x1x256 : Shape := ⟨3, ![1, 1, 256]⟩
abbrev S1x256x1024 : Shape := ⟨3, ![1, 256, 1024]⟩
abbrev S2x1x256x2x128 : Shape := ⟨5, ![2, 1, 256, 2, 128]⟩
abbrev S2x1x256x256 : Shape := ⟨4, ![2, 1, 256, 256]⟩
abbrev S2x1x256x64 : Shape := ⟨4, ![2, 1, 256, 64]⟩
abbrev S512x1024 : Shape := ⟨2, ![512, 1024]⟩
abbrev S512x256 : Shape := ⟨2, ![512, 256]⟩
abbrev S512x512 : Shape := ⟨2, ![512, 512]⟩
abbrev S256x2048 : Shape := ⟨2, ![256, 2048]⟩
abbrev S256 : Shape := ⟨1, ![256]⟩
abbrev S256x1 : Shape := ⟨2, ![256, 1]⟩
abbrev S1x2048 : Shape := ⟨2, ![1, 2048]⟩
abbrev S1x1x1x2048 : Shape := ⟨4, ![1, 1, 1, 2048]⟩
abbrev S2048x3968 : Shape := ⟨2, ![2048, 3968]⟩
abbrev S256x3968 : Shape := ⟨2, ![256, 3968]⟩
abbrev S256x1024 : Shape := ⟨2, ![256, 1024]⟩
abbrev S1x128 : Shape := ⟨2, ![1, 128]⟩
abbrev S256x128 : Shape := ⟨2, ![256, 128]⟩
abbrev S256x256 : Shape := ⟨2, ![256, 256]⟩
abbrev S1x1x256x1x128 : Shape := ⟨5, ![1, 1, 256, 1, 128]⟩
abbrev S1x256 : Shape := ⟨2, ![1, 256]⟩
abbrev S1x1x256x256 : Shape := ⟨4, ![1, 1, 256, 256]⟩
abbrev S256x32 : Shape := ⟨2, ![256, 32]⟩
abbrev S256x64 : Shape := ⟨2, ![256, 64]⟩
abbrev S1x1x256x64 : Shape := ⟨4, ![1, 1, 256, 64]⟩
abbrev S1024x2048 : Shape := ⟨2, ![1024, 2048]⟩

abbrev nBuf : Space → Nat
  | .hbm => 19
  | .vmem => 31
  | .smem => 0
  | _ => 0

abbrev bufTy : (tb : Table) → Fin (tcTables nBuf tb) → BufTy
  | .hbm, ⟨0, _⟩ => ⟨S8192x2048, .f32⟩
  | .hbm, ⟨1, _⟩ => ⟨S4x8x6x2048, .f32⟩
  | .hbm, ⟨2, _⟩ => ⟨S4x1x2048, .f32⟩
  | .hbm, ⟨3, _⟩ => ⟨S4x2048x3968, .bf16⟩
  | .hbm, ⟨4, _⟩ => ⟨S4x1x128, .f32⟩
  | .hbm, ⟨5, _⟩ => ⟨S4x1x128, .f32⟩
  | .hbm, ⟨6, _⟩ => ⟨S4x1x256, .f32⟩
  | .hbm, ⟨7, _⟩ => ⟨S4x256x1024, .bf16⟩
  | .hbm, ⟨8, _⟩ => ⟨S4x256x1024, .bf16⟩
  | .hbm, ⟨9, _⟩ => ⟨S2048x2048, .bf16⟩
  | .hbm, ⟨10, _⟩ => ⟨S32x4x256x2x128, .f32⟩
  | .hbm, ⟨11, _⟩ => ⟨S32x4x256x2x128, .f32⟩
  | .hbm, ⟨12, _⟩ => ⟨S32x4x256x256, .f32⟩
  | .hbm, ⟨13, _⟩ => ⟨S32x4x256x64, .f32⟩
  | .hbm, ⟨14, _⟩ => ⟨S8192x2048, .f32⟩
  | .hbm, ⟨15, _⟩ => ⟨S32x4x256x2x128, .f32⟩
  | .hbm, ⟨16, _⟩ => ⟨S32x4x256x2x128, .f32⟩
  | .hbm, ⟨17, _⟩ => ⟨S32x4x256x256, .f32⟩
  | .hbm, ⟨18, _⟩ => ⟨S32x4x256x64, .f32⟩
  | .local _ .vmem, ⟨0, _⟩ => ⟨S512x2048, .f32⟩
  | .local _ .vmem, ⟨1, _⟩ => ⟨S512x2048, .f32⟩
  | .local _ .vmem, ⟨2, _⟩ => ⟨S1x1x6x2048, .f32⟩
  | .local _ .vmem, ⟨3, _⟩ => ⟨S1x1x2048, .f32⟩
  | .local _ .vmem, ⟨4, _⟩ => ⟨S1x2048x3968, .bf16⟩
  | .local _ .vmem, ⟨5, _⟩ => ⟨S1x1x128, .f32⟩
  | .local _ .vmem, ⟨6, _⟩ => ⟨S1x1x128, .f32⟩
  | .local _ .vmem, ⟨7, _⟩ => ⟨S1x1x256, .f32⟩
  | .local _ .vmem, ⟨8, _⟩ => ⟨S1x256x1024, .bf16⟩
  | .local _ .vmem, ⟨9, _⟩ => ⟨S1x256x1024, .bf16⟩
  | .local _ .vmem, ⟨10, _⟩ => ⟨S2048x2048, .bf16⟩
  | .local _ .vmem, ⟨11, _⟩ => ⟨S512x2048, .f32⟩
  | .local _ .vmem, ⟨12, _⟩ => ⟨S512x2048, .f32⟩
  | .local _ .vmem, ⟨13, _⟩ => ⟨S2x1x256x2x128, .f32⟩
  | .local _ .vmem, ⟨14, _⟩ => ⟨S2x1x256x2x128, .f32⟩
  | .local _ .vmem, ⟨15, _⟩ => ⟨S2x1x256x2x128, .f32⟩
  | .local _ .vmem, ⟨16, _⟩ => ⟨S2x1x256x2x128, .f32⟩
  | .local _ .vmem, ⟨17, _⟩ => ⟨S2x1x256x256, .f32⟩
  | .local _ .vmem, ⟨18, _⟩ => ⟨S2x1x256x256, .f32⟩
  | .local _ .vmem, ⟨19, _⟩ => ⟨S2x1x256x64, .f32⟩
  | .local _ .vmem, ⟨20, _⟩ => ⟨S2x1x256x64, .f32⟩
  | .local _ .vmem, ⟨21, _⟩ => ⟨S512x1024, .bf16⟩
  | .local _ .vmem, ⟨22, _⟩ => ⟨S512x256, .bf16⟩
  | .local _ .vmem, ⟨23, _⟩ => ⟨S512x256, .bf16⟩
  | .local _ .vmem, ⟨24, _⟩ => ⟨S512x2048, .bf16⟩
  | .local _ .vmem, ⟨25, _⟩ => ⟨S512x2048, .bf16⟩
  | .local _ .vmem, ⟨26, _⟩ => ⟨S512x1024, .bf16⟩
  | .local _ .vmem, ⟨27, _⟩ => ⟨S512x512, .bf16⟩
  | .local _ .vmem, ⟨28, _⟩ => ⟨S512x2048, .bf16⟩
  | .local _ .vmem, ⟨29, _⟩ => ⟨S512x1024, .bf16⟩
  | .local _ .vmem, ⟨30, _⟩ => ⟨S512x1024, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0_0 : Ref sig .tc := ⟨.hbm, 14, rfl⟩
abbrev main_v0_1 : Ref sig .tc := ⟨.hbm, 15, rfl⟩
abbrev main_v0_2 : Ref sig .tc := ⟨.hbm, 16, rfl⟩
abbrev main_v0_3 : Ref sig .tc := ⟨.hbm, 17, rfl⟩
abbrev main_v0_4 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg10_1 : Ref sig .tc := ⟨.vmem, 12, rfl⟩
abbrev cc0_stg11_0 : Ref sig .tc := ⟨.vmem, 13, rfl⟩
abbrev cc0_stg11_1 : Ref sig .tc := ⟨.vmem, 14, rfl⟩
abbrev cc0_stg12_0 : Ref sig .tc := ⟨.vmem, 15, rfl⟩
abbrev cc0_stg12_1 : Ref sig .tc := ⟨.vmem, 16, rfl⟩
abbrev cc0_stg13_0 : Ref sig .tc := ⟨.vmem, 17, rfl⟩
abbrev cc0_stg13_1 : Ref sig .tc := ⟨.vmem, 18, rfl⟩
abbrev cc0_stg14_0 : Ref sig .tc := ⟨.vmem, 19, rfl⟩
abbrev cc0_stg14_1 : Ref sig .tc := ⟨.vmem, 20, rfl⟩
abbrev cc0_scratch0 : Ref sig .tc := ⟨.vmem, 21, rfl⟩
abbrev cc0_scratch1 : Ref sig .tc := ⟨.vmem, 22, rfl⟩
abbrev cc0_scratch2 : Ref sig .tc := ⟨.vmem, 23, rfl⟩
abbrev cc0_scratch3 : Ref sig .tc := ⟨.vmem, 24, rfl⟩
abbrev cc0_scratch4 : Ref sig .tc := ⟨.vmem, 25, rfl⟩
abbrev cc0_scratch5 : Ref sig .tc := ⟨.vmem, 26, rfl⟩
abbrev cc0_scratch6 : Ref sig .tc := ⟨.vmem, 27, rfl⟩
abbrev cc0_scratch7 : Ref sig .tc := ⟨.vmem, 28, rfl⟩
abbrev cc0_scratch8 : Ref sig .tc := ⟨.vmem, 29, rfl⟩
abbrev cc0_scratch9 : Ref sig .tc := ⟨.vmem, 30, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem10_1 : DmaSem sig := 12
abbrev cc0_sem11_0 : DmaSem sig := 13
abbrev cc0_sem11_1 : DmaSem sig := 14
abbrev cc0_sem12_0 : DmaSem sig := 15
abbrev cc0_sem12_1 : DmaSem sig := 16
abbrev cc0_sem13_0 : DmaSem sig := 17
abbrev cc0_sem13_1 : DmaSem sig := 18
abbrev cc0_sem14_0 : DmaSem sig := 19
abbrev cc0_sem14_1 : DmaSem sig := 20

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  let c0_i32_2 : BitVec 32 := 0#32
  ![c1_i32.toNat, c0_i32.toNat, c0_i32_0.toNat, c0_i32_1.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_5 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_6 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_7 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_8 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 5 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  let c0_i32_2 : BitVec 32 := 0#32
  ![arg0.toNat, c1_i32.toNat, c0_i32.toNat, c0_i32_0.toNat, c0_i32_1.toNat]

def cc0_transform_16 (i : grid0.Coords) : Fin 5 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  let c0_i32_2 : BitVec 32 := 0#32
  ![arg0.toNat, c1_i32.toNat, c0_i32.toNat, c0_i32_0.toNat, c0_i32_1.toNat]

def cc0_transform_17 (i : grid0.Coords) : Fin 4 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![arg0.toNat, c1_i32.toNat, c0_i32.toNat, c0_i32_0.toNat]

def cc0_transform_18 (i : grid0.Coords) : Fin 4 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![arg0.toNat, c1_i32.toNat, c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x6x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048x3968 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2048x2048 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S2x1x256x2x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S2x1x256x2x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S2x1x256x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S2x1x256x64 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== Reference7Ideal.lean ====
abbrev S8192x2048 : Shape := ⟨2, ![8192, 2048]⟩
abbrev S4x8x6x2048 : Shape := ⟨4, ![4, 8, 6, 2048]⟩
abbrev S4x1x2048 : Shape := ⟨3, ![4, 1, 2048]⟩
abbrev S4x2048x3968 : Shape := ⟨3, ![4, 2048, 3968]⟩
abbrev S4x1x128 : Shape := ⟨3, ![4, 1, 128]⟩
abbrev S4x1x256 : Shape := ⟨3, ![4, 1, 256]⟩
abbrev S4x256x1024 : Shape := ⟨3, ![4, 256, 1024]⟩
abbrev S2048x2048 : Shape := ⟨2, ![2048, 2048]⟩
abbrev S32x4x256x2x128 : Shape := ⟨5, ![32, 4, 256, 2, 128]⟩
abbrev S32x4x256x256 : Shape := ⟨4, ![32, 4, 256, 256]⟩
abbrev S32x4x256x64 : Shape := ⟨4, ![32, 4, 256, 64]⟩
abbrev S32x256x2048 : Shape := ⟨3, ![32, 256, 2048]⟩
abbrev S1x1x1x2048 : Shape := ⟨4, ![1, 1, 1, 2048]⟩
abbrev S2048 : Shape := ⟨1, ![2048]⟩
abbrev S1x1x2048 : Shape := ⟨3, ![1, 1, 2048]⟩
abbrev S_ : Shape := ⟨0, ![]⟩
abbrev S32x256 : Shape := ⟨2, ![32, 256]⟩
abbrev S32x256x1 : Shape := ⟨3, ![32, 256, 1]⟩
abbrev S1x2048x3968 : Shape := ⟨3, ![1, 2048, 3968]⟩
abbrev S2048x3968 : Shape := ⟨2, ![2048, 3968]⟩
abbrev S1x1x128 : Shape := ⟨3, ![1, 1, 128]⟩
abbrev S128 : Shape := ⟨1, ![128]⟩
abbrev S1x1x256 : Shape := ⟨3, ![1, 1, 256]⟩
abbrev S256 : Shape := ⟨1, ![256]⟩
abbrev S32x256x3968 : Shape := ⟨3, ![32, 256, 3968]⟩
abbrev S32x256x1024 : Shape := ⟨3, ![32, 256, 1024]⟩
abbrev S32x256x8x128 : Shape := ⟨4, ![32, 256, 8, 128]⟩
abbrev S32x256x8 : Shape := ⟨3, ![32, 256, 8]⟩
abbrev S32x256x8x1 : Shape := ⟨4, ![32, 256, 8, 1]⟩
abbrev S1x1x1x128 : Shape := ⟨4, ![1, 1, 1, 128]⟩
abbrev S32x256x256 : Shape := ⟨3, ![32, 256, 256]⟩
abbrev S32x256x2x128 : Shape := ⟨4, ![32, 256, 2, 128]⟩
abbrev S32x256x2 : Shape := ⟨3, ![32, 256, 2]⟩
abbrev S32x256x2x1 : Shape := ⟨4, ![32, 256, 2, 1]⟩
abbrev S32x256x8x256 : Shape := ⟨4, ![32, 256, 8, 256]⟩
abbrev S32x256x128 : Shape := ⟨3, ![32, 256, 128]⟩
abbrev S32x256x32 : Shape := ⟨3, ![32, 256, 32]⟩
abbrev S32x256x64 : Shape := ⟨3, ![32, 256, 64]⟩
abbrev S32x1x256x2x128 : Shape := ⟨5, ![32, 1, 256, 2, 128]⟩
abbrev S32x2x256x2x128 : Shape := ⟨5, ![32, 2, 256, 2, 128]⟩
abbrev S32x1x256x256 : Shape := ⟨4, ![32, 1, 256, 256]⟩
abbrev S32x2x256x256 : Shape := ⟨4, ![32, 2, 256, 256]⟩
abbrev S32x1x256x64 : Shape := ⟨4, ![32, 1, 256, 64]⟩
abbrev S32x2x256x64 : Shape := ⟨4, ![32, 2, 256, 64]⟩

abbrev nBuf : Space → Nat
  | .hbm => 133
  | .vmem => 0
  | .smem => 0
  | _ => 0

abbrev hbmTy0_0 (i : Nat) : BufTy := match i % 128 with
  | 0 => ⟨S8192x2048, .f32⟩
  | 1 => ⟨S4x8x6x2048, .f32⟩
  | 2 => ⟨S4x1x2048, .f32⟩
  | 3 => ⟨S4x2048x3968, .bf16⟩
  | 4 => ⟨S4x1x128, .f32⟩
  | 5 => ⟨S4x1x128, .f32⟩
  | 6 => ⟨S4x1x256, .f32⟩
  | 7 => ⟨S4x256x1024, .bf16⟩
  | 8 => ⟨S4x256x1024, .bf16⟩
  | 9 => ⟨S2048x2048, .bf16⟩
  | 10 => ⟨S32x4x256x2x128, .f32⟩
  | 11 => ⟨S32x4x256x2x128, .f32⟩
  | 12 => ⟨S32x4x256x256, .f32⟩
  | 13 => ⟨S32x4x256x64, .f32⟩
  | 14 => ⟨S32x256x2048, .f32⟩
  | 15 => ⟨S1x1x1x2048, .f32⟩
  | 16 => ⟨S2048, .f32⟩
  | 17 => ⟨S1x1x1x2048, .f32⟩
  | 18 => ⟨S2048, .f32⟩
  | 19 => ⟨S1x1x2048, .f32⟩
  | 20 => ⟨S2048, .f32⟩
  | 21 => ⟨S32x256x2048, .f32⟩
  | 22 => ⟨S_, .f32⟩
  | 23 => ⟨S32x256, .f32⟩
  | 24 => ⟨S32x256x1, .f32⟩
  | 25 => ⟨S_, .f32⟩
  | 26 => ⟨S32x256x1, .f32⟩
  | 27 => ⟨S32x256x1, .f32⟩
  | 28 => ⟨S_, .f32⟩
  | 29 => ⟨S32x256x1, .f32⟩
  | 30 => ⟨S32x256x1, .f32⟩
  | 31 => ⟨S32x256x1, .f32⟩
  | 32 => ⟨S32x256x2048, .f32⟩
  | 33 => ⟨S32x256x2048, .f32⟩
  | 34 => ⟨S1x1x2048, .f32⟩
  | 35 => ⟨S32x256x2048, .f32⟩
  | 36 => ⟨S32x256x2048, .f32⟩
  | 37 => ⟨S_, .f32⟩
  | 38 => ⟨S2048, .f32⟩
  | 39 => ⟨S2048, .f32⟩
  | 40 => ⟨S1x1x2048, .f32⟩
  | 41 => ⟨S32x256x2048, .f32⟩
  | 42 => ⟨S32x256x2048, .f32⟩
  | 43 => ⟨S1x1x2048, .f32⟩
  | 44 => ⟨S32x256x2048, .f32⟩
  | 45 => ⟨S32x256x2048, .f32⟩
  | 46 => ⟨S1x2048x3968, .bf16⟩
  | 47 => ⟨S2048x3968, .bf16⟩
  | 48 => ⟨S2048x3968, .f32⟩
  | 49 => ⟨S1x1x128, .f32⟩
  | 50 => ⟨S128, .f32⟩
  | 51 => ⟨S1x1x128, .f32⟩
  | 52 => ⟨S128, .f32⟩
  | 53 => ⟨S1x1x256, .f32⟩
  | 54 => ⟨S256, .f32⟩
  | 55 => ⟨S32x256x3968, .f32⟩
  | 56 => ⟨S32x256x1024, .f32⟩
  | 57 => ⟨S32x256x8x128, .f32⟩
  | 58 => ⟨S32x256x8x128, .f32⟩
  | 59 => ⟨S_, .f32⟩
  | 60 => ⟨S32x256x8, .f32⟩
  | 61 => ⟨S32x256x8x1, .f32⟩
  | 62 => ⟨S_, .f32⟩
  | 63 => ⟨S32x256x8x1, .f32⟩
  | 64 => ⟨S32x256x8x1, .f32⟩
  | 65 => ⟨S_, .f32⟩
  | 66 => ⟨S32x256x8x1, .f32⟩
  | 67 => ⟨S32x256x8x1, .f32⟩
  | 68 => ⟨S32x256x8x1, .f32⟩
  | 69 => ⟨S32x256x8x128, .f32⟩
  | 70 => ⟨S32x256x8x128, .f32⟩
  | 71 => ⟨S1x1x1x128, .f32⟩
  | 72 => ⟨S32x256x8x128, .f32⟩
  | 73 => ⟨S32x256x8x128, .f32⟩
  | 74 => ⟨S32x256x256, .f32⟩
  | 75 => ⟨S32x256x2x128, .f32⟩
  | 76 => ⟨S32x256x2x128, .f32⟩
  | 77 => ⟨S_, .f32⟩
  | 78 => ⟨S32x256x2, .f32⟩
  | 79 => ⟨S32x256x2x1, .f32⟩
  | 80 => ⟨S_, .f32⟩
  | 81 => ⟨S32x256x2x1, .f32⟩
  | 82 => ⟨S32x256x2x1, .f32⟩
  | 83 => ⟨S_, .f32⟩
  | 84 => ⟨S32x256x2x1, .f32⟩
  | 85 => ⟨S32x256x2x1, .f32⟩
  | 86 => ⟨S32x256x2x1, .f32⟩
  | 87 => ⟨S32x256x2x128, .f32⟩
  | 88 => ⟨S32x256x2x128, .f32⟩
  | 89 => ⟨S1x1x1x128, .f32⟩
  | 90 => ⟨S32x256x2x128, .f32⟩
  | 91 => ⟨S32x256x2x128, .f32⟩
  | 92 => ⟨S32x256x256, .f32⟩
  | 93 => ⟨S32x256x2x128, .f32⟩
  | 94 => ⟨S32x256x2048, .f32⟩
  | 95 => ⟨S32x256x8x256, .f32⟩
  | 96 => ⟨S32x256x256, .f32⟩
  | 97 => ⟨S32x256x256, .f32⟩
  | 98 => ⟨S_, .f32⟩
  | 99 => ⟨S32x256, .f32⟩
  | 100 => ⟨S32x256x1, .f32⟩
  | 101 => ⟨S_, .f32⟩
  | 102 => ⟨S32x256x1, .f32⟩
  | 103 => ⟨S32x256x1, .f32⟩
  | 104 => ⟨S_, .f32⟩
  | 105 => ⟨S32x256x1, .f32⟩
  | 106 => ⟨S32x256x1, .f32⟩
  | 107 => ⟨S32x256x1, .f32⟩
  | 108 => ⟨S32x256x256, .f32⟩
  | 109 => ⟨S32x256x256, .f32⟩
  | 110 => ⟨S1x1x256, .f32⟩
  | 111 => ⟨S32x256x256, .f32⟩
  | 112 => ⟨S32x256x256, .f32⟩
  | 113 => ⟨S32x256x128, .f32⟩
  | 114 => ⟨S32x256x32, .f32⟩
  | 115 => ⟨S32x256x32, .f32⟩
  | 116 => ⟨S32x256x64, .f32⟩
  | 117 => ⟨S32x1x256x2x128, .f32⟩
  | 118 => ⟨S32x1x256x2x128, .f32⟩
  | 119 => ⟨S32x2x256x2x128, .f32⟩
  | 120 => ⟨S32x4x256x2x128, .f32⟩
  | 121 => ⟨S32x1x256x2x128, .f32⟩
  | 122 => ⟨S32x1x256x2x128, .f32⟩
  | 123 => ⟨S32x2x256x2x128, .f32⟩
  | 124 => ⟨S32x4x256x2x128, .f32⟩
  | 125 => ⟨S32x1x256x256, .f32⟩
  | 126 => ⟨S32x1x256x256, .f32⟩
  | 127 => ⟨S32x2x256x256, .f32⟩
  | _ => ⟨S8192x2048, .f32⟩

abbrev hbmTy0_1 (i : Nat) : BufTy := match i % 128 with
  | 0 => ⟨S32x4x256x256, .f32⟩
  | 1 => ⟨S32x1x256x64, .f32⟩
  | 2 => ⟨S32x1x256x64, .f32⟩
  | 3 => ⟨S32x2x256x64, .f32⟩
  | 4 => ⟨S32x4x256x64, .f32⟩
  | _ => ⟨S8192x2048, .f32⟩

abbrev hbmTy (i : Nat) : BufTy := match i / 128 with
  | 0 => hbmTy0_0 i
  | 1 => hbmTy0_1 i
  | _ => ⟨S8192x2048, .f32⟩

abbrev bufTy : (tb : Table) → Fin (tcTables nBuf tb) → BufTy
  | .hbm, ⟨i, _⟩ => hbmTy i
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst : Ref sig .tc := ⟨.hbm, 22, rfl⟩
abbrev main_v8 : Ref sig .tc := ⟨.hbm, 23, rfl⟩
abbrev main_v9 : Ref sig .tc := ⟨.hbm, 24, rfl⟩
abbrev main_cst_0 : Ref sig .tc := ⟨.hbm, 25, rfl⟩
abbrev main_v10 : Ref sig .tc := ⟨.hbm, 26, rfl⟩
abbrev main_v11 : Ref sig .tc := ⟨.hbm, 27, rfl⟩
abbrev main_cst_1 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst_2 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_3 : Ref sig .tc := ⟨.hbm, 59, rfl⟩
abbrev main_v41 : Ref sig .tc := ⟨.hbm, 60, rfl⟩
abbrev main_v42 : Ref sig .tc := ⟨.hbm, 61, rfl⟩
abbrev main_cst_4 : Ref sig .tc := ⟨.hbm, 62, rfl⟩
abbrev main_v43 : Ref sig .tc := ⟨.hbm, 63, rfl⟩
abbrev main_v44 : Ref sig .tc := ⟨.hbm, 64, rfl⟩
abbrev main_cst_5 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_6 : Ref sig .tc := ⟨.hbm, 77, rfl⟩
abbrev main_v56 : Ref sig .tc := ⟨.hbm, 78, rfl⟩
abbrev main_v57 : Ref sig .tc := ⟨.hbm, 79, rfl⟩
abbrev main_cst_7 : Ref sig .tc := ⟨.hbm, 80, rfl⟩
abbrev main_v58 : Ref sig .tc := ⟨.hbm, 81, rfl⟩
abbrev main_v59 : Ref sig .tc := ⟨.hbm, 82, rfl⟩
abbrev main_cst_8 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_cst_9 : Ref sig .tc := ⟨.hbm, 98, rfl⟩
abbrev main_v74 : Ref sig .tc := ⟨.hbm, 99, rfl⟩
abbrev main_v75 : Ref sig .tc := ⟨.hbm, 100, rfl⟩
abbrev main_cst_10 : Ref sig .tc := ⟨.hbm, 101, rfl⟩
abbrev main_v76 : Ref sig .tc := ⟨.hbm, 102, rfl⟩
abbrev main_v77 : Ref sig .tc := ⟨.hbm, 103, rfl⟩
abbrev main_cst_11 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_v98 : Ref sig .tc := ⟨.hbm, 125, rfl⟩
abbrev main_v99 : Ref sig .tc := ⟨.hbm, 126, rfl⟩
abbrev main_v100 : Ref sig .tc := ⟨.hbm, 127, rfl⟩
abbrev main_v101 : Ref sig .tc := ⟨.hbm, 128, rfl⟩
abbrev main_v102 : Ref sig .tc := ⟨.hbm, 129, rfl⟩
abbrev main_v103 : Ref sig .tc := ⟨.hbm, 130, rfl⟩
abbrev main_v104 : Ref sig .tc := ⟨.hbm, 131, rfl⟩
abbrev main_v105 : Ref sig .tc := ⟨.hbm, 132, rfl⟩

abbrev nD : Nat := 1
abbrev τ : Topo := Topo.v7x

variable {F : FTy → Type} [FloatOps F]
-- ==== Proof.Softmax.lean ====
/- The softmax over extended reals, as the two programs write it: one with powers of two and one division at the end, the
   other with exponentials, the weights divided before they meet the values. For finite scores the two agree, whatever the
   values are. -/
module

public import Idealize.ShloMosaic.Lib.Pipeline.ValueKit

@[expose] public section
noncomputable section
namespace Cert.Softmax
open Idealize.ShloMosaic

/-- The pattern of minus infinity. -/
theorem neg_inf : Ideal.ofBits FTy.f32 4286578688#32 = ⊥ := by simp [Ideal.ofBits, Ideal.ieee]

/-- The pattern of plus infinity. -/
theorem pos_inf : Ideal.ofBits FTy.f32 0x7F800000#32 = ⊤ := by simp [Ideal.ofBits, Ideal.ieee]

/-- The pattern of one at half width. -/
theorem one_half_width : Ideal.ofBits FTy.bf16 0x3F80#16 = 1 := by
  simp [Ideal.ofBits, Ideal.ieee]
  rw [← EReal.coe_mul, ← EReal.coe_one]
  congr 1
  norm_num

/-- The logarithm of the pattern of two. -/
theorem log_two : Ideal.log (Ideal.ofBits FTy.f32 1073741824#32) = ((Real.log 2 : ℝ) : EReal) := by
  have h : Ideal.ofBits FTy.f32 1073741824#32 = ((2 : ℝ) : EReal) := by
    simp [Ideal.ofBits, Ideal.ieee]
    rw [← EReal.coe_mul]
    congr 1
    norm_num
  rw [h, Ideal.log_coe, if_neg (by norm_num)]

/-- A finite extended real. -/
def Fin' (x : EReal) : Prop := x ≠ ⊥ ∧ x ≠ ⊤

theorem Fin'.coe (x : ℝ) : Fin' (x : EReal) := ⟨EReal.coe_ne_bot x, EReal.coe_ne_top x⟩

theorem Fin'.real {x : EReal} (h : Fin' x) : ∃ r : ℝ, x = (r : EReal) :=
  ⟨x.toReal, (EReal.coe_toReal h.2 h.1).symm⟩

theorem Fin'.mul {x y : EReal} (hx : Fin' x) (hy : Fin' y) : Fin' (x * y) := by
  obtain ⟨a, rfl⟩ := hx.real
  obtain ⟨b, rfl⟩ := hy.real
  rw [← EReal.coe_mul]
  exact Fin'.coe _

/-- The sum of real numbers is the sum of them as extended reals. -/
theorem coe_sum {ι : Type*} (t : Finset ι) (f : ι → ℝ) : ((∑ x ∈ t, f x : ℝ) : EReal) = ∑ x ∈ t, (f x : EReal) := by
  classical
  induction t using Finset.induction_on with
  | empty => simp
  | insert a t ha ih => rw [Finset.sum_insert ha, Finset.sum_insert ha, ← ih, EReal.coe_add]

theorem Fin'.sum {ι : Type*} (t : Finset ι) {f : ι → EReal} (h : ∀ x, Fin' (f x)) : Fin' (∑ x ∈ t, f x) := by
  choose g hg using fun x => (h x).real
  have : ∑ x ∈ t, f x = ((∑ x ∈ t, g x : ℝ) : EReal) := by
    rw [coe_sum]
    exact Finset.sum_congr rfl fun x _ => hg x
  rw [this]
  exact Fin'.coe _

variable {ι : Type*} [Fintype ι]

/-- The weights with powers of two, before they are divided by their sum. -/
def pow2 (s : ι → EReal) (x : ι) : EReal := Ideal.exp2 (s x - Finset.univ.fold max ⊥ s)

/-- The attention of one query as the kernel forms it: values against the weights, then one division. -/
def late (s v w : ι → EReal) : EReal := Ideal.div (∑ x, pow2 s x * v x) (∑ x, pow2 s x * w x)

/-- The weights with exponentials. -/
def expw (s : ι → EReal) (x : ι) : EReal := Ideal.exp (s x - max ⊥ (Finset.univ.fold max ⊥ s))

/-- The attention of one query as the reference forms it. -/
def soft (s v : ι → EReal) : EReal := ∑ x, v x * Ideal.div (expw s x) (∑ y, expw s y)

theorem fold_max_coe [Nonempty ι] (s : ι → ℝ) : ∃ M : ℝ, ∀ c : ℝ, 0 ≤ c →
    Finset.univ.fold max (⊥ : EReal) (fun x => ((s x * c : ℝ) : EReal)) = ((M * c : ℝ) : EReal) := by
  obtain ⟨x0, -, h0⟩ := Finset.exists_max_image Finset.univ s Finset.univ_nonempty
  refine ⟨s x0, fun c hc => le_antisymm ?_ ?_⟩
  · exact Finset.sup_le (f := fun x => ((s x * c : ℝ) : EReal)) fun x hx =>
      EReal.coe_le_coe_iff.2 (mul_le_mul_of_nonneg_right (h0 x hx) hc)
  · exact Finset.le_sup (f := fun x => ((s x * c : ℝ) : EReal)) (Finset.mem_univ x0)

theorem sum_mul_nonneg (t : Finset ι) (f : ι → EReal) {c : ℝ} (hc : 0 ≤ c) :
    (∑ x ∈ t, f x) * (c : EReal) = ∑ x ∈ t, f x * (c : EReal) := by
  classical
  induction t using Finset.induction_on with
  | empty => simp
  | insert a t ha ih =>
    rw [Finset.sum_insert ha, Finset.sum_insert ha, ← ih,
      EReal.right_distrib_of_nonneg_of_ne_top (EReal.coe_nonneg.2 hc) (EReal.coe_ne_top c)]

/-- With finite scores the two forms agree: the kernel's powers of two of the scores are the reference's exponentials of
    the scores times the logarithm of two. -/
theorem late_eq_soft [Nonempty ι] (s t v w : ι → EReal) (hs : ∀ x, Fin' (s x))
    (ht : ∀ x, t x = s x * ((Real.log 2 : ℝ) : EReal)) (hw : ∀ x, w x = 1) : late s v w = soft t v := by
  choose r hr using fun x => (hs x).real
  obtain rfl : s = fun x => (r x : EReal) := funext hr
  obtain rfl : t = fun x => ((r x * Real.log 2 : ℝ) : EReal) := funext fun x => by rw [ht, EReal.coe_mul]
  obtain ⟨M, hM⟩ := fold_max_coe r
  have hlog : 0 ≤ Real.log 2 := Real.log_nonneg (by norm_num)
  have h1 := hM 1 zero_le_one
  simp only [mul_one] at h1
  let p : ι → ℝ := fun x => Real.rpow 2 (r x - M)
  have hp : ∀ x, 0 < p x := fun x => Real.rpow_pos_of_pos (by norm_num) _
  have e1 : ∀ x, pow2 (fun x => (r x : EReal)) x = (p x : EReal) := fun x => by
    rw [pow2, h1, ← EReal.coe_sub, Ideal.exp2_coe]
  have e2 : ∀ x, expw (fun x => ((r x * Real.log 2 : ℝ) : EReal)) x = (p x : EReal) := fun x => by
    rw [expw, hM _ hlog, max_eq_right bot_le, ← EReal.coe_sub, Ideal.exp_coe]
    congr 1
    show _ = (2 : ℝ) ^ (r x - M)
    rw [Real.rpow_def_of_pos (by norm_num)]
    congr 1
    ring
  have hD : 0 < ∑ x, p x := Finset.sum_pos (fun x _ => hp x) Finset.univ_nonempty
  rw [late, soft]
  simp only [e1, e2, hw, mul_one]
  rw [← coe_sum, Ideal.div_coe hD.ne', sum_mul_nonneg _ _ (by positivity)]
  refine Finset.sum_congr rfl fun x _ => ?_
  rw [Ideal.div_coe hD.ne', mul_comm (p x : EReal), mul_assoc]

end Cert.Softmax
end
-- ==== Proof.BlocksA.lean ====
module

public import proofs.«01_k».proof.Proof.Gen.KernelIdeal.Frame
public import Idealize.ShloMosaic.Lib.Pipeline.ValueKit
public import Idealize.ShloMosaic.Lib.Pipeline.ReadBack
public import proofs.«01_k».proof.Proof.Softmax

@[expose] public section
set_option maxRecDepth 16384
noncomputable section
namespace Cert.KernelIdeal.Out
open Idealize.ShloMosaic Idealize.ShloMosaic.TcCoe Idealize.SL.Sem
open Idealize.ShloMosaic.Pipeline (Dat)
open Cert.KernelIdeal Cert.KernelIdeal.Gen Cert.Softmax

/-- A coordinate of an index of a box. -/
theorem emb_val {s : Shape} (off size : Fin s.rank → ℕ) (inb) (x : (Rect.unit (s := s) off size inb).shape.Idx) (a : Fin s.rank) :
    ((Rect.unit (s := s) off size inb).emb x a).1 = off a + (x a).1 := Rect.idx_unit_val off size inb x a

theorem emb_val0 {s : Shape} (off size : Fin s.rank → ℕ) (inb) (x : (Rect.unit (s := s) off size inb).shape.Idx)
    (a : Fin s.rank) (h : off a = 0) : ((Rect.unit (s := s) off size inb).emb x a).1 = (x a).1 := by
  rw [emb_val, h, Nat.zero_add]

/-- The joined keys as the scratch holds them: a cached block, then the new rows. -/
def Ks (x1 : Vec Ideal S1x1x256x256 .bf16) (x2 : Vec Ideal S1x2048x256 .bf16) : Vec Ideal S2304x256 .bf16 := fun y =>
  if h : (y 0).1 < 256 then x1 (ix4 0 0 ⟨(y 0).1, h⟩ (y 1)) else x2 (ix3 0 ⟨(y 0).1 - 256, by have := (y 0).2; simp at this; omega⟩ (y 1))

theorem Ks_old (x1 : Vec Ideal S1x1x256x256 .bf16) (x2 : Vec Ideal S1x2048x256 .bf16) (y : S2304x256.Idx) (r : Fin 256)
    (c : Fin 256) (h0 : (y 0).1 = r.1) (h1 : (y 1).1 = c.1) : Ks x1 x2 y = x1 (ix4 0 0 r c) := by
  have e1 : y 1 = c := Fin.ext h1
  unfold Ks
  rw [dif_pos (by omega)]
  simp only [h0, e1, Fin.eta]

theorem Ks_new (x1 : Vec Ideal S1x1x256x256 .bf16) (x2 : Vec Ideal S1x2048x256 .bf16) (y : S2304x256.Idx) (r : Fin 2048)
    (c : Fin 256) (h0 : (y 0).1 = 256 + r.1) (h1 : (y 1).1 = c.1) : Ks x1 x2 y = x2 (ix3 0 r c) := by
  have e1 : y 1 = c := Fin.ext h1
  unfold Ks
  rw [dif_neg (by omega)]
  simp only [h0, e1, Nat.add_sub_cancel_left, Fin.eta]

theorem canonK (x1 : Vec Ideal S1x1x256x256 .bf16) (x2 : Vec Ideal S1x2048x256 .bf16) :
    View.canon [⟨Rect.unit ![256, 0] ![2048, 256] inb_S2304x256_S2048x256_256_0, k0_pay13 x2⟩,
        ⟨Rect.unit ![0, 0] ![256, 256] inb_S2304x256_S256x256_0_0, k0_pay12 x1⟩] = Ks x1 x2 := by
  funext y
  refine View.canon_append_of_piecesOf (Ks x1 x2) [] [_, _] ⟨fun x => ?_, fun x => ?_, trivial⟩ y
    (View.cover_of_tiledBy _ ![256, 256] (by sl_kernel_rfl) y)
  · rw [Ks_new x1 x2 _ (x 0) (x 1) (emb_val _ _ _ x 0) (emb_val0 _ _ _ x 1 rfl)]
    pointwise [k0_pay13]
  · rw [Ks_old x1 x2 _ (x 0) (x 1) (emb_val0 _ _ _ x 0 rfl) (emb_val0 _ _ _ x 1 rfl)]
    pointwise [k0_pay12]

/-- The values as the scratch holds them: each head's joined values, then a block of ones as wide. -/
def Vs (x3 : Vec Ideal S1x1x256x256 .bf16) (x4 : Vec Ideal S1x2048x256 .bf16) : Vec Ideal S2304x512 .bf16 := fun y =>
  have h : (y 1).1 < 512 := (y 1).2
  if (y 1).1 / 128 % 2 = 0 then Ks x3 x4 (ix2 (y 0) ⟨(y 1).1 / 256 * 128 + (y 1).1 % 128, by omega⟩) else (1 : EReal)

theorem Vs_val (x3 : Vec Ideal S1x1x256x256 .bf16) (x4 : Vec Ideal S1x2048x256 .bf16) (y : S2304x512.Idx)
    (h : (y 1).1 / 128 % 2 = 0) (c : Fin 256) (hc : c.1 = (y 1).1 / 256 * 128 + (y 1).1 % 128) :
    Vs x3 x4 y = Ks x3 x4 (ix2 (y 0) c) := by
  unfold Vs
  simp only [h, if_true, ← hc, Fin.eta]

theorem Vs_one (x3 : Vec Ideal S1x1x256x256 .bf16) (x4 : Vec Ideal S1x2048x256 .bf16) (y : S2304x512.Idx)
    (h : (y 1).1 / 128 % 2 = 1) : Vs x3 x4 y = (1 : EReal) := by
  unfold Vs
  simp only [h, if_neg one_ne_zero]

/-- A stored block of ones. -/
theorem ones_piece (x3 : Vec Ideal S1x1x256x256 .bf16) (x4 : Vec Ideal S1x2048x256 .bf16) (y : S2304x512.Idx) (o n : ℕ)
    (hn : n < 128) (ho : o = 128 ∨ o = 384) (hy : (y 1).1 = o + n) (z : EReal) (hz : z = 1) : z = Vs x3 x4 y := by
  rw [hz, Vs_one _ _ _ (by omega)]

/-- A stored block of cached values. -/
theorem old_piece (x3 : Vec Ideal S1x1x256x256 .bf16) (x4 : Vec Ideal S1x2048x256 .bf16) (y : S2304x512.Idx) (k : ℕ)
    (n : Fin 128) (r : Fin 256) (hk : k < 2) (h0 : (y 0).1 = r.1) (h1 : (y 1).1 = 256 * k + n.1) (z : EReal)
    (hz : z = x3 (ix4 0 0 r ⟨128 * k + n.1, by omega⟩)) : z = Vs x3 x4 y := by
  rw [hz, Vs_val x3 x4 y (by omega) ⟨128 * k + n.1, by omega⟩ (by show 128 * k + n.1 = _; omega),
    Ks_old x3 x4 _ r ⟨128 * k + n.1, by omega⟩ h0 rfl]

/-- A stored block of new values. -/
theorem new_piece (x3 : Vec Ideal S1x1x256x256 .bf16) (x4 : Vec Ideal S1x2048x256 .bf16) (y : S2304x512.Idx) (k : ℕ)
    (n : Fin 128) (r : Fin 2048) (hk : k < 2) (h0 : (y 0).1 = 256 + r.1) (h1 : (y 1).1 = 256 * k + n.1) (z : EReal)
    (hz : z = x4 (ix3 0 r ⟨128 * k + n.1, by omega⟩)) : z = Vs x3 x4 y := by
  rw [hz, Vs_val x3 x4 y (by omega) ⟨128 * k + n.1, by omega⟩ (by show 128 * k + n.1 = _; omega),
    Ks_new x3 x4 _ r ⟨128 * k + n.1, by omega⟩ h0 rfl]

theorem canonV (x3 : Vec Ideal S1x1x256x256 .bf16) (x4 : Vec Ideal S1x2048x256 .bf16) :
    View.canon [⟨Rect.unit ![256, 384] ![2048, 128] inb_S2304x512_S2048x128_256_384, k0_pay11 (F := Ideal) k0_pay7⟩,
      ⟨Rect.unit ![256, 256] ![2048, 128] inb_S2304x512_S2048x128_256_256,
        k0_pay10 (View.ld x4 (Rect.unit ![0, 0, 128] ![1, 2048, 128] inb_S1x2048x256_S1x2048x128_0_0_128))⟩,
      ⟨Rect.unit ![256, 128] ![2048, 128] inb_S2304x512_S2048x128_256_128, k0_pay9 (F := Ideal)⟩,
      ⟨Rect.unit ![256, 0] ![2048, 128] inb_S2304x512_S2048x128_256_0,
        k0_pay8 (View.ld x4 (Rect.unit ![0, 0, 0] ![1, 2048, 128] inb_S1x2048x256_S1x2048x128_0_0_0))⟩,
      ⟨Rect.unit ![0, 384] ![256, 128] inb_S2304x512_S256x128_0_384, k0_pay6 (F := Ideal)⟩,
      ⟨Rect.unit ![0, 256] ![256, 128] inb_S2304x512_S256x128_0_256,
        k0_pay5 (View.ld x3 (Rect.unit ![0, 0, 0, 128] ![1, 1, 256, 128] inb_S1x1x256x256_S1x1x256x128_0_0_0_128))⟩,
      ⟨Rect.unit ![0, 128] ![256, 128] inb_S2304x512_S256x128_0_128, k0_pay4 (F := Ideal)⟩,
      ⟨Rect.unit ![0, 0] ![256, 128] inb_S2304x512_S256x128_0_0,
        k0_pay3 (View.ld x3 (Rect.unit ![0, 0, 0, 0] ![1, 1, 256, 128] inb_S1x1x256x256_S1x1x256x128_0_0_0_0))⟩] =
    Vs x3 x4 := by
  funext y
  refine View.canon_append_of_piecesOf (Vs x3 x4) [] [_, _, _, _, _, _, _, _] ⟨fun x => ?_, fun x => ?_, fun x => ?_,
    fun x => ?_, fun x => ?_, fun x => ?_, fun x => ?_, fun x => ?_, trivial⟩ y
    (View.cover_of_tiledBy _ ![256, 128] (by sl_kernel_rfl) y)
  · exact ones_piece x3 x4 ((Rect.unit ![256, 384] ![2048, 128] inb_S2304x512_S2048x128_256_384).emb x) 384 (x 1).1 (x 1).2 (by decide) (by rw [emb_val]; rfl) _ one_half_width
  · refine new_piece x3 x4 ((Rect.unit ![256, 256] ![2048, 128] inb_S2304x512_S2048x128_256_256).emb x) 1 (x 1) (x 0) (by decide) (by rw [emb_val]; rfl)
      (by rw [emb_val]; rfl) _ ?_
    pointwise [k0_pay10]
  · exact ones_piece x3 x4 ((Rect.unit ![256, 128] ![2048, 128] inb_S2304x512_S2048x128_256_128).emb x) 128 (x 1).1 (x 1).2 (by decide) (by rw [emb_val]; rfl) _ one_half_width
  · refine new_piece x3 x4 ((Rect.unit ![256, 0] ![2048, 128] inb_S2304x512_S2048x128_256_0).emb x) 0 (x 1) (x 0) (by decide) (by rw [emb_val]; rfl)
      (by rw [emb_val]; rfl) _ ?_
    pointwise [k0_pay8]
  · exact ones_piece x3 x4 ((Rect.unit ![0, 384] ![256, 128] inb_S2304x512_S256x128_0_384).emb x) 384 (x 1).1 (x 1).2 (by decide) (by rw [emb_val]; rfl) _ one_half_width
  · refine old_piece x3 x4 ((Rect.unit ![0, 256] ![256, 128] inb_S2304x512_S256x128_0_256).emb x) 1 (x 1) (x 0) (by decide) (by rw [emb_val0 _ _ _ _ _ rfl])
      (by rw [emb_val]; rfl) _ ?_
    pointwise [k0_pay5]
  · exact ones_piece x3 x4 ((Rect.unit ![0, 128] ![256, 128] inb_S2304x512_S256x128_0_128).emb x) 128 (x 1).1 (x 1).2 (by decide) (by rw [emb_val]; rfl) _ one_half_width
  · refine old_piece x3 x4 ((Rect.unit ![0, 0] ![256, 128] inb_S2304x512_S256x128_0_0).emb x) 0 (x 1) (x 0) (by decide) (by rw [emb_val0 _ _ _ _ _ rfl])
      (by rw [emb_val]; rfl) _ ?_
    pointwise [k0_pay3]

/-- The attention of one block of queries. -/
def Os (q : Vec Ideal S1x1024x1024 .bf16) (K : Vec Ideal S2304x256 .bf16) (V : Vec Ideal S2304x512 .bf16) :
    Vec Ideal S1x1024x1024 .bf16 := fun y =>
  have h : (y 2).1 < 1024 := (y 2).2
  late (fun x : Fin 2304 => (∑ d : Fin 128, q (ix3 0 (y 1) ⟨(y 2).1 / 128 * 128 + d.1, by omega⟩) *
      K (ix2 x ⟨(y 2).1 / 512 * 128 + d.1, by omega⟩) : EReal))
    (fun x => V (ix2 x ⟨(y 2).1 / 512 * 256 + (y 2).1 % 128, by omega⟩))
    (fun x => V (ix2 x ⟨(y 2).1 / 512 * 256 + (128 + (y 2).1 % 128), by omega⟩))

/-- A stored tile of 256 queries against one head. -/
theorem piece (q : Vec Ideal S1x1024x1024 .bf16) (K : Vec Ideal S2304x256 .bf16) (V : Vec Ideal S2304x512 .bf16)
    (r0 c0 kc vc : ℕ) (hq : ∀ a, ![0, r0, c0] a + ![1, 256, 128] a ≤ S1x1024x1024.size a)
    (hk : ∀ a, ![0, kc] a + ![2304, 128] a ≤ S2304x256.size a) (hv : ∀ a, ![0, vc] a + ![2304, 256] a ≤ S2304x512.size a)
    (h0 : c0 % 128 = 0) (h1 : kc = c0 / 512 * 128) (h2 : vc = c0 / 512 * 256) (x : S1x256x128.Idx)
    (y : S1x1024x1024.Idx) (hy1 : (y 1).1 = r0 + (x 1).1) (hy2 : (y 2).1 = c0 + (x 2).1) :
    k0_pay14 (F := Ideal) (View.ld q (Rect.unit ![0, r0, c0] ![1, 256, 128] hq)) (View.ld K (Rect.unit ![0, kc] ![2304, 128] hk))
      (View.ld V (Rect.unit ![0, vc] ![2304, 256] hv)) x = Os q K V y := by
  have hx : (x 2).1 < 128 := (x 2).2
  have e1 : (y 2).1 / 128 * 128 = c0 := by omega
  have e2 : (y 2).1 % 128 = (x 2).1 := by omega
  have e3 : (y 2).1 / 512 * 128 = kc := by omega
  have e4 : (y 2).1 / 512 * 256 = vc := by omega
  obtain ⟨y1, rfl⟩ : ∃ y1, y1 = y 1 := ⟨_, rfl⟩
  have e5 : y 1 = ⟨r0 + (x 1).1, hy1 ▸ (y 1).2⟩ := Fin.ext hy1
  pointwise [k0_pay14]
  simp only [Os, late, pow2, e1, e2, e3, e4, e5, neg_inf]
  rfl
/-- The same, at an index of the tile's box. -/
theorem tile (q : Vec Ideal S1x1024x1024 .bf16) (K : Vec Ideal S2304x256 .bf16) (V : Vec Ideal S2304x512 .bf16)
    (r0 c0 kc vc : ℕ) (hq : ∀ a, ![0, r0, c0] a + ![1, 256, 128] a ≤ S1x1024x1024.size a)
    (hk : ∀ a, ![0, kc] a + ![2304, 128] a ≤ S2304x256.size a) (hv : ∀ a, ![0, vc] a + ![2304, 256] a ≤ S2304x512.size a)
    (h0 : c0 % 128 = 0) (h1 : kc = c0 / 512 * 128) (h2 : vc = c0 / 512 * 256)
    (x : (Rect.unit (s := S1x1024x1024) ![0, r0, c0] ![1, 256, 128] hq).shape.Idx) :
    k0_pay14 (F := Ideal) (View.ld q (Rect.unit ![0, r0, c0] ![1, 256, 128] hq)) (View.ld K (Rect.unit ![0, kc] ![2304, 128] hk))
      (View.ld V (Rect.unit ![0, vc] ![2304, 256] hv)) x = Os q K V ((Rect.unit ![0, r0, c0] ![1, 256, 128] hq).emb x) :=
  piece q K V r0 c0 kc vc hq hk hv h0 h1 h2 x _ (emb_val _ _ hq x 1) (emb_val _ _ hq x 2)

/-- Loads of the joined keys and of the extended values, straight after they were stored. -/
theorem read_K (x1 : Vec Ideal S1x1x256x256 .bf16) (x2 : Vec Ideal S1x2048x256 .bf16) (r : Rect S2304x256) :
    (View.whole cc0_scratch1).readCov
      [⟨Rect.unit ![256, 0] ![2048, 256] inb_S2304x256_S2048x256_256_0, k0_pay13 x2⟩,
        ⟨Rect.unit ![0, 0] ![256, 256] inb_S2304x256_S256x256_0_0, k0_pay12 x1⟩] r.toLoadRect = View.ld (Ks x1 x2) r := by
  rw [View.readCov_eq_canon', canonK]
  rfl

variable (m : (ℓ : Loc nD τ sig) → Buf (Elt Ideal) ℓ)
/-- What the first point of a batch leaves in the output block. -/
theorem oA (c : Dev nD) (t : Fin cfg0.N) (h : t.1 % 2 = 0) : (outsAt0 m c t t.2).1 =
    Os (iblk m c 0 t) (Ks (iblk m c 1 t) (iblk m c 2 t)) (Vs (iblk m c 3 t) (iblk m c 4 t)) := by
  rw [outsAt0_A m c t h]
  frame_out
  simp only [View.readCov_eq_canon', canonK, canonV]
  funext y
  refine View.canon_append_of_piecesOf _ [] [_, _, _, _, _, _, _, _, _, _, _, _, _, _, _, _, _, _, _, _, _, _, _, _, _, _, _, _, _, _, _, _]
    ?_ y (View.cover_of_tiledL _ ![1, 256, 128] (by sl_kernel_rfl) y)
  repeat' first
    | exact trivial
    | refine ⟨fun x => tile _ _ _ _ _ _ _ _ _ _ (by decide) (by decide) (by decide) x, ?_⟩
/-- What the second point of a batch leaves in the output block. -/
theorem oB (c : Dev nD) (t : Fin cfg0.N) (h : ¬t.1 % 2 = 0) : (outsAt0 m c t t.2).1 =
    Os (iblk m c 0 t) (outsAt0 m c (↑t - 1) (by omega)).2.2 (outsAt0 m c (↑t - 1) (by omega)).2.1 := by
  rw [outsAt0_B m c t h]
  frame_out
  simp only [read_unread_whole]
  funext y
  refine View.canon_append_of_piecesOf _ [] [_, _, _, _, _, _, _, _, _, _, _, _, _, _, _, _, _, _, _, _, _, _, _, _, _, _, _, _, _, _, _, _]
    ?_ y (View.cover_of_tiledL _ ![1, 256, 128] (by sl_kernel_rfl) y)
  repeat' first
    | exact trivial
    | refine ⟨fun x => tile _ _ _ _ _ _ _ _ _ _ (by decide) (by decide) (by decide) x, ?_⟩
theorem kA (c : Dev nD) (t : Fin cfg0.N) (h : t.1 % 2 = 0) : (outsAt0 m c t t.2).2.2 = Ks (iblk m c 1 t) (iblk m c 2 t) := by
  rw [outsAt0_A m c t h]
  frame_out
  exact canonK _ _

theorem vA (c : Dev nD) (t : Fin cfg0.N) (h : t.1 % 2 = 0) : (outsAt0 m c t t.2).2.1 = Vs (iblk m c 3 t) (iblk m c 4 t) := by
  rw [outsAt0_A m c t h]
  frame_out
  exact canonV _ _

/-- The block of the point before, one index down the last grid axis. -/
def prev (t : Fin cfg0.N) : Fin cfg0.N := ⟨t.1 - 1, by omega⟩

theorem oB' (c : Dev nD) (t : Fin cfg0.N) (h : ¬t.1 % 2 = 0) : (outsAt0 m c t t.2).1 =
    Os (iblk m c 0 t) (Ks (iblk m c 1 (prev t)) (iblk m c 2 (prev t))) (Vs (iblk m c 3 (prev t)) (iblk m c 4 (prev t))) := by
  have h' : (prev t).1 % 2 = 0 := by show (t.1 - 1) % 2 = 0; omega
  rw [oB m c t h, ← kA m c (prev t) h', ← vA m c (prev t) h']
  rfl

theorem idx : ∀ t : Fin cfg0.N, win0_0.index t = ![t.1 / 2, t.1 % 2, 0] ∧ win0_1.index t = ![1, t.1 / 2, 0, 0] ∧
    win0_2.index t = ![t.1 / 2, 0, 0] ∧ win0_3.index t = ![1, t.1 / 2, 0, 0] ∧ win0_4.index t = ![t.1 / 2, 0, 0] ∧
    win0_5.index t = ![t.1 / 2, t.1 % 2, 0] :=
  (by decide +kernel : ∀ t : Fin grid0.N, _)

/-- One layer's cached row or a new row. -/
def row (old : Vec Ideal S4x4x256x256 .bf16) (new : Vec Ideal S4x2048x256 .bf16) (b : Fin 4) (x : Fin 2304) (e : Fin 256) : EReal :=
  if h : x.1 < 256 then old (ix4 1 b ⟨x.1, h⟩ e) else new (ix3 b ⟨x.1 - 256, by omega⟩ e)

/-- The attention at one cell of the result. -/
def cell (q : Vec Ideal S4x2048x1024 .bf16) (ok : Vec Ideal S4x4x256x256 .bf16) (nk : Vec Ideal S4x2048x256 .bf16)
    (ov : Vec Ideal S4x4x256x256 .bf16) (nv : Vec Ideal S4x2048x256 .bf16) : Vec Ideal S4x2048x1024 .bf16 := fun y =>
  have h : (y 2).1 < 1024 := (y 2).2
  late (fun x : Fin 2304 => (∑ d : Fin 128, q (ix3 (y 0) (y 1) ⟨(y 2).1 / 128 * 128 + d.1, by omega⟩) *
      row ok nk (y 0) x ⟨(y 2).1 / 512 * 128 + d.1, by omega⟩ : EReal))
    (fun x => row ov nv (y 0) x ⟨(y 2).1 / 512 * 128 + (y 2).1 % 128, by omega⟩) (fun _ => 1)

theorem lt8 (t : Fin cfg0.N) : t.1 < 8 := t.2

theorem blockQ (c : Dev nD) (t : Fin cfg0.N) (r : Fin 1024) (e : Fin 1024) : iblk m c 0 t (ix3 0 r e) =
    m (c.tc.loc main_arg0) (ix3 (⟨t.1 / 2, by have := lt8 t; omega⟩ : Fin 4) (⟨t.1 % 2 * 1024 + r.1, by have := r.2; omega⟩ : Fin 2048) e) := by
  blk_point [iblk, V, idx t]

theorem blockK (c : Dev nD) (t : Fin cfg0.N) (r : Fin 256) (e : Fin 256) : iblk m c 1 t (ix4 0 0 r e) =
    m (c.tc.loc main_arg1) (ix4 1 (⟨t.1 / 2, by have := lt8 t; omega⟩ : Fin 4) r e) := by
  blk_point [iblk, V, idx t]

theorem blockK' (c : Dev nD) (t : Fin cfg0.N) (r : Fin 2048) (e : Fin 256) : iblk m c 2 t (ix3 0 r e) =
    m (c.tc.loc main_arg2) (ix3 (⟨t.1 / 2, by have := lt8 t; omega⟩ : Fin 4) r e) := by
  blk_point [iblk, V, idx t]

theorem blockV (c : Dev nD) (t : Fin cfg0.N) (r : Fin 256) (e : Fin 256) : iblk m c 3 t (ix4 0 0 r e) =
    m (c.tc.loc main_arg3) (ix4 1 (⟨t.1 / 2, by have := lt8 t; omega⟩ : Fin 4) r e) := by
  blk_point [iblk, V, idx t]

theorem blockV' (c : Dev nD) (t : Fin cfg0.N) (r : Fin 2048) (e : Fin 256) : iblk m c 4 t (ix3 0 r e) =
    m (c.tc.loc main_arg4) (ix3 (⟨t.1 / 2, by have := lt8 t; omega⟩ : Fin 4) r e) := by
  blk_point [iblk, V, idx t]

/-- The joined keys of a batch, read from the arguments. -/
theorem rowK (c : Dev nD) (t : Fin cfg0.N) (b : Fin 4) (hb : b.1 = t.1 / 2) (x : Fin 2304) (e : Fin 256) :
    Ks (iblk m c 1 t) (iblk m c 2 t) (ix2 x e) = row (m (c.tc.loc main_arg1)) (m (c.tc.loc main_arg2)) b x e := by
  have hb' : (⟨t.1 / 2, by have := lt8 t; omega⟩ : Fin 4) = b := Fin.ext hb.symm
  unfold row
  split
  · rename_i h
    rw [Ks_old _ _ _ ⟨x.1, h⟩ e rfl rfl, blockK, hb']
  · rename_i h
    rw [Ks_new _ _ _ ⟨x.1 - 256, by omega⟩ e (by show x.1 = 256 + (x.1 - 256); omega) rfl, blockK', hb']

/-- The joined values of a batch, read from the arguments. -/
theorem rowV (c : Dev nD) (t : Fin cfg0.N) (b : Fin 4) (hb : b.1 = t.1 / 2) (x : Fin 2304) (e : Fin 256) :
    Ks (iblk m c 3 t) (iblk m c 4 t) (ix2 x e) = row (m (c.tc.loc main_arg3)) (m (c.tc.loc main_arg4)) b x e := by
  have hb' : (⟨t.1 / 2, by have := lt8 t; omega⟩ : Fin 4) = b := Fin.ext hb.symm
  unfold row
  split
  · rename_i h
    rw [Ks_old _ _ _ ⟨x.1, h⟩ e rfl rfl, blockV, hb']
  · rename_i h
    rw [Ks_new _ _ _ ⟨x.1 - 256, by omega⟩ e (by show x.1 = 256 + (x.1 - 256); omega) rfl, blockV', hb']

/-- A block of the result is the attention at its cells, whichever point of the batch filled the scratch. -/
theorem block (c : Dev nD) (t t0 : Fin cfg0.N) (ht : t0.1 / 2 = t.1 / 2) (y : S1x1024x1024.Idx) (z : S4x2048x1024.Idx)
    (z0 : (z 0).1 = t.1 / 2) (z1 : (z 1).1 = t.1 % 2 * 1024 + (y 1).1) (z2 : (z 2).1 = (y 2).1) :
    Os (iblk m c 0 t) (Ks (iblk m c 1 t0) (iblk m c 2 t0)) (Vs (iblk m c 3 t0) (iblk m c 4 t0)) y =
      cell (m (c.tc.loc main_arg0)) (m (c.tc.loc main_arg1)) (m (c.tc.loc main_arg2)) (m (c.tc.loc main_arg3))
        (m (c.tc.loc main_arg4)) z := by
  have hy : (y 2).1 < 1024 := (y 2).2
  have e0 : (⟨t.1 / 2, by have := lt8 t; omega⟩ : Fin 4) = z 0 := Fin.ext z0.symm
  have e1 : (⟨t.1 % 2 * 1024 + (y 1).1, z1 ▸ (z 1).2⟩ : Fin 2048) = z 1 := Fin.ext z1.symm
  unfold Os cell
  simp only [z2]
  congr 1
  · funext x
    refine Finset.sum_congr rfl fun d _ => ?_
    rw [rowK m c t0 (z 0) (by omega)]
    exact congrArg (· * _) ((blockQ m c t (y 1) _).trans (by rw [e0, e1]))
  · funext x
    rw [Vs_val _ _ _ (by show ((y 2).1 / 512 * 256 + (y 2).1 % 128) / 128 % 2 = 0; omega)
      ⟨(y 2).1 / 512 * 128 + (y 2).1 % 128, by omega⟩
      (by show (y 2).1 / 512 * 128 + (y 2).1 % 128 = ((y 2).1 / 512 * 256 + (y 2).1 % 128) / 256 * 128 +
            ((y 2).1 / 512 * 256 + (y 2).1 % 128) % 128; omega)]
    exact rowV m c t0 (z 0) (by omega) x _
  · funext x
    exact Vs_one _ _ _ (by show ((y 2).1 / 512 * 256 + (128 + (y 2).1 % 128)) / 128 % 2 = 1; omega)

/-- The array the kernel leaves: the attention at every cell. -/
theorem arr (c : Dev nD) : (dats m 0 c).arrAt 5 cfg0.N = cell (m (c.tc.loc main_arg0)) (m (c.tc.loc main_arg1)) (m (c.tc.loc main_arg2))
    (m (c.tc.loc main_arg3)) (m (c.tc.loc main_arg4)) := by
  refine (dats m 0 c).arrAt_eq_of_covers 5 _ (by decide +kernel) fun t hf y => ?_
  blk_simp
  rw [after0_5]
  have z0 : ((win0_5.blk t).view.emb y 0).1 = t.1 / 2 := by
    have : (y 0).1 < 1 := (y 0).2
    blk_point [idx t]
  have z1 : ((win0_5.blk t).view.emb y 1).1 = t.1 % 2 * 1024 + (y 1).1 := by blk_point [idx t]
  have z2 : ((win0_5.blk t).view.emb y 2).1 = (y 2).1 := by blk_point [idx t]
  by_cases h : t.1 % 2 = 0
  · rw [oA m c t h]
    exact block m c t t rfl y _ z0 z1 z2
  · rw [oB' m c t h]
    exact block m c t (prev t) (by show (t.1 - 1) / 2 = t.1 / 2; omega) y _ z0 z1 z2

end Cert.KernelIdeal.Out
end
-- ==== Proof.RefA.lean ====
/- The reference of the grouped attention at an index: every stage of its term at an index, and their composition. -/
module

public import proofs.«01_k».proof.Proof.Gen.ReferenceIdeal.Run
public import proofs.«01_k».proof.Proof.Softmax

@[expose] public section
set_option maxRecDepth 16384
noncomputable section
namespace Cert.ReferenceIdeal.Value
open Idealize.ShloMosaic Idealize.ShloMosaic.TcCoe Idealize.SL.Sem
open Cert.ReferenceIdeal Cert.ReferenceIdeal.Gen Cert.Softmax

/-- One layer's cached rows followed by the new rows. -/
def joined (old : FVec Ideal S4x4x256x256 .bf16) (new : FVec Ideal S4x2048x256 .bf16) : FVec Ideal S4x2304x256 .f32 :=
  concatenate S4x2304x256 1 [⟨S4x256x256, (extf .f32 (shapeCast _ (extractStridedSlice S1x4x256x256 ![1, 0, 0, 0] old
    slices_S4x4x256x256_S1x4x256x256_1_0_0_0) shapeCasts_S1x4x256x256_S4x256x256) bitsLt_bf16_f32)⟩,
    ⟨S4x2048x256, (extf .f32 new bitsLt_bf16_f32)⟩] concatenates_S4x256x256_S4x2048x256_S4x2304x256_d1

theorem joined_at (old : FVec Ideal S4x4x256x256 .bf16) (new : FVec Ideal S4x2048x256 .bf16) (b : Fin 4) (x : Fin 2304)
    (c : Fin 256) : joined old new (ix3 b x c) = if h : x.1 < 256 then (old (ix4 1 b ⟨x.1, h⟩ c) : EReal)
      else (new (ix3 b ⟨x.1 - 256, by omega⟩ c) : EReal) := by
  pointwise [joined]

/-- The scores: keys against queries, times the logarithm of two. -/
def scores (q : FVec Ideal S4x2048x1024 .bf16) (k : FVec Ideal S4x2304x256 .f32) : FVec Ideal S4x2x4x2048x2304 .f32 :=
  mulf (transpose S4x2x4x2048x2304 [0, 1, 4, 3, 2] (Host.dotGeneral
    dot_S4x2304x2x128_S4x2048x2x4x128_S4x2x2304x2048x4_3_4_1_13_02_02 none
    (shapeCast _ k shapeCasts_S4x2304x256_S4x2304x2x128)
    (shapeCast _ (extf .f32 q bitsLt_bf16_f32) shapeCasts_S4x2048x1024_S4x2048x2x4x128))
    transposes_S4x2x2304x2048x4_S4x2x4x2048x2304_0_1_4_3_2)
    (broadcastInDim S4x2x4x2048x2304 ![] bcast_S_S4x2x4x2048x2304 (Host.log (constant S_ .f32 0x40000000#32)))

theorem scores_at (q : FVec Ideal S4x2048x1024 .bf16) (k : FVec Ideal S4x2304x256 .f32) (b : Fin 4) (h : Fin 2) (g : Fin 4)
    (r : Fin 2048) (x : Fin 2304) : scores q k (ix5 b h g r x) =
      ((∑ d : Fin 128, k (ix3 b x ⟨h.1 * 128 + d.1, by omega⟩) * q (ix3 b r ⟨h.1 * 512 + g.1 * 128 + d.1, by omega⟩)) *
        ((Real.log 2 : ℝ) : EReal) : EReal) := by
  pointwise [scores]
  rw [log_two]

/-- One number of each row, repeated along the row. -/
def spread (t : FVec Ideal S4x2x4x2048 .f32) : FVec Ideal S4x2x4x2048x2304 .f32 :=
  broadcastInDim S4x2x4x2048x2304 ![0, 1, 2, 3, 4] bcast_S4x2x4x2048x1_S4x2x4x2048x2304_0_1_2_3_4
    (broadcastInDim S4x2x4x2048x1 ![0, 1, 2, 3] bcast_S4x2x4x2048_S4x2x4x2048x1_0_1_2_3 t)

theorem spread_at (t : FVec Ideal S4x2x4x2048 .f32) (b : Fin 4) (h : Fin 2) (g : Fin 4) (r : Fin 2048) (x : Fin 2304) :
    spread t (ix5 b h g r x) = t (ix4 b h g r) := by
  pointwise [spread]

/-- The greatest score of each row. -/
def rowTop (s : FVec Ideal S4x2x4x2048x2304 .f32) : FVec Ideal S4x2x4x2048 .f32 :=
  Host.reduce FloatOps.maximumf s (constant S_ .f32 0xFF800000#32) reducesTo_S4x2x4x2048x2304_S4x2x4x2048_d4 h_S_

theorem rowTop_at (s : FVec Ideal S4x2x4x2048x2304 .f32) (b : Fin 4) (h : Fin 2) (g : Fin 4) (r : Fin 2048) :
    rowTop s (ix4 b h g r) = Finset.univ.fold max ⊥ (fun x : Fin 2304 => (s (ix5 b h g r x) : EReal)) := by
  rw [← neg_inf]
  pointwise [rowTop]

/-- The sum of each row. -/
def rowSum (s : FVec Ideal S4x2x4x2048x2304 .f32) : FVec Ideal S4x2x4x2048 .f32 :=
  Host.reduceAdd s (constant S_ .f32 0x00000000#32) reducesTo_S4x2x4x2048x2304_S4x2x4x2048_d4 h_S_

theorem rowSum_at (s : FVec Ideal S4x2x4x2048x2304 .f32) (b : Fin 4) (h : Fin 2) (g : Fin 4) (r : Fin 2048) :
    rowSum s (ix4 b h g r) = (∑ x : Fin 2304, s (ix5 b h g r x) : EReal) := by
  pointwise [rowSum]

/-- The exponentials of the scores less one number of each row. -/
def powersOf (s : FVec Ideal S4x2x4x2048x2304 .f32) (t : FVec Ideal S4x2x4x2048 .f32) : FVec Ideal S4x2x4x2048x2304 .f32 :=
  Host.exp (subf s (spread (maximumf (broadcastInDim S4x2x4x2048 ![] bcast_S_S4x2x4x2048 (constant S_ .f32 0xFF800000#32)) t)))

theorem powersOf_at (s : FVec Ideal S4x2x4x2048x2304 .f32) (t : FVec Ideal S4x2x4x2048 .f32) (b : Fin 4) (h : Fin 2)
    (g : Fin 4) (r : Fin 2048) (x : Fin 2304) :
    powersOf s t (ix5 b h g r x) = Ideal.exp (s (ix5 b h g r x) - max (⊥ : EReal) (t (ix4 b h g r))) := by
  rw [← neg_inf]
  pointwise [powersOf, spread]

/-- The exponentials of the scores less the greatest of their row. -/
def powers (s : FVec Ideal S4x2x4x2048x2304 .f32) : FVec Ideal S4x2x4x2048x2304 .f32 := powersOf s (rowTop s)

theorem powers_at (s : FVec Ideal S4x2x4x2048x2304 .f32) (b : Fin 4) (h : Fin 2) (g : Fin 4) (r : Fin 2048) (x : Fin 2304) :
    powers s (ix5 b h g r x) = expw (fun x : Fin 2304 => (s (ix5 b h g r x) : EReal)) x := by
  rw [expw, powers, powersOf_at, rowTop_at]

/-- A tensor divided by one number of each row. -/
def over (e : FVec Ideal S4x2x4x2048x2304 .f32) (t : FVec Ideal S4x2x4x2048 .f32) : FVec Ideal S4x2x4x2048x2304 .f32 :=
  Host.divf e (spread t)

theorem over_at (e : FVec Ideal S4x2x4x2048x2304 .f32) (t : FVec Ideal S4x2x4x2048 .f32) (b : Fin 4) (h : Fin 2)
    (g : Fin 4) (r : Fin 2048) (x : Fin 2304) :
    over e t (ix5 b h g r x) = Ideal.div (e (ix5 b h g r x)) (t (ix4 b h g r)) := by
  pointwise [over, spread]

/-- The softmax along the last axis. -/
def weights (s : FVec Ideal S4x2x4x2048x2304 .f32) : FVec Ideal S4x2x4x2048x2304 .f32 :=
  over (powers s) (rowSum (powers s))

theorem weights_at (s : FVec Ideal S4x2x4x2048x2304 .f32) (b : Fin 4) (h : Fin 2) (g : Fin 4) (r : Fin 2048) (x : Fin 2304) :
    weights s (ix5 b h g r x) = Ideal.div (expw (fun x : Fin 2304 => (s (ix5 b h g r x) : EReal)) x)
      (∑ y, expw (fun x : Fin 2304 => (s (ix5 b h g r x) : EReal)) y) := by
  rw [weights, over_at, rowSum_at]
  simp only [powers_at]

/-- The weighted values, put back to the layer's layout. -/
def mixed (v : FVec Ideal S4x2304x256 .f32) (w : FVec Ideal S4x2x4x2048x2304 .f32) : FVec Ideal S4x2048x1024 .bf16 :=
  truncf .bf16 (shapeCast _ (transpose S4x2048x2x4x128 [0, 4, 1, 3, 2] (Host.dotGeneral
    dot_S4x2304x2x128_S4x2x4x2048x2304_S4x2x128x4x2048_1_4_3_23_02_01 none
    (shapeCast _ v shapeCasts_S4x2304x256_S4x2304x2x128) w)
    transposes_S4x2x128x4x2048_S4x2048x2x4x128_0_4_1_3_2) shapeCasts_S4x2048x2x4x128_S4x2048x1024) bitsLt_bf16_f32

theorem mixed_at (v : FVec Ideal S4x2304x256 .f32) (w : FVec Ideal S4x2x4x2048x2304 .f32) (b : Fin 4) (r : Fin 2048)
    (e : Fin 1024) : mixed v w (ix3 b r e) = (∑ x : Fin 2304, v (ix3 b x ⟨e.1 / 512 * 128 + e.1 % 128, by omega⟩) *
      w (ix5 b ⟨e.1 / 512, by omega⟩ ⟨e.1 / 128 % 4, by omega⟩ r x) : EReal) := by
  pointwise [mixed]

variable (m : (ℓ : Loc nD τ sig) → Buf (Elt Ideal) ℓ)

theorem res_eq (c : Dev nD) : res_out0 m c = mixed (joined (m (c.tc.loc main_arg3)) (m (c.tc.loc main_arg4)))
    (weights (scores (m (c.tc.loc main_arg0)) (joined (m (c.tc.loc main_arg1)) (m (c.tc.loc main_arg2))))) := by
  unfold res_out0 res_main_v33 mixed weights over powers powersOf rowSum rowTop spread scores joined
  rfl

/-- The reference at an index: the softmax of the scores against the values. -/
theorem res_at (c : Dev nD) (b : Fin 4) (r : Fin 2048) (e : Fin 1024) : res_out0 m c (ix3 b r e) =
    soft (fun x : Fin 2304 => (∑ d : Fin 128, joined (m (c.tc.loc main_arg1)) (m (c.tc.loc main_arg2))
        (ix3 b x ⟨e.1 / 512 * 128 + d.1, by omega⟩) *
          m (c.tc.loc main_arg0) (ix3 b r ⟨e.1 / 512 * 512 + e.1 / 128 % 4 * 128 + d.1, by omega⟩)) *
        ((Real.log 2 : ℝ) : EReal))
      (fun x : Fin 2304 => joined (m (c.tc.loc main_arg3)) (m (c.tc.loc main_arg4))
        (ix3 b x ⟨e.1 / 512 * 128 + e.1 % 128, by omega⟩)) := by
  rw [res_eq, mixed_at, soft]
  simp only [weights_at, scores_at]

end Cert.ReferenceIdeal.Value
end
-- ==== Proof.Finite.lean ====
/- What the precondition says: the queries and the keys are finite. -/
module

public import proofs.«01_k».proof.Pre_finite_scores
public import proofs.«01_k».proof.Proof.Softmax
public import Idealize.ShloMosaic.Lib.Tactic.ValueTie
public import Idealize.ShloMosaic.Lib.ReduceAll

@[expose] public section
set_option maxRecDepth 16384
noncomputable section
namespace Cert.Finite
open Idealize.ShloMosaic Cert.Softmax
open Cert.Pre_finite_scores

instance facts : Cert.Pre_finite_scores.Facts where
  bcast_S_S4x2048x1024 := by decide
  reducesTo_S4x2048x1024_S_d0_1_2 := by decide
  h_S_ := by decide
  bcast_S_S4x4x256x256 := by decide
  reducesTo_S4x4x256x256_S_d0_1_2_3 := by decide
  bcast_S_S4x2048x256 := by decide
  reducesTo_S4x2048x256_S_d0_1_2 := by decide

/-- A half-width number whose absolute value is below plus infinity is finite. -/
theorem fin_of_lt (x : EReal) (h : BitVec.ofBool (decide (FloatOps.absf (F := Ideal) (φ := .bf16) x < Ideal.ofBits FTy.bf16 32640#16)) = 1#1) :
    Fin' x := by
  have ht : Ideal.ofBits FTy.bf16 32640#16 = ⊤ := by simp [Ideal.ofBits, Ideal.ieee]
  rw [ht] at h
  constructor
  · rintro rfl
    simp [Ideal.absf_def] at h
  · rintro rfl
    simp [Ideal.absf_def] at h

theorem both {a b : BitVec 1} (h : IntOp.andi a b = 1#1) : a = 1#1 ∧ b = 1#1 := by
  revert a b
  decide

theorem spec (q : FVec Ideal S4x2048x1024 .bf16) (k : FVec Ideal S4x4x256x256 .bf16) (n : FVec Ideal S4x2048x256 .bf16)
    (v : FVec Ideal S4x4x256x256 .bf16) (w : FVec Ideal S4x2048x256 .bf16) (h : fn q k n v w = fun _ => 1#1) :
    (∀ i, Fin' (q i)) ∧ (∀ i, Fin' (k i)) ∧ (∀ i, Fin' (n i)) := by
  have h0 := congrFun h ix0
  dsimp only [fn] at h0
  obtain ⟨h1, h2⟩ := both h0
  obtain ⟨h3, h4⟩ := both h1
  exact ⟨fun i => fin_of_lt _ (Host.reduce_andi_all _ _ _ _ _ h3 i), fun i => fin_of_lt _ (Host.reduce_andi_all _ _ _ _ _ h4 i),
    fun i => fin_of_lt _ (Host.reduce_andi_all _ _ _ _ _ h2 i)⟩
end Cert.Finite
end
-- ==== Proof.TieA.lean ====
/- The grouped attention: the kernel's array and the reference's term are one function of finite queries and keys. -/
module

public import proofs.«01_k».proof.Proof.BlocksA
public import proofs.«01_k».proof.Proof.RefA
public import proofs.«01_k».proof.Proof.Finite

@[expose] public section
set_option maxRecDepth 16384
noncomputable section
namespace Cert.TieA
open Idealize.ShloMosaic Idealize.ShloMosaic.TcCoe Idealize.SL.Sem Cert.Softmax
open Cert.ReferenceIdeal

/-- A row of the joined cache and new rows, on both sides. -/
theorem row_eq (old : FVec Ideal S4x4x256x256 .bf16) (new : FVec Ideal S4x2048x256 .bf16) (b : Fin 4) (x : Fin 2304)
    (e : Fin 256) : Cert.KernelIdeal.Out.row old new b x e = Cert.ReferenceIdeal.Value.joined old new (ix3 b x e) := by
  rw [Cert.ReferenceIdeal.Value.joined_at]
  rfl

theorem row_fin (old : FVec Ideal S4x4x256x256 .bf16) (new : FVec Ideal S4x2048x256 .bf16) (ho : ∀ i, Fin' (old i))
    (hn : ∀ i, Fin' (new i)) (b : Fin 4) (x : Fin 2304) (e : Fin 256) : Fin' (Cert.KernelIdeal.Out.row old new b x e) := by
  unfold Cert.KernelIdeal.Out.row
  split
  · exact ho _
  · exact hn _

variable (m : (ℓ : Loc nD τ sig) → Buf (Elt Ideal) ℓ)

theorem tie (c : Dev nD) (hq : ∀ i, Fin' (m (c.tc.loc main_arg0) i)) (hk : ∀ i, Fin' (m (c.tc.loc main_arg1) i))
    (hn : ∀ i, Fin' (m (c.tc.loc main_arg2) i)) :
    Cert.KernelIdeal.Out.cell (m (c.tc.loc main_arg0)) (m (c.tc.loc main_arg1)) (m (c.tc.loc main_arg2))
      (m (c.tc.loc main_arg3)) (m (c.tc.loc main_arg4)) = Cert.ReferenceIdeal.Value.res_out0 m c := by
  funext y
  obtain ⟨b, r, e, rfl⟩ : ∃ (b : Fin 4) (r : Fin 2048) (e : Fin 1024), y = ix3 b r e := ⟨y 0, y 1, y 2, by
    funext a; fin_cases a <;> rfl⟩
  refine Eq.trans ?_ (Cert.ReferenceIdeal.Value.res_at m c b r e).symm
  unfold Cert.KernelIdeal.Out.cell
  have hv : (fun x : Fin 2304 => Cert.ReferenceIdeal.Value.joined (m (c.tc.loc main_arg3)) (m (c.tc.loc main_arg4))
        (ix3 b x ⟨e.1 / 512 * 128 + e.1 % 128, by omega⟩)) = fun x : Fin 2304 =>
      Cert.KernelIdeal.Out.row (m (c.tc.loc main_arg3)) (m (c.tc.loc main_arg4)) b x ⟨e.1 / 512 * 128 + e.1 % 128, by omega⟩ :=
    funext fun x => (row_eq _ _ b x _).symm
  rw [hv]
  refine late_eq_soft _ _ _ _ (fun x => ?_) (fun x => ?_) fun _ => rfl
  · exact Fin'.sum _ fun d => (hq _).mul (row_fin _ _ hk hn _ _ _)
  · congr 1
    refine Finset.sum_congr rfl fun d _ => ?_
    rw [← row_eq, mul_comm]
    have hd : (⟨e.1 / 512 * 512 + e.1 / 128 % 4 * 128 + d.1, by omega⟩ : Fin 1024) = ⟨e.1 / 128 * 128 + d.1, by omega⟩ :=
      Fin.ext (by show e.1 / 512 * 512 + e.1 / 128 % 4 * 128 + d.1 = e.1 / 128 * 128 + d.1; omega)
    rw [hd]
    rfl

end Cert.TieA
end
-- ==== Proof.FfnRuns.lean ====
/- One run of the feed-forward kernel's body for each kind of grid point: the points that compute a slab of the
   gated product, the points that normalise a chunk of rows and project a tile down, and the points that do only
   one of the two.  The runs hold of any number formats. -/
module

public import proofs.«01_k».proof.Proof.Gen.Kernel2Ideal.Frame
public import proofs.«01_k».proof.Proof.Gen.Kernel2Ideal.Skeleton

@[expose] public section

set_option maxRecDepth 16384

noncomputable section

namespace Cert.Kernel2Ideal.Ffn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal Cert.Kernel2Ideal.Gen

variable {F : FTy → Type} [FloatOps F]

local notation "𝕄" => MT nD τ sig Unit (Elt F) ℕ (UR sig nD τ) ℕ

variable (c : Dev nD)
  (i : grid0.Coords) (arg2 : Memref sig .tc .vmem S256x2048 .f32) (harg2 : arg2.IsWhole) (arg3 : Memref sig .tc .vmem S1024x512 .f32) (harg3 : arg3.IsWhole)
  (arg4 : Memref sig .tc .vmem S1x1x6x2048 .f32) (harg4 : arg4.IsWhole) (arg5 : Memref sig .tc .vmem S1x1x6x512 .f32) (harg5 : arg5.IsWhole)
  (arg6 : Memref sig .tc .vmem S1x1x2048 .f32) (harg6 : arg6.IsWhole) (arg7 : Memref sig .tc .vmem S2048x512 .bf16) (harg7 : arg7.IsWhole)
  (arg8 : Memref sig .tc .vmem S2048x512 .bf16) (harg8 : arg8.IsWhole) (arg9 : Memref sig .tc .vmem S5632x512 .bf16) (harg9 : arg9.IsWhole)
  (arg10 : Memref sig .tc .vmem S1024x512 .f32) (harg10 : arg10.IsWhole) (arg11 : Memref sig .tc .vmem S2x1024x2048 .bf16) (harg11 : arg11.IsWhole)
  (arg12 : Memref sig .tc .vmem S11x1024x512 .bf16) (harg12 : arg12.IsWhole)
variable (x0 : Vec F S256x2048 .f32) (x1 : Vec F S1024x512 .f32) (x2 : Vec F S1x1x6x2048 .f32)
  (x3 : Vec F S1x1x6x512 .f32) (x4 : Vec F S1x1x2048 .f32) (x5 : Vec F S2048x512 .bf16)
  (x6 : Vec F S2048x512 .bf16) (x7 : Vec F S5632x512 .bf16) (xs0 : Vec F S2x1024x2048 .bf16)
  (xs1 : Vec F S11x1024x512 .bf16)

set_option maxHeartbeats 2000000 in
/-- At a point with nothing to do everything is left as it was. -/
theorem runIdle (d8 : Vec F S1024x512 .f32) (hc1 : ¬ (k0_cond1 i = 1#1)) (hc2 : ¬ (k0_cond2 i = 1#1)) (hc3 : ¬ (k0_cond3 i = 1#1)) (hc4 : ¬ (k0_cond4 i = 1#1)) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare d8 ∗ owns (c : Thread nD τ) arg11 fullShare xs0 ∗ owns (c : Thread nD τ) arg12 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare d8 ∗ owns (c : Thread nD τ) arg11 fullShare xs0 ∗ owns (c : Thread nD τ) arg12 fullShare xs1) -∗ K ⟨⟩))
          ⊢ wp frame (wpE (defs₀ (F := F)) Variants.none c none) E (cc0_ffn i arg2 harg2 arg3 harg3 arg4 harg4 arg5 harg5 arg6 harg6 arg7 harg7 arg8 harg8 arg9 harg9 arg10 harg10 arg11 harg11 arg12 harg12) K := by
  refine fun E K => ?run
  case run =>
    simp only [cc0_ffn_eq_skeleton]; unfold cc0_ffn_skel
    simp only [k0_part21_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10
    sl_exec (disch := first | sl_exact hc1 | sl_exact hc2 | sl_exact hc3 | sl_exact hc4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    iexists _; isplitr; · ipureintro; exact harg12.read_unread _
    iexact H10

set_option maxHeartbeats 2000000 in
/-- At a point that only normalises: one chunk of rows is stored. -/
noncomputable def runNorm (d8 : Vec F S1024x512 .f32) (hc1 : ¬ (k0_cond1 i = 1#1)) (hc2 : ¬ (k0_cond2 i = 1#1)) (hc3 : (k0_cond3 i = 1#1)) (hc4 : ¬ (k0_cond4 i = 1#1)) :
    { LH : List (View.Piece (Elt F) S2x1024x2048 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare d8 ∗ owns (c : Thread nD τ) arg11 fullShare xs0 ∗ owns (c : Thread nD τ) arg12 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare d8 ∗ (arg11.view.loc (c : Thread nD τ) ↦[arg11.view.set]{fullShare} arg11.view.writes (Elt F) (harg11.unread xs0) LH) ∗ owns (c : Thread nD τ) arg12 fullShare xs1) -∗ K ⟨⟩))
          ⊢ wp frame (wpE (defs₀ (F := F)) Variants.none c none) E (cc0_ffn i arg2 harg2 arg3 harg3 arg4 harg4 arg5 harg5 arg6 harg6 arg7 harg7 arg8 harg8 arg9 harg9 arg10 harg10 arg11 harg11 arg12 harg12) K } := by
  refine ⟨?_, fun E K => ?run⟩
  case run =>
    simp only [cc0_ffn_eq_skeleton]; unfold cc0_ffn_skel
    simp only [k0_part21_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10
    sl_exec (disch := first | sl_exact hc1 | sl_exact hc2 | sl_exact hc3 | sl_exact hc4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]; · iexact H9
    iexists _; isplitr; · ipureintro; exact harg12.read_unread _
    iexact H10

set_option maxHeartbeats 2000000 in
/-- At a point that computes a slab: the four row blocks of the slab are stored, everything else is as it was. -/
noncomputable def runSlab (d8 : Vec F S1024x512 .f32) (hc1 : (k0_cond1 i = 1#1)) (hc2 : ¬ (k0_cond2 i = 1#1)) (hc3 : ¬ (k0_cond3 i = 1#1)) (hc4 : ¬ (k0_cond4 i = 1#1)) :
    { LT : List (View.Piece (Elt F) S11x1024x512 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare d8 ∗ owns (c : Thread nD τ) arg11 fullShare xs0 ∗ owns (c : Thread nD τ) arg12 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare d8 ∗ owns (c : Thread nD τ) arg11 fullShare xs0 ∗ (arg12.view.loc (c : Thread nD τ) ↦[arg12.view.set]{fullShare} arg12.view.writes (Elt F) (harg12.unread xs1) LT)) -∗ K ⟨⟩))
          ⊢ wp frame (wpE (defs₀ (F := F)) Variants.none c none) E (cc0_ffn i arg2 harg2 arg3 harg3 arg4 harg4 arg5 harg5 arg6 harg6 arg7 harg7 arg8 harg8 arg9 harg9 arg10 harg10 arg11 harg11 arg12 harg12) K } := by
  refine ⟨?_, fun E K => ?run⟩
  case run =>
    simp only [cc0_ffn_eq_skeleton]; unfold cc0_ffn_skel
    simp only [k0_part21_eq_skeleton, k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10
    sl_exec (disch := first | sl_exact hc1 | sl_exact hc2 | sl_exact hc3 | sl_exact hc4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    iexact H10

end Cert.Kernel2Ideal.Ffn

end
-- ==== Proof.FfnRunBoth.lean ====
/- One run of the feed-forward kernel's body for each kind of grid point: the points that compute a slab of the
   gated product, the points that normalise a chunk of rows and project a tile down, and the points that do only
   one of the two.  The runs hold of any number formats. -/
module

public import proofs.«01_k».proof.Proof.FfnRuns
public import proofs.«01_k».proof.Proof.Gen.Kernel2Ideal.Skeleton

@[expose] public section

set_option maxRecDepth 16384

noncomputable section

namespace Cert.Kernel2Ideal.Ffn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal Cert.Kernel2Ideal.Gen

variable {F : FTy → Type} [FloatOps F]

local notation "𝕄" => MT nD τ sig Unit (Elt F) ℕ (UR sig nD τ) ℕ

variable (c : Dev nD)
  (i : grid0.Coords) (arg2 : Memref sig .tc .vmem S256x2048 .f32) (harg2 : arg2.IsWhole) (arg3 : Memref sig .tc .vmem S1024x512 .f32) (harg3 : arg3.IsWhole)
  (arg4 : Memref sig .tc .vmem S1x1x6x2048 .f32) (harg4 : arg4.IsWhole) (arg5 : Memref sig .tc .vmem S1x1x6x512 .f32) (harg5 : arg5.IsWhole)
  (arg6 : Memref sig .tc .vmem S1x1x2048 .f32) (harg6 : arg6.IsWhole) (arg7 : Memref sig .tc .vmem S2048x512 .bf16) (harg7 : arg7.IsWhole)
  (arg8 : Memref sig .tc .vmem S2048x512 .bf16) (harg8 : arg8.IsWhole) (arg9 : Memref sig .tc .vmem S5632x512 .bf16) (harg9 : arg9.IsWhole)
  (arg10 : Memref sig .tc .vmem S1024x512 .f32) (harg10 : arg10.IsWhole) (arg11 : Memref sig .tc .vmem S2x1024x2048 .bf16) (harg11 : arg11.IsWhole)
  (arg12 : Memref sig .tc .vmem S11x1024x512 .bf16) (harg12 : arg12.IsWhole)
variable (x0 : Vec F S256x2048 .f32) (x1 : Vec F S1024x512 .f32) (x2 : Vec F S1x1x6x2048 .f32)
  (x3 : Vec F S1x1x6x512 .f32) (x4 : Vec F S1x1x2048 .f32) (x5 : Vec F S2048x512 .bf16)
  (x6 : Vec F S2048x512 .bf16) (x7 : Vec F S5632x512 .bf16) (xs0 : Vec F S2x1024x2048 .bf16)
  (xs1 : Vec F S11x1024x512 .bf16)

set_option maxHeartbeats 2000000 in
/-- At a point that normalises a chunk and projects a tile down. -/
noncomputable def runBoth (hc1 : ¬ (k0_cond1 i = 1#1)) (hc2 : (k0_cond2 i = 1#1)) (hc3 : ¬ (k0_cond3 i = 1#1)) (hc4 : ¬ (k0_cond4 i = 1#1)) :
    Σ' (L8 : List (View.Piece (Elt F) S1024x512 .f32)), { LH : List (View.Piece (Elt F) S2x1024x2048 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ owns (c : Thread nD τ) arg11 fullShare xs0 ∗ owns (c : Thread nD τ) arg12 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f L8) ∗ (arg11.view.loc (c : Thread nD τ) ↦[arg11.view.set]{fullShare} arg11.view.writes (Elt F) (harg11.unread xs0) LH) ∗ owns (c : Thread nD τ) arg12 fullShare xs1) -∗ K ⟨⟩))
          ⊢ wp frame (wpE (defs₀ (F := F)) Variants.none c none) E (cc0_ffn i arg2 harg2 arg3 harg3 arg4 harg4 arg5 harg5 arg6 harg6 arg7 harg7 arg8 harg8 arg9 harg9 arg10 harg10 arg11 harg11 arg12 harg12) K } := by
  refine ⟨?_, ?_, fun E K => ?run⟩
  case run =>
    simp only [cc0_ffn_eq_skeleton]; unfold cc0_ffn_skel
    simp only [k0_part21_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, ⟨%f10, %hf10, H10⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg11.eq_unread hf9; obtain rfl := harg12.eq_unread hf10
    sl_exec (disch := first | sl_exact hc1 | sl_exact hc2 | sl_exact hc3 | sl_exact hc4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]; · iexists _; iexact H8
    isplitl [H9]; · iexact H9
    iexists _; isplitr; · ipureintro; exact harg12.read_unread _
    iexact H10

end Cert.Kernel2Ideal.Ffn

end
-- ==== Proof.FfnRunDown.lean ====
/- One run of the feed-forward kernel's body for each kind of grid point: the points that compute a slab of the
   gated product, the points that normalise a chunk of rows and project a tile down, and the points that do only
   one of the two.  The runs hold of any number formats. -/
module

public import proofs.«01_k».proof.Proof.FfnRunBoth
public import proofs.«01_k».proof.Proof.Gen.Kernel2Ideal.Skeleton

@[expose] public section

set_option maxRecDepth 16384

noncomputable section

namespace Cert.Kernel2Ideal.Ffn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal Cert.Kernel2Ideal.Gen

variable {F : FTy → Type} [FloatOps F]

local notation "𝕄" => MT nD τ sig Unit (Elt F) ℕ (UR sig nD τ) ℕ

variable (c : Dev nD)
  (i : grid0.Coords) (arg2 : Memref sig .tc .vmem S256x2048 .f32) (harg2 : arg2.IsWhole) (arg3 : Memref sig .tc .vmem S1024x512 .f32) (harg3 : arg3.IsWhole)
  (arg4 : Memref sig .tc .vmem S1x1x6x2048 .f32) (harg4 : arg4.IsWhole) (arg5 : Memref sig .tc .vmem S1x1x6x512 .f32) (harg5 : arg5.IsWhole)
  (arg6 : Memref sig .tc .vmem S1x1x2048 .f32) (harg6 : arg6.IsWhole) (arg7 : Memref sig .tc .vmem S2048x512 .bf16) (harg7 : arg7.IsWhole)
  (arg8 : Memref sig .tc .vmem S2048x512 .bf16) (harg8 : arg8.IsWhole) (arg9 : Memref sig .tc .vmem S5632x512 .bf16) (harg9 : arg9.IsWhole)
  (arg10 : Memref sig .tc .vmem S1024x512 .f32) (harg10 : arg10.IsWhole) (arg11 : Memref sig .tc .vmem S2x1024x2048 .bf16) (harg11 : arg11.IsWhole)
  (arg12 : Memref sig .tc .vmem S11x1024x512 .bf16) (harg12 : arg12.IsWhole)
variable (x0 : Vec F S256x2048 .f32) (x1 : Vec F S1024x512 .f32) (x2 : Vec F S1x1x6x2048 .f32)
  (x3 : Vec F S1x1x6x512 .f32) (x4 : Vec F S1x1x2048 .f32) (x5 : Vec F S2048x512 .bf16)
  (x6 : Vec F S2048x512 .bf16) (x7 : Vec F S5632x512 .bf16) (xs0 : Vec F S2x1024x2048 .bf16)
  (xs1 : Vec F S11x1024x512 .bf16)

set_option maxHeartbeats 2000000 in
/-- At a point that only projects a tile down. -/
noncomputable def runDown (hc1 : ¬ (k0_cond1 i = 1#1)) (hc2 : ¬ (k0_cond2 i = 1#1)) (hc3 : ¬ (k0_cond3 i = 1#1)) (hc4 : (k0_cond4 i = 1#1)) :
    { L8 : List (View.Piece (Elt F) S1024x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ owns (c : Thread nD τ) arg11 fullShare xs0 ∗ owns (c : Thread nD τ) arg12 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f L8) ∗ owns (c : Thread nD τ) arg11 fullShare xs0 ∗ owns (c : Thread nD τ) arg12 fullShare xs1) -∗ K ⟨⟩))
          ⊢ wp frame (wpE (defs₀ (F := F)) Variants.none c none) E (cc0_ffn i arg2 harg2 arg3 harg3 arg4 harg4 arg5 harg5 arg6 harg6 arg7 harg7 arg8 harg8 arg9 harg9 arg10 harg10 arg11 harg11 arg12 harg12) K } := by
  refine ⟨?_, fun E K => ?run⟩
  case run =>
    simp only [cc0_ffn_eq_skeleton]; unfold cc0_ffn_skel
    simp only [k0_part21_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, ⟨%f10, %hf10, H10⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg11.eq_unread hf9; obtain rfl := harg12.eq_unread hf10
    sl_exec (disch := first | sl_exact hc1 | sl_exact hc2 | sl_exact hc3 | sl_exact hc4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]; · iexists _; iexact H8
    isplitl [H9]
    · iexists _; isplitr; · ipureintro; exact harg11.read_unread _
      iexact H9
    iexists _; isplitr; · ipureintro; exact harg12.read_unread _
    iexact H10

end Cert.Kernel2Ideal.Ffn

end
-- ==== Proof.FfnVals.lean ====
/- What the feed-forward kernel keeps between grid points.  Point `n` of the grid is step `n % 15` of tile `n / 15`:
   steps 11 to 14 normalise the four chunks of the tile the next round will use, steps 0 to 10 compute the slabs of
   the gated product of the tile before, and steps 11 to 14 also project that tile down.  The two carried buffers
   are described by what the points before have stored in them and no later point has overwritten. -/
module

public import proofs.«01_k».proof.Proof.FfnRuns
public import Idealize.ShloMosaic.Lib.Pipeline.ValueKit

@[expose] public section

set_option maxRecDepth 16384

noncomputable section

namespace Cert.Kernel2Ideal.Ffn

open Idealize.ShloMosaic Idealize.ShloMosaic.TcCoe Idealize.SL.Sem
open Cert.Kernel2Ideal Cert.Kernel2Ideal.Gen

variable {F : FTy → Type} [FloatOps F]

/-! ## The three pieces of arithmetic -/

/-- A chunk of 256 rows normalised, scaled and shifted: the rows, the modulation rows and the scale. -/
def normRows (x : Vec F S256x2048 .f32) (md : Vec F S1x1x6x2048 .f32) (g : Vec F S1x1x2048 .f32) : Vec F S1x256x2048 .bf16 :=
  k0_pay1 x g (View.ld md (Rect.unit (s := S1x1x6x2048) ![0, 0, 4, 0] S1x1x1x2048.size inb_S1x1x6x2048_S1x1x1x2048_0_0_4_0))
    (View.ld md (Rect.unit (s := S1x1x6x2048) ![0, 0, 3, 0] S1x1x1x2048.size inb_S1x1x6x2048_S1x1x1x2048_0_0_3_0))

/-- One slab of the gated product of 256 rows. -/
def gateUp (h : Vec F S1x256x2048 .bf16) (wg wu : Vec F S2048x512 .bf16) : Vec F S1x256x512 .bf16 := k0_pay2 h wg wu

/-! ## The grid -/

/-- The grid point of number `n`. -/
def pt (n : ℕ) : Fin cfg0.N := ⟨n % 135, Nat.mod_lt _ (by decide)⟩

theorem pt_val (t : Fin cfg0.N) : pt t.val = t := Fin.ext (Nat.mod_eq_of_lt t.isLt)

theorem coord0 : ∀ t : Fin cfg0.N, (grid0.coords t 0).val = t.val / 15 := by decide +kernel
theorem coord1 : ∀ t : Fin cfg0.N, (grid0.coords t 1).val = t.val % 15 := by decide +kernel
theorem cond1_iff : ∀ t : Fin cfg0.N, k0_cond1 (grid0.coords t) = 1#1 ↔ t.val % 15 < 11 ∧ 15 ≤ t.val := by decide +kernel
theorem cond2_iff : ∀ t : Fin cfg0.N, k0_cond2 (grid0.coords t) = 1#1 ↔ 11 ≤ t.val % 15 ∧ 15 ≤ t.val ∧ t.val < 120 := by decide +kernel
theorem cond3_iff : ∀ t : Fin cfg0.N, k0_cond3 (grid0.coords t) = 1#1 ↔ 11 ≤ t.val % 15 ∧ t.val < 15 := by decide +kernel
theorem cond4_iff : ∀ t : Fin cfg0.N, k0_cond4 (grid0.coords t) = 1#1 ↔ 11 ≤ t.val % 15 ∧ 120 ≤ t.val := by decide +kernel
theorem off1_eq : ∀ t : Fin cfg0.N, k0_off1 (grid0.coords t) = ![(t.val / 15 + 1) % 2, 256 * (0 : Fin 4).val, 0] := by decide +kernel
theorem off3_eq : ∀ t : Fin cfg0.N, k0_off3 (grid0.coords t) = ![(t.val / 15 + 1) % 2, 256 * (1 : Fin 4).val, 0] := by decide +kernel
theorem off5_eq : ∀ t : Fin cfg0.N, k0_off5 (grid0.coords t) = ![(t.val / 15 + 1) % 2, 256 * (2 : Fin 4).val, 0] := by decide +kernel
theorem off7_eq : ∀ t : Fin cfg0.N, k0_off7 (grid0.coords t) = ![(t.val / 15 + 1) % 2, 256 * (3 : Fin 4).val, 0] := by decide +kernel
theorem off2_eq : ∀ t : Fin cfg0.N, k0_off2 (grid0.coords t) = ![t.val % 15, 256 * (0 : Fin 4).val, 0] := by decide +kernel
theorem off4_eq : ∀ t : Fin cfg0.N, k0_off4 (grid0.coords t) = ![t.val % 15, 256 * (1 : Fin 4).val, 0] := by decide +kernel
theorem off6_eq : ∀ t : Fin cfg0.N, k0_off6 (grid0.coords t) = ![t.val % 15, 256 * (2 : Fin 4).val, 0] := by decide +kernel
theorem off8_eq : ∀ t : Fin cfg0.N, k0_off8 (grid0.coords t) = ![t.val % 15, 256 * (3 : Fin 4).val, 0] := by decide +kernel
theorem off9_eq : ∀ t : Fin cfg0.N, 11 ≤ t.val % 15 → k0_off9 (grid0.coords t) = ![t.val / 15 % 2, 256 * (t.val % 15 - 11), 0] := by decide +kernel
theorem off10_eq : ∀ t : Fin cfg0.N, 11 ≤ t.val % 15 → k0_off10 (grid0.coords t) = ![t.val / 15 % 2, 256 * (t.val % 15 - 11), 0] := by decide +kernel

/-! ## What the points store -/

variable (m : (ℓ : Loc nD τ sig) → Buf (Elt F) ℓ) (c : Dev nD)

/-- The chunk of normalised rows point `s` stores. -/
def hBlk (s : ℕ) : Vec F S1x256x2048 .bf16 :=
  normRows (iblk m c 0 (pt s)) (iblk m c 2 (pt s)) (iblk m c 4 (pt s))

/-- Row block `r` of the slab point `s` stores: the gated product of that row block of the tile before. -/
def tBlk (s : ℕ) (r : Fin 4) : Vec F S1x256x512 .bf16 :=
  gateUp (hBlk m c (15 * (s / 15 - 1) + 11 + r.val)) (iblk m c 5 (pt s)) (iblk m c 6 (pt s))

/-- The carried buffers before point `n`: `dh` holds every chunk stored at most 30 points ago, `dt` every slab stored
    at most 15 points ago. -/
structure Inv (n : ℕ) (dh : Vec F S2x1024x2048 .bf16) (dt : Vec F S11x1024x512 .bf16) : Prop where
  h : ∀ s, 11 ≤ s % 15 → s < 120 → s < n → n ≤ s + 30 → ∀ (y : S2x1024x2048.Idx) (j : S1x256x2048.Idx),
    (y 0).val = s / 15 % 2 → (y 1).val = 256 * (s % 15 - 11) + (j 1).val → (y 2).val = (j 2).val → dh y = hBlk m c s j
  t : ∀ s, s % 15 < 11 → 15 ≤ s → s < n → n ≤ s + 15 → ∀ (r : Fin 4) (y : S11x1024x512.Idx) (j : S1x256x512.Idx),
    (y 0).val = s % 15 → (y 1).val = 256 * r.val + (j 1).val → (y 2).val = (j 2).val → dt y = tBlk m c s r j

variable {m c}
variable {n : ℕ} {dh dh' : Vec F S2x1024x2048 .bf16} {dt dt' : Vec F S11x1024x512 .bf16}

theorem Inv.zero : Inv m c 0 dh dt := ⟨fun s _ _ h => absurd h (Nat.not_lt_zero s), fun s _ _ h => absurd h (Nat.not_lt_zero s)⟩

/-- A point that stores nothing keeps the invariant. -/
theorem Inv.idle (I : Inv m c n dh dt) (hn : n % 15 < 11) (h15 : n < 15) : Inv m c (n + 1) dh dt :=
  ⟨fun s h1 h2 h3 h4 => I.h s h1 h2 (by omega) (by omega), fun s h1 h2 h3 h4 => I.t s h1 h2 (by omega) (by omega)⟩

/-- So does a point past the last chunk that stores in neither buffer. -/
theorem Inv.down (I : Inv m c n dh dt) (hn : 11 ≤ n % 15) (h : 120 ≤ n) : Inv m c (n + 1) dh dt :=
  ⟨fun s h1 h2 h3 h4 => I.h s h1 h2 (by omega) (by omega), fun s h1 h2 h3 h4 => I.t s h1 h2 (by omega) (by omega)⟩

/-- A point that stores its chunk. -/
theorem Inv.norm (I : Inv m c n dh dt) (hn : 11 ≤ n % 15)
    (hin : ∀ (y : S2x1024x2048.Idx) (j : S1x256x2048.Idx), (y 0).val = n / 15 % 2 → (y 1).val = 256 * (n % 15 - 11) + (j 1).val →
      (y 2).val = (j 2).val → dh' y = hBlk m c n j)
    (hout : ∀ y : S2x1024x2048.Idx, (y 0).val ≠ n / 15 % 2 ∨ (y 1).val < 256 * (n % 15 - 11) ∨ 256 * (n % 15 - 11) + 256 ≤ (y 1).val → dh' y = dh y) :
    Inv m c (n + 1) dh' dt := by
  refine ⟨fun s h1 h2 h3 h4 y j e0 e1 e2 => ?_, fun s h1 h2 h3 h4 => I.t s h1 h2 (by omega) (by omega)⟩
  have hj : (j 1).val < 256 := (j 1).isLt
  by_cases hs : s = n
  · subst hs; exact hin y j e0 e1 e2
  · rw [hout y (by omega)]
    exact I.h s h1 h2 (by omega) (by omega) y j e0 e1 e2

/-- A point that stores its slab. -/
theorem Inv.slab (I : Inv m c n dh dt) (hn : n % 15 < 11)
    (hin : ∀ (r : Fin 4) (y : S11x1024x512.Idx) (j : S1x256x512.Idx), (y 0).val = n % 15 → (y 1).val = 256 * r.val + (j 1).val →
      (y 2).val = (j 2).val → dt' y = tBlk m c n r j)
    (hout : ∀ y : S11x1024x512.Idx, (y 0).val ≠ n % 15 → dt' y = dt y) :
    Inv m c (n + 1) dh dt' := by
  refine ⟨fun s h1 h2 h3 h4 => I.h s h1 h2 (by omega) (by omega), fun s h1 h2 h3 h4 r y j e0 e1 e2 => ?_⟩
  by_cases hs : s = n
  · subst hs; exact hin r y j e0 e1 e2
  · rw [hout y (by omega)]
    exact I.t s h1 h2 (by omega) (by omega) r y j e0 e1 e2

/-- A chunk read back while the tile before is being multiplied. -/
theorem Inv.h_load (I : Inv m c n dh dt) (hn : n % 15 < 11) (h15 : 15 ≤ n) (hN : n < 135) (r : Fin 4) (off : Fin 3 → ℕ)
    (ho : off = ![(n / 15 + 1) % 2, 256 * r.val, 0]) (inb : ∀ a, off a + S1x256x2048.size a ≤ S2x1024x2048.size a) :
    View.ld dh (Rect.unit (s := S2x1024x2048) off S1x256x2048.size inb) = hBlk m c (15 * (n / 15 - 1) + 11 + r.val) := by
  subst ho
  have hr := r.isLt
  funext j
  have hj : (j 0).val < 1 := (j 0).isLt
  refine I.h _ (by omega) (by omega) (by omega) (by omega) _ j ?_ ?_ ?_
  · rw [Rect.idx_unit_val]; show (n / 15 + 1) % 2 + (j 0).val = _; omega
  · rw [Rect.idx_unit_val]; show 256 * r.val + (j 1).val = _; omega
  · rw [Rect.idx_unit_val]; show 0 + (j 2).val = _; omega

/-- A row block of a slab read back while the tile is being projected down. -/
theorem Inv.t_load (I : Inv m c n dh dt) (hn : 11 ≤ n % 15) (h15 : 15 ≤ n) (hN : n < 135) (k : Fin 11) (r : Fin 4) (off : Fin 3 → ℕ)
    (ho : off = ![k.val, 256 * r.val, 0]) (inb : ∀ a, off a + S1x256x512.size a ≤ S11x1024x512.size a) :
    View.ld dt (Rect.unit (s := S11x1024x512) off S1x256x512.size inb) = tBlk m c (15 * (n / 15) + k.val) r := by
  subst ho
  have hk := k.isLt
  funext j
  have hj : (j 0).val < 1 := (j 0).isLt
  refine I.t _ (by omega) (by omega) (by omega) (by omega) r _ j ?_ ?_ ?_
  · rw [Rect.idx_unit_val]; show k.val + (j 0).val = _; omega
  · rw [Rect.idx_unit_val]; show 256 * r.val + (j 1).val = _; omega
  · rw [Rect.idx_unit_val]; show 0 + (j 2).val = _; omega

end Cert.Kernel2Ideal.Ffn

end
-- ==== Proof.FfnPieces.lean ====
/- What the runs of the feed-forward kernel's body store, as lists of rectangles with their contents: the same
   three pieces of arithmetic at every row block, over what is read of the operands and of the carried buffers. -/
module

public import proofs.«01_k».proof.Proof.FfnRunDown
public import proofs.«01_k».proof.Proof.FfnVals

@[expose] public section

set_option maxRecDepth 16384

noncomputable section

namespace Cert.Kernel2Ideal.Ffn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal Cert.Kernel2Ideal.Gen

variable {F : FTy → Type} [FloatOps F]

local notation "𝕄" => MT nD τ sig Unit (Elt F) ℕ (UR sig nD τ) ℕ

/-- What a load reads of a whole buffer. -/
theorem load_eq {s : Shape} {e : EltTy} {a : Memref sig .tc .vmem s e} (h : a.IsWhole) (x : s.Idx → Elt F e) :
    (fun r : Rect s => View.readAt (Elt F) a.view r.toLoadRect (h.unread x)) = View.ld x := by
  funext r
  exact (View.readAt_eq_ld _ _ _).trans (by rw [h.read_unread])

theorem inbT (k : Fin 11) (r : Fin 4) : ∀ a, (![k.val, 256 * r.val, 0] : Fin 3 → ℕ) a + S1x256x512.size a ≤ S11x1024x512.size a := by
  revert k r; decide
theorem inbW (k : Fin 11) : ∀ a, (![512 * k.val, 0] : Fin 2 → ℕ) a + S512x512.size a ≤ S5632x512.size a := by
  revert k; decide
theorem inbX (r : Fin 4) : ∀ a, (![256 * r.val, 0] : Fin 2 → ℕ) a + S256x512.size a ≤ S1024x512.size a := by
  revert r; decide

/-- 256 rows projected down: the eleven slabs' row blocks times the matching rows of the weights, summed, the sum
    scaled and added to the rows the block started from. -/
def downRows (t : Fin 11 → Vec F S1x256x512 .bf16) (w : Fin 11 → Vec F S512x512 .bf16) (x : Vec F S256x512 .f32)
    (g : Vec F S1x1x1x512 .f32) : Vec F S256x512 .f32 :=
  k0_pay25 (k0_pay24 (k0_pay22 (t 0) (w 0) (t 1) (w 1) (t 2) (w 2) (t 3) (w 3) (t 4) (w 4)) (k0_pay23 (t 5)) (w 5)
    (t 6) (w 6) (t 7) (w 7) (t 8) (w 8) (t 9) (w 9) (t 10) (w 10)) x g

section Lists
variable (lt : (r : Rect S11x1024x512) → r.shape.Idx → Elt F .bf16) (lw : (r : Rect S5632x512) → r.shape.Idx → Elt F .bf16)
  (lx : (r : Rect S1024x512) → r.shape.Idx → Elt F .f32) (lg : (r : Rect S1x1x6x512) → r.shape.Idx → Elt F .f32)
  (lh : (r : Rect S2x1024x2048) → r.shape.Idx → Elt F .bf16) (l0 : (r : Rect S256x2048) → r.shape.Idx → Elt F .f32)
  (l2 : (r : Rect S1x1x6x2048) → r.shape.Idx → Elt F .f32) (l4 : (r : Rect S1x1x2048) → r.shape.Idx → Elt F .f32)
  (l5 l6 : (r : Rect S2048x512) → r.shape.Idx → Elt F .bf16) (i : grid0.Coords)

/-- Row block `r` of the projected tile, over what is read. -/
def downBlk (r : Fin 4) : Vec F S256x512 .f32 :=
  downRows (fun k => lt (Rect.unit (s := S11x1024x512) ![k.val, 256 * r.val, 0] S1x256x512.size (inbT k r)))
    (fun k => lw (Rect.unit (s := S5632x512) ![512 * k.val, 0] S512x512.size (inbW k)))
    (lx (Rect.unit (s := S1024x512) ![256 * r.val, 0] S256x512.size (inbX r)))
    (lg (Rect.unit (s := S1x1x6x512) ![0, 0, 5, 0] S1x1x1x512.size inb_S1x1x6x512_S1x1x1x512_0_0_5_0))

/-- A row block's rectangle and contents. -/
def downPiece (r : Fin 4) : View.Piece (Elt F) S1024x512 .f32 :=
  ⟨Rect.unit (s := S1024x512) ![256 * r.val, 0] S256x512.size (inbX r), downBlk lt lw lx lg r⟩

/-- The stores of a point that projects a tile down, last first. -/
def downL : List (View.Piece (Elt F) S1024x512 .f32) := [downPiece lt lw lx lg 3, downPiece lt lw lx lg 2, downPiece lt lw lx lg 1, downPiece lt lw lx lg 0]

/-- The chunk a point normalises, over what is read. -/
def normBlk : Vec F S1x256x2048 .bf16 :=
  k0_pay1 (l0 (Rect.unit (s := S256x2048) ![0, 0] S256x2048.size inb_S256x2048_S256x2048_0_0))
    (l4 (Rect.unit (s := S1x1x2048) ![0, 0, 0] S1x1x2048.size inb_S1x1x2048_S1x1x2048_0_0_0))
    (l2 (Rect.unit (s := S1x1x6x2048) ![0, 0, 4, 0] S1x1x1x2048.size inb_S1x1x6x2048_S1x1x1x2048_0_0_4_0))
    (l2 (Rect.unit (s := S1x1x6x2048) ![0, 0, 3, 0] S1x1x1x2048.size inb_S1x1x6x2048_S1x1x1x2048_0_0_3_0))

/-- A row block of a slab, over what is read. -/
def slabBlk (off : Fin 3 → ℕ) (inb : ∀ a, off a + S1x256x2048.size a ≤ S2x1024x2048.size a) : Vec F S1x256x512 .bf16 :=
  gateUp (lh (Rect.unit (s := S2x1024x2048) off S1x256x2048.size inb))
    (l5 (Rect.unit (s := S2048x512) ![0, 0] S2048x512.size inb_S2048x512_S2048x512_0_0))
    (l6 (Rect.unit (s := S2048x512) ![0, 0] S2048x512.size inb_S2048x512_S2048x512_0_0))

/-- The stores of a point that computes a slab, last first. -/
def slabL (hc1 : k0_cond1 i = 1#1) : List (View.Piece (Elt F) S11x1024x512 .bf16) :=
  [⟨Rect.unit (s := S11x1024x512) (k0_off8 i) S1x256x512.size (k0_off8_inb i hc1), slabBlk lh l5 l6 (k0_off7 i) (k0_off7_inb i hc1)⟩,
   ⟨Rect.unit (s := S11x1024x512) (k0_off6 i) S1x256x512.size (k0_off6_inb i hc1), slabBlk lh l5 l6 (k0_off5 i) (k0_off5_inb i hc1)⟩,
   ⟨Rect.unit (s := S11x1024x512) (k0_off4 i) S1x256x512.size (k0_off4_inb i hc1), slabBlk lh l5 l6 (k0_off3 i) (k0_off3_inb i hc1)⟩,
   ⟨Rect.unit (s := S11x1024x512) (k0_off2 i) S1x256x512.size (k0_off2_inb i hc1), slabBlk lh l5 l6 (k0_off1 i) (k0_off1_inb i hc1)⟩]
end Lists

variable (c : Dev nD)
  (i : grid0.Coords) (arg2 : Memref sig .tc .vmem S256x2048 .f32) (harg2 : arg2.IsWhole) (arg3 : Memref sig .tc .vmem S1024x512 .f32) (harg3 : arg3.IsWhole)
  (arg4 : Memref sig .tc .vmem S1x1x6x2048 .f32) (harg4 : arg4.IsWhole) (arg5 : Memref sig .tc .vmem S1x1x6x512 .f32) (harg5 : arg5.IsWhole)
  (arg6 : Memref sig .tc .vmem S1x1x2048 .f32) (harg6 : arg6.IsWhole) (arg7 : Memref sig .tc .vmem S2048x512 .bf16) (harg7 : arg7.IsWhole)
  (arg8 : Memref sig .tc .vmem S2048x512 .bf16) (harg8 : arg8.IsWhole) (arg9 : Memref sig .tc .vmem S5632x512 .bf16) (harg9 : arg9.IsWhole)
  (arg10 : Memref sig .tc .vmem S1024x512 .f32) (harg10 : arg10.IsWhole) (arg11 : Memref sig .tc .vmem S2x1024x2048 .bf16) (harg11 : arg11.IsWhole)
  (arg12 : Memref sig .tc .vmem S11x1024x512 .bf16) (harg12 : arg12.IsWhole)
variable (x0 : Vec F S256x2048 .f32) (x1 : Vec F S1024x512 .f32) (x2 : Vec F S1x1x6x2048 .f32)
  (x3 : Vec F S1x1x6x512 .f32) (x4 : Vec F S1x1x2048 .f32) (x5 : Vec F S2048x512 .bf16)
  (x6 : Vec F S2048x512 .bf16) (x7 : Vec F S5632x512 .bf16) (xs0 : Vec F S2x1024x2048 .bf16)
  (xs1 : Vec F S11x1024x512 .bf16)

set_option maxHeartbeats 1000000 in
theorem runSlab_list (d8 : Vec F S1024x512 .f32) (hc1 : (k0_cond1 i = 1#1)) (hc2 : ¬ (k0_cond2 i = 1#1)) (hc3 : ¬ (k0_cond3 i = 1#1)) (hc4 : ¬ (k0_cond4 i = 1#1)) :
    (runSlab c i arg2 harg2 arg3 harg3 arg4 harg4 arg5 harg5 arg6 harg6 arg7 harg7 arg8 harg8 arg9 harg9 arg10 harg10 arg11 harg11 arg12 harg12 x0 x1 x2 x3 x4 x5 x6 x7 xs0 xs1 d8 hc1 hc2 hc3 hc4).1 = slabL (View.ld xs0) (View.ld x5) (View.ld x6) i hc1 := by
  refine Eq.trans (b := slabL (fun r => View.readAt (Elt F) arg11.view r.toLoadRect (harg11.unread xs0)) (fun r => View.readAt (Elt F) arg7.view r.toLoadRect (harg7.unread x5)) (fun r => View.readAt (Elt F) arg8.view r.toLoadRect (harg8.unread x6)) i hc1) rfl ?_
  rw [load_eq harg11 xs0, load_eq harg7 x5, load_eq harg8 x6]

set_option maxHeartbeats 1000000 in
theorem runNorm_list (d8 : Vec F S1024x512 .f32) (hc1 : ¬ (k0_cond1 i = 1#1)) (hc2 : ¬ (k0_cond2 i = 1#1)) (hc3 : (k0_cond3 i = 1#1)) (hc4 : ¬ (k0_cond4 i = 1#1)) :
    (runNorm c i arg2 harg2 arg3 harg3 arg4 harg4 arg5 harg5 arg6 harg6 arg7 harg7 arg8 harg8 arg9 harg9 arg10 harg10 arg11 harg11 arg12 harg12 x0 x1 x2 x3 x4 x5 x6 x7 xs0 xs1 d8 hc1 hc2 hc3 hc4).1 = [⟨Rect.unit (s := S2x1024x2048) (k0_off10 i) S1x256x2048.size (k0_off10_inb i hc3), normBlk (View.ld x0) (View.ld x2) (View.ld x4)⟩] := by
  refine Eq.trans (b := [⟨Rect.unit (s := S2x1024x2048) (k0_off10 i) S1x256x2048.size (k0_off10_inb i hc3), normBlk (fun r => View.readAt (Elt F) arg2.view r.toLoadRect (harg2.unread x0)) (fun r => View.readAt (Elt F) arg4.view r.toLoadRect (harg4.unread x2)) (fun r => View.readAt (Elt F) arg6.view r.toLoadRect (harg6.unread x4))⟩]) rfl ?_
  rw [load_eq harg2 x0, load_eq harg4 x2, load_eq harg6 x4]

set_option maxHeartbeats 1000000 in
theorem runBoth_list_h (hc1 : ¬ (k0_cond1 i = 1#1)) (hc2 : (k0_cond2 i = 1#1)) (hc3 : ¬ (k0_cond3 i = 1#1)) (hc4 : ¬ (k0_cond4 i = 1#1)) :
    (runBoth c i arg2 harg2 arg3 harg3 arg4 harg4 arg5 harg5 arg6 harg6 arg7 harg7 arg8 harg8 arg9 harg9 arg10 harg10 arg11 harg11 arg12 harg12 x0 x1 x2 x3 x4 x5 x6 x7 xs0 xs1  hc1 hc2 hc3 hc4).2.1 = [⟨Rect.unit (s := S2x1024x2048) (k0_off9 i) S1x256x2048.size (k0_off9_inb i hc2), normBlk (View.ld x0) (View.ld x2) (View.ld x4)⟩] := by
  refine Eq.trans (b := [⟨Rect.unit (s := S2x1024x2048) (k0_off9 i) S1x256x2048.size (k0_off9_inb i hc2), normBlk (fun r => View.readAt (Elt F) arg2.view r.toLoadRect (harg2.unread x0)) (fun r => View.readAt (Elt F) arg4.view r.toLoadRect (harg4.unread x2)) (fun r => View.readAt (Elt F) arg6.view r.toLoadRect (harg6.unread x4))⟩]) rfl ?_
  rw [load_eq harg2 x0, load_eq harg4 x2, load_eq harg6 x4]

set_option maxHeartbeats 1000000 in
theorem runBoth_list (hc1 : ¬ (k0_cond1 i = 1#1)) (hc2 : (k0_cond2 i = 1#1)) (hc3 : ¬ (k0_cond3 i = 1#1)) (hc4 : ¬ (k0_cond4 i = 1#1)) :
    (runBoth c i arg2 harg2 arg3 harg3 arg4 harg4 arg5 harg5 arg6 harg6 arg7 harg7 arg8 harg8 arg9 harg9 arg10 harg10 arg11 harg11 arg12 harg12 x0 x1 x2 x3 x4 x5 x6 x7 xs0 xs1  hc1 hc2 hc3 hc4).1 = downL (View.ld xs1) (View.ld x7) (View.ld x1) (View.ld x3) := by
  refine Eq.trans (b := downL (fun r => View.readAt (Elt F) arg12.view r.toLoadRect (harg12.unread xs1)) (fun r => View.readAt (Elt F) arg9.view r.toLoadRect (harg9.unread x7)) (fun r => View.readAt (Elt F) arg3.view r.toLoadRect (harg3.unread x1)) (fun r => View.readAt (Elt F) arg5.view r.toLoadRect (harg5.unread x3))) rfl ?_
  rw [load_eq harg12 xs1, load_eq harg9 x7, load_eq harg3 x1, load_eq harg5 x3]

set_option maxHeartbeats 1000000 in
theorem runDown_list (hc1 : ¬ (k0_cond1 i = 1#1)) (hc2 : ¬ (k0_cond2 i = 1#1)) (hc3 : ¬ (k0_cond3 i = 1#1)) (hc4 : (k0_cond4 i = 1#1)) :
    (runDown c i arg2 harg2 arg3 harg3 arg4 harg4 arg5 harg5 arg6 harg6 arg7 harg7 arg8 harg8 arg9 harg9 arg10 harg10 arg11 harg11 arg12 harg12 x0 x1 x2 x3 x4 x5 x6 x7 xs0 xs1  hc1 hc2 hc3 hc4).1 = downL (View.ld xs1) (View.ld x7) (View.ld x1) (View.ld x3) := by
  refine Eq.trans (b := downL (fun r => View.readAt (Elt F) arg12.view r.toLoadRect (harg12.unread xs1)) (fun r => View.readAt (Elt F) arg9.view r.toLoadRect (harg9.unread x7)) (fun r => View.readAt (Elt F) arg3.view r.toLoadRect (harg3.unread x1)) (fun r => View.readAt (Elt F) arg5.view r.toLoadRect (harg5.unread x3))) rfl ?_
  rw [load_eq harg12 xs1, load_eq harg9 x7, load_eq harg3 x1, load_eq harg5 x3]

end Cert.Kernel2Ideal.Ffn

end
-- ==== Proof.FfnBody.lean ====
/- The run of the feed-forward call: at every grid point the body keeps the invariant of the two carried buffers, and
   a point that projects a tile down leaves the tile's block in the output's buffer.  From this the whole call
   terminates with its arguments unchanged and its result assembled from those blocks, in any number formats. -/
module

public import proofs.«01_k».proof.Proof.FfnPieces
public import Idealize.ShloMosaic.Lib.WritesUnit

@[expose] public section

set_option maxRecDepth 16384

noncomputable section

namespace Cert.Kernel2Ideal.Ffn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal Cert.Kernel2Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What a point leaves in the output's buffer -/

/-- Row block `r` of the tile point `n` projects down. -/
def yBlk (c : Dev nD) (n : ℕ) (r : Fin 4) : Vec F S256x512 .f32 :=
  downRows (fun k => tBlk m c (15 * (n / 15) + k.val) r)
    (fun k => View.ld (iblk m c 7 (pt n) : Vec F S5632x512 .bf16) (Rect.unit (s := S5632x512) ![512 * k.val, 0] S512x512.size (inbW k)))
    (View.ld (iblk m c 1 (pt n) : Vec F S1024x512 .f32) (Rect.unit (s := S1024x512) ![256 * r.val, 0] S256x512.size (inbX r)))
    (View.ld (iblk m c 3 (pt n) : Vec F S1x1x6x512 .f32) (Rect.unit (s := S1x1x6x512) ![0, 0, 5, 0] S1x1x1x512.size inb_S1x1x6x512_S1x1x1x512_0_0_5_0))

/-- The row block of a row and its row within the block. -/
def rowBlk (y : S1024x512.Idx) : Fin 4 := ⟨(y 0).val / 256, by have : (y 0).val < 1024 := (y 0).isLt; omega⟩
def rowIn (y : S1024x512.Idx) : S256x512.Idx := ix2 (⟨(y 0).val % 256, Nat.mod_lt _ (by decide)⟩ : Fin 256) (y 1 : Fin 512)

/-- The tile point `n` projects down. -/
def yTile (c : Dev nD) (n : ℕ) : Vec F S1024x512 .f32 := fun y => yBlk m c n (rowBlk y) (rowIn y)

/-- The pieces a point that projects down stores are the tile. -/
theorem down_tile (c : Dev nD) (n : ℕ) (dh : Vec F S2x1024x2048 .bf16) (dt : Vec F S11x1024x512 .bf16) (I : Inv m c n dh dt)
    (hn : 11 ≤ n % 15) (h15 : 15 ≤ n) (hN : n < 135) (a : Memref sig .tc .vmem S1024x512 .f32) (f : a.view.ty.Contents (Elt F)) :
    a.view.read (Elt F) (a.view.writes (Elt F) f (downL (View.ld dt) (View.ld (iblk m c 7 (pt n) : Vec F S5632x512 .bf16))
      (View.ld (iblk m c 1 (pt n) : Vec F S1024x512 .f32)) (View.ld (iblk m c 3 (pt n) : Vec F S1x1x6x512 .f32)))) = yTile m c n := by
  have key : ∀ (r : Fin 4) (x : S256x512.Idx),
      downBlk (View.ld dt) (View.ld (iblk m c 7 (pt n) : Vec F S5632x512 .bf16)) (View.ld (iblk m c 1 (pt n) : Vec F S1024x512 .f32))
        (View.ld (iblk m c 3 (pt n) : Vec F S1x1x6x512 .f32)) r x
      = yTile m c n ((Rect.unit (s := S1024x512) ![256 * r.val, 0] S256x512.size (inbX r)).emb x) := by
    intro r x
    have hx : (x 0).val < 256 := (x 0).isLt
    have hr := r.isLt
    have e0 : (((Rect.unit (s := S1024x512) ![256 * r.val, 0] S256x512.size (inbX r)).emb x) 0).val = 256 * r.val + (x 0).val :=
      ValueKit.rect_emb_unit_val (s := S1024x512) ![256 * r.val, 0] S256x512.size (inbX r) x 0
    have e1 : (((Rect.unit (s := S1024x512) ![256 * r.val, 0] S256x512.size (inbX r)).emb x) 1).val = (x 1).val :=
      (ValueKit.rect_emb_unit_val (s := S1024x512) ![256 * r.val, 0] S256x512.size (inbX r) x 1).trans (Nat.zero_add _)
    have hb : rowBlk ((Rect.unit (s := S1024x512) ![256 * r.val, 0] S256x512.size (inbX r)).emb x) = r :=
      Fin.ext (by show _ / 256 = r.val; rw [e0]; omega)
    have hi : rowIn ((Rect.unit (s := S1024x512) ![256 * r.val, 0] S256x512.size (inbX r)).emb x) = x := by
      funext b
      match b with
      | ⟨0, _⟩ => exact Fin.ext (by show _ % 256 = (x 0).val; rw [e0]; omega)
      | ⟨1, _⟩ => exact Fin.ext e1
    have ht : (fun k : Fin 11 => View.ld dt (Rect.unit (s := S11x1024x512) ![k.val, 256 * r.val, 0] S1x256x512.size (inbT k r)))
        = fun k => tBlk m c (15 * (n / 15) + k.val) r :=
      funext fun k => I.t_load hn h15 hN k r _ rfl (inbT k r)
    show downRows (fun k : Fin 11 => View.ld dt (Rect.unit (s := S11x1024x512) ![k.val, 256 * r.val, 0] S1x256x512.size (inbT k r))) _ _ _ x
      = yBlk m c n _ _
    rw [hb, hi, ht]
    rfl
  funext y
  refine View.read_writes_apply_of_pieces a.view f (yTile m c n) _ ?_ y ?_
  · intro p hp x
    simp only [downL, List.mem_cons, List.not_mem_nil, _root_.or_false] at hp
    rcases hp with rfl | rfl | rfl | rfl
    · exact key 3 x
    · exact key 2 x
    · exact key 1 x
    · exact key 0 x
  · have hy : (y 0).val < 1024 := (y 0).isLt
    have hy1 : (y 1).val < 512 := (y 1).isLt
    have hm : ∀ r : Fin 4, rowBlk y = r → y ∈ (Rect.unit (s := S1024x512) ![256 * r.val, 0] S256x512.size (inbX r)).set := by
      intro r hr
      have hr' : (y 0).val / 256 = r.val := congrArg Fin.val hr
      rw [Rect.mem_set_unit]
      intro b
      match b with
      | ⟨0, _⟩ => exact ⟨by show 256 * r.val ≤ (y 0).val; omega, by show (y 0).val < 256 * r.val + 256; omega⟩
      | ⟨1, _⟩ => exact ⟨Nat.zero_le _, by show (y 1).val < 0 + 512; omega⟩
    have hd : ∀ r : Fin 4, downPiece (View.ld dt) (View.ld (iblk m c 7 (pt n) : Vec F S5632x512 .bf16))
        (View.ld (iblk m c 1 (pt n) : Vec F S1024x512 .f32)) (View.ld (iblk m c 3 (pt n) : Vec F S1x1x6x512 .f32)) r
        ∈ downL (View.ld dt) (View.ld (iblk m c 7 (pt n) : Vec F S5632x512 .bf16))
        (View.ld (iblk m c 1 (pt n) : Vec F S1024x512 .f32)) (View.ld (iblk m c 3 (pt n) : Vec F S1x1x6x512 .f32)) := by
      intro r
      match r with
      | ⟨3, _⟩ => exact List.mem_cons_self
      | ⟨2, _⟩ => exact List.mem_cons_of_mem _ List.mem_cons_self
      | ⟨1, _⟩ => exact List.mem_cons_of_mem _ (List.mem_cons_of_mem _ List.mem_cons_self)
      | ⟨0, _⟩ => exact List.mem_cons_of_mem _ (List.mem_cons_of_mem _ (List.mem_cons_of_mem _ List.mem_cons_self))
    exact ⟨_, hd (rowBlk y), hm _ rfl⟩

/-! ## What a point's stores do to the carried buffers -/

/-- The chunk stored by a point, over the operands' blocks, is the point's chunk. -/
theorem normBlk_eq (c : Dev nD) (n : ℕ) :
    normBlk (View.ld (iblk m c 0 (pt n) : Vec F S256x2048 .f32)) (View.ld (iblk m c 2 (pt n) : Vec F S1x1x6x2048 .f32))
      (View.ld (iblk m c 4 (pt n) : Vec F S1x1x2048 .f32)) = hBlk m c n := by
  unfold normBlk hBlk normRows
  rw [View.ld_unit_lit _ _ (by decide), View.ld_unit_lit _ _ (by decide)]

/-- Storing the point's chunk keeps the invariant. -/
theorem norm_step (c : Dev nD) (n : ℕ) (dh : Vec F S2x1024x2048 .bf16) (dt : Vec F S11x1024x512 .bf16) (I : Inv m c n dh dt)
    (hn : 11 ≤ n % 15) (hN : n < 120) (a : Memref sig .tc .vmem S2x1024x2048 .bf16) (ha : a.IsWhole) (off : Fin 3 → ℕ)
    (ho : off = ![n / 15 % 2, 256 * (n % 15 - 11), 0]) (inb : ∀ a, off a + S1x256x2048.size a ≤ S2x1024x2048.size a) :
    Inv m c (n + 1) (a.view.read (Elt F) (a.view.writes (Elt F) (ha.unread dh)
      [⟨Rect.unit (s := S2x1024x2048) off S1x256x2048.size inb, normBlk (View.ld (iblk m c 0 (pt n) : Vec F S256x2048 .f32))
        (View.ld (iblk m c 2 (pt n) : Vec F S1x1x6x2048 .f32)) (View.ld (iblk m c 4 (pt n) : Vec F S1x1x2048 .f32))⟩])) dt := by
  rw [normBlk_eq]
  subst ho
  refine I.norm hn (fun y j e0 e1 e2 => ?_) (fun y hy => ?_)
  · have hj : (j 0).val < 1 := (j 0).isLt
    refine View.read_writes_cons_unit_of_mem _ _ inb _ _ y j rfl fun b => ?_
    match b with
    | ⟨0, _⟩ => show (y 0).val = n / 15 % 2 + (j 0).val; omega
    | ⟨1, _⟩ => exact e1
    | ⟨2, _⟩ => show (y 2).val = 0 + (j 2).val; omega
  · have h2 : (y 0).val < 2 := (y 0).isLt
    have hr : a.view.read (Elt F) (a.view.writes (Elt F) (ha.unread dh) []) y = dh y := congrFun (ha.read_unread dh) y
    rcases hy with h | h
    · exact (View.read_writes_cons_unit_of_not_mem _ _ inb _ _ y rfl 0 (by show (y 0).val < n / 15 % 2 ∨ n / 15 % 2 + 1 ≤ (y 0).val; omega)).trans hr
    · exact (View.read_writes_cons_unit_of_not_mem _ _ inb _ _ y rfl 1 h).trans hr

/-- A row block stored by a point that computes a slab is the point's row block. -/
theorem slabBlk_eq (c : Dev nD) (n : ℕ) (dh : Vec F S2x1024x2048 .bf16) (dt : Vec F S11x1024x512 .bf16) (I : Inv m c n dh dt)
    (hn : n % 15 < 11) (h15 : 15 ≤ n) (hN : n < 135) (r : Fin 4) (off : Fin 3 → ℕ) (ho : off = ![(n / 15 + 1) % 2, 256 * r.val, 0])
    (inb : ∀ a, off a + S1x256x2048.size a ≤ S2x1024x2048.size a) :
    slabBlk (View.ld dh) (View.ld (iblk m c 5 (pt n) : Vec F S2048x512 .bf16)) (View.ld (iblk m c 6 (pt n) : Vec F S2048x512 .bf16)) off inb
      = tBlk m c n r := by
  unfold slabBlk tBlk
  rw [View.ld_unit_lit _ _ (by decide), View.ld_unit_lit _ _ (by decide), I.h_load hn h15 hN r off ho inb]

/-- Storing the point's slab keeps the invariant. -/
theorem slab_step (c : Dev nD) (t : Fin cfg0.N) (dh : Vec F S2x1024x2048 .bf16) (dt : Vec F S11x1024x512 .bf16) (I : Inv m c t.val dh dt)
    (hn : t.val % 15 < 11) (h15 : 15 ≤ t.val) (a : Memref sig .tc .vmem S11x1024x512 .bf16) (ha : a.IsWhole)
    (hc1 : k0_cond1 (grid0.coords t) = 1#1) :
    Inv m c (t.val + 1) dh (a.view.read (Elt F) (a.view.writes (Elt F) (ha.unread dt)
      (slabL (View.ld dh) (View.ld (iblk m c 5 (pt t.val) : Vec F S2048x512 .bf16)) (View.ld (iblk m c 6 (pt t.val) : Vec F S2048x512 .bf16)) (grid0.coords t) hc1))) := by
  have hN : t.val < 135 := t.isLt
  unfold slabL
  rw [slabBlk_eq m c t.val dh dt I hn h15 hN 3 _ (off7_eq t), slabBlk_eq m c t.val dh dt I hn h15 hN 2 _ (off5_eq t),
    slabBlk_eq m c t.val dh dt I hn h15 hN 1 _ (off3_eq t), slabBlk_eq m c t.val dh dt I hn h15 hN 0 _ (off1_eq t)]
  have hit : ∀ (r : Fin 4) (y : S11x1024x512.Idx) (j : S1x256x512.Idx), (y 0).val = t.val % 15 → (y 1).val = 256 * r.val + (j 1).val →
      (y 2).val = (j 2).val → ∀ b : Fin 3, (y b).val = (![t.val % 15, 256 * r.val, 0] : Fin 3 → ℕ) b + (j b).val := by
    intro r y j e0 e1 e2 b
    have hj : (j 0).val < 1 := (j 0).isLt
    match b with
    | ⟨0, _⟩ => show (y 0).val = t.val % 15 + (j 0).val; omega
    | ⟨1, _⟩ => exact e1
    | ⟨2, _⟩ => show (y 2).val = 0 + (j 2).val; omega
  have miss : ∀ (r' r : Fin 4) (y : S11x1024x512.Idx) (j : S1x256x512.Idx), (y 1).val = 256 * r.val + (j 1).val → r'.val ≠ r.val →
      (y 1).val < (![t.val % 15, 256 * r'.val, 0] : Fin 3 → ℕ) 1 ∨ (![t.val % 15, 256 * r'.val, 0] : Fin 3 → ℕ) 1 + S1x256x512.size 1 ≤ (y 1).val := by
    intro r' r y j e1 hne
    have hj : (j 1).val < 256 := (j 1).isLt
    show (y 1).val < 256 * r'.val ∨ 256 * r'.val + 256 ≤ (y 1).val
    omega
  refine I.slab hn (fun r y j e0 e1 e2 => ?_) (fun y hy => ?_)
  · have hh := hit r y j e0 e1 e2
    have hm := fun r' => miss r' r y j e1
    match r, hh, hm with
    | ⟨3, _⟩, hh, hm => exact View.read_writes_cons_unit_of_mem _ _ _ _ _ y j (off8_eq t) hh
    | ⟨2, _⟩, hh, hm =>
      refine (View.read_writes_cons_unit_of_not_mem _ _ _ _ _ y (off8_eq t) 1 (hm 3 (by show (3 : ℕ) ≠ 2; decide))).trans ?_
      exact View.read_writes_cons_unit_of_mem _ _ _ _ _ y j (off6_eq t) hh
    | ⟨1, _⟩, hh, hm =>
      refine (View.read_writes_cons_unit_of_not_mem _ _ _ _ _ y (off8_eq t) 1 (hm 3 (by show (3 : ℕ) ≠ 1; decide))).trans ?_
      refine (View.read_writes_cons_unit_of_not_mem _ _ _ _ _ y (off6_eq t) 1 (hm 2 (by show (2 : ℕ) ≠ 1; decide))).trans ?_
      exact View.read_writes_cons_unit_of_mem _ _ _ _ _ y j (off4_eq t) hh
    | ⟨0, _⟩, hh, hm =>
      refine (View.read_writes_cons_unit_of_not_mem _ _ _ _ _ y (off8_eq t) 1 (hm 3 (by show (3 : ℕ) ≠ 0; decide))).trans ?_
      refine (View.read_writes_cons_unit_of_not_mem _ _ _ _ _ y (off6_eq t) 1 (hm 2 (by show (2 : ℕ) ≠ 0; decide))).trans ?_
      refine (View.read_writes_cons_unit_of_not_mem _ _ _ _ _ y (off4_eq t) 1 (hm 1 (by show (1 : ℕ) ≠ 0; decide))).trans ?_
      exact View.read_writes_cons_unit_of_mem _ _ _ _ _ y j (off2_eq t) hh
  · have far : ∀ r' : Fin 4, (y 0).val < (![t.val % 15, 256 * r'.val, 0] : Fin 3 → ℕ) 0 ∨ (![t.val % 15, 256 * r'.val, 0] : Fin 3 → ℕ) 0 + S1x256x512.size 0 ≤ (y 0).val := by
      intro r'
      show (y 0).val < t.val % 15 ∨ t.val % 15 + 1 ≤ (y 0).val
      omega
    refine (View.read_writes_cons_unit_of_not_mem _ _ _ _ _ y (off8_eq t) 0 (far 3)).trans ?_
    refine (View.read_writes_cons_unit_of_not_mem _ _ _ _ _ y (off6_eq t) 0 (far 2)).trans ?_
    refine (View.read_writes_cons_unit_of_not_mem _ _ _ _ _ y (off4_eq t) 0 (far 1)).trans ?_
    refine (View.read_writes_cons_unit_of_not_mem _ _ _ _ _ y (off2_eq t) 0 (far 0)).trans ?_
    exact congrFun (ha.read_unread dt) y

/-! ## The data of the pipeline -/

/-- The two carried buffers as operands of the body. -/
abbrev scH : Memref sig .tc .vmem S2x1024x2048 .bf16 := Memref.whole cc0_scratch0
abbrev scT : Memref sig .tc .vmem S11x1024x512 .bf16 := Memref.whole cc0_scratch1

/-- Before point `n`: the carried buffers at contents of which the invariant holds. -/
def carried (c : Dev nD) (n : ℕ) : sProp 𝕄 :=
  iprop((∃ dh, ∃ dt, ⌜Inv m c n dh dt⌝ ∗ owns (c : Thread nD τ) scH fullShare dh ∗ owns (c : Thread nD τ) scT fullShare dt) ∗ (∃ r, prngReg c r))

/-- The pipeline's data: the arrays as the call finds them; after a point the inputs' buffers hold their blocks and the
    output's the tile the point projects down. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => yTile m c t.val
  Φ t := carried m c t.val
  q w := Pipeline.shareOf spec0 w
  owed _ := 0

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = yTile m c t.val := by dsimp only [dats]
theorem A_eq (c : Dev nD) (w : Fin cfg0.W) : (dats m 0 c).A w = V m c (Pipeline.arrRef spec0 w) := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d

/-- The first point finds the carried buffers at anything. -/
theorem phi_eq (c : Dev nD) :
    (Pipeline.ΦA spec0 c : sProp 𝕄)
      = iprop(iprop((∃ d, owns (c : Thread nD τ) scH fullShare d) ∗ (∃ d, owns (c : Thread nD τ) scT fullShare d)) ∗ (∃ r, prngReg c r)) := by
  unfold Pipeline.ΦA; rw [scopedRest0_eq]; simp only [scH, scT, owns_whole]; try rfl

theorem hin (c : Dev nD) : Pipeline.ΦA spec0 c ⊢ (dats m 0 c).Φ 0 := by
  rw [phi_eq, show (dats m 0 c).Φ 0 = carried m c 0 from rfl]
  unfold carried
  iintro ⟨⟨⟨%dh, HH⟩, ⟨%dt, HT⟩⟩, Hg⟩
  isplitl [HH HT]
  · iexists dh; iexists dt
    isplitr; · ipureintro; exact Inv.zero
    isplitl [HH]; · iexact HH
    iexact HT
  iexact Hg

theorem hout (c : Dev nD) : (dats m 0 c).Φ (Fin.last cfg0.N) ⊢ Pipeline.ΦA spec0 c := by
  rw [phi_eq, show (dats m 0 c).Φ (Fin.last cfg0.N) = carried m c cfg0.N from rfl]
  unfold carried
  iintro ⟨⟨%dh, %dt, -, HH, HT⟩, Hg⟩
  isplitl [HH HT]
  · isplitl [HH]; · iexists dh; iexact HH
    iexists dt; iexact HT
  iexact Hg

/-! ## The body at a point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

/-- and what it returns, the output's buffer described by `X`. -/
def bodyPost (c : Dev nD) (t : Fin cfg0.N) (X : sProp 𝕄) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ X)

/-- A point with nothing to do. -/
theorem sound_idle (c : Dev nD) (t : Fin cfg0.N) (hn : t.val % 15 < 11) (h15 : t.val < 15) :
    bodyPre m c t ⊢ wp frame (wpE (defs₀ (F := F)) Variants.none c none) Set.univ (bodyAt0 t) (fun _ => bodyPost m c t (iprop(∃ d, owns (c : Thread nD τ) (st0_8 t) fullShare ((dats m 0 c).before 8 t d)))) := by
  have hN : t.val < 135 := t.isLt
  have hp : pt t.val = t := pt_val t
  have hc1 : ¬ k0_cond1 (grid0.coords t) = 1#1 := by rw [cond1_iff]; omega
  have hc2 : ¬ k0_cond2 (grid0.coords t) = 1#1 := by rw [cond2_iff]; omega
  have hc3 : ¬ k0_cond3 (grid0.coords t) = 1#1 := by rw [cond3_iff]; omega
  have hc4 : ¬ k0_cond4 (grid0.coords t) = 1#1 := by rw [cond4_iff]; omega
  unfold bodyPre bodyPost bodyAt0
  simp only [before_0, before_1, before_2, before_3, before_4, before_5, before_6, before_7]
  rw [show (dats m 0 c).owesAt () t.succ = (dats m 0 c).owesAt () t.castSucc from rfl, after_0, after_1, after_2, after_3, after_4, after_5, after_6, after_7]
  rw [show (dats m 0 c).Φ t.castSucc = carried m c t.val from rfl, show (dats m 0 c).Φ t.succ = carried m c (t.val + 1) from rfl]
  unfold carried
  iintro ⟨⟨⟨%dh, %dt, %I, HH, HT⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((runIdle c (grid0.coords t) _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) dh dt _ hc1 hc2 hc3 hc4) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [HH]; · iexact HH
  isplitl [HT]; · iexact HT
  iintro ⟨H0, H1, H2, H3, H4, H5, H6, H7, H8, HH, HT⟩
  isplitl [HH HT Hg]
  · isplitl [HH HT]
    · iexists dh; iexists dt
      isplitr; · ipureintro; exact I.idle hn h15
      isplitl [HH]; · iexact HH
      iexact HT
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexists _; iexact H8

/-- A point that only normalises. -/
theorem sound_norm (c : Dev nD) (t : Fin cfg0.N) (hn : 11 ≤ t.val % 15) (h15 : t.val < 15) :
    bodyPre m c t ⊢ wp frame (wpE (defs₀ (F := F)) Variants.none c none) Set.univ (bodyAt0 t) (fun _ => bodyPost m c t (iprop(∃ d, owns (c : Thread nD τ) (st0_8 t) fullShare ((dats m 0 c).before 8 t d)))) := by
  have hN : t.val < 135 := t.isLt
  have hp : pt t.val = t := pt_val t
  have hc1 : ¬ k0_cond1 (grid0.coords t) = 1#1 := by rw [cond1_iff]; omega
  have hc2 : ¬ k0_cond2 (grid0.coords t) = 1#1 := by rw [cond2_iff]; omega
  have hc3 : k0_cond3 (grid0.coords t) = 1#1 := by rw [cond3_iff]; omega
  have hc4 : ¬ k0_cond4 (grid0.coords t) = 1#1 := by rw [cond4_iff]; omega
  unfold bodyPre bodyPost bodyAt0
  simp only [before_0, before_1, before_2, before_3, before_4, before_5, before_6, before_7]
  rw [show (dats m 0 c).owesAt () t.succ = (dats m 0 c).owesAt () t.castSucc from rfl, after_0, after_1, after_2, after_3, after_4, after_5, after_6, after_7]
  rw [show (dats m 0 c).Φ t.castSucc = carried m c t.val from rfl, show (dats m 0 c).Φ t.succ = carried m c (t.val + 1) from rfl]
  unfold carried
  iintro ⟨⟨⟨%dh, %dt, %I, HH, HT⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((runNorm c (grid0.coords t) _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) dh dt _ hc1 hc2 hc3 hc4).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [HH]; · iexact HH
  isplitl [HT]; · iexact HT
  iintro ⟨H0, H1, H2, H3, H4, H5, H6, H7, H8, HH, HT⟩
  isplitl [HH HT Hg]
  · isplitl [HH HT]
    · iexists _; iexists dt
      isplitr
      swap
      · isplitl [HH]
        · unfold owns; iexists _; isplitr
          swap; · iexact HH
          ipureintro; rfl
        iexact HT
      ipureintro; rw [runNorm_list]; have hs := norm_step m c t.val dh dt I hn (by omega) scH (Memref.isWhole_whole _) _ (off10_eq t hn) (k0_off10_inb _ hc3); rw [hp] at hs; exact hs
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexists _; iexact H8

/-- A point that computes a slab. -/
theorem sound_slab (c : Dev nD) (t : Fin cfg0.N) (hn : t.val % 15 < 11) (h15 : 15 ≤ t.val) :
    bodyPre m c t ⊢ wp frame (wpE (defs₀ (F := F)) Variants.none c none) Set.univ (bodyAt0 t) (fun _ => bodyPost m c t (iprop(∃ d, owns (c : Thread nD τ) (st0_8 t) fullShare ((dats m 0 c).before 8 t d)))) := by
  have hN : t.val < 135 := t.isLt
  have hp : pt t.val = t := pt_val t
  have hc1 : k0_cond1 (grid0.coords t) = 1#1 := by rw [cond1_iff]; omega
  have hc2 : ¬ k0_cond2 (grid0.coords t) = 1#1 := by rw [cond2_iff]; omega
  have hc3 : ¬ k0_cond3 (grid0.coords t) = 1#1 := by rw [cond3_iff]; omega
  have hc4 : ¬ k0_cond4 (grid0.coords t) = 1#1 := by rw [cond4_iff]; omega
  unfold bodyPre bodyPost bodyAt0
  simp only [before_0, before_1, before_2, before_3, before_4, before_5, before_6, before_7]
  rw [show (dats m 0 c).owesAt () t.succ = (dats m 0 c).owesAt () t.castSucc from rfl, after_0, after_1, after_2, after_3, after_4, after_5, after_6, after_7]
  rw [show (dats m 0 c).Φ t.castSucc = carried m c t.val from rfl, show (dats m 0 c).Φ t.succ = carried m c (t.val + 1) from rfl]
  unfold carried
  iintro ⟨⟨⟨%dh, %dt, %I, HH, HT⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((runSlab c (grid0.coords t) _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) dh dt _ hc1 hc2 hc3 hc4).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [HH]; · iexact HH
  isplitl [HT]; · iexact HT
  iintro ⟨H0, H1, H2, H3, H4, H5, H6, H7, H8, HH, HT⟩
  isplitl [HH HT Hg]
  · isplitl [HH HT]
    · iexists dh; iexists _
      isplitr
      swap
      · isplitl [HH]; · iexact HH
        unfold owns; iexists _; isplitr
        swap; · iexact HT
        ipureintro; rfl
      ipureintro; rw [runSlab_list]; have hs := slab_step m c t dh dt I hn h15 scT (Memref.isWhole_whole _) hc1; rw [hp] at hs; exact hs
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexists _; iexact H8

/-- A point that normalises a chunk and projects a tile down. -/
theorem sound_both (c : Dev nD) (t : Fin cfg0.N) (hn : 11 ≤ t.val % 15) (h15 : 15 ≤ t.val) (h8 : t.val < 120) :
    bodyPre m c t ⊢ wp frame (wpE (defs₀ (F := F)) Variants.none c none) Set.univ (bodyAt0 t) (fun _ => bodyPost m c t (owns (c : Thread nD τ) (st0_8 t) fullShare ((dats m 0 c).after 8 t))) := by
  have hN : t.val < 135 := t.isLt
  have hp : pt t.val = t := pt_val t
  have hc1 : ¬ k0_cond1 (grid0.coords t) = 1#1 := by rw [cond1_iff]; omega
  have hc2 : k0_cond2 (grid0.coords t) = 1#1 := by rw [cond2_iff]; omega
  have hc3 : ¬ k0_cond3 (grid0.coords t) = 1#1 := by rw [cond3_iff]; omega
  have hc4 : ¬ k0_cond4 (grid0.coords t) = 1#1 := by rw [cond4_iff]; omega
  unfold bodyPre bodyPost bodyAt0
  simp only [before_0, before_1, before_2, before_3, before_4, before_5, before_6, before_7]
  rw [show (dats m 0 c).owesAt () t.succ = (dats m 0 c).owesAt () t.castSucc from rfl, after_0, after_1, after_2, after_3, after_4, after_5, after_6, after_7, after_8]
  rw [show (dats m 0 c).Φ t.castSucc = carried m c t.val from rfl, show (dats m 0 c).Φ t.succ = carried m c (t.val + 1) from rfl]
  unfold carried
  iintro ⟨⟨⟨%dh, %dt, %I, HH, HT⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((runBoth c (grid0.coords t) _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) dh dt hc1 hc2 hc3 hc4).2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [HH]; · iexact HH
  isplitl [HT]; · iexact HT
  iintro ⟨H0, H1, H2, H3, H4, H5, H6, H7, ⟨%e8, H8⟩, HH, HT⟩
  isplitl [HH HT Hg]
  · isplitl [HH HT]
    · iexists _; iexists dt
      isplitr
      swap
      · isplitl [HH]
        · unfold owns; iexists _; isplitr
          swap; · iexact HH
          ipureintro; rfl
        iexact HT
      ipureintro; rw [runBoth_list_h]; have hs := norm_step m c t.val dh dt I hn h8 scH (Memref.isWhole_whole _) _ (off9_eq t hn) (k0_off9_inb _ hc2); rw [hp] at hs; exact hs
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  unfold owns; iexists _; isplitr
  swap; · iexact H8
  ipureintro; rw [runBoth_list]; have hs := down_tile m c t.val dh dt I hn (by omega) hN (st0_8 t) e8; rw [hp] at hs; exact hs

/-- A point that only projects a tile down. -/
theorem sound_down (c : Dev nD) (t : Fin cfg0.N) (hn : 11 ≤ t.val % 15) (h8 : 120 ≤ t.val) :
    bodyPre m c t ⊢ wp frame (wpE (defs₀ (F := F)) Variants.none c none) Set.univ (bodyAt0 t) (fun _ => bodyPost m c t (owns (c : Thread nD τ) (st0_8 t) fullShare ((dats m 0 c).after 8 t))) := by
  have hN : t.val < 135 := t.isLt
  have hp : pt t.val = t := pt_val t
  have hc1 : ¬ k0_cond1 (grid0.coords t) = 1#1 := by rw [cond1_iff]; omega
  have hc2 : ¬ k0_cond2 (grid0.coords t) = 1#1 := by rw [cond2_iff]; omega
  have hc3 : ¬ k0_cond3 (grid0.coords t) = 1#1 := by rw [cond3_iff]; omega
  have hc4 : k0_cond4 (grid0.coords t) = 1#1 := by rw [cond4_iff]; omega
  unfold bodyPre bodyPost bodyAt0
  simp only [before_0, before_1, before_2, before_3, before_4, before_5, before_6, before_7]
  rw [show (dats m 0 c).owesAt () t.succ = (dats m 0 c).owesAt () t.castSucc from rfl, after_0, after_1, after_2, after_3, after_4, after_5, after_6, after_7, after_8]
  rw [show (dats m 0 c).Φ t.castSucc = carried m c t.val from rfl, show (dats m 0 c).Φ t.succ = carried m c (t.val + 1) from rfl]
  unfold carried
  iintro ⟨⟨⟨%dh, %dt, %I, HH, HT⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((runDown c (grid0.coords t) _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) dh dt hc1 hc2 hc3 hc4).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [HH]; · iexact HH
  isplitl [HT]; · iexact HT
  iintro ⟨H0, H1, H2, H3, H4, H5, H6, H7, ⟨%e8, H8⟩, HH, HT⟩
  isplitl [HH HT Hg]
  · isplitl [HH HT]
    · iexists dh; iexists dt
      isplitr; · ipureintro; exact I.down hn h8
      isplitl [HH]; · iexact HH
      iexact HT
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  unfold owns; iexists _; isplitr
  swap; · iexact H8
  ipureintro; rw [runDown_list]; have hs := down_tile m c t.val dh dt I hn (by omega) hN (st0_8 t) e8; rw [hp] at hs; exact hs

end Cert.Kernel2Ideal.Ffn

end
-- ==== Proof.FfnRun.lean ====
/- The whole feed-forward call, from what its body does at each grid point. -/
module

public import proofs.«01_k».proof.Proof.FfnBody

@[expose] public section

set_option maxRecDepth 16384

noncomputable section

namespace Cert.Kernel2Ideal.Ffn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal Cert.Kernel2Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem defs_row (t : Fin cfg0.N) :
    defs₀ (F := F) .tc cfg0.body (cfg0.bodyArgs t (cfg0.slots t)) = bodyAt0 t := by
  unfold defs₀; rw [Defs.onTc_tc]

/-- Where the body stores no output block, the output's buffer is left as found and not written back. -/
theorem idle_out : ∀ t : Fin cfg0.N, t.val < 15 ∨ t.val % 15 < 11 →
    cfg0.idle 8 (cfg0.grid.coords t) = true ∧ (cfg0.win 8).flush t = false := by decide +kernel
theorem live_out : ∀ t : Fin cfg0.N, 15 ≤ t.val → 11 ≤ t.val % 15 → cfg0.idle 8 (cfg0.grid.coords t) = false := by decide +kernel

/-- The inputs' buffers are never idle. -/
theorem live_in (i) : cfg0.idle 0 i = false := rfl

theorem body_obligation (c : Dev nD) : BodyObligation (dats (F := F) m 0 c) (defs₀ (F := F)) Variants.none () Set.univ := fun t => by
  rw [bigSep_W0, bigSep_W0, defs_row]
  rw [live_in (cfg0.grid.coords t)]
  by_cases h : 15 ≤ t.val ∧ 11 ≤ t.val % 15
  · have hi := live_out t h.1 h.2
    generalize cfg0.idle 8 (cfg0.grid.coords t) = b at hi ⊢
    subst hi
    by_cases h8 : t.val < 120
    · exact triple_restated (sound_both m c t h.2 h.1 h8) rfl .rfl fun _ => .rfl
    · exact triple_restated (sound_down m c t h.2 (by omega)) rfl .rfl fun _ => .rfl
  · obtain ⟨hi, hf⟩ := idle_out t (by omega)
    generalize cfg0.idle 8 (cfg0.grid.coords t) = b at hi ⊢
    generalize (cfg0.win 8).flush t = f at hf ⊢
    subst hi hf
    by_cases h15 : 15 ≤ t.val
    · exact triple_restated (sound_slab m c t (by omega) h15) rfl .rfl fun _ => .rfl
    · by_cases h11 : t.val % 15 < 11
      · exact triple_restated (sound_idle m c t h11 (by omega)) rfl .rfl fun _ => .rfl
      · exact triple_restated (sound_norm m c t (by omega) (by omega)) rfl .rfl fun _ => .rfl

/-! ## The call -/

set_option backward.isDefEq.respectTransparency.types false in
/-- The whole call terminates, every array at what the data say and every counter at zero. -/
theorem run_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

/-- What the arguments hold at the end: what they held. -/
theorem args_kept (r : PUnit × MemSt nD τ sig (Elt F)) (h : Pipeline.FramePost cfgs (dats m) 0 (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  ⟨((h c).1 1).trans (((dats m 0 c).arrAt_in 1 rfl _).trans ((A_eq m c 1).trans (V_main_arg0 m c))),
    ((h c).1 3).trans (((dats m 0 c).arrAt_in 3 rfl _).trans ((A_eq m c 3).trans (V_main_arg1 m c))),
    ((h c).1 4).trans (((dats m 0 c).arrAt_in 4 rfl _).trans ((A_eq m c 4).trans (V_main_arg2 m c))),
    ((h c).1 5).trans (((dats m 0 c).arrAt_in 5 rfl _).trans ((A_eq m c 5).trans (V_main_arg3 m c))),
    ((h c).1 6).trans (((dats m 0 c).arrAt_in 6 rfl _).trans ((A_eq m c 6).trans (V_main_arg4 m c))),
    ((h c).1 7).trans (((dats m 0 c).arrAt_in 7 rfl _).trans ((A_eq m c 7).trans (V_main_arg5 m c)))⟩

/-- So it leaves its arguments as it found them, and every counter at zero. -/
theorem frame_quiescent : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun r h => ⟨fun c => args_kept m r h.1 c, h.2⟩) (run_quiescent m ρ)

/-- Its result is the tiles it wrote back, and its arguments are as they were. -/
theorem run_value : θ_run defs (onTc (τ := τ) (main (F := F))) ⟨m, fun _ => 0, ρ⟩ (fun r => ∀ c : Dev nD,
      r.2.mem ((c.tc : Thread nD τ).loc main_v0) = (dats m 0 c).arrAt 8 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h.1 c).1 8, args_kept m r h.1 c⟩) (run_quiescent m ρ)

end Cert.Kernel2Ideal.Ffn

end
-- ==== Proof.FfnBits.lean ====
/- The feed-forward call at machine words runs as its idealization does: the two programs are the same text. -/
module

public import proofs.«01_k».proof.Proof.FfnRun
public import proofs.«01_k».proof.Defs
public import proofs.«01_k».proof.Proof.Gen.Kernel2
public import proofs.«01_k».proof.Proof.Gen.Kernel2.Frame

@[expose] public section

set_option maxRecDepth 16384

noncomputable section

namespace Cert.Kernel2.Ffn

open Idealize.ShloMosaic Idealize.ShloMosaic.TcCoe

variable {F : FTy → Type} [FloatOps F]

/-- The two programs run the same body. -/
theorem bodies_eq : Cert.Kernel2.defs₀ (F := F) = Cert.Kernel2Ideal.defs₀ (F := F) := by
  unfold Cert.Kernel2.defs₀ Cert.Kernel2Ideal.defs₀
  refine congrArg Defs.onTc (funext fun l => funext fun a => ?_)
  match l, a with
  | 0, (t, s) => rfl
  | ⟨_ + 1, h⟩, _ => exact absurd h (Nat.not_lt.2 (Nat.le_add_left _ _))

/-- The program terminates with its arguments unchanged and every counter at zero. -/
theorem quiescent_bits : Cert.quiescent_Kernel2 := fun m ρ _ => by
  show θ_run (Pipeline.defs (Cert.Kernel2.pcfgs (F := Bits)) (Cert.Kernel2.defs₀ (F := Bits))) _ _ _
  rw [bodies_eq]
  exact Cert.Kernel2Ideal.Ffn.frame_quiescent (F := Bits) m ρ
end Cert.Kernel2.Ffn

end
-- ==== Proof.FfnCell.lean ====
/- The feed-forward layer at one cell of its result, over the extended reals, as both programs compute it: the row
   normalised, scaled and shifted, the gated product of its two projections, and the projection back, scaled and added
   to the row. -/
module

public import Idealize.ShloMosaic.Lib.Pipeline.ValueKit

@[expose] public section
noncomputable section
namespace Cert.FfnCell
open Idealize.ShloMosaic

/-- The pattern of 2048, the length of a row. -/
abbrev len : EReal := Ideal.ofBits FTy.f32 1157627904#32
/-- The pattern of the small number added to the mean square of a row. -/
abbrev small : EReal := Ideal.ofBits FTy.f32 897988541#32

/-- A row divided by the root of its mean square, times the weights, scaled and shifted. -/
def normed (x g sc sh : Fin 2048 → EReal) (d : Fin 2048) : EReal :=
  x d * Ideal.rsqrt (Ideal.div (∑ e, x e * x e) len + small) * g d * (1 + sc d) + sh d

/-- The gated product of a row's projections on two columns. -/
def gated (h wg wu : Fin 2048 → EReal) : EReal :=
  (∑ d, h d * wg d) * Ideal.logistic (∑ d, h d * wg d) * ∑ d, h d * wu d

/-- One cell of the layer's result: the row's cell, and the gate times the projection back. -/
def cell (x g sc sh : Fin 2048 → EReal) (wg wu : Fin 2048 → Fin 5632 → EReal) (wd : Fin 5632 → EReal) (old gate : EReal) : EReal :=
  old + gate * ∑ e, gated (normed x g sc sh) (fun d => wg d e) (fun d => wu d e) * wd e

/-- A sum over eleven slabs of 512 is the sum over all of them. -/
theorem slabs (f : Fin 5632 → EReal) : ∑ k : Fin 11, ∑ e : Fin 512, f ⟨512 * k.val + e.val, by omega⟩ = ∑ e, f e := by
  rw [← Fintype.sum_prod_type' (f := fun (k : Fin 11) (e : Fin 512) => f ⟨512 * k.val + e.val, by omega⟩)]
  refine Fintype.sum_equiv (finProdFinEquiv (m := 11) (n := 512)) _ _ fun p => congrArg f (Fin.ext ?_)
  show 512 * p.1.val + p.2.val = p.2.val + 512 * p.1.val
  omega

/-- A sum of eleven, written out. -/
theorem eleven (f : Fin 11 → EReal) :
    ∑ k, f k = f 0 + f 1 + f 2 + f 3 + f 4 + f 5 + f 6 + f 7 + f 8 + f 9 + f 10 := by
  simp only [Fin.sum_univ_castSucc, Fin.sum_univ_zero, zero_add]
  rfl

end Cert.FfnCell
end
-- ==== Proof.FfnValue.lean ====
/- What the feed-forward kernel leaves in its result, cell by cell, over the extended reals. -/
module

public import proofs.«01_k».proof.Proof.FfnRun
public import proofs.«01_k».proof.Proof.FfnCell

@[expose] public section
set_option maxRecDepth 16384
noncomputable section
namespace Cert.Kernel2Ideal.Ffn
open Idealize.ShloMosaic Idealize.ShloMosaic.TcCoe Idealize.SL.Sem
open Cert.Kernel2Ideal Cert.Kernel2Ideal.Gen Cert.FfnCell

/-! ## The three pieces of arithmetic at an index -/

theorem normRows_at (x : Vec Ideal S256x2048 .f32) (md : Vec Ideal S1x1x6x2048 .f32) (g : Vec Ideal S1x1x2048 .f32) (r : Fin 256)
    (d : Fin 2048) : normRows x md g (ix3 0 r d) = normed (fun e => x (ix2 r e)) (fun e => g (ix3 0 0 e))
      (fun e => md (ix4 0 0 4 e)) (fun e => md (ix4 0 0 3 e)) d := by
  pointwise [normRows, k0_pay1]
  rfl

theorem gateUp_at (h : Vec Ideal S1x256x2048 .bf16) (wg wu : Vec Ideal S2048x512 .bf16) (r : Fin 256) (e : Fin 512) :
    gateUp h wg wu (ix3 0 r e) = gated (fun d => h (ix3 0 r d)) (fun d => wg (ix2 d e)) (fun d => wu (ix2 d e)) := by
  pointwise [gateUp, k0_pay2]
  rfl

theorem downRows_at (t : Fin 11 → Vec Ideal S1x256x512 .bf16) (w : Fin 11 → Vec Ideal S512x512 .bf16) (x : Vec Ideal S256x512 .f32)
    (g : Vec Ideal S1x1x1x512 .f32) (r : Fin 256) (e : Fin 512) : downRows t w x g (ix2 r e) =
      (x (ix2 r e) + g (ix4 0 0 0 e) * ∑ k : Fin 11, ∑ d : Fin 512, t k (ix3 0 r d) * w k (ix2 d e) : EReal) := by
  rw [eleven]
  pointwise [downRows, k0_pay25, k0_pay24, k0_pay23, k0_pay22]

/-! ## The blocks the kernel reads -/

theorem idxH : ∀ t : Fin cfg0.N, 11 ≤ t.val % 15 → t.val < 120 → win0_0.index t = ![4 * (t.val / 15) + (t.val % 15 - 11), 0] ∧
    win0_2.index t = ![3, 1 + t.val / 15 / 2, 0, 0] := (by decide +kernel : ∀ t : Fin grid0.N, _)
theorem idxG : ∀ t : Fin cfg0.N, win0_4.index t = ![3, 0, 0] := (by decide +kernel : ∀ t : Fin grid0.N, _)
theorem idxT : ∀ t : Fin cfg0.N, t.val % 15 < 11 → 15 ≤ t.val → win0_5.index t = ![0, t.val % 15] ∧ win0_6.index t = ![0, t.val % 15] :=
  (by decide +kernel : ∀ t : Fin grid0.N, _)
theorem idxY : ∀ t : Fin cfg0.N, 11 ≤ t.val % 15 → 15 ≤ t.val → win0_1.index t = ![t.val / 15 - 1, t.val % 15 - 11] ∧
    win0_3.index t = ![3, 1 + (t.val / 15 - 1) / 2, 0, t.val % 15 - 11] ∧ win0_7.index t = ![0, t.val % 15 - 11] ∧
    win0_8.index t = ![t.val / 15 - 1, t.val % 15 - 11] := (by decide +kernel : ∀ t : Fin grid0.N, _)

theorem lt135 (t : Fin cfg0.N) : t.val < 135 := t.isLt

variable (m : (ℓ : Loc nD τ sig) → Buf (Elt Ideal) ℓ)

theorem block0 (c : Dev nD) (t : Fin cfg0.N) (h1 : 11 ≤ t.val % 15) (h2 : t.val < 120) (r : Fin 256) (d : Fin 2048) :
    iblk m c 0 t (ix2 r d) = m (c.tc.loc main_arg0)
      (ix2 (⟨1024 * (t.val / 15) + 256 * (t.val % 15 - 11) + r.val, by omega⟩ : Fin 8192) d) := by
  have e := (idxH t h1 h2).1
  blk_point [iblk, V, e]

theorem block2 (c : Dev nD) (t : Fin cfg0.N) (h1 : 11 ≤ t.val % 15) (h2 : t.val < 120) (k : Fin 6) (d : Fin 2048) :
    iblk m c 2 t (ix4 0 0 k d) = m (c.tc.loc main_arg1) (ix4 3 (⟨1 + t.val / 15 / 2, by omega⟩ : Fin 8) k d) := by
  have e := (idxH t h1 h2).2
  blk_point [iblk, V, e]

theorem block4 (c : Dev nD) (t : Fin cfg0.N) (d : Fin 2048) :
    iblk m c 4 t (ix3 0 0 d) = m (c.tc.loc main_arg2) (ix3 3 0 d) := by
  blk_point [iblk, V, idxG t]

theorem block5 (c : Dev nD) (t : Fin cfg0.N) (h1 : t.val % 15 < 11) (h2 : 15 ≤ t.val) (d : Fin 2048) (e : Fin 512) :
    iblk m c 5 t (ix2 d e) = m (c.tc.loc main_arg3) (ix2 d (⟨512 * (t.val % 15) + e.val, by omega⟩ : Fin 5632)) := by
  have e := (idxT t h1 h2).1
  blk_point [iblk, V, e]

theorem block6 (c : Dev nD) (t : Fin cfg0.N) (h1 : t.val % 15 < 11) (h2 : 15 ≤ t.val) (d : Fin 2048) (e : Fin 512) :
    iblk m c 6 t (ix2 d e) = m (c.tc.loc main_arg4) (ix2 d (⟨512 * (t.val % 15) + e.val, by omega⟩ : Fin 5632)) := by
  have e := (idxT t h1 h2).2
  blk_point [iblk, V, e]

theorem block1 (c : Dev nD) (t : Fin cfg0.N) (h1 : 11 ≤ t.val % 15) (h2 : 15 ≤ t.val) (r : Fin 1024) (e : Fin 512) :
    iblk m c 1 t (ix2 r e) = m (c.tc.loc main_arg0) (ix2 (⟨1024 * (t.val / 15 - 1) + r.val, by have := lt135 t; omega⟩ : Fin 8192)
      (⟨512 * (t.val % 15 - 11) + e.val, by omega⟩ : Fin 2048)) := by
  have e := (idxY t h1 h2).1
  blk_point [iblk, V, e]

theorem block3 (c : Dev nD) (t : Fin cfg0.N) (h1 : 11 ≤ t.val % 15) (h2 : 15 ≤ t.val) (k : Fin 6) (e : Fin 512) :
    iblk m c 3 t (ix4 0 0 k e) = m (c.tc.loc main_arg1) (ix4 3 (⟨1 + (t.val / 15 - 1) / 2, by have := lt135 t; omega⟩ : Fin 8) k
      (⟨512 * (t.val % 15 - 11) + e.val, by omega⟩ : Fin 2048)) := by
  have e := (idxY t h1 h2).2.1
  blk_point [iblk, V, e]

theorem block7 (c : Dev nD) (t : Fin cfg0.N) (h1 : 11 ≤ t.val % 15) (h2 : 15 ≤ t.val) (d : Fin 5632) (e : Fin 512) :
    iblk m c 7 t (ix2 d e) = m (c.tc.loc main_arg5) (ix2 d (⟨512 * (t.val % 15 - 11) + e.val, by omega⟩ : Fin 2048)) := by
  have e := (idxY t h1 h2).2.2.1
  blk_point [iblk, V, e]

/-! ## The chunks, the slabs and the tile -/

variable (c : Dev nD)

/-- Row `r` of the rows, of the shifts and scales of its batch, and the weights of the norm, as the layer reads them. -/
abbrev rowOf (r : Fin 8192) : Fin 2048 → EReal := fun d => m (c.tc.loc main_arg0) (ix2 r d)
abbrev modOf (r : Fin 8192) (k : Fin 6) : Fin 2048 → EReal := fun d => m (c.tc.loc main_arg1) (ix4 3 (⟨1 + r.val / 2048, by omega⟩ : Fin 8) k d)
abbrev normOf : Fin 2048 → EReal := fun d => m (c.tc.loc main_arg2) (ix3 3 0 d)
abbrev gateW : Fin 2048 → Fin 5632 → EReal := fun d e => m (c.tc.loc main_arg3) (ix2 d e)
abbrev upW : Fin 2048 → Fin 5632 → EReal := fun d e => m (c.tc.loc main_arg4) (ix2 d e)
abbrev downW (d : Fin 2048) : Fin 5632 → EReal := fun e => m (c.tc.loc main_arg5) (ix2 e d)

/-- The normalised row `r`. -/
abbrev normedOf (r : Fin 8192) : Fin 2048 → EReal := normed (rowOf m c r) (normOf m c) (modOf m c r 4) (modOf m c r 3)

/-- The layer's result at row `r`, column `d`. -/
abbrev cellOf (r : Fin 8192) (d : Fin 2048) : EReal :=
  cell (rowOf m c r) (normOf m c) (modOf m c r 4) (modOf m c r 3) (gateW m c) (upW m c) (downW m c d) (rowOf m c r d) (modOf m c r 5 d)

/-- The piece of the shifts and scales that starts at row `k`, at an index. -/
theorem ld_row (md : Vec Ideal S1x1x6x2048 .f32) (k : Fin 6) (h) (d : Fin 2048) :
    View.ld md (Rect.unit ![0, 0, k.val, 0] S1x1x1x2048.size h) (ix4 0 0 0 d) = md (ix4 0 0 k d) := by
  pointwise []

theorem hBlk_at (t : Fin cfg0.N) (h1 : 11 ≤ t.val % 15) (h2 : t.val < 120) (r : Fin 256) (d : Fin 2048) :
    hBlk m c t.val (ix3 0 r d) = normedOf m c ⟨1024 * (t.val / 15) + 256 * (t.val % 15 - 11) + r.val, by omega⟩ d := by
  unfold hBlk
  rw [pt_val, normRows_at]
  simp only [block0 m c t h1 h2, block2 m c t h1 h2, block4 m c t]
  have hb : t.val / 15 / 2 = (1024 * (t.val / 15) + 256 * (t.val % 15 - 11) + r.val) / 2048 := by omega
  simp only [normedOf, modOf, rowOf, normOf, hb]

theorem tBlk_at (t : Fin cfg0.N) (h1 : t.val % 15 < 11) (h2 : 15 ≤ t.val) (r : Fin 4) (i : Fin 256) (e : Fin 512) (row : Fin 8192)
    (hr : row.val = 1024 * (t.val / 15 - 1) + 256 * r.val + i.val) (col : Fin 5632) (hc : col.val = 512 * (t.val % 15) + e.val) :
    tBlk m c t.val r (ix3 0 i e) = gated (normedOf m c row) (fun d => gateW m c d col) (fun d => upW m c d col) := by
  have hN := lt135 t
  have hs : ∃ s : Fin cfg0.N, s.val = 15 * (t.val / 15 - 1) + 11 + r.val := ⟨⟨_, by show _ < 135; omega⟩, rfl⟩
  obtain ⟨s, hs⟩ := hs
  unfold tBlk
  rw [← hs, pt_val, gateUp_at]
  have hrow : (⟨1024 * (s.val / 15) + 256 * (s.val % 15 - 11) + i.val, by omega⟩ : Fin 8192) = row := Fin.ext (by simp only [hr]; omega)
  have hcol : (⟨512 * (t.val % 15) + e.val, by omega⟩ : Fin 5632) = col := Fin.ext hc.symm
  simp only [hBlk_at m c s (by omega) (by omega), block5 m c t h1 h2, block6 m c t h1 h2, hrow, hcol]

/-- The piece of 512 rows of a weight tile that starts at row `512 k`, at an index. -/
theorem ld_slab (w : Vec Ideal S5632x512 .bf16) (k : Fin 11) (h) (d e : Fin 512) :
    View.ld w (Rect.unit ![512 * k.val, 0] S512x512.size h) (ix2 d e) = w (ix2 (⟨512 * k.val + d.val, by omega⟩ : Fin 5632) e) := by
  pointwise []

/-- The piece of 256 rows of a tile that starts at row `256 r`, at an index. -/
theorem ld_quarter (w : Vec Ideal S1024x512 .f32) (r : Fin 4) (h) (i : Fin 256) (e : Fin 512) :
    View.ld w (Rect.unit ![256 * r.val, 0] S256x512.size h) (ix2 i e) = w (ix2 (⟨256 * r.val + i.val, by omega⟩ : Fin 1024) e) := by
  pointwise []

/-- Row five of the shifts and scales, the gate of the layer, at an index. -/
theorem ld_gate (md : Vec Ideal S1x1x6x512 .f32) (h) (e : Fin 512) :
    View.ld md (Rect.unit ![0, 0, 5, 0] S1x1x1x512.size h) (ix4 0 0 0 e) = md (ix4 0 0 5 e) := by
  pointwise []

theorem yBlk_at (t : Fin cfg0.N) (h1 : 11 ≤ t.val % 15) (h2 : 15 ≤ t.val) (r : Fin 4) (i : Fin 256) (e : Fin 512) (row : Fin 8192)
    (hr : row.val = 1024 * (t.val / 15 - 1) + (256 * r.val + i.val)) (col : Fin 2048) (hc : col.val = 512 * (t.val % 15 - 11) + e.val) :
    yBlk m c t.val r (ix2 i e) = cellOf m c row col := by
  have hN := lt135 t
  unfold yBlk
  rw [pt_val, downRows_at]
  have ht : ∀ (k : Fin 11) (d : Fin 512), tBlk m c (15 * (t.val / 15) + k.val) r (ix3 0 i d) =
      gated (normedOf m c row) (fun x => gateW m c x ⟨512 * k.val + d.val, by omega⟩) (fun x => upW m c x ⟨512 * k.val + d.val, by omega⟩) := by
    intro k d
    exact tBlk_at m c (⟨15 * (t.val / 15) + k.val, by show _ < 135; omega⟩ : Fin cfg0.N) (by show (15 * (t.val / 15) + k.val) % 15 < 11; omega)
      (by show 15 ≤ 15 * (t.val / 15) + k.val; omega) r i d row
      (by show row.val = 1024 * ((15 * (t.val / 15) + k.val) / 15 - 1) + 256 * r.val + i.val; omega) _
      (by show 512 * k.val + d.val = 512 * ((15 * (t.val / 15) + k.val) % 15) + d.val; omega)
  have hb : 1 + (t.val / 15 - 1) / 2 = 1 + row.val / 2048 := by omega
  have hrow : (⟨1024 * (t.val / 15 - 1) + (256 * r.val + i.val), by omega⟩ : Fin 8192) = row := Fin.ext hr.symm
  have hcol : (⟨512 * (t.val % 15 - 11) + e.val, by omega⟩ : Fin 2048) = col := Fin.ext hc.symm
  have hx : View.ld (iblk m c 1 t) (Rect.unit ![256 * r.val, 0] S256x512.size (inbX r)) (ix2 i e) = rowOf m c row col := by
    rw [ld_quarter, block1 m c t h1 h2, ← hrow, ← hcol]
  have hg : View.ld (iblk m c 3 t) (Rect.unit ![0, 0, 5, 0] S1x1x1x512.size inb_S1x1x6x512_S1x1x1x512_0_0_5_0) (ix4 0 0 0 e) =
      modOf m c row 5 col := by
    rw [ld_gate, block3 m c t h1 h2]
    simp only [modOf, hb, hcol]
  have hw : ∀ (k : Fin 11) (d : Fin 512), View.ld (iblk m c 7 t) (Rect.unit ![512 * k.val, 0] S512x512.size (inbW k)) (ix2 d e) =
      downW m c col ⟨512 * k.val + d.val, by omega⟩ := by
    intro k d
    rw [ld_slab, block7 m c t h1 h2, hcol]
  rw [hx, hg]
  refine congrArg (fun s => rowOf m c row col + modOf m c row 5 col * s) (Eq.trans ?_
    (slabs (fun x => gated (normedOf m c row) (fun d => gateW m c d x) (fun d => upW m c d x) * downW m c col x)))
  exact Finset.sum_congr rfl fun k _ => Finset.sum_congr rfl fun d _ => congrArg₂ (· * ·) (ht k d) (hw k d)

/-! ## The array -/

theorem flush_lt : ∀ t : Fin cfg0.N, (cfg0.win 8).flush t = true → 11 ≤ t.val % 15 ∧ 15 ≤ t.val :=
  (by decide +kernel : ∀ t : Fin grid0.N, _)

/-- The result of the kernel. -/
theorem arr : (dats m 0 c).arrAt 8 cfg0.N = (fun y => cellOf m c (y 0) (y 1) : Vec Ideal S8192x2048 .f32) := by
  refine (dats m 0 c).arrAt_eq_of_covers 8 _ (by decide +kernel) fun t hf y => ?_
  obtain ⟨h1, h2⟩ := flush_lt t hf
  have i8 := (idxY t h1 h2).2.2.2
  blk_simp
  rw [after_8]
  have z0 : ((win0_8.blk t).view.emb y 0).1 = (t.val / 15 - 1) * 1024 + (y 0).1 := by blk_point [i8]
  have z1 : ((win0_8.blk t).view.emb y 1).1 = (t.val % 15 - 11) * 512 + (y 1).1 := by blk_point [i8]
  show yBlk m c t.val (rowBlk y) (rowIn y) = _
  refine yBlk_at m c t h1 h2 (rowBlk y) ⟨(y 0).val % 256, by omega⟩ (y 1) _ ?_ _ (z1.trans (by omega))
  rw [z0]
  show _ = 1024 * (t.val / 15 - 1) + (256 * ((y 0).val / 256) + (y 0).val % 256)
  omega

end Cert.Kernel2Ideal.Ffn
end
-- ==== Proof.RefFfn.lean ====
/- The reference of the feed-forward layer at an index: every stage of its term at an index, and their composition. -/
module

public import proofs.«01_k».proof.Proof.Gen.Reference2Ideal.Run
public import proofs.«01_k».proof.Proof.FfnCell

@[expose] public section
set_option maxRecDepth 16384
noncomputable section
namespace Cert.Reference2Ideal.Value
open Idealize.ShloMosaic Idealize.ShloMosaic.TcCoe Idealize.SL.Sem
open Cert.Reference2Ideal Cert.Reference2Ideal.Gen Cert.FfnCell

/-- The rows by batch. -/
def rows (x : FVec Ideal S8192x2048 .f32) : FVec Ideal S4x2048x2048 .f32 := shapeCast _ x shapeCasts_S8192x2048_S4x2048x2048

theorem rows_at (x : FVec Ideal S8192x2048 .f32) (b : Fin 4) (r d : Fin 2048) :
    rows x (ix3 b r d) = x (ix2 (⟨b.1 * 2048 + r.1, by omega⟩ : Fin 8192) d) := by
  pointwise [rows]

/-- The layer's shifts, scales and gates of the four batches. -/
def mods (a : FVec Ideal S4x8x6x2048 .f32) : FVec Ideal S4x6x2048 .f32 :=
  shapeCast _ (extractStridedSlice S1x4x6x2048 ![3, 1, 0, 0] a slices_S4x8x6x2048_S1x4x6x2048_3_1_0_0) shapeCasts_S1x4x6x2048_S4x6x2048

theorem mods_at (a : FVec Ideal S4x8x6x2048 .f32) (b : Fin 4) (k : Fin 6) (d : Fin 2048) :
    mods a (ix3 b k d) = a (ix4 3 (⟨1 + b.1, by omega⟩ : Fin 8) k d) := by
  pointwise [mods]

/-- The root mean square of each row, inverted. -/
def scale (x : FVec Ideal S4x2048x2048 .f32) : FVec Ideal S4x2048x1 .f32 :=
  Host.rsqrt (addf (Host.divf (broadcastInDim S4x2048x1 ![0, 1] bcast_S4x2048_S4x2048x1_0_1
    (Host.reduceAdd (mulf x x) (constant S_ .f32 0x00000000#32) reducesTo_S4x2048x2048_S4x2048_d2 h_S_))
    (broadcastInDim S4x2048x1 ![] bcast_S_S4x2048x1 (constant S_ .f32 0x45000000#32)))
    (broadcastInDim S4x2048x1 ![] bcast_S_S4x2048x1 (constant S_ .f32 0x358637BD#32)))

theorem scale_at (x : FVec Ideal S4x2048x2048 .f32) (b : Fin 4) (r : Fin 2048) :
    scale x (ix3 b r 0) = Ideal.rsqrt (Ideal.div (∑ e : Fin 2048, x (ix3 b r e) * x (ix3 b r e)) len + small) := by
  pointwise [scale]

/-- The rows times one number each, times the weights, scaled and shifted. -/
def shifted (x : FVec Ideal S4x2048x2048 .f32) (s : FVec Ideal S4x2048x1 .f32) (md : FVec Ideal S4x6x2048 .f32)
    (g : FVec Ideal S4x1x2048 .f32) : FVec Ideal S4x2048x2048 .f32 :=
  addf (mulf (mulf (mulf x (broadcastInDim S4x2048x2048 ![0, 1, 2] bcast_S4x2048x1_S4x2048x2048_0_1_2 s))
    (broadcastInDim S4x2048x2048 ![0, 1, 2] bcast_S1x1x2048_S4x2048x2048_0_1_2 (broadcastInDim S1x1x2048 ![2] bcast_S2048_S1x1x2048_2
      (shapeCast _ (extractStridedSlice S1x1x2048 ![3, 0, 0] g slices_S4x1x2048_S1x1x2048_3_0_0) shapeCasts_S1x1x2048_S2048))))
    (broadcastInDim S4x2048x2048 ![0, 1, 2] bcast_S4x1x2048_S4x2048x2048_0_1_2 (addf
      (broadcastInDim S4x1x2048 ![] bcast_S_S4x1x2048 (constant S_ .f32 0x3F800000#32))
      (extractStridedSlice S4x1x2048 ![0, 4, 0] md slices_S4x6x2048_S4x1x2048_0_4_0))))
    (broadcastInDim S4x2048x2048 ![0, 1, 2] bcast_S4x1x2048_S4x2048x2048_0_1_2
      (extractStridedSlice S4x1x2048 ![0, 3, 0] md slices_S4x6x2048_S4x1x2048_0_3_0))

theorem shifted_at (x : FVec Ideal S4x2048x2048 .f32) (s : FVec Ideal S4x2048x1 .f32) (md : FVec Ideal S4x6x2048 .f32)
    (g : FVec Ideal S4x1x2048 .f32) (b : Fin 4) (r d : Fin 2048) : shifted x s md g (ix3 b r d) =
      (x (ix3 b r d) * s (ix3 b r 0) * g (ix3 3 0 d) * (1 + md (ix3 b 4 d)) + md (ix3 b 3 d) : EReal) := by
  pointwise [shifted]

/-- The projection of the rows on the wide columns. -/
def proj (h : FVec Ideal S4x2048x2048 .f32) (w : FVec Ideal S2048x5632 .bf16) : FVec Ideal S4x2048x5632 .f32 :=
  Host.dotGeneral dot_S4x2048x2048_S2048x5632_S4x2048x5632_2_0_01_1_n_n none h (extf .f32 w bitsLt_bf16_f32)

theorem proj_at (h : FVec Ideal S4x2048x2048 .f32) (w : FVec Ideal S2048x5632 .bf16) (b : Fin 4) (r : Fin 2048) (e : Fin 5632) :
    proj h w (ix3 b r e) = (∑ d : Fin 2048, h (ix3 b r d) * w (ix2 d e) : EReal) := by
  pointwise [proj]

/-- The gated product of the two projections. -/
def act (p u : FVec Ideal S4x2048x5632 .f32) : FVec Ideal S4x2048x5632 .f32 :=
  mulf (mulf p (Host.divf (broadcastInDim S4x2048x5632 ![] bcast_S_S4x2048x5632 (constant S_ .f32 0x3F800000#32))
    (addf (broadcastInDim S4x2048x5632 ![] bcast_S_S4x2048x5632 (constant S_ .f32 0x3F800000#32)) (Host.exp (Host.negf p))))) u

theorem act_at (p u : FVec Ideal S4x2048x5632 .f32) (b : Fin 4) (r : Fin 2048) (e : Fin 5632) : act p u (ix3 b r e) =
    (p (ix3 b r e) * Ideal.logistic (p (ix3 b r e)) * u (ix3 b r e) : EReal) := by
  unfold Ideal.logistic
  pointwise [act]

/-- The rows plus the gate times the projection back. -/
def back (x : FVec Ideal S4x2048x2048 .f32) (md : FVec Ideal S4x6x2048 .f32) (a : FVec Ideal S4x2048x5632 .f32)
    (w : FVec Ideal S5632x2048 .bf16) : FVec Ideal S4x2048x2048 .f32 :=
  addf x (mulf (broadcastInDim S4x2048x2048 ![0, 1, 2] bcast_S4x1x2048_S4x2048x2048_0_1_2
    (extractStridedSlice S4x1x2048 ![0, 5, 0] md slices_S4x6x2048_S4x1x2048_0_5_0))
    (Host.dotGeneral dot_S4x2048x5632_S5632x2048_S4x2048x2048_2_0_01_1_n_n none a (extf .f32 w bitsLt_bf16_f32)))

theorem back_at (x : FVec Ideal S4x2048x2048 .f32) (md : FVec Ideal S4x6x2048 .f32) (a : FVec Ideal S4x2048x5632 .f32)
    (w : FVec Ideal S5632x2048 .bf16) (b : Fin 4) (r d : Fin 2048) : back x md a w (ix3 b r d) =
      (x (ix3 b r d) + md (ix3 b 5 d) * ∑ e : Fin 5632, a (ix3 b r e) * w (ix2 e d) : EReal) := by
  pointwise [back]

/-- The rows of the batches one after another. -/
def flat (x : FVec Ideal S4x2048x2048 .f32) : FVec Ideal S8192x2048 .f32 := shapeCast _ x shapeCasts_S4x2048x2048_S8192x2048

theorem flat_at (x : FVec Ideal S4x2048x2048 .f32) (r : Fin 8192) (d : Fin 2048) :
    flat x (ix2 r d) = x (ix3 (⟨r.1 / 2048, by omega⟩ : Fin 4) (⟨r.1 % 2048, by omega⟩ : Fin 2048) d) := by
  pointwise [flat]

/-- The normalised rows. -/
def hidden (x : FVec Ideal S8192x2048 .f32) (md : FVec Ideal S4x8x6x2048 .f32) (g : FVec Ideal S4x1x2048 .f32) :
    FVec Ideal S4x2048x2048 .f32 := shifted (rows x) (scale (rows x)) (mods md) g

theorem hidden_at (x : FVec Ideal S8192x2048 .f32) (md : FVec Ideal S4x8x6x2048 .f32) (g : FVec Ideal S4x1x2048 .f32) (r : Fin 8192)
    (d : Fin 2048) : hidden x md g (ix3 (⟨r.1 / 2048, by omega⟩ : Fin 4) (⟨r.1 % 2048, by omega⟩ : Fin 2048) d) =
      normed (fun e => x (ix2 r e)) (fun e => g (ix3 3 0 e)) (fun e => md (ix4 3 (⟨1 + r.1 / 2048, by omega⟩ : Fin 8) 4 e))
        (fun e => md (ix4 3 (⟨1 + r.1 / 2048, by omega⟩ : Fin 8) 3 e)) d := by
  rw [hidden, shifted_at, scale_at]
  have e : (⟨r.1 / 2048 * 2048 + r.1 % 2048, by omega⟩ : Fin 8192) = r := Fin.ext (by show r.1 / 2048 * 2048 + r.1 % 2048 = r.1; omega)
  simp only [rows_at, mods_at, e, normed]

variable (m : (ℓ : Loc nD τ sig) → Buf (Elt Ideal) ℓ)

theorem res_eq (c : Dev nD) : res_out0 m c = flat (back (rows (m (c.tc.loc main_arg0))) (mods (m (c.tc.loc main_arg1)))
    (act (proj (hidden (m (c.tc.loc main_arg0)) (m (c.tc.loc main_arg1)) (m (c.tc.loc main_arg2))) (m (c.tc.loc main_arg3)))
      (proj (hidden (m (c.tc.loc main_arg0)) (m (c.tc.loc main_arg1)) (m (c.tc.loc main_arg2))) (m (c.tc.loc main_arg4))))
    (m (c.tc.loc main_arg5))) := by
  unfold res_out0 res_main_v38 flat back act proj hidden shifted scale mods rows
  rfl

/-- The reference at an index. -/
theorem res_at (c : Dev nD) (r : Fin 8192) (d : Fin 2048) : res_out0 m c (ix2 r d) =
    cell (fun e => m (c.tc.loc main_arg0) (ix2 r e)) (fun e => m (c.tc.loc main_arg2) (ix3 3 0 e))
      (fun e => m (c.tc.loc main_arg1) (ix4 3 (⟨1 + r.1 / 2048, by omega⟩ : Fin 8) 4 e))
      (fun e => m (c.tc.loc main_arg1) (ix4 3 (⟨1 + r.1 / 2048, by omega⟩ : Fin 8) 3 e))
      (fun x e => m (c.tc.loc main_arg3) (ix2 x e)) (fun x e => m (c.tc.loc main_arg4) (ix2 x e))
      (fun e => m (c.tc.loc main_arg5) (ix2 e d)) (m (c.tc.loc main_arg0) (ix2 r d))
      (m (c.tc.loc main_arg1) (ix4 3 (⟨1 + r.1 / 2048, by omega⟩ : Fin 8) 5 d)) := by
  rw [res_eq, flat_at, back_at]
  have e : (⟨r.1 / 2048 * 2048 + r.1 % 2048, by omega⟩ : Fin 8192) = r := Fin.ext (by show r.1 / 2048 * 2048 + r.1 % 2048 = r.1; omega)
  simp only [rows_at, mods_at, act_at, proj_at, hidden_at, e, cell, gated]

end Cert.Reference2Ideal.Value
end
-- ==== Proof.TieFfn.lean ====
/- The feed-forward kernel's result is the reference's, cell by cell. -/
module

public import proofs.«01_k».proof.Proof.FfnValue
public import proofs.«01_k».proof.Proof.RefFfn

@[expose] public section
noncomputable section
namespace Cert.TieFfn
open Idealize.ShloMosaic Idealize.ShloMosaic.TcCoe Idealize.SL.Sem

/-- The two results are one, for memories that agree on the arguments. -/
theorem tie (m : (ℓ : Loc Cert.Kernel2Ideal.nD Cert.Kernel2Ideal.τ Cert.Kernel2Ideal.sig) → Buf (Elt Ideal) ℓ)
    (m' : (ℓ : Loc Cert.Reference2Ideal.nD Cert.Reference2Ideal.τ Cert.Reference2Ideal.sig) → Buf (Elt Ideal) ℓ)
    (c : Dev Cert.Kernel2Ideal.nD)
    (a0 : m' (c.tc.loc Cert.Reference2Ideal.main_arg0) = m (c.tc.loc Cert.Kernel2Ideal.main_arg0))
    (a1 : m' (c.tc.loc Cert.Reference2Ideal.main_arg1) = m (c.tc.loc Cert.Kernel2Ideal.main_arg1))
    (a2 : m' (c.tc.loc Cert.Reference2Ideal.main_arg2) = m (c.tc.loc Cert.Kernel2Ideal.main_arg2))
    (a3 : m' (c.tc.loc Cert.Reference2Ideal.main_arg3) = m (c.tc.loc Cert.Kernel2Ideal.main_arg3))
    (a4 : m' (c.tc.loc Cert.Reference2Ideal.main_arg4) = m (c.tc.loc Cert.Kernel2Ideal.main_arg4))
    (a5 : m' (c.tc.loc Cert.Reference2Ideal.main_arg5) = m (c.tc.loc Cert.Kernel2Ideal.main_arg5)) :
    Cert.Reference2Ideal.Value.res_out0 m' c = (Cert.Kernel2Ideal.Ffn.dats m 0 c).arrAt 8 Cert.Kernel2Ideal.cfg0.N := by
  rw [Cert.Kernel2Ideal.Ffn.arr]
  funext y
  obtain ⟨r, d, rfl⟩ : ∃ (r : Fin 8192) (d : Fin 2048), y = ix2 r d := ⟨y 0, y 1, by funext a; fin_cases a <;> rfl⟩
  refine (Cert.Reference2Ideal.Value.res_at m' c r d).trans ?_
  rw [a0, a1, a2, a3, a4, a5]
  rfl

end Cert.TieFfn
end
-- ==== Proof.Outproj.lean ====
/- The output projection of a layer: what the kernel leaves and what the reference computes, cell by cell, and that they
   are one. -/
module

public import proofs.«01_k».proof.Proof.Gen.Kernel3Ideal.Value
public import proofs.«01_k».proof.Proof.Gen.Reference3Ideal.Run
public import Idealize.ShloMosaic.Lib.Pipeline.ValueKit

@[expose] public section
set_option maxRecDepth 16384
noncomputable section
namespace Cert.Outproj
open Idealize.ShloMosaic Idealize.ShloMosaic.TcCoe Idealize.SL.Sem

/-- One cell of the result: the row's cell, and the gate times the products of the two halves of the mixed heads. -/
def cell (a b w v : Fin 1024 → EReal) (old gate : EReal) : EReal := old + gate * (∑ d, a d * w d + ∑ d, b d * v d)

/-! ## The kernel -/

namespace K
open Cert.Kernel3Ideal Cert.Kernel3Ideal.Gen

/-- What the body leaves of its blocks. -/
def tile (x0 : Vec Ideal S512x2048 .f32) (x1 x2 : Vec Ideal S512x1024 .bf16) (x3 : Vec Ideal S1x1x6x2048 .f32)
    (x4 : Vec Ideal S2048x2048 .bf16) : Vec Ideal S512x2048 .f32 := fun y =>
  cell (fun d => x1 (ix2 (y 0) d)) (fun d => x2 (ix2 (y 0) d)) (fun d => x4 (ix2 (⟨d.1, by omega⟩ : Fin 2048) (y 1)))
    (fun d => x4 (ix2 (⟨1024 + d.1, by omega⟩ : Fin 2048) (y 1))) (x0 (ix2 (y 0) (y 1))) (x3 (ix4 0 0 2 (y 1)))

theorem out_eq (x0 : Vec Ideal S512x2048 .f32) (x1 x2 : Vec Ideal S512x1024 .bf16) (x3 : Vec Ideal S1x1x6x2048 .f32)
    (x4 : Vec Ideal S2048x2048 .bf16) : out0_5 x0 x1 x2 x3 x4 = tile x0 x1 x2 x3 x4 := by
  unfold out0_5
  refine (View.canon_unit_zero (by funext a; fin_cases a <;> rfl) _ _).trans ?_
  funext y
  obtain ⟨r, e, rfl⟩ : ∃ (r : Fin 512) (e : Fin 2048), y = ix2 r e := ⟨y 0, y 1, by funext a; fin_cases a <;> rfl⟩
  pointwise [k0_pay1]
  rfl

theorem idx : ∀ t : Fin cfg0.N, win0_0.index t = ![t.val, 0] ∧ win0_1.index t = ![t.val, 0] ∧ win0_2.index t = ![t.val, 0] ∧
    win0_3.index t = ![1, 1 + t.val / 4, 0, 0] ∧ win0_4.index t = ![0, 0] ∧ win0_5.index t = ![t.val, 0] :=
  (by decide +kernel : ∀ t : Fin grid0.N, _)

theorem lt16 (t : Fin cfg0.N) : t.val < 16 := t.isLt

variable (m : (ℓ : Loc nD τ sig) → Buf (Elt Ideal) ℓ) (c : Dev nD)

theorem block0 (t : Fin cfg0.N) (r : Fin 512) (d : Fin 2048) : iblk m c 0 t (ix2 r d) =
    m (c.tc.loc main_arg0) (ix2 (⟨512 * t.val + r.val, by have := lt16 t; omega⟩ : Fin 8192) d) := by
  blk_point [iblk, V, idx t]

theorem block1 (t : Fin cfg0.N) (r : Fin 512) (d : Fin 1024) : iblk m c 1 t (ix2 r d) =
    m (c.tc.loc main_arg1) (ix2 (⟨512 * t.val + r.val, by have := lt16 t; omega⟩ : Fin 8192) d) := by
  blk_point [iblk, V, idx t]

theorem block2 (t : Fin cfg0.N) (r : Fin 512) (d : Fin 1024) : iblk m c 2 t (ix2 r d) =
    m (c.tc.loc main_arg2) (ix2 (⟨512 * t.val + r.val, by have := lt16 t; omega⟩ : Fin 8192) d) := by
  blk_point [iblk, V, idx t]

theorem block3 (t : Fin cfg0.N) (k : Fin 6) (d : Fin 2048) : iblk m c 3 t (ix4 0 0 k d) =
    m (c.tc.loc main_arg3) (ix4 1 (⟨1 + t.val / 4, by have := lt16 t; omega⟩ : Fin 8) k d) := by
  blk_point [iblk, V, idx t]

theorem block4 (t : Fin cfg0.N) (d e : Fin 2048) : iblk m c 4 t (ix2 d e) = m (c.tc.loc main_arg4) (ix2 d e) := by
  blk_point [iblk, V, idx t]

/-- The result at row `r`, column `e`. -/
abbrev cellOf (r : Fin 8192) (e : Fin 2048) : EReal :=
  cell (fun d => m (c.tc.loc main_arg1) (ix2 r d)) (fun d => m (c.tc.loc main_arg2) (ix2 r d))
    (fun d => m (c.tc.loc main_arg4) (ix2 (⟨d.1, by omega⟩ : Fin 2048) e))
    (fun d => m (c.tc.loc main_arg4) (ix2 (⟨1024 + d.1, by omega⟩ : Fin 2048) e)) (m (c.tc.loc main_arg0) (ix2 r e))
    (m (c.tc.loc main_arg3) (ix4 1 (⟨1 + r.1 / 2048, by omega⟩ : Fin 8) 2 e))

theorem tile_at (t : Fin cfg0.N) (r : Fin 512) (e : Fin 2048) (row : Fin 8192) (hr : row.val = t.val * 512 + r.val) :
    tile (iblk m c 0 t) (iblk m c 1 t) (iblk m c 2 t) (iblk m c 3 t) (iblk m c 4 t) (ix2 r e) = cellOf m c row e := by
  have hrow : (⟨512 * t.val + r.val, by have := lt16 t; omega⟩ : Fin 8192) = row := Fin.ext (by show 512 * t.val + r.val = row.val; omega)
  have hb : (⟨1 + t.val / 4, by have := lt16 t; omega⟩ : Fin 8) = ⟨1 + row.1 / 2048, by omega⟩ :=
    Fin.ext (by show 1 + t.val / 4 = 1 + row.val / 2048; omega)
  show cell (fun d => iblk m c 1 t (ix2 r d)) (fun d => iblk m c 2 t (ix2 r d)) (fun d => iblk m c 4 t (ix2 _ e))
    (fun d => iblk m c 4 t (ix2 _ e)) (iblk m c 0 t (ix2 r e)) (iblk m c 3 t (ix4 0 0 2 e)) = _
  simp only [block0, block1, block2, block3, block4, hrow, hb]

/-- The array the kernel leaves. -/
theorem arr : (dats m 0 c).arrAt 5 cfg0.N = fun y => cellOf m c (y 0) (y 1) := by
  refine (dats m 0 c).arrAt_eq_of_covers 5 _ (by decide +kernel) fun t hf y => ?_
  blk_simp
  rw [after0_5, out_eq]
  have z0 : ((win0_5.blk t).view.emb y 0).1 = t.val * 512 + (y 0).1 := by blk_point [idx t]
  have z1 : ((win0_5.blk t).view.emb y 1).1 = (y 1).1 := by blk_point [idx t]
  obtain ⟨r, e, rfl⟩ : ∃ (r : Fin 512) (e : Fin 2048), y = ix2 r e := ⟨y 0, y 1, by funext a; fin_cases a <;> rfl⟩
  have e1 : (win0_5.blk t).view.emb (ix2 r e) 1 = e := Fin.ext z1
  rw [e1]
  exact tile_at m c t r e _ z0

end K

/-! ## The reference -/

namespace R
open Cert.Reference3Ideal Cert.Reference3Ideal.Gen

/-- The rows by batch. -/
def rows (x : FVec Ideal S8192x2048 .f32) : FVec Ideal S4x2048x2048 .f32 := shapeCast _ x shapeCasts_S8192x2048_S4x2048x2048

theorem rows_at (x : FVec Ideal S8192x2048 .f32) (b : Fin 4) (r d : Fin 2048) :
    rows x (ix3 b r d) = x (ix2 (⟨b.1 * 2048 + r.1, by omega⟩ : Fin 8192) d) := by
  pointwise [rows]

/-- The gates of the four batches. -/
def mods (a : FVec Ideal S4x8x6x2048 .f32) : FVec Ideal S4x6x2048 .f32 :=
  shapeCast _ (extractStridedSlice S1x4x6x2048 ![1, 1, 0, 0] a slices_S4x8x6x2048_S1x4x6x2048_1_1_0_0) shapeCasts_S1x4x6x2048_S4x6x2048

theorem mods_at (a : FVec Ideal S4x8x6x2048 .f32) (b : Fin 4) (k : Fin 6) (d : Fin 2048) :
    mods a (ix3 b k d) = a (ix4 1 (⟨1 + b.1, by omega⟩ : Fin 8) k d) := by
  pointwise [mods]

/-- The mixed heads of the two attentions, side by side. -/
def both (a b : FVec Ideal S8192x1024 .bf16) : FVec Ideal S4x2048x2048 .f32 :=
  concatenate S4x2048x2048 2 [⟨S4x2048x1024, (shapeCast _ (extf .f32 a bitsLt_bf16_f32) shapeCasts_S8192x1024_S4x2048x1024)⟩,
    ⟨S4x2048x1024, (shapeCast _ (extf .f32 b bitsLt_bf16_f32) shapeCasts_S8192x1024_S4x2048x1024)⟩]
    concatenates_S4x2048x1024_S4x2048x1024_S4x2048x2048_d2

theorem both_at (a b : FVec Ideal S8192x1024 .bf16) (i : Fin 4) (r d : Fin 2048) : both a b (ix3 i r d) =
    if h : d.1 < 1024 then (a (ix2 (⟨i.1 * 2048 + r.1, by omega⟩ : Fin 8192) ⟨d.1, h⟩) : EReal)
      else (b (ix2 (⟨i.1 * 2048 + r.1, by omega⟩ : Fin 8192) ⟨d.1 - 1024, by omega⟩) : EReal) := by
  pointwise [both]

/-- The rows plus the gate times the projection of the mixed heads. -/
def back (x : FVec Ideal S4x2048x2048 .f32) (md : FVec Ideal S4x6x2048 .f32) (a : FVec Ideal S4x2048x2048 .f32)
    (w : FVec Ideal S2048x2048 .bf16) : FVec Ideal S4x2048x2048 .f32 :=
  addf x (mulf (broadcastInDim S4x2048x2048 ![0, 1, 2] bcast_S4x1x2048_S4x2048x2048_0_1_2
    (extractStridedSlice S4x1x2048 ![0, 2, 0] md slices_S4x6x2048_S4x1x2048_0_2_0))
    (Host.dotGeneral dot_S4x2048x2048_S2048x2048_S4x2048x2048_2_0_01_1_n_n none a (extf .f32 w bitsLt_bf16_f32)))

theorem back_at (x : FVec Ideal S4x2048x2048 .f32) (md : FVec Ideal S4x6x2048 .f32) (a : FVec Ideal S4x2048x2048 .f32)
    (w : FVec Ideal S2048x2048 .bf16) (b : Fin 4) (r d : Fin 2048) : back x md a w (ix3 b r d) =
      (x (ix3 b r d) + md (ix3 b 2 d) * ∑ e : Fin 2048, a (ix3 b r e) * w (ix2 e d) : EReal) := by
  pointwise [back]

/-- The rows of the batches one after another. -/
def flat (x : FVec Ideal S4x2048x2048 .f32) : FVec Ideal S8192x2048 .f32 := shapeCast _ x shapeCasts_S4x2048x2048_S8192x2048

theorem flat_at (x : FVec Ideal S4x2048x2048 .f32) (r : Fin 8192) (d : Fin 2048) :
    flat x (ix2 r d) = x (ix3 (⟨r.1 / 2048, by omega⟩ : Fin 4) (⟨r.1 % 2048, by omega⟩ : Fin 2048) d) := by
  pointwise [flat]

/-- The whole term. -/
def result (x : FVec Ideal S8192x2048 .f32) (a b : FVec Ideal S8192x1024 .bf16) (md : FVec Ideal S4x8x6x2048 .f32)
    (w : FVec Ideal S2048x2048 .bf16) : FVec Ideal S8192x2048 .f32 := flat (back (rows x) (mods md) (both a b) w)

/-- A sum over the wide columns is one over each half. -/
theorem halves (f : Fin 2048 → EReal) : ∑ d, f d = ∑ d : Fin 1024, f ⟨d.1, by omega⟩ + ∑ d : Fin 1024, f ⟨1024 + d.1, by omega⟩ :=
  Fin.sum_univ_add (a := 1024) (b := 1024) f

theorem result_at (x : FVec Ideal S8192x2048 .f32) (a b : FVec Ideal S8192x1024 .bf16) (md : FVec Ideal S4x8x6x2048 .f32)
    (w : FVec Ideal S2048x2048 .bf16) (r : Fin 8192) (e : Fin 2048) : result x a b md w (ix2 r e) =
      cell (fun d => a (ix2 r d)) (fun d => b (ix2 r d)) (fun d => w (ix2 (⟨d.1, by omega⟩ : Fin 2048) e))
        (fun d => w (ix2 (⟨1024 + d.1, by omega⟩ : Fin 2048) e)) (x (ix2 r e)) (md (ix4 1 (⟨1 + r.1 / 2048, by omega⟩ : Fin 8) 2 e)) := by
  have er : (⟨r.1 / 2048 * 2048 + r.1 % 2048, by omega⟩ : Fin 8192) = r := Fin.ext (by show r.1 / 2048 * 2048 + r.1 % 2048 = r.1; omega)
  rw [result, flat_at, back_at, halves, rows_at, mods_at, cell]
  simp only [er]
  congr 2
  congr 1
  · refine Finset.sum_congr rfl fun d _ => congrArg₂ (· * ·) ?_ rfl
    rw [both_at, dif_pos d.2]
    simp only [er]
  · refine Finset.sum_congr rfl fun d _ => congrArg₂ (· * ·) ?_ rfl
    rw [both_at, dif_neg (by show ¬1024 + d.1 < 1024; omega)]
    simp only [er, Nat.add_sub_cancel_left]

end R

/-- The two results are one, for memories that agree on the arguments. -/
theorem tie (m : (ℓ : Loc Cert.Kernel3Ideal.nD Cert.Kernel3Ideal.τ Cert.Kernel3Ideal.sig) → Buf (Elt Ideal) ℓ)
    (c : Dev Cert.Kernel3Ideal.nD) :
    R.result (m (c.tc.loc Cert.Kernel3Ideal.main_arg0)) (m (c.tc.loc Cert.Kernel3Ideal.main_arg1))
      (m (c.tc.loc Cert.Kernel3Ideal.main_arg2)) (m (c.tc.loc Cert.Kernel3Ideal.main_arg3))
      (m (c.tc.loc Cert.Kernel3Ideal.main_arg4)) = (Cert.Kernel3Ideal.Gen.dats m 0 c).arrAt 5 Cert.Kernel3Ideal.cfg0.N := by
  rw [K.arr]
  funext y
  obtain ⟨r, d, rfl⟩ : ∃ (r : Fin 8192) (d : Fin 2048), y = ix2 r d := ⟨y 0, y 1, by funext a; fin_cases a <;> rfl⟩
  exact R.result_at _ _ _ _ _ r d

end Cert.Outproj
end
-- ==== Proof.Lastnorm.lean ====
/- The norm after the last layer: what the kernel leaves and what the reference computes, cell by cell, and that they
   are one. -/
module

public import proofs.«01_k».proof.Proof.Gen.Kernel4Ideal.Value
public import proofs.«01_k».proof.Proof.Gen.Reference4Ideal.Run
public import proofs.«01_k».proof.Proof.FfnCell

@[expose] public section
set_option maxRecDepth 16384
noncomputable section
namespace Cert.Lastnorm
open Idealize.ShloMosaic Idealize.ShloMosaic.TcCoe Idealize.SL.Sem
open Cert.FfnCell (len small)

/-- One cell of a row divided by its root mean square, times the weight of its column. -/
def cell (x : Fin 2048 → EReal) (g : EReal) (d : Fin 2048) : EReal :=
  x d * Ideal.rsqrt (Ideal.div (∑ e, x e * x e) len + small) * g

/-! ## The kernel -/

namespace K
open Cert.Kernel4Ideal Cert.Kernel4Ideal.Gen

theorem out_eq (x : Vec Ideal S512x2048 .f32) (g : Vec Ideal S1x2048 .f32) (r : Fin 512) (d : Fin 2048) :
    out0_2 x g (ix2 r d) = cell (fun e => x (ix2 r e)) (g (ix2 0 d)) d := by
  unfold out0_2
  refine (congrFun (View.canon_unit_zero (by funext a; fin_cases a <;> rfl) _ _) _).trans ?_
  pointwise [k0_pay1]
  rfl

theorem idx : ∀ t : Fin cfg0.N, win0_0.index t = ![t.val, 0] ∧ win0_1.index t = ![0, 0] ∧ win0_2.index t = ![t.val, 0] :=
  (by decide +kernel : ∀ t : Fin grid0.N, _)

theorem lt16 (t : Fin cfg0.N) : t.val < 16 := t.isLt

variable (m : (ℓ : Loc nD τ sig) → Buf (Elt Ideal) ℓ) (c : Dev nD)

theorem block0 (t : Fin cfg0.N) (r : Fin 512) (d : Fin 2048) : iblk m c 0 t (ix2 r d) =
    m (c.tc.loc main_arg0) (ix2 (⟨512 * t.val + r.val, by have := lt16 t; omega⟩ : Fin 8192) d) := by
  blk_point [iblk, V, idx t]

theorem weights_eq : V m c main_v0 = (shapeCast S1x2048 (m (c.tc.loc main_arg1)) shapeCasts_S2048_S1x2048 : FVec Ideal S1x2048 .f32) := by
  unfold V hostOps0
  after_results <;> rfl

theorem weight_row (d : Fin 2048) : (V m c main_v0 : FVec Ideal S1x2048 .f32) (ix2 0 d) = m (c.tc.loc main_arg1) (ix1 d) := by
  rw [weights_eq]
  pointwise []

theorem block1 (t : Fin cfg0.N) (d : Fin 2048) : iblk m c 1 t (ix2 0 d) = m (c.tc.loc main_arg1) (ix1 d) := by
  refine Eq.trans ?_ (weight_row m c d)
  blk_point [iblk, idx t]

/-- The result at row `r`, column `d`. -/
abbrev cellOf (r : Fin 8192) (d : Fin 2048) : EReal :=
  cell (fun e => m (c.tc.loc main_arg0) (ix2 r e)) (m (c.tc.loc main_arg1) (ix1 d)) d

/-- The array the kernel leaves. -/
theorem arr : (dats m 0 c).arrAt 2 cfg0.N = fun y => cellOf m c (y 0) (y 1) := by
  refine (dats m 0 c).arrAt_eq_of_covers 2 _ (by decide +kernel) fun t hf y => ?_
  blk_simp
  rw [after0_2]
  have z0 : ((win0_2.blk t).view.emb y 0).1 = t.val * 512 + (y 0).1 := by blk_point [idx t]
  have z1 : ((win0_2.blk t).view.emb y 1).1 = (y 1).1 := by blk_point [idx t]
  obtain ⟨r, e, rfl⟩ : ∃ (r : Fin 512) (e : Fin 2048), y = ix2 r e := ⟨y 0, y 1, by funext a; fin_cases a <;> rfl⟩
  have e1 : (win0_2.blk t).view.emb (ix2 r e) 1 = e := Fin.ext z1
  have e0 : (⟨512 * t.val + r.val, by have := lt16 t; omega⟩ : Fin 8192) = (win0_2.blk t).view.emb (ix2 r e) 0 :=
    Fin.ext (by rw [z0]; show 512 * t.val + r.val = t.val * 512 + r.val; omega)
  rw [e1, out_eq]
  simp only [block0, block1, e0]

end K

/-! ## The reference -/

namespace R
open Cert.Reference4Ideal Cert.Reference4Ideal.Gen

/-- The rows by batch. -/
def rows (x : FVec Ideal S8192x2048 .f32) : FVec Ideal S4x2048x2048 .f32 := shapeCast _ x shapeCasts_S8192x2048_S4x2048x2048

theorem rows_at (x : FVec Ideal S8192x2048 .f32) (b : Fin 4) (r d : Fin 2048) :
    rows x (ix3 b r d) = x (ix2 (⟨b.1 * 2048 + r.1, by omega⟩ : Fin 8192) d) := by
  pointwise [rows]

/-- The root mean square of each row, inverted. -/
def scale (x : FVec Ideal S4x2048x2048 .f32) : FVec Ideal S4x2048x1 .f32 :=
  Host.rsqrt (addf (Host.divf (broadcastInDim S4x2048x1 ![0, 1] bcast_S4x2048_S4x2048x1_0_1
    (Host.reduceAdd (mulf x x) (constant S_ .f32 0x00000000#32) reducesTo_S4x2048x2048_S4x2048_d2 h_S_))
    (broadcastInDim S4x2048x1 ![] bcast_S_S4x2048x1 (constant S_ .f32 0x45000000#32)))
    (broadcastInDim S4x2048x1 ![] bcast_S_S4x2048x1 (constant S_ .f32 0x358637BD#32)))

theorem scale_at (x : FVec Ideal S4x2048x2048 .f32) (b : Fin 4) (r : Fin 2048) :
    scale x (ix3 b r 0) = Ideal.rsqrt (Ideal.div (∑ e : Fin 2048, x (ix3 b r e) * x (ix3 b r e)) len + small) := by
  pointwise [scale]

/-- The rows times one number each, times the weights. -/
def times (x : FVec Ideal S4x2048x2048 .f32) (s : FVec Ideal S4x2048x1 .f32) (g : FVec Ideal S2048 .f32) :
    FVec Ideal S4x2048x2048 .f32 :=
  mulf (mulf x (broadcastInDim S4x2048x2048 ![0, 1, 2] bcast_S4x2048x1_S4x2048x2048_0_1_2 s))
    (broadcastInDim S4x2048x2048 ![0, 1, 2] bcast_S1x1x2048_S4x2048x2048_0_1_2 (broadcastInDim S1x1x2048 ![2] bcast_S2048_S1x1x2048_2 g))

theorem times_at (x : FVec Ideal S4x2048x2048 .f32) (s : FVec Ideal S4x2048x1 .f32) (g : FVec Ideal S2048 .f32) (b : Fin 4)
    (r d : Fin 2048) : times x s g (ix3 b r d) = (x (ix3 b r d) * s (ix3 b r 0) * g (ix1 d) : EReal) := by
  pointwise [times]

/-- The rows of the batches one after another. -/
def flat (x : FVec Ideal S4x2048x2048 .f32) : FVec Ideal S8192x2048 .f32 := shapeCast _ x shapeCasts_S4x2048x2048_S8192x2048

theorem flat_at (x : FVec Ideal S4x2048x2048 .f32) (r : Fin 8192) (d : Fin 2048) :
    flat x (ix2 r d) = x (ix3 (⟨r.1 / 2048, by omega⟩ : Fin 4) (⟨r.1 % 2048, by omega⟩ : Fin 2048) d) := by
  pointwise [flat]

/-- The whole term. -/
def result (x : FVec Ideal S8192x2048 .f32) (g : FVec Ideal S2048 .f32) : FVec Ideal S8192x2048 .f32 :=
  flat (times (rows x) (scale (rows x)) g)

theorem result_at (x : FVec Ideal S8192x2048 .f32) (g : FVec Ideal S2048 .f32) (r : Fin 8192) (d : Fin 2048) :
    result x g (ix2 r d) = cell (fun e => x (ix2 r e)) (g (ix1 d)) d := by
  have er : (⟨r.1 / 2048 * 2048 + r.1 % 2048, by omega⟩ : Fin 8192) = r := Fin.ext (by show r.1 / 2048 * 2048 + r.1 % 2048 = r.1; omega)
  rw [result, flat_at, times_at, scale_at, cell]
  simp only [rows_at, er]

end R

/-- The two results are one. -/
theorem tie (m : (ℓ : Loc Cert.Kernel4Ideal.nD Cert.Kernel4Ideal.τ Cert.Kernel4Ideal.sig) → Buf (Elt Ideal) ℓ)
    (c : Dev Cert.Kernel4Ideal.nD) :
    R.result (m (c.tc.loc Cert.Kernel4Ideal.main_arg0)) (m (c.tc.loc Cert.Kernel4Ideal.main_arg1)) =
      (Cert.Kernel4Ideal.Gen.dats m 0 c).arrAt 2 Cert.Kernel4Ideal.cfg0.N := by
  rw [K.arr]
  funext y
  obtain ⟨r, d, rfl⟩ : ∃ (r : Fin 8192) (d : Fin 2048), y = ix2 r d := ⟨y 0, y 1, by funext a; fin_cases a <;> rfl⟩
  exact R.result_at _ _ r d

end Cert.Lastnorm
end
-- ==== Proof.Parts.lean ====
/- The softmax of a row whose scores come in two parts, the 256 cached keys and the 2048 new ones. -/
module

public import proofs.«01_k».proof.Proof.Softmax

@[expose] public section
noncomputable section
namespace Cert.Softmax
open Idealize.ShloMosaic

/-- A cached key's and a new key's place in the row. -/
abbrev lo (x : Fin 256) : Fin 2304 := ⟨x.1, by omega⟩
abbrev hi (x : Fin 2048) : Fin 2304 := ⟨256 + x.1, by omega⟩

/-- A row from its two parts. -/
def joinParts {α : Type} (f : Fin 256 → α) (g : Fin 2048 → α) (x : Fin 2304) : α :=
  if h : x.1 < 256 then f ⟨x.1, h⟩ else g ⟨x.1 - 256, by omega⟩

theorem joinParts_lo {α : Type} (f : Fin 256 → α) (g : Fin 2048 → α) (x : Fin 256) : joinParts f g (lo x) = f x := by
  unfold joinParts
  rw [dif_pos x.2]

theorem joinParts_hi {α : Type} (f : Fin 256 → α) (g : Fin 2048 → α) (x : Fin 2048) : joinParts f g (hi x) = g x := by
  unfold joinParts
  rw [dif_neg (by show ¬256 + x.1 < 256; omega)]
  simp only [Nat.add_sub_cancel_left, Fin.eta]

theorem sum_parts (f : Fin 2304 → EReal) : ∑ x, f x = ∑ x : Fin 256, f (lo x) + ∑ x : Fin 2048, f (hi x) :=
  Fin.sum_univ_add (a := 256) (b := 2048) f

theorem top_parts (s : Fin 2304 → EReal) : Finset.univ.fold max ⊥ s =
    max (Finset.univ.fold max ⊥ fun x => s (lo x)) (Finset.univ.fold max ⊥ fun x => s (hi x)) := by
  refine le_antisymm (Finset.sup_le fun x _ => ?_) (max_le (Finset.sup_le fun x _ => ?_) (Finset.sup_le fun x _ => ?_))
  · by_cases h : x.1 < 256
    · exact le_max_of_le_left (Finset.le_sup (f := fun x => s (lo x)) (Finset.mem_univ ⟨x.1, h⟩))
    · have e : hi ⟨x.1 - 256, by omega⟩ = x := Fin.ext (by show 256 + (x.1 - 256) = x.1; omega)
      have := Finset.le_sup (f := fun x => s (hi x)) (Finset.mem_univ ⟨x.1 - 256, by omega⟩)
      rw [e] at this
      exact le_max_of_le_right this
  · exact Finset.le_sup (f := s) (Finset.mem_univ _)
  · exact Finset.le_sup (f := s) (Finset.mem_univ _)

/-- The weights against values, in two parts. -/
def mixParts (s v : Fin 256 → EReal) (t w : Fin 2048 → EReal) : EReal :=
  ∑ x, Ideal.exp2 (s x - max (Finset.univ.fold max ⊥ s) (Finset.univ.fold max ⊥ t)) * v x +
    ∑ x, Ideal.exp2 (t x - max (Finset.univ.fold max ⊥ s) (Finset.univ.fold max ⊥ t)) * w x

theorem mix_parts (s v : Fin 2304 → EReal) : ∑ x, pow2 s x * v x =
    mixParts (fun x => s (lo x)) (fun x => v (lo x)) (fun x => s (hi x)) (fun x => v (hi x)) := by
  rw [sum_parts]
  simp only [pow2, top_parts, mixParts]

theorem late_parts (s v w : Fin 2304 → EReal) : late s v w =
    Ideal.div (mixParts (fun x => s (lo x)) (fun x => v (lo x)) (fun x => s (hi x)) (fun x => v (hi x)))
      (mixParts (fun x => s (lo x)) (fun x => w (lo x)) (fun x => s (hi x)) (fun x => w (hi x))) := by
  rw [late, mix_parts, mix_parts]

end Cert.Softmax
end
-- ==== Proof.BlocksB.lean ====
/- What the low-rank attention's kernel leaves in its result, cell by cell, over the extended reals. -/
module

public import proofs.«01_k».proof.Proof.Gen.Kernel5Ideal.Value
public import Idealize.ShloMosaic.Lib.Pipeline.ReadBack
public import proofs.«01_k».proof.Proof.Parts

@[expose] public section
set_option maxRecDepth 16384
noncomputable section
namespace Cert.Kernel5Ideal.Out
open Idealize.ShloMosaic Idealize.ShloMosaic.TcCoe Idealize.SL.Sem
open Cert.Kernel5Ideal Cert.Kernel5Ideal.Gen Cert.Softmax

/-- A coordinate of an index of a box. -/
theorem emb_val {s : Shape} (off size : Fin s.rank → ℕ) (inb) (x : (Rect.unit (s := s) off size inb).shape.Idx) (a : Fin s.rank) :
    ((Rect.unit (s := s) off size inb).emb x a).1 = off a + (x a).1 := Rect.idx_unit_val off size inb x a

/-! ## The scratch: each head's values, then a block of ones as wide -/

/-- The values of the cached rows and of the new rows, one after another. -/
def joinedV (x3 : Vec Ideal S1x1x256x1024 .bf16) (x4 : Vec Ideal S1x2048x1024 .bf16) (x : Fin 2304) (e : Fin 1024) : EReal :=
  joinParts (fun x => (x3 (ix4 0 0 x e) : EReal)) (fun x => (x4 (ix3 0 x e) : EReal)) x

def Vs (x3 : Vec Ideal S1x1x256x1024 .bf16) (x4 : Vec Ideal S1x2048x1024 .bf16) : Vec Ideal S2304x2048 .bf16 := fun y =>
  have h : (y 1).1 < 2048 := (y 1).2
  if (y 1).1 / 128 % 2 = 0 then joinedV x3 x4 (y 0) ⟨(y 1).1 / 256 * 128 + (y 1).1 % 128, by omega⟩ else (1 : EReal)

theorem Vs_val (x3 : Vec Ideal S1x1x256x1024 .bf16) (x4 : Vec Ideal S1x2048x1024 .bf16) (y : S2304x2048.Idx)
    (h : (y 1).1 / 128 % 2 = 0) (e : Fin 1024) (he : e.1 = (y 1).1 / 256 * 128 + (y 1).1 % 128) (x : Fin 2304) (hx : (y 0).1 = x.1) :
    Vs x3 x4 y = joinedV x3 x4 x e := by
  have e0 : y 0 = x := Fin.ext hx
  unfold Vs
  simp only [h, if_true, ← he, Fin.eta, e0]

theorem Vs_one (x3 : Vec Ideal S1x1x256x1024 .bf16) (x4 : Vec Ideal S1x2048x1024 .bf16) (y : S2304x2048.Idx)
    (h : (y 1).1 / 128 % 2 = 1) : Vs x3 x4 y = (1 : EReal) := by
  unfold Vs
  simp only [h, if_neg one_ne_zero]

/-- A stored block of ones, beside the cached rows and beside the new ones. -/
theorem ones_old (x3 : Vec Ideal S1x1x256x1024 .bf16) (x4 : Vec Ideal S1x2048x1024 .bf16) (o : ℕ)
    (h : ∀ a, ![0, o] a + ![256, 128] a ≤ S2304x2048.size a) (ho : o / 128 % 2 = 1 ∧ o % 128 = 0)
    (x : (Rect.unit (s := S2304x2048) ![0, o] ![256, 128] h).shape.Idx) :
    k0_pay4 (F := Ideal) x = Vs x3 x4 ((Rect.unit ![0, o] ![256, 128] h).emb x) := by
  have hx : (x 1).1 < 128 := (x 1).2
  have hv : ((Rect.unit (s := S2304x2048) ![0, o] ![256, 128] h).emb x 1).1 = o + (x 1).1 := emb_val _ _ h x 1
  exact (one_half_width : _ = (1 : EReal)).trans (Vs_one _ _ _ (by rw [hv]; omega)).symm

theorem ones_new (x3 : Vec Ideal S1x1x256x1024 .bf16) (x4 : Vec Ideal S1x2048x1024 .bf16) (o : ℕ)
    (h : ∀ a, ![256, o] a + ![2048, 128] a ≤ S2304x2048.size a) (ho : o / 128 % 2 = 1 ∧ o % 128 = 0)
    (x : (Rect.unit (s := S2304x2048) ![256, o] ![2048, 128] h).shape.Idx) :
    k0_pay22 (F := Ideal) x = Vs x3 x4 ((Rect.unit ![256, o] ![2048, 128] h).emb x) := by
  have hx : (x 1).1 < 128 := (x 1).2
  have hv : ((Rect.unit (s := S2304x2048) ![256, o] ![2048, 128] h).emb x 1).1 = o + (x 1).1 := emb_val _ _ h x 1
  exact (one_half_width : _ = (1 : EReal)).trans (Vs_one _ _ _ (by rw [hv]; omega)).symm

/-- A stored block of cached values. -/
theorem vals_old (x3 : Vec Ideal S1x1x256x1024 .bf16) (x4 : Vec Ideal S1x2048x1024 .bf16) (o : ℕ)
    (h : ∀ a, ![0, o] a + ![256, 128] a ≤ S2304x2048.size a) (hk : ∀ a, ![0, 0, 0, o / 2] a + ![1, 1, 256, 128] a ≤ S1x1x256x1024.size a)
    (ho : o % 256 = 0 ∧ o ≤ 1792) (x : (Rect.unit (s := S2304x2048) ![0, o] ![256, 128] h).shape.Idx) :
    k0_pay3 (View.ld x3 (Rect.unit ![0, 0, 0, o / 2] ![1, 1, 256, 128] hk)) x = Vs x3 x4 ((Rect.unit ![0, o] ![256, 128] h).emb x) := by
  have hx : (x 1).1 < 128 := (x 1).2
  have hx0 : (x 0).1 < 256 := (x 0).2
  have hv : ((Rect.unit (s := S2304x2048) ![0, o] ![256, 128] h).emb x 1).1 = o + (x 1).1 := emb_val _ _ h x 1
  have hr : ((Rect.unit (s := S2304x2048) ![0, o] ![256, 128] h).emb x 0).1 = 0 + (x 0).1 := emb_val _ _ h x 0
  rw [Vs_val x3 x4 _ (by rw [hv]; omega) ⟨o / 2 + (x 1).1, by omega⟩ (by rw [hv]; show o / 2 + (x 1).1 = _; omega) (lo ⟨(x 0).1, hx0⟩)
    (by rw [hr]; show 0 + (x 0).1 = (x 0).1; omega), joinedV, joinParts_lo]
  pointwise [k0_pay3]

/-- A stored block of new values. -/
theorem vals_new (x3 : Vec Ideal S1x1x256x1024 .bf16) (x4 : Vec Ideal S1x2048x1024 .bf16) (o : ℕ)
    (h : ∀ a, ![256, o] a + ![2048, 128] a ≤ S2304x2048.size a) (hk : ∀ a, ![0, 0, o / 2] a + ![1, 2048, 128] a ≤ S1x2048x1024.size a)
    (ho : o % 256 = 0 ∧ o ≤ 1792) (x : (Rect.unit (s := S2304x2048) ![256, o] ![2048, 128] h).shape.Idx) :
    k0_pay21 (View.ld x4 (Rect.unit ![0, 0, o / 2] ![1, 2048, 128] hk)) x = Vs x3 x4 ((Rect.unit ![256, o] ![2048, 128] h).emb x) := by
  have hx : (x 1).1 < 128 := (x 1).2
  have hx0 : (x 0).1 < 2048 := (x 0).2
  have hv : ((Rect.unit (s := S2304x2048) ![256, o] ![2048, 128] h).emb x 1).1 = o + (x 1).1 := emb_val _ _ h x 1
  have hr : ((Rect.unit (s := S2304x2048) ![256, o] ![2048, 128] h).emb x 0).1 = 256 + (x 0).1 := emb_val _ _ h x 0
  rw [Vs_val x3 x4 _ (by rw [hv]; omega) ⟨o / 2 + (x 1).1, by omega⟩ (by rw [hv]; show o / 2 + (x 1).1 = _; omega) (hi ⟨(x 0).1, hx0⟩)
    (by rw [hr]), joinedV, joinParts_hi]
  pointwise [k0_pay21]

/-! ## The attention of one block of queries -/

/-- The arithmetic of one stored tile, 256 queries of one head. -/
def att (q : Vec Ideal S1x256x256 .bf16) (k : Vec Ideal S1x1x256x256 .bf16) (n : Vec Ideal S1x2048x256 .bf16) (v : Vec Ideal S256x256 .bf16)
    (w : Vec Ideal S2048x256 .bf16) : FVec Ideal S1x256x128 .bf16 := k0_pay44 (k0_pay42 q k n v) (k0_pay43 q k n w)

/-- The scores of one query in one tile. -/
abbrev sOld (q : Vec Ideal S1x256x256 .bf16) (k : Vec Ideal S1x1x256x256 .bf16) (r : Fin 256) (x : Fin 256) : EReal :=
  ∑ d : Fin 256, q (ix3 0 r d) * k (ix4 0 0 x d)
abbrev sNew (q : Vec Ideal S1x256x256 .bf16) (n : Vec Ideal S1x2048x256 .bf16) (r : Fin 256) (x : Fin 2048) : EReal :=
  ∑ d : Fin 256, q (ix3 0 r d) * n (ix3 0 x d)

theorem top_at (q : Vec Ideal S1x256x256 .bf16) (k : Vec Ideal S1x1x256x256 .bf16) (n : Vec Ideal S1x2048x256 .bf16) (r : Fin 256) :
    k0_pay41 q k n (ix2 r 0) = max (Finset.univ.fold max ⊥ (sOld q k r)) (Finset.univ.fold max ⊥ (sNew q n r)) := by
  rw [← neg_inf]
  pointwise [k0_pay41, k0_pay40, k0_pay39, k0_pay38]

theorem old_at (q : Vec Ideal S1x256x256 .bf16) (k : Vec Ideal S1x1x256x256 .bf16) (n : Vec Ideal S1x2048x256 .bf16) (v : Vec Ideal S256x256 .bf16)
    (r e : Fin 256) : k0_pay42 q k n v (ix2 r e) =
      (∑ x : Fin 256, Ideal.exp2 (sOld q k r x - k0_pay41 q k n (ix2 r 0)) * v (ix2 x e) : EReal) := by
  unfold k0_pay42
  generalize k0_pay41 q k n = M
  pointwise [k0_pay39, k0_pay38]
  rfl

theorem new_at (q : Vec Ideal S1x256x256 .bf16) (k : Vec Ideal S1x1x256x256 .bf16) (n : Vec Ideal S1x2048x256 .bf16) (w : Vec Ideal S2048x256 .bf16)
    (r e : Fin 256) : k0_pay43 q k n w (ix2 r e) =
      (∑ x : Fin 2048, Ideal.exp2 (sNew q n r x - k0_pay41 q k n (ix2 r 0)) * w (ix2 x e) : EReal) := by
  unfold k0_pay43
  generalize k0_pay41 q k n = M
  pointwise [k0_pay40, k0_pay38]
  rfl

theorem quot_at (a b : FVec Ideal S256x256 .f32) (r : Fin 256) (e : Fin 128) : k0_pay44 a b (ix3 0 r e) =
    Ideal.div (a (ix2 r (⟨e.1, by omega⟩ : Fin 256)) + b (ix2 r (⟨e.1, by omega⟩ : Fin 256)))
      (a (ix2 r (⟨128 + e.1, by omega⟩ : Fin 256)) + b (ix2 r (⟨128 + e.1, by omega⟩ : Fin 256))) := by
  pointwise [k0_pay44]

theorem att_at (q : Vec Ideal S1x256x256 .bf16) (k : Vec Ideal S1x1x256x256 .bf16) (n : Vec Ideal S1x2048x256 .bf16) (v : Vec Ideal S256x256 .bf16)
    (w : Vec Ideal S2048x256 .bf16) (r : Fin 256) (e : Fin 128) : att q k n v w (ix3 0 r e) =
      Ideal.div (mixParts (sOld q k r) (fun x => v (ix2 x (⟨e.1, by omega⟩ : Fin 256))) (sNew q n r) (fun x => w (ix2 x (⟨e.1, by omega⟩ : Fin 256))))
        (mixParts (sOld q k r) (fun x => v (ix2 x (⟨128 + e.1, by omega⟩ : Fin 256))) (sNew q n r)
          (fun x => w (ix2 x (⟨128 + e.1, by omega⟩ : Fin 256)))) := by
  rw [att, quot_at]
  simp only [old_at, new_at, top_at, mixParts]

/-- The attention of one block of queries against the keys and the scratch. -/
def Os (q : Vec Ideal S1x512x2048 .bf16) (K : Vec Ideal S1x1x256x2048 .bf16) (N : Vec Ideal S1x2048x2048 .bf16)
    (S : Vec Ideal S2304x2048 .bf16) : Vec Ideal S1x512x1024 .bf16 := fun y =>
  have h : (y 2).1 < 1024 := (y 2).2
  late (joinParts
      (fun x => (∑ d : Fin 256, q (ix3 0 (y 1) ⟨(y 2).1 / 128 * 256 + d.1, by omega⟩) * K (ix4 0 0 x ⟨(y 2).1 / 128 * 256 + d.1, by omega⟩) : EReal))
      (fun x => (∑ d : Fin 256, q (ix3 0 (y 1) ⟨(y 2).1 / 128 * 256 + d.1, by omega⟩) * N (ix3 0 x ⟨(y 2).1 / 128 * 256 + d.1, by omega⟩) : EReal)))
    (fun x => S (ix2 x ⟨(y 2).1 / 128 * 256 + (y 2).1 % 128, by omega⟩))
    (fun x => S (ix2 x ⟨(y 2).1 / 128 * 256 + (128 + (y 2).1 % 128), by omega⟩))

/-- A load of the cached rows, and of the new rows, of one head's columns of the scratch. -/
theorem rows_old (S : Vec Ideal S2304x2048 .bf16) (c : ℕ) (hc : c ≤ 1792) (hv : ∀ a, ![0, c] a + ![2304, 256] a ≤ S2304x2048.size a)
    (h1 : ∀ a, ![0, 0] a + ![256, 256] a ≤ S2304x256.size a) (h0) (x e : Fin 256) :
    S (((Rect.unit (s := S2304x2048) ![0, c] ![2304, 256] hv).withinL (Rect.unit (s := S2304x256) ![0, 0] ![256, 256] h1).toLoadRect h0).idx (ix2 x e)) =
      S (ix2 (lo x) (⟨c + e.1, by omega⟩ : Fin 2048)) := by
  congr 1
  rw [Rect.idx_withinL]
  funext a
  refine Fin.ext ((emb_val _ _ hv _ a).trans ?_)
  fin_cases a
  · show 0 + (((Rect.unit (s := S2304x256) ![0, 0] ![256, 256] h1).emb (ix2 x e)) 0).1 = _
    rw [emb_val]
    show 0 + (0 + x.1) = x.1
    omega
  · show c + (((Rect.unit (s := S2304x256) ![0, 0] ![256, 256] h1).emb (ix2 x e)) 1).1 = _
    rw [emb_val]
    show c + (0 + e.1) = c + e.1
    omega

theorem rows_new (S : Vec Ideal S2304x2048 .bf16) (c : ℕ) (hc : c ≤ 1792) (hv : ∀ a, ![0, c] a + ![2304, 256] a ≤ S2304x2048.size a)
    (h1 : ∀ a, ![256, 0] a + ![2048, 256] a ≤ S2304x256.size a) (h0) (x : Fin 2048) (e : Fin 256) :
    S (((Rect.unit (s := S2304x2048) ![0, c] ![2304, 256] hv).withinL (Rect.unit (s := S2304x256) ![256, 0] ![2048, 256] h1).toLoadRect h0).idx (ix2 x e)) =
      S (ix2 (hi x) (⟨c + e.1, by omega⟩ : Fin 2048)) := by
  congr 1
  rw [Rect.idx_withinL]
  funext a
  refine Fin.ext ((emb_val _ _ hv _ a).trans ?_)
  fin_cases a
  · show 0 + (((Rect.unit (s := S2304x256) ![256, 0] ![2048, 256] h1).emb (ix2 x e)) 0).1 = _
    rw [emb_val]
    show 0 + (256 + x.1) = 256 + x.1
    omega
  · show c + (((Rect.unit (s := S2304x256) ![256, 0] ![2048, 256] h1).emb (ix2 x e)) 1).1 = _
    rw [emb_val]
    show c + (0 + e.1) = c + e.1
    omega

/-- Loads of one head's queries and keys. -/
theorem ld_q (q : Vec Ideal S1x512x2048 .bf16) (r0 c : ℕ) (hr : r0 ≤ 256) (hc : c ≤ 1792)
    (h : ∀ a, ![0, r0, c] a + ![1, 256, 256] a ≤ S1x512x2048.size a) (r d : Fin 256) :
    View.ld q (Rect.unit ![0, r0, c] ![1, 256, 256] h) (ix3 0 r d) = q (ix3 0 (⟨r0 + r.1, by omega⟩ : Fin 512) (⟨c + d.1, by omega⟩ : Fin 2048)) := by
  pointwise []

theorem ld_k (K : Vec Ideal S1x1x256x2048 .bf16) (c : ℕ) (hc : c ≤ 1792) (h : ∀ a, ![0, 0, 0, c] a + ![1, 1, 256, 256] a ≤ S1x1x256x2048.size a)
    (x d : Fin 256) : View.ld K (Rect.unit ![0, 0, 0, c] ![1, 1, 256, 256] h) (ix4 0 0 x d) = K (ix4 0 0 x (⟨c + d.1, by omega⟩ : Fin 2048)) := by
  pointwise []

theorem ld_n (N : Vec Ideal S1x2048x2048 .bf16) (c : ℕ) (hc : c ≤ 1792) (h : ∀ a, ![0, 0, c] a + ![1, 2048, 256] a ≤ S1x2048x2048.size a)
    (x : Fin 2048) (d : Fin 256) : View.ld N (Rect.unit ![0, 0, c] ![1, 2048, 256] h) (ix3 0 x d) = N (ix3 0 x (⟨c + d.1, by omega⟩ : Fin 2048)) := by
  pointwise []

/-- A stored tile of 256 queries against one head, at an index of the tile's box. -/
theorem tile (q : Vec Ideal S1x512x2048 .bf16) (K : Vec Ideal S1x1x256x2048 .bf16) (N : Vec Ideal S1x2048x2048 .bf16)
    (S : Vec Ideal S2304x2048 .bf16) (r0 o : ℕ) (ho : ∀ a, ![0, r0, o] a + ![1, 256, 128] a ≤ S1x512x1024.size a)
    (hq : ∀ a, ![0, r0, o * 2] a + ![1, 256, 256] a ≤ S1x512x2048.size a)
    (hk : ∀ a, ![0, 0, 0, o * 2] a + ![1, 1, 256, 256] a ≤ S1x1x256x2048.size a)
    (hn : ∀ a, ![0, 0, o * 2] a + ![1, 2048, 256] a ≤ S1x2048x2048.size a)
    (hv : ∀ a, ![0, o * 2] a + ![2304, 256] a ≤ S2304x2048.size a)
    (h1 : ∀ a, ![0, 0] a + ![256, 256] a ≤ S2304x256.size a) (h2 : ∀ a, ![256, 0] a + ![2048, 256] a ≤ S2304x256.size a) (h3 h4)
    (hr : r0 ≤ 256 ∧ o ≤ 896 ∧ o % 128 = 0)
    (x : (Rect.unit (s := S1x512x1024) ![0, r0, o] ![1, 256, 128] ho).shape.Idx) :
    att (View.ld q (Rect.unit ![0, r0, o * 2] ![1, 256, 256] hq)) (View.ld K (Rect.unit ![0, 0, 0, o * 2] ![1, 1, 256, 256] hk))
      (View.ld N (Rect.unit ![0, 0, o * 2] ![1, 2048, 256] hn))
      (fun j => S (((Rect.unit (s := S2304x2048) ![0, o * 2] ![2304, 256] hv).withinL (Rect.unit (s := S2304x256) ![0, 0] ![256, 256] h1).toLoadRect h3).idx j))
      (fun j => S (((Rect.unit (s := S2304x2048) ![0, o * 2] ![2304, 256] hv).withinL (Rect.unit (s := S2304x256) ![256, 0] ![2048, 256] h2).toLoadRect h4).idx j)) x =
    Os q K N S ((Rect.unit ![0, r0, o] ![1, 256, 128] ho).emb x) := by
  have hc : o * 2 ≤ 1792 := by omega
  have y1 := emb_val _ _ ho x 1
  have y2 := emb_val _ _ ho x 2
  obtain ⟨r, e, rfl⟩ : ∃ (r : Fin 256) (e : Fin 128), x = ix3 0 r e := ⟨x 1, x 2, by
    funext a; fin_cases a; · exact Fin.ext (Nat.lt_one_iff.1 (x 0).2)
    all_goals rfl⟩
  generalize (Rect.unit (s := S1x512x1024) ![0, r0, o] ![1, 256, 128] ho).emb (ix3 0 r e) = y at y1 y2 ⊢
  have z1 : y 1 = (⟨r0 + r.1, by omega⟩ : Fin 512) := Fin.ext y1
  have z2 : (y 2).1 = o + e.1 := y2
  have c1 : (o + e.1) / 128 * 256 = o * 2 := by omega
  have c2 : (o + e.1) % 128 = e.1 := by omega
  refine (att_at _ _ _ _ _ r e).trans ?_
  simp only [rows_old S (o * 2) hc hv h1 h3, rows_new S (o * 2) hc hv h2 h4]
  unfold sOld sNew
  simp only [ld_q q r0 (o * 2) hr.1 hc hq, ld_k K (o * 2) hc hk, ld_n N (o * 2) hc hn]
  refine Eq.trans ?_ (late_parts _ _ _).symm
  simp only [joinParts_lo, joinParts_hi, z1, z2, c1, c2]

end Cert.Kernel5Ideal.Out
end
-- ==== Proof.ArrB.lean ====
/- The low-rank attention's kernel, grid point by grid point: what each point leaves in the scratch and in its block of the
   result, and so what the result holds. -/
module

public import proofs.«01_k».proof.Proof.BlocksB

@[expose] public section
set_option maxRecDepth 16384
noncomputable section
namespace Cert.Kernel5Ideal.Out
open Idealize.ShloMosaic Idealize.ShloMosaic.TcCoe Idealize.SL.Sem
open Cert.Kernel5Ideal Cert.Kernel5Ideal.Gen Cert.Softmax

variable (m : (ℓ : Loc nD τ sig) → Buf (Elt Ideal) ℓ) (c : Dev nD)

/-- What the first point of a batch leaves in the scratch. -/
theorem vA (t : Fin cfg0.N) (h : t.1 % 4 = 0) : (outsAt0 m c t t.2).2 = Vs (iblk m c 3 t) (iblk m c 4 t) := by
  rw [outsAt0_A m c t h]
  frame_out
  funext y
  refine View.canon_append_of_piecesOf _ [] [_, _, _, _, _, _, _, _, _, _, _, _, _, _, _, _, _, _, _, _, _, _, _, _, _, _, _, _, _, _, _, _]
    ?_ y (View.cover_of_tiledBy _ ![256, 128] (by sl_kernel_rfl) y)
  iterate 8 refine ⟨fun x => ones_new (iblk m c 3 t) (iblk m c 4 t) _ (by decide) (by decide) x, fun x => vals_new (iblk m c 3 t) (iblk m c 4 t) _ (by decide) (by decide) (by decide) x, ?_⟩
  iterate 8 refine ⟨fun x => ones_old (iblk m c 3 t) (iblk m c 4 t) _ (by decide) (by decide) x, fun x => vals_old (iblk m c 3 t) (iblk m c 4 t) _ (by decide) (by decide) (by decide) x, ?_⟩
  exact trivial

/-- What the first point of a batch leaves in its block of the result. -/
theorem oA (t : Fin cfg0.N) (h : t.1 % 4 = 0) : (outsAt0 m c t t.2).1 =
    Os (iblk m c 0 t) (iblk m c 1 t) (iblk m c 2 t) (Vs (iblk m c 3 t) (iblk m c 4 t)) := by
  have hv := vA m c t h
  rw [outsAt0_A m c t h] at hv ⊢
  frame_out at hv
  frame_out
  simp only [View.readCov_eq_canon', hv]
  funext y
  refine View.canon_append_of_piecesOf _ [] [_, _, _, _, _, _, _, _, _, _, _, _, _, _, _, _]
    ?_ y (View.cover_of_tiledL _ ![1, 256, 128] (by sl_kernel_rfl) y)
  iterate 16 refine ⟨fun x => tile (iblk m c 0 t) (iblk m c 1 t) (iblk m c 2 t) (Vs (iblk m c 3 t) (iblk m c 4 t)) _ _ (by decide)
    (by decide) (by decide) (by decide) (by decide) (by decide) (by decide) _ _ (by decide) x, ?_⟩
  exact trivial

/-- A load of the whole scratch's contents. -/
theorem read_scratch (S : Vec Ideal S2304x2048 .bf16) (h : (Memref.whole cc0_scratch0).IsWhole) (B : LoadRect S2304x2048) :
    View.readAt (Elt Ideal) (View.whole cc0_scratch0) B (h.unread S) = fun j => S (B.idx j) :=
  funext fun j => congrFun (h.read_unread S) (B.idx j)

/-- A later point of a batch leaves the scratch as it was. -/
theorem vB (t : Fin cfg0.N) (h : ¬t.1 % 4 = 0) : (outsAt0 m c t t.2).2 = (outsAt0 m c (t.1 - 1) (by omega)).2 := by
  rw [outsAt0_B m c t h]
  rfl

/-- What a later point of a batch leaves in its block of the result. -/
theorem oB (t : Fin cfg0.N) (h : ¬t.1 % 4 = 0) : (outsAt0 m c t t.2).1 =
    Os (iblk m c 0 t) (iblk m c 1 t) (iblk m c 2 t) (outsAt0 m c (t.1 - 1) (by omega)).2 := by
  rw [outsAt0_B m c t h]
  frame_out
  simp only [read_scratch]
  funext y
  refine View.canon_append_of_piecesOf _ [] [_, _, _, _, _, _, _, _, _, _, _, _, _, _, _, _]
    ?_ y (View.cover_of_tiledL _ ![1, 256, 128] (by sl_kernel_rfl) y)
  iterate 16 refine ⟨fun x => tile (iblk m c 0 t) (iblk m c 1 t) (iblk m c 2 t) (outsAt0 m c (t.1 - 1) (by omega)).2 _ _ (by decide)
    (by decide) (by decide) (by decide) (by decide) (by decide) (by decide) _ _ (by decide) x, ?_⟩
  exact trivial

/-- The first point of a batch. -/
def start (t : Fin cfg0.N) : Fin cfg0.N := ⟨t.1 / 4 * 4, by omega⟩

theorem start_eq (t t' : Fin cfg0.N) (h : t.1 / 4 = t'.1 / 4) : start t = start t' := Fin.ext (by show t.1 / 4 * 4 = t'.1 / 4 * 4; rw [h])

/-- The scratch after every point: the values the first point of the batch put there. -/
theorem scratch (n : ℕ) : ∀ t : Fin cfg0.N, t.1 = n →
    (outsAt0 m c t t.2).2 = Vs (iblk m c 3 (start t)) (iblk m c 4 (start t)) := by
  induction n using Nat.strong_induction_on with
  | _ n ih =>
    intro t ht
    by_cases h : t.1 % 4 = 0
    · have hs : start t = t := Fin.ext (by show t.1 / 4 * 4 = t.1; omega)
      rw [vA m c t h, hs]
    · rw [vB m c t h, start_eq t ⟨t.1 - 1, by omega⟩ (by show t.1 / 4 = (t.1 - 1) / 4; omega)]
      exact ih (t.1 - 1) (by omega) ⟨t.1 - 1, by omega⟩ rfl

/-- What every point leaves in its block of the result. -/
theorem out (t : Fin cfg0.N) : (outsAt0 m c t t.2).1 = Os (iblk m c 0 t) (iblk m c 1 t) (iblk m c 2 t)
    (Vs (iblk m c 3 (start t)) (iblk m c 4 (start t))) := by
  by_cases h : t.1 % 4 = 0
  · rw [oA m c t h, ← vA m c t h, scratch m c t.1 t rfl]
  · rw [oB m c t h, ← scratch m c t.1 t rfl, vB m c t h]

theorem idx : ∀ t : Fin cfg0.N, win0_0.index t = ![t.1 / 4, t.1 % 4, 0] ∧ win0_1.index t = ![1, t.1 / 4, 0, 0] ∧
    win0_2.index t = ![t.1 / 4, 0, 0] ∧ win0_3.index t = ![1, t.1 / 4, 0, 0] ∧ win0_4.index t = ![t.1 / 4, 0, 0] ∧
    win0_5.index t = ![t.1 / 4, t.1 % 4, 0] :=
  (by decide +kernel : ∀ t : Fin grid0.N, _)

theorem lt16 (t : Fin cfg0.N) : t.1 < 16 := t.2

theorem blockQ (t : Fin cfg0.N) (r : Fin 512) (e : Fin 2048) : iblk m c 0 t (ix3 0 r e) =
    m (c.tc.loc main_arg0) (ix3 (⟨t.1 / 4, by have := lt16 t; omega⟩ : Fin 4) (⟨t.1 % 4 * 512 + r.1, by have := r.2; omega⟩ : Fin 2048) e) := by
  blk_point [iblk, V, idx t]

theorem blockK (t : Fin cfg0.N) (r : Fin 256) (e : Fin 2048) : iblk m c 1 t (ix4 0 0 r e) =
    m (c.tc.loc main_arg1) (ix4 1 (⟨t.1 / 4, by have := lt16 t; omega⟩ : Fin 4) r e) := by
  blk_point [iblk, V, idx t]

theorem blockN (t : Fin cfg0.N) (r : Fin 2048) (e : Fin 2048) : iblk m c 2 t (ix3 0 r e) =
    m (c.tc.loc main_arg2) (ix3 (⟨t.1 / 4, by have := lt16 t; omega⟩ : Fin 4) r e) := by
  blk_point [iblk, V, idx t]

theorem blockV (t : Fin cfg0.N) (r : Fin 256) (e : Fin 1024) : iblk m c 3 t (ix4 0 0 r e) =
    m (c.tc.loc main_arg3) (ix4 1 (⟨t.1 / 4, by have := lt16 t; omega⟩ : Fin 4) r e) := by
  blk_point [iblk, V, idx t]

theorem blockW (t : Fin cfg0.N) (r : Fin 2048) (e : Fin 1024) : iblk m c 4 t (ix3 0 r e) =
    m (c.tc.loc main_arg4) (ix3 (⟨t.1 / 4, by have := lt16 t; omega⟩ : Fin 4) r e) := by
  blk_point [iblk, V, idx t]

/-- The attention at one cell of the result. -/
def cell (q : Vec Ideal S4x2048x2048 .bf16) (ok : Vec Ideal S4x4x256x2048 .bf16) (nk : Vec Ideal S4x2048x2048 .bf16)
    (ov : Vec Ideal S4x4x256x1024 .bf16) (nv : Vec Ideal S4x2048x1024 .bf16) : Vec Ideal S4x2048x1024 .bf16 := fun y =>
  have h : (y 2).1 < 1024 := (y 2).2
  late (joinParts
      (fun x : Fin 256 => (∑ d : Fin 256, q (ix3 (y 0) (y 1) ⟨(y 2).1 / 128 * 256 + d.1, by omega⟩) *
        ok (ix4 1 (y 0) x ⟨(y 2).1 / 128 * 256 + d.1, by omega⟩) : EReal))
      (fun x : Fin 2048 => (∑ d : Fin 256, q (ix3 (y 0) (y 1) ⟨(y 2).1 / 128 * 256 + d.1, by omega⟩) *
        nk (ix3 (y 0) x ⟨(y 2).1 / 128 * 256 + d.1, by omega⟩) : EReal)))
    (joinParts (fun x : Fin 256 => (ov (ix4 1 (y 0) x (y 2)) : EReal)) (fun x : Fin 2048 => (nv (ix3 (y 0) x (y 2)) : EReal)))
    (fun _ => 1)

/-- A block of the result is the attention at its cells, whichever point of the batch filled the scratch. -/
theorem block (t t0 : Fin cfg0.N) (ht : t0.1 / 4 = t.1 / 4) (y : S1x512x1024.Idx) (z : S4x2048x1024.Idx)
    (z0 : (z 0).1 = t.1 / 4) (z1 : (z 1).1 = t.1 % 4 * 512 + (y 1).1) (z2 : (z 2).1 = (y 2).1) :
    Os (iblk m c 0 t) (iblk m c 1 t) (iblk m c 2 t) (Vs (iblk m c 3 t0) (iblk m c 4 t0)) y =
      cell (m (c.tc.loc main_arg0)) (m (c.tc.loc main_arg1)) (m (c.tc.loc main_arg2)) (m (c.tc.loc main_arg3))
        (m (c.tc.loc main_arg4)) z := by
  have hy : (y 2).1 < 1024 := (y 2).2
  have e0 : (⟨t.1 / 4, by have := lt16 t; omega⟩ : Fin 4) = z 0 := Fin.ext z0.symm
  have e0' : (⟨t0.1 / 4, by have := lt16 t0; omega⟩ : Fin 4) = z 0 := Fin.ext (ht.trans z0.symm)
  have e1 : (⟨t.1 % 4 * 512 + (y 1).1, z1 ▸ (z 1).2⟩ : Fin 2048) = z 1 := Fin.ext z1.symm
  have e2 : (⟨(y 2).1, hy⟩ : Fin 1024) = z 2 := Fin.ext z2.symm
  have hq : ∀ e : Fin 2048, iblk m c 0 t (ix3 0 (y 1) e) = m (c.tc.loc main_arg0) (ix3 (z 0) (z 1) e) :=
    fun e => (blockQ m c t (y 1) e).trans (by rw [e0, e1])
  unfold Os cell
  simp only [z2]
  congr 1
  · congr 1
    · funext x
      refine Finset.sum_congr rfl fun d _ => congrArg₂ (· * ·) (hq _) ((blockK m c t x _).trans (by rw [e0]))
    · funext x
      refine Finset.sum_congr rfl fun d _ => congrArg₂ (· * ·) (hq _) ((blockN m c t x _).trans (by rw [e0]))
  · funext x
    rw [Vs_val _ _ _ (by show ((y 2).1 / 128 * 256 + (y 2).1 % 128) / 128 % 2 = 0; omega)
      ⟨(y 2).1, hy⟩ (by show (y 2).1 = ((y 2).1 / 128 * 256 + (y 2).1 % 128) / 256 * 128 +
            ((y 2).1 / 128 * 256 + (y 2).1 % 128) % 128; omega) x rfl]
    unfold joinedV
    congr 1
    · funext x
      exact (blockV m c t0 x _).trans (by rw [e0', e2])
    · funext x
      exact (blockW m c t0 x _).trans (by rw [e0', e2])
  · funext x
    exact Vs_one _ _ _ (by show ((y 2).1 / 128 * 256 + (128 + (y 2).1 % 128)) / 128 % 2 = 1; omega)

/-- The array the kernel leaves: the attention at every cell. -/
theorem arr : (dats m 0 c).arrAt 5 cfg0.N = cell (m (c.tc.loc main_arg0)) (m (c.tc.loc main_arg1)) (m (c.tc.loc main_arg2))
    (m (c.tc.loc main_arg3)) (m (c.tc.loc main_arg4)) := by
  refine (dats m 0 c).arrAt_eq_of_covers 5 _ (by decide +kernel) fun t hf y => ?_
  blk_simp
  rw [after0_5]
  have z0 : ((win0_5.blk t).view.emb y 0).1 = t.1 / 4 := by
    have : (y 0).1 < 1 := (y 0).2
    blk_point [idx t]
  have z1 : ((win0_5.blk t).view.emb y 1).1 = t.1 % 4 * 512 + (y 1).1 := by blk_point [idx t]
  have z2 : ((win0_5.blk t).view.emb y 2).1 = (y 2).1 := by blk_point [idx t]
  rw [out m c t]
  exact block m c t (start t) (by show t.1 / 4 * 4 / 4 = t.1 / 4; omega) y _ z0 z1 z2

end Cert.Kernel5Ideal.Out
end
-- ==== Proof.RefB.lean ====
/- The reference of the low-rank attention at an index: every stage of its term at an index, and their composition. -/
module

public import proofs.«01_k».proof.Proof.Gen.Reference5Ideal.Run
public import proofs.«01_k».proof.Proof.Parts

@[expose] public section
set_option maxRecDepth 16384
noncomputable section
namespace Cert.Reference5Ideal.Value
open Idealize.ShloMosaic Idealize.ShloMosaic.TcCoe Idealize.SL.Sem
open Cert.Reference5Ideal Cert.Reference5Ideal.Gen Cert.Softmax

/-- One layer's cached keys followed by the new keys. -/
def joinedKeys (old : FVec Ideal S4x4x256x2048 .bf16) (new : FVec Ideal S4x2048x2048 .bf16) : FVec Ideal S4x2304x2048 .f32 :=
  concatenate S4x2304x2048 1 [⟨S4x256x2048, (extf .f32 (shapeCast _ (extractStridedSlice S1x4x256x2048 ![1, 0, 0, 0] old
    slices_S4x4x256x2048_S1x4x256x2048_1_0_0_0) shapeCasts_S1x4x256x2048_S4x256x2048) bitsLt_bf16_f32)⟩,
    ⟨S4x2048x2048, (extf .f32 new bitsLt_bf16_f32)⟩] concatenates_S4x256x2048_S4x2048x2048_S4x2304x2048_d1

theorem joinedKeys_at (old : FVec Ideal S4x4x256x2048 .bf16) (new : FVec Ideal S4x2048x2048 .bf16) (b : Fin 4) (x : Fin 2304)
    (c : Fin 2048) : joinedKeys old new (ix3 b x c) =
      joinParts (fun x => (old (ix4 1 b x c) : EReal)) (fun x => (new (ix3 b x c) : EReal)) x := by
  unfold joinParts
  pointwise [joinedKeys]

/-- One layer's cached values followed by the new values. -/
def joinedVals (old : FVec Ideal S4x4x256x1024 .bf16) (new : FVec Ideal S4x2048x1024 .bf16) : FVec Ideal S4x2304x1024 .f32 :=
  concatenate S4x2304x1024 1 [⟨S4x256x1024, (extf .f32 (shapeCast _ (extractStridedSlice S1x4x256x1024 ![1, 0, 0, 0] old
    slices_S4x4x256x1024_S1x4x256x1024_1_0_0_0) shapeCasts_S1x4x256x1024_S4x256x1024) bitsLt_bf16_f32)⟩,
    ⟨S4x2048x1024, (extf .f32 new bitsLt_bf16_f32)⟩] concatenates_S4x256x1024_S4x2048x1024_S4x2304x1024_d1

theorem joinedVals_at (old : FVec Ideal S4x4x256x1024 .bf16) (new : FVec Ideal S4x2048x1024 .bf16) (b : Fin 4) (x : Fin 2304)
    (c : Fin 1024) : joinedVals old new (ix3 b x c) =
      joinParts (fun x => (old (ix4 1 b x c) : EReal)) (fun x => (new (ix3 b x c) : EReal)) x := by
  unfold joinParts
  pointwise [joinedVals]

/-- The scores: keys against queries, times the logarithm of two. -/
def scores (q : FVec Ideal S4x2048x2048 .bf16) (k : FVec Ideal S4x2304x2048 .f32) : FVec Ideal S4x8x1x2048x2304 .f32 :=
  mulf (transpose S4x8x1x2048x2304 [0, 1, 4, 3, 2] (Host.dotGeneral
    dot_S4x2304x8x256_S4x2048x8x1x256_S4x8x2304x2048x1_3_4_1_13_02_02 none
    (shapeCast _ k shapeCasts_S4x2304x2048_S4x2304x8x256)
    (shapeCast _ (extf .f32 q bitsLt_bf16_f32) shapeCasts_S4x2048x2048_S4x2048x8x1x256))
    transposes_S4x8x2304x2048x1_S4x8x1x2048x2304_0_1_4_3_2)
    (broadcastInDim S4x8x1x2048x2304 ![] bcast_S_S4x8x1x2048x2304 (Host.log (constant S_ .f32 0x40000000#32)))

theorem scores_at (q : FVec Ideal S4x2048x2048 .bf16) (k : FVec Ideal S4x2304x2048 .f32) (b : Fin 4) (h : Fin 8)
    (r : Fin 2048) (x : Fin 2304) : scores q k (ix5 b h 0 r x) =
      ((∑ d : Fin 256, k (ix3 b x ⟨h.1 * 256 + d.1, by omega⟩) * q (ix3 b r ⟨h.1 * 256 + d.1, by omega⟩)) *
        ((Real.log 2 : ℝ) : EReal) : EReal) := by
  pointwise [scores]
  rw [log_two]

/-- One number of each row, repeated along the row. -/
def spread (t : FVec Ideal S4x8x1x2048 .f32) : FVec Ideal S4x8x1x2048x2304 .f32 :=
  broadcastInDim S4x8x1x2048x2304 ![0, 1, 2, 3, 4] bcast_S4x8x1x2048x1_S4x8x1x2048x2304_0_1_2_3_4
    (broadcastInDim S4x8x1x2048x1 ![0, 1, 2, 3] bcast_S4x8x1x2048_S4x8x1x2048x1_0_1_2_3 t)

theorem spread_at (t : FVec Ideal S4x8x1x2048 .f32) (b : Fin 4) (h : Fin 8) (r : Fin 2048) (x : Fin 2304) :
    spread t (ix5 b h 0 r x) = t (ix4 b h 0 r) := by
  pointwise [spread]

/-- The greatest score of each row. -/
def rowTop (s : FVec Ideal S4x8x1x2048x2304 .f32) : FVec Ideal S4x8x1x2048 .f32 :=
  Host.reduce FloatOps.maximumf s (constant S_ .f32 0xFF800000#32) reducesTo_S4x8x1x2048x2304_S4x8x1x2048_d4 h_S_

theorem rowTop_at (s : FVec Ideal S4x8x1x2048x2304 .f32) (b : Fin 4) (h : Fin 8) (r : Fin 2048) :
    rowTop s (ix4 b h 0 r) = Finset.univ.fold max ⊥ (fun x : Fin 2304 => (s (ix5 b h 0 r x) : EReal)) := by
  rw [← neg_inf]
  pointwise [rowTop]

/-- The sum of each row. -/
def rowSum (s : FVec Ideal S4x8x1x2048x2304 .f32) : FVec Ideal S4x8x1x2048 .f32 :=
  Host.reduceAdd s (constant S_ .f32 0x00000000#32) reducesTo_S4x8x1x2048x2304_S4x8x1x2048_d4 h_S_

theorem rowSum_at (s : FVec Ideal S4x8x1x2048x2304 .f32) (b : Fin 4) (h : Fin 8) (r : Fin 2048) :
    rowSum s (ix4 b h 0 r) = (∑ x : Fin 2304, s (ix5 b h 0 r x) : EReal) := by
  pointwise [rowSum]

/-- The exponentials of the scores less one number of each row. -/
def powersOf (s : FVec Ideal S4x8x1x2048x2304 .f32) (t : FVec Ideal S4x8x1x2048 .f32) : FVec Ideal S4x8x1x2048x2304 .f32 :=
  Host.exp (subf s (spread (maximumf (broadcastInDim S4x8x1x2048 ![] bcast_S_S4x8x1x2048 (constant S_ .f32 0xFF800000#32)) t)))

theorem powersOf_at (s : FVec Ideal S4x8x1x2048x2304 .f32) (t : FVec Ideal S4x8x1x2048 .f32) (b : Fin 4) (h : Fin 8) (r : Fin 2048) (x : Fin 2304) :
    powersOf s t (ix5 b h 0 r x) = Ideal.exp (s (ix5 b h 0 r x) - max (⊥ : EReal) (t (ix4 b h 0 r))) := by
  rw [← neg_inf]
  pointwise [powersOf, spread]

/-- The exponentials of the scores less the greatest of their row. -/
def powers (s : FVec Ideal S4x8x1x2048x2304 .f32) : FVec Ideal S4x8x1x2048x2304 .f32 := powersOf s (rowTop s)

theorem powers_at (s : FVec Ideal S4x8x1x2048x2304 .f32) (b : Fin 4) (h : Fin 8) (r : Fin 2048) (x : Fin 2304) :
    powers s (ix5 b h 0 r x) = expw (fun x : Fin 2304 => (s (ix5 b h 0 r x) : EReal)) x := by
  rw [expw, powers, powersOf_at, rowTop_at]

/-- A tensor divided by one number of each row. -/
def over (e : FVec Ideal S4x8x1x2048x2304 .f32) (t : FVec Ideal S4x8x1x2048 .f32) : FVec Ideal S4x8x1x2048x2304 .f32 :=
  Host.divf e (spread t)

theorem over_at (e : FVec Ideal S4x8x1x2048x2304 .f32) (t : FVec Ideal S4x8x1x2048 .f32) (b : Fin 4) (h : Fin 8) (r : Fin 2048) (x : Fin 2304) :
    over e t (ix5 b h 0 r x) = Ideal.div (e (ix5 b h 0 r x)) (t (ix4 b h 0 r)) := by
  pointwise [over, spread]

/-- The softmax along the last axis. -/
def weights (s : FVec Ideal S4x8x1x2048x2304 .f32) : FVec Ideal S4x8x1x2048x2304 .f32 :=
  over (powers s) (rowSum (powers s))

theorem weights_at (s : FVec Ideal S4x8x1x2048x2304 .f32) (b : Fin 4) (h : Fin 8) (r : Fin 2048) (x : Fin 2304) :
    weights s (ix5 b h 0 r x) = Ideal.div (expw (fun x : Fin 2304 => (s (ix5 b h 0 r x) : EReal)) x)
      (∑ y, expw (fun x : Fin 2304 => (s (ix5 b h 0 r x) : EReal)) y) := by
  rw [weights, over_at, rowSum_at]
  simp only [powers_at]

/-- The weighted values, put back to the layer's layout. -/
def mixed (v : FVec Ideal S4x2304x1024 .f32) (w : FVec Ideal S4x8x1x2048x2304 .f32) : FVec Ideal S4x2048x1024 .bf16 :=
  truncf .bf16 (shapeCast _ (transpose S4x2048x8x1x128 [0, 4, 1, 3, 2] (Host.dotGeneral
    dot_S4x2304x8x128_S4x8x1x2048x2304_S4x8x128x1x2048_1_4_3_23_02_01 none
    (shapeCast _ v shapeCasts_S4x2304x1024_S4x2304x8x128) w)
    transposes_S4x8x128x1x2048_S4x2048x8x1x128_0_4_1_3_2) shapeCasts_S4x2048x8x1x128_S4x2048x1024) bitsLt_bf16_f32

theorem mixed_at (v : FVec Ideal S4x2304x1024 .f32) (w : FVec Ideal S4x8x1x2048x2304 .f32) (b : Fin 4) (r : Fin 2048)
    (e : Fin 1024) : mixed v w (ix3 b r e) = (∑ x : Fin 2304, v (ix3 b x e) *
      w (ix5 b ⟨e.1 / 128, by omega⟩ 0 r x) : EReal) := by
  pointwise [mixed]

variable (m : (ℓ : Loc nD τ sig) → Buf (Elt Ideal) ℓ)

theorem res_eq (c : Dev nD) : res_out0 m c = mixed (joinedVals (m (c.tc.loc main_arg3)) (m (c.tc.loc main_arg4)))
    (weights (scores (m (c.tc.loc main_arg0)) (joinedKeys (m (c.tc.loc main_arg1)) (m (c.tc.loc main_arg2))))) := by
  unfold res_out0 res_main_v33 mixed weights over powers powersOf rowSum rowTop spread scores joinedKeys joinedVals
  rfl

/-- The reference at an index: the softmax of the scores against the values. -/
theorem res_at (c : Dev nD) (b : Fin 4) (r : Fin 2048) (e : Fin 1024) : res_out0 m c (ix3 b r e) =
    soft (fun x : Fin 2304 => (∑ d : Fin 256, joinedKeys (m (c.tc.loc main_arg1)) (m (c.tc.loc main_arg2))
        (ix3 b x ⟨e.1 / 128 * 256 + d.1, by omega⟩) * m (c.tc.loc main_arg0) (ix3 b r ⟨e.1 / 128 * 256 + d.1, by omega⟩)) *
        ((Real.log 2 : ℝ) : EReal))
      (fun x : Fin 2304 => joinedVals (m (c.tc.loc main_arg3)) (m (c.tc.loc main_arg4)) (ix3 b x e)) := by
  rw [res_eq, mixed_at, soft]
  simp only [weights_at, scores_at]

end Cert.Reference5Ideal.Value
end
-- ==== Proof.FiniteB.lean ====
/- What the second precondition says: the queries and the keys of the low-rank attention are finite. -/
module

public import proofs.«01_k».proof.Pre_finite_scores_b
public import proofs.«01_k».proof.Proof.Finite

@[expose] public section
set_option maxRecDepth 16384
noncomputable section
namespace Cert.FiniteB
open Idealize.ShloMosaic Cert.Softmax Cert.Finite
open Cert.Pre_finite_scores_b

instance facts : Cert.Pre_finite_scores_b.Facts where
  bcast_S_S4x2048x2048 := by decide
  reducesTo_S4x2048x2048_S_d0_1_2 := by decide
  h_S_ := by decide
  bcast_S_S4x4x256x2048 := by decide
  reducesTo_S4x4x256x2048_S_d0_1_2_3 := by decide

theorem spec (q : FVec Ideal S4x2048x2048 .bf16) (k : FVec Ideal S4x4x256x2048 .bf16) (n : FVec Ideal S4x2048x2048 .bf16)
    (v : FVec Ideal S4x4x256x1024 .bf16) (w : FVec Ideal S4x2048x1024 .bf16) (h : fn q k n v w = fun _ => 1#1) :
    (∀ i, Fin' (q i)) ∧ (∀ i, Fin' (k i)) ∧ (∀ i, Fin' (n i)) := by
  have h0 := congrFun h ix0
  dsimp only [fn] at h0
  obtain ⟨h1, h2⟩ := both h0
  obtain ⟨h3, h4⟩ := both h1
  exact ⟨fun i => fin_of_lt _ (Host.reduce_andi_all _ _ _ _ _ h3 i), fun i => fin_of_lt _ (Host.reduce_andi_all _ _ _ _ _ h4 i),
    fun i => fin_of_lt _ (Host.reduce_andi_all _ _ _ _ _ h2 i)⟩
end Cert.FiniteB
end
-- ==== Proof.TieB.lean ====
/- The low-rank attention: the kernel's array and the reference's term are one function of finite queries and keys. -/
module

public import proofs.«01_k».proof.Proof.ArrB
public import proofs.«01_k».proof.Proof.RefB
public import proofs.«01_k».proof.Proof.FiniteB

@[expose] public section
set_option maxRecDepth 16384
noncomputable section
namespace Cert.TieB
open Idealize.ShloMosaic Idealize.ShloMosaic.TcCoe Idealize.SL.Sem Cert.Softmax
open Cert.Reference5Ideal

/-- A property of both parts is one of the join. -/
theorem joinParts_all {α : Type} (p : α → Prop) (f : Fin 256 → α) (g : Fin 2048 → α) (hf : ∀ x, p (f x)) (hg : ∀ x, p (g x)) (x : Fin 2304) :
    p (joinParts f g x) := by
  unfold joinParts
  split
  · exact hf _
  · exact hg _

/-- Joining two parts and then applying a function, or the other way round. -/
theorem joinParts_map {α β : Type} (u : α → β) (f : Fin 256 → α) (g : Fin 2048 → α) (x : Fin 2304) :
    joinParts (fun x => u (f x)) (fun x => u (g x)) x = u (joinParts f g x) := by
  unfold joinParts
  split <;> rfl

variable (m : (ℓ : Loc nD τ sig) → Buf (Elt Ideal) ℓ)

theorem tie (c : Dev nD) (hq : ∀ i, Fin' (m (c.tc.loc main_arg0) i)) (hk : ∀ i, Fin' (m (c.tc.loc main_arg1) i))
    (hn : ∀ i, Fin' (m (c.tc.loc main_arg2) i)) :
    Cert.Kernel5Ideal.Out.cell (m (c.tc.loc main_arg0)) (m (c.tc.loc main_arg1)) (m (c.tc.loc main_arg2))
      (m (c.tc.loc main_arg3)) (m (c.tc.loc main_arg4)) = Cert.Reference5Ideal.Value.res_out0 m c := by
  funext y
  obtain ⟨b, r, e, rfl⟩ : ∃ (b : Fin 4) (r : Fin 2048) (e : Fin 1024), y = ix3 b r e := ⟨y 0, y 1, y 2, by
    funext a; fin_cases a <;> rfl⟩
  refine Eq.trans ?_ (Cert.Reference5Ideal.Value.res_at m c b r e).symm
  unfold Cert.Kernel5Ideal.Out.cell
  rw [show (fun x : Fin 2304 => Cert.Reference5Ideal.Value.joinedVals (m (c.tc.loc main_arg3)) (m (c.tc.loc main_arg4)) (ix3 b x e)) =
    joinParts (fun x : Fin 256 => (m (c.tc.loc main_arg3) (ix4 1 b x e) : EReal)) (fun x : Fin 2048 => (m (c.tc.loc main_arg4) (ix3 b x e) : EReal))
    from funext fun x => Cert.Reference5Ideal.Value.joinedVals_at _ _ b x e]
  refine late_eq_soft _ _ _ _ (fun x => ?_) (fun x => ?_) fun _ => rfl
  · exact joinParts_all Fin' _ _ (fun x => Fin'.sum _ fun d => (hq _).mul (hk _)) (fun x => Fin'.sum _ fun d => (hq _).mul (hn _)) x
  · congr 1
    simp only [Cert.Reference5Ideal.Value.joinedKeys_at]
    unfold joinParts
    split
    · exact Finset.sum_congr rfl fun d _ => mul_comm _ _
    · exact Finset.sum_congr rfl fun d _ => mul_comm _ _

end Cert.TieB
end
-- ==== Proof.ProjCell.lean ====
/- The projections into attention at one cell of each result, over the extended reals, as both programs compute them: a
   row normalised, scaled and shifted, projected on the columns of the weights, and the parts of that projection
   normalised head by head, turned by the angles of the row's position, or expanded from their low-rank form. -/
module

public import proofs.«01_k».proof.Proof.FfnCell

@[expose] public section
noncomputable section
namespace Cert.ProjCell
open Idealize.ShloMosaic
open Cert.FfnCell (small normed)

/-- The patterns of 128 and 256, the lengths of a head and of the low-rank part. -/
abbrev len128 : EReal := Ideal.ofBits FTy.f32 1124073472#32
abbrev len256 : EReal := Ideal.ofBits FTy.f32 1132462080#32
/-- The patterns of the two scales of the queries. -/
abbrev scaleA : EReal := Ideal.ofBits FTy.f32 1040356334#32
abbrev scaleB : EReal := Ideal.ofBits FTy.f32 1037384597#32

/-- A vector divided by the root of its mean square, times the weights. -/
def unit {n : ℕ} (len : EReal) (x g : Fin n → EReal) (d : Fin n) : EReal :=
  x d * Ideal.rsqrt (Ideal.div (∑ e, x e * x e) len + small) * g d

/-- The place half a head away. -/
def half (e : Fin 128) : Fin 128 := ⟨(e.1 + 64) % 128, Nat.mod_lt _ (by decide)⟩

/-- The place in its half of a head. -/
def low (e : Fin 128) : Fin 64 := ⟨e.1 % 64, Nat.mod_lt _ (by decide)⟩

/-- A head turned, from one table of cosines and one of sines as wide as the head, the sines signed. -/
def spin (c s x : Fin 128 → EReal) (e : Fin 128) : EReal := x e * c e + x (half e) * s e

/-- A head turned, from the cosines and sines of its half. -/
def turn (c s : Fin 64 → EReal) (x : Fin 128 → EReal) (e : Fin 128) : EReal :=
  if e.1 < 64 then x e * c (low e) - x (half e) * s (low e) else x e * c (low e) + x (half e) * s (low e)

theorem spin_eq_turn (C S : Fin 128 → EReal) (c s : Fin 64 → EReal) (hC : ∀ e, C e = c (low e))
    (hS : ∀ e, S e = if e.1 < 64 then -s (low e) else s (low e)) : spin C S = turn c s := by
  funext x e
  unfold spin turn
  rw [hC, hS]
  by_cases h : e.1 < 64
  · rw [if_pos h, if_pos h, mul_neg, sub_eq_add_neg]
  · rw [if_neg h, if_neg h]

/-- The projection of a normalised row on one column. -/
def proj (x g sc sh : Fin 2048 → EReal) (w : Fin 2048 → Fin 3968 → EReal) (e : Fin 3968) : EReal :=
  ∑ d, normed x g sc sh d * w d e

theorem proj_congr {x g sc sh x' g' sc' sh' : Fin 2048 → EReal} {w w' : Fin 2048 → Fin 3968 → EReal} (e : Fin 3968)
    (hx : ∀ d, x d = x' d) (hg : ∀ d, g d = g' d) (hc : ∀ d, sc d = sc' d) (hs : ∀ d, sh d = sh' d) (hw : ∀ d e, w d e = w' d e) :
    proj x g sc sh w e = proj x' g' sc' sh' w' e := by
  rw [show x = x' from funext hx, show g = g' from funext hg, show sc = sc' from funext hc, show sh = sh' from funext hs,
    show w = w' from funext fun d => funext (hw d)]

/-- The projection of one row of the latents, from the layer's modulations of its batch. -/
def rowG (x : Fin 8192 → Fin 2048 → EReal) (md : Fin 8 → Fin 6 → Fin 2048 → EReal) (g : Fin 2048 → EReal)
    (w : Fin 2048 → Fin 3968 → EReal) (R : Fin 8192) : Fin 3968 → EReal :=
  proj (x R) g (md ⟨1 + R.1 / 2048, by omega⟩ 1) (md ⟨1 + R.1 / 2048, by omega⟩ 0) w

/-- The turn of the heads of one row, by the angles of its position. -/
def rotG (c s : Fin 2048 → Fin 64 → EReal) (R : Fin 8192) : (Fin 128 → EReal) → Fin 128 → EReal :=
  turn (c ⟨R.1 % 2048, by omega⟩) (s ⟨R.1 % 2048, by omega⟩)

/-- The angles of a narrow head, the rest of the columns at a constant. -/
def padded (z : EReal) (v : Fin 32 → EReal) (e : Fin 64) : EReal := if h : e.1 < 32 then v ⟨e.1, h⟩ else z

variable (rot : (Fin 128 → EReal) → Fin 128 → EReal) (p : Fin 3968 → EReal)

/-- A place of a head, of 128 columns. -/
def place {n : ℕ} (e : Fin n) : Fin 128 := ⟨e.1 % 128, Nat.mod_lt _ (by decide)⟩

/-- The grouped attention's queries, keys and values. -/
def qa (g : Fin 128 → EReal) (e : Fin 1024) : EReal :=
  rot (unit len128 (fun d : Fin 128 => p ⟨e.1 / 128 * 128 + d.1, by omega⟩) g) (place e) * scaleA
def ka (g : Fin 128 → EReal) (e : Fin 256) : EReal :=
  rot (unit len128 (fun d : Fin 128 => p ⟨1024 + e.1 / 128 * 128 + d.1, by omega⟩) g) (place e)
def va (e : Fin 256) : EReal := p ⟨1280 + e.1, by omega⟩

/-- The low-rank attention's queries: a half of each head as it is, the other turned. -/
def qb (e : Fin 2048) : EReal :=
  (if e.1 % 256 < 128 then p ⟨1536 + e.1, by omega⟩
    else rot (fun d : Fin 128 => p ⟨1536 + (e.1 / 256 * 256 + 128) + d.1, by omega⟩) (place e)) * scaleB

/-- The low-rank part, normalised, and its products with one column of weights. -/
def lowrank (g : Fin 256 → EReal) : Fin 256 → EReal := unit len256 (fun d : Fin 256 => p ⟨3584 + d.1, by omega⟩) g
def vb (g w : Fin 256 → EReal) : EReal := ∑ d, lowrank p g d * w d

/-- The low-rank attention's keys: a half of each head expanded from the low-rank part, the other shared and turned. -/
def kb (g : Fin 256 → EReal) (w : Fin 256 → Fin 1024 → EReal) (e : Fin 2048) : EReal :=
  if e.1 % 256 < 128 then vb p g (fun d => w d ⟨e.1 / 256 * 128 + e.1 % 128, by omega⟩)
    else rot (fun d : Fin 128 => p ⟨3840 + d.1, by omega⟩) (place e)

end Cert.ProjCell
end
-- ==== Proof.ProjTiles.lean ====
/- The projections' kernel: the arithmetic of each stored tile, at one cell. -/
module

public import proofs.«01_k».proof.Proof.Gen.Kernel6Ideal.Value
public import proofs.«01_k».proof.Proof.ProjCell

@[expose] public section
set_option maxRecDepth 16384
noncomputable section
namespace Cert.Kernel6Ideal.Proj
open Idealize.ShloMosaic Idealize.ShloMosaic.TcCoe Idealize.SL.Sem
open Cert.Kernel6Ideal Cert.Kernel6Ideal.Gen Cert.ProjCell

/-! ## Pieces of arithmetic -/

/-- One head of every row normalised. -/
def normTile (t : FVec Ideal S256x128 .f32) (w : FVec Ideal S1x128 .f32) : FVec Ideal S256x128 .f32 :=
  mulf (mulf t (broadcastTo S256x128 (rsqrt (addf (divf (shapeCast S256x1 (multiReduction .add [1] S256 (mulf t t) 0x00000000#32
    reduces_S256x128_S256 (.inl rfl) rfl) shapeCasts_S256_S256x1) (broadcast S256x1 (Scalar.ofBits .f32 0x43000000#32)))
    (broadcast S256x1 (Scalar.ofBits .f32 0x358637BD#32)))) broadcasts_S256x1_S256x128)) (broadcastTo S256x128 w broadcasts_S1x128_S256x128)

theorem normTile_at (t : FVec Ideal S256x128 .f32) (w : FVec Ideal S1x128 .f32) (r : Fin 256) (e : Fin 128) :
    normTile t w (ix2 r e) = unit len128 (fun d => t (ix2 r d)) (fun d => w (ix2 0 d)) e := by
  pointwise [normTile]
  rfl

/-- One head of every row turned. -/
def spinTile (t : FVec Ideal S256x128 .f32) (c s : Vec Ideal S256x128 .f32) : FVec Ideal S256x128 .f32 :=
  addf (mulf t (shapeCast S256x128 c shapeCasts_S256x128_S256x128))
    (mulf (dynamicRotate 1 64#32 none t rotates_S256x128_d1) (shapeCast S256x128 s shapeCasts_S256x128_S256x128))

theorem spinTile_at (t : FVec Ideal S256x128 .f32) (c s : Vec Ideal S256x128 .f32) (r : Fin 256) (e : Fin 128) :
    spinTile t c s (ix2 r e) = spin (fun e => c (ix2 r e)) (fun e => s (ix2 r e)) (fun d => t (ix2 r d)) e := by
  pointwise [spinTile]
  rfl

/-- A column slice of the projection, by way of a wider one. -/
theorem slice_at (p : FVec Ideal S256x3968 .f32) (o : ℕ) (h : S256x1024.Slices ![0, o] S256x128) (ho : o ≤ 896) (r : Fin 256) (e : Fin 128) :
    extractStridedSlice S256x128 ![0, o] (extractStridedSlice S256x1024 ![0, 0] p slices_S256x3968_o0_0_S256x1024) h (ix2 r e) =
      p (ix2 r (⟨o + e.1, by omega⟩ : Fin 3968)) := by
  pointwise []

theorem slice_ka (p : FVec Ideal S256x3968 .f32) (o : ℕ) (h : S256x256.Slices ![0, o] S256x128) (ho : o ≤ 128) (r : Fin 256) (e : Fin 128) :
    extractStridedSlice S256x128 ![0, o] (extractStridedSlice S256x256 ![0, 1024] p slices_S256x3968_o0_1024_S256x256) h (ix2 r e) =
      p (ix2 r (⟨1024 + (o + e.1), by omega⟩ : Fin 3968)) := by
  pointwise []

theorem slice_va (p : FVec Ideal S256x3968 .f32) (r e : Fin 256) :
    extractStridedSlice S256x256 ![0, 1280] p slices_S256x3968_o0_1280_S256x256 (ix2 r e) =
      p (ix2 r (⟨1280 + e.1, by omega⟩ : Fin 3968)) := by
  pointwise []

theorem slice_qb (p : FVec Ideal S256x3968 .f32) (o : ℕ) (h : S256x2048.Slices ![0, o] S256x128) (ho : o ≤ 1920) (r : Fin 256) (e : Fin 128) :
    extractStridedSlice S256x128 ![0, o] (extractStridedSlice S256x2048 ![0, 1536] p slices_S256x3968_o0_1536_S256x2048) h (ix2 r e) =
      p (ix2 r (⟨1536 + (o + e.1), by omega⟩ : Fin 3968)) := by
  pointwise []

theorem slice_rope (p : FVec Ideal S256x3968 .f32) (r : Fin 256) (e : Fin 128) :
    extractStridedSlice S256x128 ![0, 3840] p slices_S256x3968_o0_3840_S256x128 (ix2 r e) =
      p (ix2 r (⟨3840 + e.1, by omega⟩ : Fin 3968)) := by
  pointwise []

theorem slice_kno (p : FVec Ideal S256x1024 .f32) (o : ℕ) (h : S256x1024.Slices ![0, o] S256x128) (ho : o ≤ 896) (r : Fin 256) (e : Fin 128) :
    extractStridedSlice S256x128 ![0, o] p h (ix2 r e) = p (ix2 r (⟨o + e.1, by omega⟩ : Fin 1024)) := by
  pointwise []

/-- The low-rank part normalised, and expanded by weights. -/
theorem lowrank_at (p : FVec Ideal S256x3968 .f32) (g : Vec Ideal S1x1x256 .f32) (r d : Fin 256) :
    k0_pay52 p g (ix2 r d) = lowrank (fun e => p (ix2 r e)) (fun e => g (ix3 0 0 e)) d := by
  pointwise [k0_pay52]
  rfl

theorem expand_at (t : FVec Ideal S256x256 .bf16) (w : Vec Ideal S1x256x1024 .bf16) (r : Fin 256) (e : Fin 1024) :
    k0_pay54 t w (ix2 r e) = (∑ d : Fin 256, t (ix2 r d) * w (ix3 0 d e) : EReal) := by
  pointwise [k0_pay54]

/-- The projection of 256 rows. -/
theorem rows_at (x : Vec Ideal S256x2048 .f32) (g : Vec Ideal S1x1x2048 .f32) (sc sh : Vec Ideal S1x1x1x2048 .f32)
    (w : Vec Ideal S1x2048x3968 .bf16) (r : Fin 256) (e : Fin 3968) : k0_pay2 x g sc sh w (ix2 r e) =
      proj (fun d => x (ix2 r d)) (fun d => g (ix3 0 0 d)) (fun d => sc (ix4 0 0 0 d)) (fun d => sh (ix4 0 0 0 d))
        (fun d e => w (ix3 0 d e)) e := by
  pointwise [k0_pay2]
  rfl

end Cert.Kernel6Ideal.Proj
end
-- ==== Proof.ProjBlocks.lean ====
/- The projections' kernel: what one step leaves in the block of each result, cell by cell. -/
module

public import proofs.«01_k».proof.Proof.ProjTiles
public import Idealize.ShloMosaic.Lib.Pipeline.ReadBack

@[expose] public section
set_option maxRecDepth 16384
noncomputable section
namespace Cert.Kernel6Ideal.Proj
open Idealize.ShloMosaic Idealize.ShloMosaic.TcCoe Idealize.SL.Sem
open Cert.Kernel6Ideal Cert.Kernel6Ideal.Gen Cert.ProjCell

/-- A coordinate of an index of a box. -/
theorem emb_val {s : Shape} (off size : Fin s.rank → ℕ) (inb) (x : (Rect.unit (s := s) off size inb).shape.Idx) (a : Fin s.rank) :
    ((Rect.unit (s := s) off size inb).emb x a).1 = off a + (x a).1 := Rect.idx_unit_val off size inb x a

/-! ## Loads -/

theorem ld_rows (x : Vec Ideal S512x2048 .f32) (r0 : ℕ) (hr : r0 ≤ 256) (h : ∀ a, ![r0, 0] a + S256x2048.size a ≤ S512x2048.size a)
    (r : Fin 256) (d : Fin 2048) : View.ld x (Rect.unit (s := S512x2048) ![r0, 0] S256x2048.size h) (ix2 r d) = x (ix2 (⟨r0 + r.1, by omega⟩ : Fin 512) d) := by
  pointwise []

theorem ld_table (x : Vec Ideal S512x128 .f32) (r0 : ℕ) (hr : r0 ≤ 256) (h : ∀ a, ![r0, 0] a + S256x128.size a ≤ S512x128.size a)
    (r : Fin 256) (d : Fin 128) : View.ld x (Rect.unit (s := S512x128) ![r0, 0] S256x128.size h) (ix2 r d) = x (ix2 (⟨r0 + r.1, by omega⟩ : Fin 512) d) := by
  pointwise []

theorem ld_gain (x : Vec Ideal S1x1x2048 .f32) (d : Fin 2048) : View.ld x r0_1 (ix3 0 0 d : S1x1x2048.Idx) = x (ix3 0 0 d) := by pointwise []
theorem ld_scale (x : Vec Ideal S1x1x6x2048 .f32) (d : Fin 2048) : View.ld x r0_2 (ix4 0 0 0 d : S1x1x1x2048.Idx) = x (ix4 0 0 1 d) := by pointwise []
theorem ld_shift (x : Vec Ideal S1x1x6x2048 .f32) (d : Fin 2048) : View.ld x r0_3 (ix4 0 0 0 d : S1x1x1x2048.Idx) = x (ix4 0 0 0 d) := by pointwise []
theorem ld_weights (x : Vec Ideal S1x2048x3968 .bf16) (d : Fin 2048) (e : Fin 3968) : View.ld x r0_4 (ix3 0 d e : S1x2048x3968.Idx) = x (ix3 0 d e) := by pointwise []
theorem ld_head (x : Vec Ideal S1x1x128 .f32) (d : Fin 128) :
    (shapeCast S1x128 (View.ld x r0_5) shapeCasts_S1x1x128_S1x128 : FVec Ideal S1x128 .f32) (ix2 0 d) = x (ix3 0 0 d) := by pointwise []
theorem ld_low (x : Vec Ideal S1x1x256 .f32) (d : Fin 256) : View.ld x r0_34 (ix3 0 0 d : S1x1x256.Idx) = x (ix3 0 0 d) := by pointwise []
theorem ld_wide (x : Vec Ideal S1x256x1024 .bf16) (d : Fin 256) (e : Fin 1024) : View.ld x r0_35 (ix3 0 d e : S1x256x1024.Idx) = x (ix3 0 d e) := by pointwise []

theorem narrow_at {S : Shape} (v : FVec Ideal S .f32) (x : S.Idx) : (truncf .bf16 v bitsLt_bf16_f32 : FVec Ideal S .bf16) x = v x := rfl

theorem lowrank_ld (p : FVec Ideal S256x3968 .f32) (x : Vec Ideal S1x1x256 .f32) (r d : Fin 256) :
    k0_pay52 p (View.ld x r0_34) (ix2 r d) = lowrank (fun e => p (ix2 r e)) (fun e => x (ix3 0 0 e)) d :=
  (lowrank_at p _ r d).trans (congrArg (fun g => lowrank (fun e => p (ix2 r e)) g d) (funext (ld_low x)))

theorem expand_ld (t : FVec Ideal S256x256 .bf16) (x : Vec Ideal S1x256x1024 .bf16) (r : Fin 256) (e : Fin 1024) :
    k0_pay54 t (View.ld x r0_35) (ix2 r e) = (∑ d : Fin 256, t (ix2 r d) * x (ix3 0 d e) : EReal) :=
  (expand_at t _ r e).trans (Finset.sum_congr rfl fun d _ => congrArg (fun v : EReal => (t (ix2 r d) * v : EReal)) (ld_wide x d e))

/-! ## The projected rows -/

/-- The projection of one row of a block. -/
def rowP (x0 : Vec Ideal S512x2048 .f32) (x1 : Vec Ideal S1x1x6x2048 .f32) (x2 : Vec Ideal S1x1x2048 .f32)
    (x3 : Vec Ideal S1x2048x3968 .bf16) (r : Fin 512) : Fin 3968 → EReal :=
  proj (fun d => x0 (ix2 r d)) (fun d => x2 (ix3 0 0 d)) (fun d => x1 (ix4 0 0 1 d)) (fun d => x1 (ix4 0 0 0 d)) (fun d e => x3 (ix3 0 d e))

/-- The projection of a half of a block's rows. -/
def rowsOf (x0 : Vec Ideal S512x2048 .f32) (x1 : Vec Ideal S1x1x6x2048 .f32) (x2 : Vec Ideal S1x1x2048 .f32)
    (x3 : Vec Ideal S1x2048x3968 .bf16) (r0 : ℕ) (h : ∀ a, ![r0, 0] a + S256x2048.size a ≤ S512x2048.size a) : FVec Ideal S256x3968 .f32 :=
  k0_pay2 (View.ld x0 (Rect.unit (s := S512x2048) ![r0, 0] S256x2048.size h)) (View.ld x2 r0_1) (View.ld x1 r0_2) (View.ld x1 r0_3) (View.ld x3 r0_4)

theorem rowsOf_at (x0 : Vec Ideal S512x2048 .f32) (x1 : Vec Ideal S1x1x6x2048 .f32) (x2 : Vec Ideal S1x1x2048 .f32)
    (x3 : Vec Ideal S1x2048x3968 .bf16) (r0 : ℕ) (h : ∀ a, ![r0, 0] a + S256x2048.size a ≤ S512x2048.size a) (hr : r0 ≤ 256) (r : Fin 256)
    (e : Fin 3968) : rowsOf x0 x1 x2 x3 r0 h (ix2 r e) = rowP x0 x1 x2 x3 ⟨r0 + r.1, by omega⟩ e := by
  rw [rowsOf, rows_at]
  exact proj_congr e (ld_rows x0 r0 hr h r) (ld_gain x2) (ld_scale x1) (ld_shift x1) (ld_weights x3)

variable (x0 : Vec Ideal S512x2048 .f32) (x1 : Vec Ideal S1x1x6x2048 .f32) (x2 : Vec Ideal S1x1x2048 .f32)
  (x3 : Vec Ideal S1x2048x3968 .bf16)

/-- The turn of a row of a block, from the block's tables. -/
abbrev rotOf (c s : Vec Ideal S512x128 .f32) (r : Fin 512) : (Fin 128 → EReal) → Fin 128 → EReal :=
  spin (fun e => c (ix2 r e)) (fun e => s (ix2 r e))

/-! ## The grouped attention's queries, keys and values -/

def QA (x4 : Vec Ideal S1x1x128 .f32) (c s : Vec Ideal S512x128 .f32) : Vec Ideal S512x1024 .bf16 := fun y =>
  qa (rotOf c s (y 0)) (rowP x0 x1 x2 x3 (y 0)) (fun d => x4 (ix3 0 0 d)) (y 1)

theorem tile_qa (x4 : Vec Ideal S1x1x128 .f32) (c s : Vec Ideal S512x128 .f32) (r0 o : ℕ)
    (ho : ∀ a, ![r0, o] a + S256x128.size a ≤ S512x1024.size a) (hx : ∀ a, ![r0, 0] a + S256x2048.size a ≤ S512x2048.size a)
    (ht : ∀ a, ![r0, 0] a + S256x128.size a ≤ S512x128.size a) (hs : S256x1024.Slices ![0, o] S256x128)
    (hr : r0 ≤ 256 ∧ o ≤ 896 ∧ o % 128 = 0) (x : (Rect.unit (s := S512x1024) ![r0, o] S256x128.size ho).shape.Idx) :
    (truncf .bf16 (mulf (spinTile (normTile (extractStridedSlice S256x128 ![0, o] (extractStridedSlice S256x1024 ![0, 0]
        (rowsOf x0 x1 x2 x3 r0 hx) slices_S256x3968_o0_0_S256x1024) hs) (shapeCast S1x128 (View.ld x4 r0_5) shapeCasts_S1x1x128_S1x128))
        (View.ld c (Rect.unit (s := S512x128) ![r0, 0] S256x128.size ht)) (View.ld s (Rect.unit (s := S512x128) ![r0, 0] S256x128.size ht)))
      (broadcast S256x128 (Scalar.ofBits .f32 0x3E0293EE#32))) bitsLt_bf16_f32 : FVec Ideal S256x128 .bf16) x =
    QA x0 x1 x2 x3 x4 c s ((Rect.unit (s := S512x1024) ![r0, o] S256x128.size ho).emb x) := by
  have y0 := emb_val _ _ ho x 0
  have y1 := emb_val _ _ ho x 1
  obtain ⟨r, e, rfl⟩ : ∃ (r : Fin 256) (e : Fin 128), x = ix2 r e := ⟨x 0, x 1, by funext a; fin_cases a <;> rfl⟩
  generalize (Rect.unit (s := S512x1024) ![r0, o] S256x128.size ho).emb (ix2 r e) = y at y0 y1 ⊢
  have z0 : y 0 = (⟨r0 + r.1, by omega⟩ : Fin 512) := Fin.ext y0
  have z1 : y 1 = (⟨o + e.1, by omega⟩ : Fin 1024) := Fin.ext y1
  have hp : ∀ d : Fin 128, (⟨(o + e.1) / 128 * 128 + d.1, by omega⟩ : Fin 3968) = ⟨o + d.1, by omega⟩ := fun d =>
    Fin.ext (by show (o + e.1) / 128 * 128 + d.1 = o + d.1; omega)
  have he : place (⟨o + e.1, by omega⟩ : Fin 1024) = e := Fin.ext (by show (o + e.1) % 128 = e.1; omega)
  refine (congrArg (fun v : EReal => v * scaleA) (spinTile_at _ _ _ r e)).trans ?_
  simp only [normTile_at, slice_at _ o hs hr.2.1, rowsOf_at x0 x1 x2 x3 r0 hx hr.1, ld_table c r0 hr.1 ht, ld_table s r0 hr.1 ht, ld_head]
  unfold QA
  rw [z0, z1]
  unfold qa
  simp only [hp, he]

def KA (x5 : Vec Ideal S1x1x128 .f32) (c s : Vec Ideal S512x128 .f32) : Vec Ideal S512x256 .bf16 := fun y =>
  ka (rotOf c s (y 0)) (rowP x0 x1 x2 x3 (y 0)) (fun d => x5 (ix3 0 0 d)) (y 1)

theorem tile_ka (x5 : Vec Ideal S1x1x128 .f32) (c s : Vec Ideal S512x128 .f32) (r0 o : ℕ)
    (ho : ∀ a, ![r0, o] a + S256x128.size a ≤ S512x256.size a) (hx : ∀ a, ![r0, 0] a + S256x2048.size a ≤ S512x2048.size a)
    (ht : ∀ a, ![r0, 0] a + S256x128.size a ≤ S512x128.size a) (hs : S256x256.Slices ![0, o] S256x128)
    (hr : r0 ≤ 256 ∧ o ≤ 128 ∧ o % 128 = 0) (x : (Rect.unit (s := S512x256) ![r0, o] S256x128.size ho).shape.Idx) :
    (truncf .bf16 (spinTile (normTile (extractStridedSlice S256x128 ![0, o] (extractStridedSlice S256x256 ![0, 1024]
        (rowsOf x0 x1 x2 x3 r0 hx) slices_S256x3968_o0_1024_S256x256) hs) (shapeCast S1x128 (View.ld x5 r0_5) shapeCasts_S1x1x128_S1x128))
        (View.ld c (Rect.unit (s := S512x128) ![r0, 0] S256x128.size ht)) (View.ld s (Rect.unit (s := S512x128) ![r0, 0] S256x128.size ht)))
      bitsLt_bf16_f32 : FVec Ideal S256x128 .bf16) x =
    KA x0 x1 x2 x3 x5 c s ((Rect.unit (s := S512x256) ![r0, o] S256x128.size ho).emb x) := by
  have y0 := emb_val _ _ ho x 0
  have y1 := emb_val _ _ ho x 1
  obtain ⟨r, e, rfl⟩ : ∃ (r : Fin 256) (e : Fin 128), x = ix2 r e := ⟨x 0, x 1, by funext a; fin_cases a <;> rfl⟩
  generalize (Rect.unit (s := S512x256) ![r0, o] S256x128.size ho).emb (ix2 r e) = y at y0 y1 ⊢
  have z0 : y 0 = (⟨r0 + r.1, by omega⟩ : Fin 512) := Fin.ext y0
  have z1 : y 1 = (⟨o + e.1, by omega⟩ : Fin 256) := Fin.ext y1
  have hp : ∀ d : Fin 128, (⟨1024 + (o + e.1) / 128 * 128 + d.1, by omega⟩ : Fin 3968) = ⟨1024 + (o + d.1), by omega⟩ := fun d =>
    Fin.ext (by show 1024 + (o + e.1) / 128 * 128 + d.1 = 1024 + (o + d.1); omega)
  have he : place (⟨o + e.1, by omega⟩ : Fin 256) = e := Fin.ext (by show (o + e.1) % 128 = e.1; omega)
  refine (spinTile_at _ _ _ r e).trans ?_
  simp only [normTile_at, slice_ka _ o hs hr.2.1, rowsOf_at x0 x1 x2 x3 r0 hx hr.1, ld_table c r0 hr.1 ht, ld_table s r0 hr.1 ht, ld_head]
  unfold KA
  rw [z0, z1]
  unfold ka
  simp only [hp, he]

def VA : Vec Ideal S512x256 .bf16 := fun y => va (rowP x0 x1 x2 x3 (y 0)) (y 1)

theorem tile_va (r0 : ℕ) (ho : ∀ a, ![r0, 0] a + S256x256.size a ≤ S512x256.size a)
    (hx : ∀ a, ![r0, 0] a + S256x2048.size a ≤ S512x2048.size a) (hr : r0 ≤ 256)
    (x : (Rect.unit (s := S512x256) ![r0, 0] S256x256.size ho).shape.Idx) :
    (truncf .bf16 (extractStridedSlice S256x256 ![0, 1280] (rowsOf x0 x1 x2 x3 r0 hx) slices_S256x3968_o0_1280_S256x256)
      bitsLt_bf16_f32 : FVec Ideal S256x256 .bf16) x = VA x0 x1 x2 x3 ((Rect.unit (s := S512x256) ![r0, 0] S256x256.size ho).emb x) := by
  have y0 := emb_val _ _ ho x 0
  have y1 := emb_val _ _ ho x 1
  obtain ⟨r, e, rfl⟩ : ∃ (r e : Fin 256), x = ix2 r e := ⟨x 0, x 1, by funext a; fin_cases a <;> rfl⟩
  generalize (Rect.unit (s := S512x256) ![r0, 0] S256x256.size ho).emb (ix2 r e) = y at y0 y1 ⊢
  have z0 : y 0 = (⟨r0 + r.1, by omega⟩ : Fin 512) := Fin.ext y0
  have z1 : y 1 = e := Fin.ext (y1.trans (Nat.zero_add _))
  refine (narrow_at _ _).trans ((slice_va _ r e).trans ?_)
  rw [rowsOf_at x0 x1 x2 x3 r0 hx hr]
  unfold VA
  rw [z0, z1]
  rfl

/-! ## The low-rank attention's queries -/

def QB (c s : Vec Ideal S512x128 .f32) : Vec Ideal S512x2048 .bf16 := fun y =>
  qb (rotOf c s (y 0)) (rowP x0 x1 x2 x3 (y 0)) (y 1)

theorem tile_qb_plain (c s : Vec Ideal S512x128 .f32) (r0 o : ℕ) (ho : ∀ a, ![r0, o] a + S256x128.size a ≤ S512x2048.size a)
    (hx : ∀ a, ![r0, 0] a + S256x2048.size a ≤ S512x2048.size a) (hs : S256x2048.Slices ![0, o] S256x128)
    (hr : r0 ≤ 256 ∧ o ≤ 1920 ∧ o % 256 = 0) (x : (Rect.unit (s := S512x2048) ![r0, o] S256x128.size ho).shape.Idx) :
    (truncf .bf16 (mulf (extractStridedSlice S256x128 ![0, o] (extractStridedSlice S256x2048 ![0, 1536] (rowsOf x0 x1 x2 x3 r0 hx)
        slices_S256x3968_o0_1536_S256x2048) hs) (broadcast S256x128 (Scalar.ofBits .f32 0x3DD53B95#32))) bitsLt_bf16_f32 :
      FVec Ideal S256x128 .bf16) x = QB x0 x1 x2 x3 c s ((Rect.unit (s := S512x2048) ![r0, o] S256x128.size ho).emb x) := by
  have y0 := emb_val _ _ ho x 0
  have y1 := emb_val _ _ ho x 1
  obtain ⟨r, e, rfl⟩ : ∃ (r : Fin 256) (e : Fin 128), x = ix2 r e := ⟨x 0, x 1, by funext a; fin_cases a <;> rfl⟩
  generalize (Rect.unit (s := S512x2048) ![r0, o] S256x128.size ho).emb (ix2 r e) = y at y0 y1 ⊢
  have z0 : y 0 = (⟨r0 + r.1, by omega⟩ : Fin 512) := Fin.ext y0
  have z1 : y 1 = (⟨o + e.1, by omega⟩ : Fin 2048) := Fin.ext y1
  refine (congrArg (fun v : EReal => v * scaleB) (slice_qb _ o hs hr.2.1 r e)).trans ?_
  rw [rowsOf_at x0 x1 x2 x3 r0 hx hr.1]
  unfold QB
  rw [z0, z1]
  unfold qb
  rw [if_pos (by show (o + e.1) % 256 < 128; omega)]

theorem tile_qb_turned (c s : Vec Ideal S512x128 .f32) (r0 o : ℕ) (ho : ∀ a, ![r0, o] a + S256x128.size a ≤ S512x2048.size a)
    (hx : ∀ a, ![r0, 0] a + S256x2048.size a ≤ S512x2048.size a) (ht : ∀ a, ![r0, 0] a + S256x128.size a ≤ S512x128.size a)
    (hs : S256x2048.Slices ![0, o] S256x128) (hr : r0 ≤ 256 ∧ o ≤ 1920 ∧ o % 256 = 128)
    (x : (Rect.unit (s := S512x2048) ![r0, o] S256x128.size ho).shape.Idx) :
    (truncf .bf16 (mulf (spinTile (extractStridedSlice S256x128 ![0, o] (extractStridedSlice S256x2048 ![0, 1536] (rowsOf x0 x1 x2 x3 r0 hx)
        slices_S256x3968_o0_1536_S256x2048) hs) (View.ld c (Rect.unit (s := S512x128) ![r0, 0] S256x128.size ht))
        (View.ld s (Rect.unit (s := S512x128) ![r0, 0] S256x128.size ht))) (broadcast S256x128 (Scalar.ofBits .f32 0x3DD53B95#32))) bitsLt_bf16_f32 :
      FVec Ideal S256x128 .bf16) x = QB x0 x1 x2 x3 c s ((Rect.unit (s := S512x2048) ![r0, o] S256x128.size ho).emb x) := by
  have y0 := emb_val _ _ ho x 0
  have y1 := emb_val _ _ ho x 1
  obtain ⟨r, e, rfl⟩ : ∃ (r : Fin 256) (e : Fin 128), x = ix2 r e := ⟨x 0, x 1, by funext a; fin_cases a <;> rfl⟩
  generalize (Rect.unit (s := S512x2048) ![r0, o] S256x128.size ho).emb (ix2 r e) = y at y0 y1 ⊢
  have z0 : y 0 = (⟨r0 + r.1, by omega⟩ : Fin 512) := Fin.ext y0
  have z1 : y 1 = (⟨o + e.1, by omega⟩ : Fin 2048) := Fin.ext y1
  have hp : ∀ d : Fin 128, (⟨1536 + ((o + e.1) / 256 * 256 + 128) + d.1, by omega⟩ : Fin 3968) = ⟨1536 + (o + d.1), by omega⟩ := fun d =>
    Fin.ext (by show 1536 + ((o + e.1) / 256 * 256 + 128) + d.1 = 1536 + (o + d.1); omega)
  have he : place (⟨o + e.1, by omega⟩ : Fin 2048) = e := Fin.ext (by show (o + e.1) % 128 = e.1; omega)
  refine (congrArg (fun v : EReal => v * scaleB) (spinTile_at _ _ _ r e)).trans ?_
  simp only [slice_qb _ o hs hr.2.1, rowsOf_at x0 x1 x2 x3 r0 hx hr.1, ld_table c r0 hr.1 ht, ld_table s r0 hr.1 ht]
  unfold QB
  rw [z0, z1]
  unfold qb
  rw [if_neg (by show ¬ (o + e.1) % 256 < 128; omega)]
  simp only [hp, he]

/-! ## The low-rank attention's keys and values -/

def KB (x6 : Vec Ideal S1x1x256 .f32) (x7 : Vec Ideal S1x256x1024 .bf16) (c s : Vec Ideal S512x128 .f32) : Vec Ideal S512x2048 .bf16 := fun y =>
  kb (rotOf c s (y 0)) (rowP x0 x1 x2 x3 (y 0)) (fun d => x6 (ix3 0 0 d)) (fun d e => x7 (ix3 0 d e)) (y 1)

theorem tile_kb_plain (x6 : Vec Ideal S1x1x256 .f32) (x7 : Vec Ideal S1x256x1024 .bf16) (c s : Vec Ideal S512x128 .f32) (r0 o : ℕ)
    (ho : ∀ a, ![r0, o] a + S256x128.size a ≤ S512x2048.size a) (hx : ∀ a, ![r0, 0] a + S256x2048.size a ≤ S512x2048.size a)
    (hs : S256x1024.Slices ![0, o / 2] S256x128) (hr : r0 ≤ 256 ∧ o ≤ 1792 ∧ o % 256 = 0)
    (x : (Rect.unit (s := S512x2048) ![r0, o] S256x128.size ho).shape.Idx) :
    (truncf .bf16 (extractStridedSlice S256x128 ![0, o / 2] (k0_pay54 (k0_pay52 (rowsOf x0 x1 x2 x3 r0 hx) (View.ld x6 r0_34))
        (View.ld x7 r0_35)) hs) bitsLt_bf16_f32 : FVec Ideal S256x128 .bf16) x =
      KB x0 x1 x2 x3 x6 x7 c s ((Rect.unit (s := S512x2048) ![r0, o] S256x128.size ho).emb x) := by
  have y0 := emb_val _ _ ho x 0
  have y1 := emb_val _ _ ho x 1
  obtain ⟨r, e, rfl⟩ : ∃ (r : Fin 256) (e : Fin 128), x = ix2 r e := ⟨x 0, x 1, by funext a; fin_cases a <;> rfl⟩
  generalize (Rect.unit (s := S512x2048) ![r0, o] S256x128.size ho).emb (ix2 r e) = y at y0 y1 ⊢
  have z0 : y 0 = (⟨r0 + r.1, by omega⟩ : Fin 512) := Fin.ext y0
  have z1 : y 1 = (⟨o + e.1, by omega⟩ : Fin 2048) := Fin.ext y1
  have hp : (⟨(o + e.1) / 256 * 128 + (o + e.1) % 128, by omega⟩ : Fin 1024) = ⟨o / 2 + e.1, by omega⟩ :=
    Fin.ext (by show (o + e.1) / 256 * 128 + (o + e.1) % 128 = o / 2 + e.1; omega)
  refine (narrow_at _ _).trans ((slice_kno _ (o / 2) hs (by omega) r e).trans ?_)
  simp only [expand_ld, lowrank_ld, rowsOf_at x0 x1 x2 x3 r0 hx hr.1]
  unfold KB
  rw [z0, z1]
  unfold kb
  rw [if_pos (by show (o + e.1) % 256 < 128; omega)]
  simp only [hp, vb]

theorem tile_kb_turned (x6 : Vec Ideal S1x1x256 .f32) (x7 : Vec Ideal S1x256x1024 .bf16) (c s : Vec Ideal S512x128 .f32) (r0 o : ℕ)
    (ho : ∀ a, ![r0, o] a + S256x128.size a ≤ S512x2048.size a) (hx : ∀ a, ![r0, 0] a + S256x2048.size a ≤ S512x2048.size a)
    (ht : ∀ a, ![r0, 0] a + S256x128.size a ≤ S512x128.size a) (hr : r0 ≤ 256 ∧ o ≤ 1920 ∧ o % 256 = 128)
    (x : (Rect.unit (s := S512x2048) ![r0, o] S256x128.size ho).shape.Idx) :
    (truncf .bf16 (spinTile (extractStridedSlice S256x128 ![0, 3840] (rowsOf x0 x1 x2 x3 r0 hx) slices_S256x3968_o0_3840_S256x128)
        (View.ld c (Rect.unit (s := S512x128) ![r0, 0] S256x128.size ht)) (View.ld s (Rect.unit (s := S512x128) ![r0, 0] S256x128.size ht))) bitsLt_bf16_f32 :
      FVec Ideal S256x128 .bf16) x = KB x0 x1 x2 x3 x6 x7 c s ((Rect.unit (s := S512x2048) ![r0, o] S256x128.size ho).emb x) := by
  have y0 := emb_val _ _ ho x 0
  have y1 := emb_val _ _ ho x 1
  obtain ⟨r, e, rfl⟩ : ∃ (r : Fin 256) (e : Fin 128), x = ix2 r e := ⟨x 0, x 1, by funext a; fin_cases a <;> rfl⟩
  generalize (Rect.unit (s := S512x2048) ![r0, o] S256x128.size ho).emb (ix2 r e) = y at y0 y1 ⊢
  have z0 : y 0 = (⟨r0 + r.1, by omega⟩ : Fin 512) := Fin.ext y0
  have z1 : y 1 = (⟨o + e.1, by omega⟩ : Fin 2048) := Fin.ext y1
  have he : place (⟨o + e.1, by omega⟩ : Fin 2048) = e := Fin.ext (by show (o + e.1) % 128 = e.1; omega)
  refine (spinTile_at _ _ _ r e).trans ?_
  simp only [slice_rope, rowsOf_at x0 x1 x2 x3 r0 hx hr.1, ld_table c r0 hr.1 ht, ld_table s r0 hr.1 ht]
  unfold KB
  rw [z0, z1]
  unfold kb
  rw [if_neg (by show ¬ (o + e.1) % 256 < 128; omega), he]

def VB (x6 : Vec Ideal S1x1x256 .f32) (x8 : Vec Ideal S1x256x1024 .bf16) : Vec Ideal S512x1024 .bf16 := fun y =>
  vb (rowP x0 x1 x2 x3 (y 0)) (fun d => x6 (ix3 0 0 d)) (fun d => x8 (ix3 0 d (y 1)))

theorem tile_vb (x6 : Vec Ideal S1x1x256 .f32) (x8 : Vec Ideal S1x256x1024 .bf16) (r0 : ℕ)
    (ho : ∀ a, ![r0, 0] a + S256x1024.size a ≤ S512x1024.size a)
    (hx : ∀ a, ![r0, 0] a + S256x2048.size a ≤ S512x2048.size a) (hr : r0 ≤ 256)
    (x : (Rect.unit (s := S512x1024) ![r0, 0] S256x1024.size ho).shape.Idx) :
    (truncf .bf16 (k0_pay54 (k0_pay52 (rowsOf x0 x1 x2 x3 r0 hx) (View.ld x6 r0_34)) (View.ld x8 r0_35)) bitsLt_bf16_f32 :
      FVec Ideal S256x1024 .bf16) x = VB x0 x1 x2 x3 x6 x8 ((Rect.unit (s := S512x1024) ![r0, 0] S256x1024.size ho).emb x) := by
  have y0 := emb_val _ _ ho x 0
  have y1 := emb_val _ _ ho x 1
  obtain ⟨r, e, rfl⟩ : ∃ (r : Fin 256) (e : Fin 1024), x = ix2 r e := ⟨x 0, x 1, by funext a; fin_cases a <;> rfl⟩
  generalize (Rect.unit (s := S512x1024) ![r0, 0] S256x1024.size ho).emb (ix2 r e) = y at y0 y1 ⊢
  have z0 : y 0 = (⟨r0 + r.1, by omega⟩ : Fin 512) := Fin.ext y0
  have z1 : y 1 = e := Fin.ext (y1.trans (Nat.zero_add _))
  refine (narrow_at _ _).trans ((expand_ld _ _ r e).trans ?_)
  simp only [lowrank_ld, rowsOf_at x0 x1 x2 x3 r0 hx hr]
  unfold VB
  rw [z0, z1]
  rfl

end Cert.Kernel6Ideal.Proj
end
-- ==== Proof.ProjPieces.lean ====
/- The projections' kernel: the block of each result is the stored tiles put together. -/
module

public import proofs.«01_k».proof.Proof.ProjBlocks

@[expose] public section
set_option maxRecDepth 16384
noncomputable section
namespace Cert.Kernel6Ideal.Proj
open Idealize.ShloMosaic Idealize.ShloMosaic.TcCoe Idealize.SL.Sem
open Cert.Kernel6Ideal Cert.Kernel6Ideal.Gen Cert.ProjCell

variable (x0 : Vec Ideal S512x2048 .f32) (x1 : Vec Ideal S1x1x6x2048 .f32) (x2 : Vec Ideal S1x1x2048 .f32)
  (x3 : Vec Ideal S1x2048x3968 .bf16) (x4 x5 : Vec Ideal S1x1x128 .f32) (x6 : Vec Ideal S1x1x256 .f32)
  (x7 x8 : Vec Ideal S1x256x1024 .bf16) (x9 x10 x11 x12 : Vec Ideal S512x128 .f32)

theorem out13_eq : out0_13 x0 x1 x2 x3 x4 x5 x6 x7 x8 x9 x10 x11 x12 = QA x0 x1 x2 x3 x4 x9 x10 := by
  unfold out0_13
  funext y
  refine View.canon_append_of_piecesOf _ [] [_, _, _, _, _, _, _, _, _, _, _, _, _, _, _, _] ?_ y
    (View.cover_of_tiledL _ ![256, 128] (by sl_kernel_rfl) y)
  iterate 16 refine ⟨fun x => tile_qa x0 x1 x2 x3 x4 x9 x10 _ _ (by decide) (by decide) (by decide) (by decide) (by decide) x, ?_⟩
  exact trivial

theorem out14_eq : out0_14 x0 x1 x2 x3 x4 x5 x6 x7 x8 x9 x10 x11 x12 = KA x0 x1 x2 x3 x5 x9 x10 := by
  unfold out0_14
  funext y
  refine View.canon_append_of_piecesOf _ [] [_, _, _, _] ?_ y (View.cover_of_tiledL _ ![256, 128] (by sl_kernel_rfl) y)
  iterate 4 refine ⟨fun x => tile_ka x0 x1 x2 x3 x5 x9 x10 _ _ (by decide) (by decide) (by decide) (by decide) (by decide) x, ?_⟩
  exact trivial

theorem out15_eq : out0_15 x0 x1 x2 x3 x4 x5 x6 x7 x8 x9 x10 x11 x12 = VA x0 x1 x2 x3 := by
  unfold out0_15
  funext y
  refine View.canon_append_of_piecesOf _ [] [_, _] ?_ y (View.cover_of_tiledL _ ![256, 256] (by sl_kernel_rfl) y)
  iterate 2 refine ⟨fun x => tile_va x0 x1 x2 x3 _ (by decide) (by decide) (by decide) x, ?_⟩
  exact trivial

theorem out16_eq : out0_16 x0 x1 x2 x3 x4 x5 x6 x7 x8 x9 x10 x11 x12 = QB x0 x1 x2 x3 x11 x12 := by
  unfold out0_16
  funext y
  refine View.canon_append_of_piecesOf _ [] [_, _, _, _, _, _, _, _, _, _, _, _, _, _, _, _, _, _, _, _, _, _, _, _, _, _, _, _, _, _, _, _] ?_ y
    (View.cover_of_tiledL _ ![256, 128] (by sl_kernel_rfl) y)
  iterate 16
    refine ⟨fun x => tile_qb_turned x0 x1 x2 x3 x11 x12 _ _ (by decide) (by decide) (by decide) (by decide) (by decide) x, ?_⟩
    refine ⟨fun x => tile_qb_plain x0 x1 x2 x3 x11 x12 _ _ (by decide) (by decide) (by decide) (by decide) x, ?_⟩
  exact trivial

theorem out17_eq : out0_17 x0 x1 x2 x3 x4 x5 x6 x7 x8 x9 x10 x11 x12 = KB x0 x1 x2 x3 x6 x7 x11 x12 := by
  unfold out0_17
  funext y
  refine View.canon_append_of_piecesOf _ [] [_, _, _, _, _, _, _, _, _, _, _, _, _, _, _, _, _, _, _, _, _, _, _, _, _, _, _, _, _, _, _, _] ?_ y
    (View.cover_of_tiledL _ ![256, 128] (by sl_kernel_rfl) y)
  iterate 16
    refine ⟨fun x => tile_kb_turned x0 x1 x2 x3 x6 x7 x11 x12 _ _ (by decide) (by decide) (by decide) (by decide) x, ?_⟩
    refine ⟨fun x => tile_kb_plain x0 x1 x2 x3 x6 x7 x11 x12 _ _ (by decide) (by decide) (by decide) (by decide) x, ?_⟩
  exact trivial

theorem out18_eq : out0_18 x0 x1 x2 x3 x4 x5 x6 x7 x8 x9 x10 x11 x12 = VB x0 x1 x2 x3 x6 x8 := by
  unfold out0_18
  funext y
  refine View.canon_append_of_piecesOf _ [] [_, _] ?_ y (View.cover_of_tiledL _ ![256, 1024] (by sl_kernel_rfl) y)
  iterate 2 refine ⟨fun x => tile_vb x0 x1 x2 x3 x6 x8 _ (by decide) (by decide) (by decide) x, ?_⟩
  exact trivial

end Cert.Kernel6Ideal.Proj
end
-- ==== Proof.ProjArr.lean ====
/- The projections' kernel: the array of each result, cell by cell. -/
module

public import proofs.«01_k».proof.Proof.ProjPieces

@[expose] public section
set_option maxRecDepth 16384
noncomputable section
namespace Cert.Kernel6Ideal.Proj
open Idealize.ShloMosaic Idealize.ShloMosaic.TcCoe Idealize.SL.Sem
open Cert.Kernel6Ideal Cert.Kernel6Ideal.Gen Cert.ProjCell

theorem idx : ∀ t : Fin cfg0.N, win0_0.index t = ![t.val, 0] ∧ win0_1.index t = ![1, 1 + t.val / 4, 0, 0] ∧ win0_2.index t = ![1, 0, 0] ∧
    win0_3.index t = ![1, 0, 0] ∧ win0_4.index t = ![1, 0, 0] ∧ win0_5.index t = ![1, 0, 0] ∧ win0_6.index t = ![1, 0, 0] ∧
    win0_7.index t = ![1, 0, 0] ∧ win0_8.index t = ![1, 0, 0] ∧ win0_9.index t = ![t.val % 4, 0] ∧ win0_10.index t = ![t.val % 4, 0] ∧
    win0_11.index t = ![t.val % 4, 0] ∧ win0_12.index t = ![t.val % 4, 0] ∧ win0_13.index t = ![t.val, 0] ∧ win0_14.index t = ![t.val, 0] ∧
    win0_15.index t = ![t.val, 0] ∧ win0_16.index t = ![t.val, 0] ∧ win0_17.index t = ![t.val, 0] ∧ win0_18.index t = ![t.val, 0] :=
  (by decide +kernel : ∀ t : Fin grid0.N, _)

theorem lt16 (t : Fin cfg0.N) : t.val < 16 := t.isLt

variable (m : (ℓ : Loc nD τ sig) → Buf (Elt Ideal) ℓ) (c : Dev nD)

/-! ## The blocks of the arguments -/

theorem block0 (t : Fin cfg0.N) (r : Fin 512) (d : Fin 2048) : iblk m c 0 t (ix2 r d) =
    m (c.tc.loc main_arg0) (ix2 (⟨512 * t.val + r.val, by have := lt16 t; omega⟩ : Fin 8192) d) := by
  blk_point [iblk, V, idx t]

theorem block1 (t : Fin cfg0.N) (k : Fin 6) (d : Fin 2048) : iblk m c 1 t (ix4 0 0 k d) =
    m (c.tc.loc main_arg1) (ix4 1 (⟨1 + t.val / 4, by have := lt16 t; omega⟩ : Fin 8) k d) := by
  blk_point [iblk, V, idx t]

theorem block2 (t : Fin cfg0.N) (d : Fin 2048) : iblk m c 2 t (ix3 0 0 d) = m (c.tc.loc main_arg2) (ix3 1 0 d) := by
  blk_point [iblk, V, idx t]

theorem block3 (t : Fin cfg0.N) (d : Fin 2048) (e : Fin 3968) : iblk m c 3 t (ix3 0 d e) = m (c.tc.loc main_arg3) (ix3 1 d e) := by
  blk_point [iblk, V, idx t]

theorem block4 (t : Fin cfg0.N) (d : Fin 128) : iblk m c 4 t (ix3 0 0 d) = m (c.tc.loc main_arg4) (ix3 1 0 d) := by
  blk_point [iblk, V, idx t]

theorem block5 (t : Fin cfg0.N) (d : Fin 128) : iblk m c 5 t (ix3 0 0 d) = m (c.tc.loc main_arg5) (ix3 1 0 d) := by
  blk_point [iblk, V, idx t]

theorem block6 (t : Fin cfg0.N) (d : Fin 256) : iblk m c 6 t (ix3 0 0 d) = m (c.tc.loc main_arg6) (ix3 1 0 d) := by
  blk_point [iblk, V, idx t]

theorem block7 (t : Fin cfg0.N) (d : Fin 256) (e : Fin 1024) : iblk m c 7 t (ix3 0 d e) = m (c.tc.loc main_arg7) (ix3 1 d e) := by
  blk_point [iblk, V, idx t]

theorem block8 (t : Fin cfg0.N) (d : Fin 256) (e : Fin 1024) : iblk m c 8 t (ix3 0 d e) = m (c.tc.loc main_arg8) (ix3 1 d e) := by
  blk_point [iblk, V, idx t]

/-! ## The tables, as wide as a head -/

theorem cosA_eq : V m c main_v2 = (concatenate S2048x128 1 [⟨S2048x64, m (c.tc.loc main_arg9)⟩, ⟨S2048x64, m (c.tc.loc main_arg9)⟩]
    concatenates_S2048x64_S2048x64_S2048x128_d1 : FVec Ideal S2048x128 .f32) := by
  unfold V hostOps0
  after_results <;> rfl

theorem sinA_eq : V m c main_v4 = (concatenate S2048x128 1 [⟨S2048x64, Host.negf (m (c.tc.loc main_arg10) : FVec Ideal S2048x64 .f32)⟩,
    ⟨S2048x64, m (c.tc.loc main_arg10)⟩] concatenates_S2048x64_S2048x64_S2048x128_d1 : FVec Ideal S2048x128 .f32) := by
  unfold V hostOps0
  after_results <;> rfl

theorem cosB_eq : V m c main_v5 = (concatenate S2048x128 1 [⟨S2048x32, m (c.tc.loc main_arg11)⟩,
    ⟨S2048x32, broadcastInDim S2048x32 ![] bcast_S_S2048x32 (constant S_ .f32 0x3F800000#32)⟩, ⟨S2048x32, m (c.tc.loc main_arg11)⟩,
    ⟨S2048x32, broadcastInDim S2048x32 ![] bcast_S_S2048x32 (constant S_ .f32 0x3F800000#32)⟩]
    concatenates_S2048x32_S2048x32_S2048x32_S2048x32_S2048x128_d1 : FVec Ideal S2048x128 .f32) := by
  unfold V hostOps0
  after_results <;> rfl

theorem sinB_eq : V m c main_v7 = (concatenate S2048x128 1 [⟨S2048x32, Host.negf (m (c.tc.loc main_arg12) : FVec Ideal S2048x32 .f32)⟩,
    ⟨S2048x32, broadcastInDim S2048x32 ![] bcast_S_S2048x32 (constant S_ .f32 0x00000000#32)⟩, ⟨S2048x32, m (c.tc.loc main_arg12)⟩,
    ⟨S2048x32, broadcastInDim S2048x32 ![] bcast_S_S2048x32 (constant S_ .f32 0x00000000#32)⟩]
    concatenates_S2048x32_S2048x32_S2048x32_S2048x32_S2048x128_d1 : FVec Ideal S2048x128 .f32) := by
  unfold V hostOps0
  after_results <;> rfl

/-- The angles' cosines and sines by position, and the narrow ones'. -/
abbrev cA (r : Fin 2048) (e : Fin 64) : EReal := m (c.tc.loc main_arg9) (ix2 r e)
abbrev sA (r : Fin 2048) (e : Fin 64) : EReal := m (c.tc.loc main_arg10) (ix2 r e)
abbrev cB (r : Fin 2048) (e : Fin 64) : EReal := padded 1 (fun d => m (c.tc.loc main_arg11) (ix2 r d)) e
abbrev sB (r : Fin 2048) (e : Fin 64) : EReal := padded 0 (fun d => m (c.tc.loc main_arg12) (ix2 r d)) e

theorem wide_cos (a : FVec Ideal S2048x64 .f32) (r : Fin 2048) (e : Fin 128) :
    (concatenate S2048x128 1 [⟨S2048x64, a⟩, ⟨S2048x64, a⟩] concatenates_S2048x64_S2048x64_S2048x128_d1 : FVec Ideal S2048x128 .f32) (ix2 r e) =
      a (ix2 r (low e)) := by
  refine Eq.trans (b := if h : e.1 < 64 then a (ix2 r ⟨e.1, h⟩) else a (ix2 r ⟨e.1 - 64, by omega⟩)) (by pointwise []) ?_
  by_cases h : e.1 < 64
  · rw [dif_pos h]
    congr 2
    exact Fin.ext (by show e.1 = e.1 % 64; omega)
  · rw [dif_neg h]
    congr 2
    exact Fin.ext (by show e.1 - 64 = e.1 % 64; omega)

theorem wide_sin (a : FVec Ideal S2048x64 .f32) (r : Fin 2048) (e : Fin 128) :
    (concatenate S2048x128 1 [⟨S2048x64, Host.negf a⟩, ⟨S2048x64, a⟩] concatenates_S2048x64_S2048x64_S2048x128_d1 : FVec Ideal S2048x128 .f32)
      (ix2 r e) = if e.1 < 64 then (-(a (ix2 r (low e)) : EReal) : EReal) else a (ix2 r (low e)) := by
  refine Eq.trans (b := if h : e.1 < 64 then (-(a (ix2 r ⟨e.1, h⟩) : EReal) : EReal) else a (ix2 r ⟨e.1 - 64, by omega⟩)) (by pointwise []) ?_
  by_cases h : e.1 < 64
  · rw [dif_pos h, if_pos h]
    congr 3
    exact Fin.ext (by show e.1 = e.1 % 64; omega)
  · rw [dif_neg h, if_neg h]
    congr 2
    exact Fin.ext (by show e.1 - 64 = e.1 % 64; omega)

/-- Four narrow tables side by side. -/
theorem four_at (a b a' b' : FVec Ideal S2048x32 .f32) (r : Fin 2048) (e : Fin 128) :
    (concatenate S2048x128 1 [⟨S2048x32, a⟩, ⟨S2048x32, b⟩, ⟨S2048x32, a'⟩, ⟨S2048x32, b'⟩]
      concatenates_S2048x32_S2048x32_S2048x32_S2048x32_S2048x128_d1 : FVec Ideal S2048x128 .f32) (ix2 r e) =
      if h : e.1 < 32 then a (ix2 r ⟨e.1, h⟩) else if h : e.1 - 32 < 32 then b (ix2 r ⟨e.1 - 32, h⟩)
        else if h : e.1 - 32 - 32 < 32 then a' (ix2 r ⟨e.1 - 32 - 32, h⟩) else b' (ix2 r ⟨e.1 - 32 - 32 - 32, by omega⟩) := by
  pointwise []

theorem one_at (r : Fin 2048) (e : Fin 32) :
    (broadcastInDim S2048x32 ![] bcast_S_S2048x32 (constant S_ .f32 0x3F800000#32) : FVec Ideal S2048x32 .f32) (ix2 r e) = (1 : EReal) := by
  pointwise []

theorem zero_at (r : Fin 2048) (e : Fin 32) :
    (broadcastInDim S2048x32 ![] bcast_S_S2048x32 (constant S_ .f32 0x00000000#32) : FVec Ideal S2048x32 .f32) (ix2 r e) = (0 : EReal) := by
  pointwise []

theorem neg_at (a : FVec Ideal S2048x32 .f32) (r : Fin 2048) (e : Fin 32) : Host.negf a (ix2 r e) = (-(a (ix2 r e) : EReal) : EReal) := by
  pointwise []

theorem padded_lo (z : EReal) (v : Fin 32 → EReal) (e : Fin 128) (d : Fin 32) (h : e.1 % 64 = d.1) : padded z v (low e) = v d := by
  have hd : (low e).1 < 32 := by show e.1 % 64 < 32; omega
  unfold padded
  rw [dif_pos hd]
  exact congrArg v (Fin.ext h)

theorem padded_hi (z : EReal) (v : Fin 32 → EReal) (e : Fin 128) (h : ¬ e.1 % 64 < 32) : padded z v (low e) = z := dif_neg h

theorem narrow_cos (a : FVec Ideal S2048x32 .f32) (r : Fin 2048) (e : Fin 128) :
    (concatenate S2048x128 1 [⟨S2048x32, a⟩, ⟨S2048x32, broadcastInDim S2048x32 ![] bcast_S_S2048x32 (constant S_ .f32 0x3F800000#32)⟩,
      ⟨S2048x32, a⟩, ⟨S2048x32, broadcastInDim S2048x32 ![] bcast_S_S2048x32 (constant S_ .f32 0x3F800000#32)⟩]
      concatenates_S2048x32_S2048x32_S2048x32_S2048x32_S2048x128_d1 : FVec Ideal S2048x128 .f32) (ix2 r e) =
      padded 1 (fun d => a (ix2 r d)) (low e) := by
  refine (four_at _ _ _ _ r e).trans ?_
  by_cases h : e.1 < 32
  · rw [dif_pos h, padded_lo _ _ e ⟨e.1, h⟩ (by show e.1 % 64 = e.1; omega)]
  · rw [dif_neg h]
    by_cases h2 : e.1 - 32 < 32
    · rw [dif_pos h2, one_at, padded_hi _ _ e (by omega)]
    · rw [dif_neg h2]
      by_cases h3 : e.1 - 32 - 32 < 32
      · rw [dif_pos h3, padded_lo _ _ e ⟨e.1 - 32 - 32, h3⟩ (by show e.1 % 64 = e.1 - 32 - 32; omega)]
      · rw [dif_neg h3, one_at, padded_hi _ _ e (by omega)]

theorem narrow_sin (a : FVec Ideal S2048x32 .f32) (r : Fin 2048) (e : Fin 128) :
    (concatenate S2048x128 1 [⟨S2048x32, Host.negf a⟩, ⟨S2048x32, broadcastInDim S2048x32 ![] bcast_S_S2048x32 (constant S_ .f32 0x00000000#32)⟩,
      ⟨S2048x32, a⟩, ⟨S2048x32, broadcastInDim S2048x32 ![] bcast_S_S2048x32 (constant S_ .f32 0x00000000#32)⟩]
      concatenates_S2048x32_S2048x32_S2048x32_S2048x32_S2048x128_d1 : FVec Ideal S2048x128 .f32) (ix2 r e) =
      if e.1 < 64 then -padded 0 (fun d => a (ix2 r d)) (low e) else padded 0 (fun d => a (ix2 r d)) (low e) := by
  refine (four_at _ _ _ _ r e).trans ?_
  by_cases h : e.1 < 32
  · rw [dif_pos h, if_pos (by omega), padded_lo _ _ e ⟨e.1, h⟩ (by show e.1 % 64 = e.1; omega), neg_at]
  · rw [dif_neg h]
    by_cases h2 : e.1 - 32 < 32
    · rw [dif_pos h2, if_pos (by omega), zero_at, padded_hi _ _ e (by omega), neg_zero]
    · rw [dif_neg h2, if_neg (by omega)]
      by_cases h3 : e.1 - 32 - 32 < 32
      · rw [dif_pos h3, padded_lo _ _ e ⟨e.1 - 32 - 32, h3⟩ (by show e.1 % 64 = e.1 - 32 - 32; omega)]
      · rw [dif_neg h3, zero_at, padded_hi _ _ e (by omega)]

/-! ## The blocks of the tables -/

theorem block9 (t : Fin cfg0.N) (r : Fin 512) (e : Fin 128) : iblk m c 9 t (ix2 r e) =
    cA m c (⟨512 * (t.val % 4) + r.val, by have := lt16 t; omega⟩ : Fin 2048) (low e) := by
  refine Eq.trans (b := (V m c main_v2 : FVec Ideal S2048x128 .f32) (ix2 (⟨512 * (t.val % 4) + r.val, by have := lt16 t; omega⟩ : Fin 2048) e))
    (by blk_point [iblk, idx t]) ?_
  rw [cosA_eq]
  exact wide_cos _ _ e

theorem block10 (t : Fin cfg0.N) (r : Fin 512) (e : Fin 128) : iblk m c 10 t (ix2 r e) =
    if e.1 < 64 then -sA m c (⟨512 * (t.val % 4) + r.val, by have := lt16 t; omega⟩ : Fin 2048) (low e)
      else sA m c (⟨512 * (t.val % 4) + r.val, by have := lt16 t; omega⟩ : Fin 2048) (low e) := by
  refine Eq.trans (b := (V m c main_v4 : FVec Ideal S2048x128 .f32) (ix2 (⟨512 * (t.val % 4) + r.val, by have := lt16 t; omega⟩ : Fin 2048) e))
    (by blk_point [iblk, idx t]) ?_
  rw [sinA_eq]
  exact wide_sin _ _ e

theorem block11 (t : Fin cfg0.N) (r : Fin 512) (e : Fin 128) : iblk m c 11 t (ix2 r e) =
    cB m c (⟨512 * (t.val % 4) + r.val, by have := lt16 t; omega⟩ : Fin 2048) (low e) := by
  refine Eq.trans (b := (V m c main_v5 : FVec Ideal S2048x128 .f32) (ix2 (⟨512 * (t.val % 4) + r.val, by have := lt16 t; omega⟩ : Fin 2048) e))
    (by blk_point [iblk, idx t]) ?_
  rw [cosB_eq]
  exact narrow_cos _ _ e

theorem block12 (t : Fin cfg0.N) (r : Fin 512) (e : Fin 128) : iblk m c 12 t (ix2 r e) =
    if e.1 < 64 then -sB m c (⟨512 * (t.val % 4) + r.val, by have := lt16 t; omega⟩ : Fin 2048) (low e)
      else sB m c (⟨512 * (t.val % 4) + r.val, by have := lt16 t; omega⟩ : Fin 2048) (low e) := by
  refine Eq.trans (b := (V m c main_v7 : FVec Ideal S2048x128 .f32) (ix2 (⟨512 * (t.val % 4) + r.val, by have := lt16 t; omega⟩ : Fin 2048) e))
    (by blk_point [iblk, idx t]) ?_
  rw [sinB_eq]
  exact narrow_sin _ _ e

/-! ## The arrays -/

/-- The projection of one row, and the turns of its heads. -/
abbrev row (R : Fin 8192) : Fin 3968 → EReal :=
  rowG (fun R d => m (c.tc.loc main_arg0) (ix2 R d)) (fun b k d => m (c.tc.loc main_arg1) (ix4 1 b k d))
    (fun d => m (c.tc.loc main_arg2) (ix3 1 0 d)) (fun d e => m (c.tc.loc main_arg3) (ix3 1 d e)) R

theorem row_eq (t : Fin cfg0.N) (r : Fin 512) (R : Fin 8192) (hR : R.val = t.val * 512 + r.val) :
    rowP (iblk m c 0 t) (iblk m c 1 t) (iblk m c 2 t) (iblk m c 3 t) r = row m c R := by
  have hrow : (⟨512 * t.val + r.val, by have := lt16 t; omega⟩ : Fin 8192) = R := Fin.ext (by show 512 * t.val + r.val = R.val; omega)
  have hb : (⟨1 + t.val / 4, by have := lt16 t; omega⟩ : Fin 8) = ⟨1 + R.1 / 2048, by omega⟩ :=
    Fin.ext (by show 1 + t.val / 4 = 1 + R.val / 2048; omega)
  funext e
  exact proj_congr e (fun d => (block0 m c t r d).trans (by rw [hrow])) (block2 m c t) (fun d => (block1 m c t 1 d).trans (by rw [hb]))
    (fun d => (block1 m c t 0 d).trans (by rw [hb])) (block3 m c t)

theorem rotA_eq (t : Fin cfg0.N) (r : Fin 512) (R : Fin 8192) (hR : R.val = t.val * 512 + r.val) :
    rotOf (iblk m c 9 t) (iblk m c 10 t) r = rotG (cA m c) (sA m c) R := by
  have hp : (⟨512 * (t.val % 4) + r.val, by have := lt16 t; omega⟩ : Fin 2048) = ⟨R.1 % 2048, by omega⟩ :=
    Fin.ext (by show 512 * (t.val % 4) + r.val = R.val % 2048; have := lt16 t; omega)
  exact spin_eq_turn _ _ _ _ (fun e => (block9 m c t r e).trans (by rw [hp])) (fun e => (block10 m c t r e).trans (by rw [hp]))

theorem rotB_eq (t : Fin cfg0.N) (r : Fin 512) (R : Fin 8192) (hR : R.val = t.val * 512 + r.val) :
    rotOf (iblk m c 11 t) (iblk m c 12 t) r = rotG (cB m c) (sB m c) R := by
  have hp : (⟨512 * (t.val % 4) + r.val, by have := lt16 t; omega⟩ : Fin 2048) = ⟨R.1 % 2048, by omega⟩ :=
    Fin.ext (by show 512 * (t.val % 4) + r.val = R.val % 2048; have := lt16 t; omega)
  exact spin_eq_turn _ _ _ _ (fun e => (block11 m c t r e).trans (by rw [hp])) (fun e => (block12 m c t r e).trans (by rw [hp]))

abbrev qn (d : Fin 128) : EReal := m (c.tc.loc main_arg4) (ix3 1 0 d)
abbrev kn (d : Fin 128) : EReal := m (c.tc.loc main_arg5) (ix3 1 0 d)
abbrev kvn (d : Fin 256) : EReal := m (c.tc.loc main_arg6) (ix3 1 0 d)
abbrev wk (d : Fin 256) (e : Fin 1024) : EReal := m (c.tc.loc main_arg7) (ix3 1 d e)
abbrev wv (d : Fin 256) (e : Fin 1024) : EReal := m (c.tc.loc main_arg8) (ix3 1 d e)

theorem arr13 : (dats m 0 c).arrAt 13 cfg0.N = fun y => qa (rotG (cA m c) (sA m c) (y 0)) (row m c (y 0)) (qn m c) (y 1) := by
  refine (dats m 0 c).arrAt_eq_of_covers 13 _ (by decide +kernel) fun t hf y => ?_
  blk_simp
  rw [after0_13, out13_eq]
  have z0 : ((win0_13.blk t).view.emb y 0).1 = t.val * 512 + (y 0).1 := by blk_point [idx t]
  have z1 : ((win0_13.blk t).view.emb y 1).1 = (y 1).1 := by blk_point [idx t]
  obtain ⟨r, e, rfl⟩ : ∃ (r : Fin 512) (e : Fin 1024), y = ix2 r e := ⟨y 0, y 1, by funext a; fin_cases a <;> rfl⟩
  have e1 : (win0_13.blk t).view.emb (ix2 r e) 1 = e := Fin.ext z1
  rw [e1, ← rotA_eq m c t r _ z0, ← row_eq m c t r _ z0, ← show (fun d => iblk m c 4 t (ix3 0 0 d)) = qn m c from funext (block4 m c t)]
  rfl

theorem arr14 : (dats m 0 c).arrAt 14 cfg0.N = fun y => ka (rotG (cA m c) (sA m c) (y 0)) (row m c (y 0)) (kn m c) (y 1) := by
  refine (dats m 0 c).arrAt_eq_of_covers 14 _ (by decide +kernel) fun t hf y => ?_
  blk_simp
  rw [after0_14, out14_eq]
  have z0 : ((win0_14.blk t).view.emb y 0).1 = t.val * 512 + (y 0).1 := by blk_point [idx t]
  have z1 : ((win0_14.blk t).view.emb y 1).1 = (y 1).1 := by blk_point [idx t]
  obtain ⟨r, e, rfl⟩ : ∃ (r : Fin 512) (e : Fin 256), y = ix2 r e := ⟨y 0, y 1, by funext a; fin_cases a <;> rfl⟩
  have e1 : (win0_14.blk t).view.emb (ix2 r e) 1 = e := Fin.ext z1
  rw [e1, ← rotA_eq m c t r _ z0, ← row_eq m c t r _ z0, ← show (fun d => iblk m c 5 t (ix3 0 0 d)) = kn m c from funext (block5 m c t)]
  rfl

theorem arr15 : (dats m 0 c).arrAt 15 cfg0.N = fun y => va (row m c (y 0)) (y 1) := by
  refine (dats m 0 c).arrAt_eq_of_covers 15 _ (by decide +kernel) fun t hf y => ?_
  blk_simp
  rw [after0_15, out15_eq]
  have z0 : ((win0_15.blk t).view.emb y 0).1 = t.val * 512 + (y 0).1 := by blk_point [idx t]
  have z1 : ((win0_15.blk t).view.emb y 1).1 = (y 1).1 := by blk_point [idx t]
  obtain ⟨r, e, rfl⟩ : ∃ (r : Fin 512) (e : Fin 256), y = ix2 r e := ⟨y 0, y 1, by funext a; fin_cases a <;> rfl⟩
  have e1 : (win0_15.blk t).view.emb (ix2 r e) 1 = e := Fin.ext z1
  rw [e1, ← row_eq m c t r _ z0]
  rfl

theorem arr16 : (dats m 0 c).arrAt 16 cfg0.N = fun y => qb (rotG (cB m c) (sB m c) (y 0)) (row m c (y 0)) (y 1) := by
  refine (dats m 0 c).arrAt_eq_of_covers 16 _ (by decide +kernel) fun t hf y => ?_
  blk_simp
  rw [after0_16, out16_eq]
  have z0 : ((win0_16.blk t).view.emb y 0).1 = t.val * 512 + (y 0).1 := by blk_point [idx t]
  have z1 : ((win0_16.blk t).view.emb y 1).1 = (y 1).1 := by blk_point [idx t]
  obtain ⟨r, e, rfl⟩ : ∃ (r : Fin 512) (e : Fin 2048), y = ix2 r e := ⟨y 0, y 1, by funext a; fin_cases a <;> rfl⟩
  have e1 : (win0_16.blk t).view.emb (ix2 r e) 1 = e := Fin.ext z1
  rw [e1, ← rotB_eq m c t r _ z0, ← row_eq m c t r _ z0]
  rfl

theorem arr17 : (dats m 0 c).arrAt 17 cfg0.N = fun y => kb (rotG (cB m c) (sB m c) (y 0)) (row m c (y 0)) (kvn m c) (wk m c) (y 1) := by
  refine (dats m 0 c).arrAt_eq_of_covers 17 _ (by decide +kernel) fun t hf y => ?_
  blk_simp
  rw [after0_17, out17_eq]
  have z0 : ((win0_17.blk t).view.emb y 0).1 = t.val * 512 + (y 0).1 := by blk_point [idx t]
  have z1 : ((win0_17.blk t).view.emb y 1).1 = (y 1).1 := by blk_point [idx t]
  obtain ⟨r, e, rfl⟩ : ∃ (r : Fin 512) (e : Fin 2048), y = ix2 r e := ⟨y 0, y 1, by funext a; fin_cases a <;> rfl⟩
  have e1 : (win0_17.blk t).view.emb (ix2 r e) 1 = e := Fin.ext z1
  rw [e1, ← rotB_eq m c t r _ z0, ← row_eq m c t r _ z0, ← show (fun d => iblk m c 6 t (ix3 0 0 d)) = kvn m c from funext (block6 m c t),
    ← show (fun d e => iblk m c 7 t (ix3 0 d e)) = wk m c from funext fun d => funext (block7 m c t d)]
  rfl

theorem arr18 : (dats m 0 c).arrAt 18 cfg0.N = fun y => vb (row m c (y 0)) (kvn m c) (fun d => wv m c d (y 1)) := by
  refine (dats m 0 c).arrAt_eq_of_covers 18 _ (by decide +kernel) fun t hf y => ?_
  blk_simp
  rw [after0_18, out18_eq]
  have z0 : ((win0_18.blk t).view.emb y 0).1 = t.val * 512 + (y 0).1 := by blk_point [idx t]
  have z1 : ((win0_18.blk t).view.emb y 1).1 = (y 1).1 := by blk_point [idx t]
  obtain ⟨r, e, rfl⟩ : ∃ (r : Fin 512) (e : Fin 1024), y = ix2 r e := ⟨y 0, y 1, by funext a; fin_cases a <;> rfl⟩
  have e1 : (win0_18.blk t).view.emb (ix2 r e) 1 = e := Fin.ext z1
  rw [e1, ← row_eq m c t r _ z0, ← show (fun d => iblk m c 6 t (ix3 0 0 d)) = kvn m c from funext (block6 m c t),
    ← show (fun d => iblk m c 8 t (ix3 0 d e)) = (fun d => wv m c d e) from funext fun d => block8 m c t d e]
  rfl

end Cert.Kernel6Ideal.Proj
end
-- ==== Proof.RefProj.lean ====
/- The projections as the reference writes them: each result of its term at one cell. -/
module

public import proofs.«01_k».proof.Proof.Gen.Reference6Ideal.Run
public import proofs.«01_k».proof.Proof.ProjCell

@[expose] public section
set_option maxRecDepth 16384
noncomputable section
namespace Cert.Reference6Ideal.Out
open Idealize.ShloMosaic Idealize.ShloMosaic.TcCoe Idealize.SL.Sem
open Cert.Reference6Ideal Cert.Reference6Ideal.Gen Cert.ProjCell
open Cert.FfnCell (len small normed)

/-! ## The rows and their projection -/

/-- The rows by batch. -/
def rows (x : FVec Ideal S8192x2048 .f32) : FVec Ideal S4x2048x2048 .f32 := shapeCast _ x shapeCasts_S8192x2048_S4x2048x2048

theorem rows_at (x : FVec Ideal S8192x2048 .f32) (b : Fin 4) (r d : Fin 2048) :
    rows x (ix3 b r d) = x (ix2 (⟨b.1 * 2048 + r.1, by omega⟩ : Fin 8192) d) := by
  pointwise [rows]

/-- The layer's shifts and scales of the four batches. -/
def mods (a : FVec Ideal S4x8x6x2048 .f32) : FVec Ideal S4x6x2048 .f32 :=
  shapeCast _ (extractStridedSlice S1x4x6x2048 ![1, 1, 0, 0] a slices_S4x8x6x2048_S1x4x6x2048_1_1_0_0) shapeCasts_S1x4x6x2048_S4x6x2048

theorem mods_at (a : FVec Ideal S4x8x6x2048 .f32) (b : Fin 4) (k : Fin 6) (d : Fin 2048) :
    mods a (ix3 b k d) = a (ix4 1 (⟨1 + b.1, by omega⟩ : Fin 8) k d) := by
  pointwise [mods]

/-- The root mean square of each row, inverted. -/
def scale (x : FVec Ideal S4x2048x2048 .f32) : FVec Ideal S4x2048x1 .f32 :=
  Host.rsqrt (addf (Host.divf (broadcastInDim S4x2048x1 ![0, 1] bcast_S4x2048_S4x2048x1_0_1
    (Host.reduceAdd (mulf x x) (constant S_ .f32 0x00000000#32) reducesTo_S4x2048x2048_S4x2048_d2 h_S_))
    (broadcastInDim S4x2048x1 ![] bcast_S_S4x2048x1 (constant S_ .f32 0x45000000#32)))
    (broadcastInDim S4x2048x1 ![] bcast_S_S4x2048x1 (constant S_ .f32 0x358637BD#32)))

theorem scale_at (x : FVec Ideal S4x2048x2048 .f32) (b : Fin 4) (r : Fin 2048) :
    scale x (ix3 b r 0) = Ideal.rsqrt (Ideal.div (∑ e : Fin 2048, x (ix3 b r e) * x (ix3 b r e)) len + small) := by
  pointwise [scale]

/-- The rows times one number each, times the weights, scaled and shifted. -/
def shifted (x : FVec Ideal S4x2048x2048 .f32) (s : FVec Ideal S4x2048x1 .f32) (md : FVec Ideal S4x6x2048 .f32)
    (g : FVec Ideal S4x1x2048 .f32) : FVec Ideal S4x2048x2048 .f32 :=
  addf (mulf (mulf (mulf x (broadcastInDim S4x2048x2048 ![0, 1, 2] bcast_S4x2048x1_S4x2048x2048_0_1_2 s))
    (broadcastInDim S4x2048x2048 ![0, 1, 2] bcast_S1x1x2048_S4x2048x2048_0_1_2 (broadcastInDim S1x1x2048 ![2] bcast_S2048_S1x1x2048_2
      (shapeCast _ (extractStridedSlice S1x1x2048 ![1, 0, 0] g slices_S4x1x2048_S1x1x2048_1_0_0) shapeCasts_S1x1x2048_S2048))))
    (broadcastInDim S4x2048x2048 ![0, 1, 2] bcast_S4x1x2048_S4x2048x2048_0_1_2 (addf
      (broadcastInDim S4x1x2048 ![] bcast_S_S4x1x2048 (constant S_ .f32 0x3F800000#32))
      (extractStridedSlice S4x1x2048 ![0, 1, 0] md slices_S4x6x2048_S4x1x2048_0_1_0))))
    (broadcastInDim S4x2048x2048 ![0, 1, 2] bcast_S4x1x2048_S4x2048x2048_0_1_2
      (extractStridedSlice S4x1x2048 ![0, 0, 0] md slices_S4x6x2048_S4x1x2048_0_0_0))

theorem shifted_at (x : FVec Ideal S4x2048x2048 .f32) (s : FVec Ideal S4x2048x1 .f32) (md : FVec Ideal S4x6x2048 .f32)
    (g : FVec Ideal S4x1x2048 .f32) (b : Fin 4) (r d : Fin 2048) : shifted x s md g (ix3 b r d) =
      (x (ix3 b r d) * s (ix3 b r 0) * g (ix3 1 0 d) * (1 + md (ix3 b 1 d)) + md (ix3 b 0 d) : EReal) := by
  pointwise [shifted]

/-- The projection on the layer's columns. -/
def onto (h : FVec Ideal S4x2048x2048 .f32) (w : FVec Ideal S4x2048x3968 .bf16) : FVec Ideal S4x2048x3968 .f32 :=
  Host.dotGeneral dot_S4x2048x2048_S2048x3968_S4x2048x3968_2_0_01_1_n_n none h (extf .f32 (shapeCast _
    (extractStridedSlice S1x2048x3968 ![1, 0, 0] w slices_S4x2048x3968_S1x2048x3968_1_0_0) shapeCasts_S1x2048x3968_S2048x3968) bitsLt_bf16_f32)

theorem onto_at (h : FVec Ideal S4x2048x2048 .f32) (w : FVec Ideal S4x2048x3968 .bf16) (b : Fin 4) (r : Fin 2048) (e : Fin 3968) :
    onto h w (ix3 b r e) = (∑ d : Fin 2048, h (ix3 b r d) * w (ix3 1 d e) : EReal) := by
  pointwise [onto]

def projected (x : FVec Ideal S8192x2048 .f32) (md : FVec Ideal S4x8x6x2048 .f32) (g : FVec Ideal S4x1x2048 .f32)
    (w : FVec Ideal S4x2048x3968 .bf16) : FVec Ideal S4x2048x3968 .f32 := onto (shifted (rows x) (scale (rows x)) (mods md) g) w

theorem projected_at (x : FVec Ideal S8192x2048 .f32) (md : FVec Ideal S4x8x6x2048 .f32) (g : FVec Ideal S4x1x2048 .f32)
    (w : FVec Ideal S4x2048x3968 .bf16) (R : Fin 8192) (e : Fin 3968) :
    projected x md g w (ix3 (⟨R.1 / 2048, by omega⟩ : Fin 4) (⟨R.1 % 2048, by omega⟩ : Fin 2048) e) =
      rowG (fun R d => x (ix2 R d)) (fun b k d => md (ix4 1 b k d)) (fun d => g (ix3 1 0 d)) (fun d e => w (ix3 1 d e)) R e := by
  have er : (⟨R.1 / 2048 * 2048 + R.1 % 2048, by omega⟩ : Fin 8192) = R := Fin.ext (by show R.1 / 2048 * 2048 + R.1 % 2048 = R.1; omega)
  rw [projected, onto_at]
  simp only [shifted_at, scale_at, rows_at, mods_at, er]
  rfl

/-! ## Heads: taken from the columns, normalised, turned -/

def heads8 (p : FVec Ideal S4x2048x3968 .f32) : FVec Ideal S4x2048x8x128 .f32 :=
  shapeCast _ (extractStridedSlice S4x2048x1024 ![0, 0, 0] p slices_S4x2048x3968_S4x2048x1024_0_0_0) shapeCasts_S4x2048x1024_S4x2048x8x128

theorem heads8_at (p : FVec Ideal S4x2048x3968 .f32) (b : Fin 4) (r : Fin 2048) (h : Fin 8) (d : Fin 128) :
    heads8 p (ix4 b r h d) = p (ix3 b r (⟨h.1 * 128 + d.1, by omega⟩ : Fin 3968)) := by
  pointwise [heads8]

def heads2 (p : FVec Ideal S4x2048x3968 .f32) : FVec Ideal S4x2048x2x128 .f32 :=
  shapeCast _ (extractStridedSlice S4x2048x256 ![0, 0, 1024] p slices_S4x2048x3968_S4x2048x256_0_0_1024) shapeCasts_S4x2048x256_S4x2048x2x128

theorem heads2_at (p : FVec Ideal S4x2048x3968 .f32) (b : Fin 4) (r : Fin 2048) (h : Fin 2) (d : Fin 128) :
    heads2 p (ix4 b r h d) = p (ix3 b r (⟨1024 + (h.1 * 128 + d.1), by omega⟩ : Fin 3968)) := by
  pointwise [heads2]

def norm8 (t : FVec Ideal S4x2048x8x128 .f32) (g : FVec Ideal S4x1x128 .f32) : FVec Ideal S4x2048x8x128 .f32 :=
  mulf (mulf t (broadcastInDim S4x2048x8x128 ![0, 1, 2, 3] bcast_S4x2048x8x1_S4x2048x8x128_0_1_2_3 (Host.rsqrt (addf (Host.divf
    (broadcastInDim S4x2048x8x1 ![0, 1, 2] bcast_S4x2048x8_S4x2048x8x1_0_1_2 (Host.reduceAdd (mulf t t) (constant S_ .f32 0x00000000#32)
      reducesTo_S4x2048x8x128_S4x2048x8_d3 h_S_)) (broadcastInDim S4x2048x8x1 ![] bcast_S_S4x2048x8x1 (constant S_ .f32 0x43000000#32)))
    (broadcastInDim S4x2048x8x1 ![] bcast_S_S4x2048x8x1 (constant S_ .f32 0x358637BD#32))))))
    (broadcastInDim S4x2048x8x128 ![0, 1, 2, 3] bcast_S1x1x1x128_S4x2048x8x128_0_1_2_3 (broadcastInDim S1x1x1x128 ![3] bcast_S128_S1x1x1x128_3
      (shapeCast _ (extractStridedSlice S1x1x128 ![1, 0, 0] g slices_S4x1x128_S1x1x128_1_0_0) shapeCasts_S1x1x128_S128)))

theorem norm8_at (t : FVec Ideal S4x2048x8x128 .f32) (g : FVec Ideal S4x1x128 .f32) (b : Fin 4) (r : Fin 2048) (h : Fin 8) (e : Fin 128) :
    norm8 t g (ix4 b r h e) = unit len128 (fun d => t (ix4 b r h d)) (fun d => g (ix3 1 0 d)) e := by
  unfold unit
  pointwise [norm8]

def norm2 (t : FVec Ideal S4x2048x2x128 .f32) (g : FVec Ideal S4x1x128 .f32) : FVec Ideal S4x2048x2x128 .f32 :=
  mulf (mulf t (broadcastInDim S4x2048x2x128 ![0, 1, 2, 3] bcast_S4x2048x2x1_S4x2048x2x128_0_1_2_3 (Host.rsqrt (addf (Host.divf
    (broadcastInDim S4x2048x2x1 ![0, 1, 2] bcast_S4x2048x2_S4x2048x2x1_0_1_2 (Host.reduceAdd (mulf t t) (constant S_ .f32 0x00000000#32)
      reducesTo_S4x2048x2x128_S4x2048x2_d3 h_S_)) (broadcastInDim S4x2048x2x1 ![] bcast_S_S4x2048x2x1 (constant S_ .f32 0x43000000#32)))
    (broadcastInDim S4x2048x2x1 ![] bcast_S_S4x2048x2x1 (constant S_ .f32 0x358637BD#32))))))
    (broadcastInDim S4x2048x2x128 ![0, 1, 2, 3] bcast_S1x1x1x128_S4x2048x2x128_0_1_2_3 (broadcastInDim S1x1x1x128 ![3] bcast_S128_S1x1x1x128_3
      (shapeCast _ (extractStridedSlice S1x1x128 ![1, 0, 0] g slices_S4x1x128_S1x1x128_1_0_0) shapeCasts_S1x1x128_S128)))

theorem norm2_at (t : FVec Ideal S4x2048x2x128 .f32) (g : FVec Ideal S4x1x128 .f32) (b : Fin 4) (r : Fin 2048) (h : Fin 2) (e : Fin 128) :
    norm2 t g (ix4 b r h e) = unit len128 (fun d => t (ix4 b r h d)) (fun d => g (ix3 1 0 d)) e := by
  unfold unit
  pointwise [norm2]

/-- A turn, from its two halves. -/
theorem turn_halves (c s : Fin 64 → EReal) (x : Fin 128 → EReal) (e : Fin 128) (v : EReal)
    (h1 : ∀ h : e.1 < 64, v = x ⟨e.1, by omega⟩ * c ⟨e.1, h⟩ - x ⟨64 + e.1, by omega⟩ * s ⟨e.1, h⟩)
    (h2 : ∀ h : ¬ e.1 < 64, v = x ⟨64 + (e.1 - 64), by omega⟩ * c ⟨e.1 - 64, by omega⟩ + x ⟨e.1 - 64, by omega⟩ * s ⟨e.1 - 64, by omega⟩) :
    v = turn c s x e := by
  unfold turn
  by_cases h : e.1 < 64
  · rw [if_pos h, h1 h, show low e = ⟨e.1, h⟩ from Fin.ext (by show e.1 % 64 = e.1; omega),
      show half e = ⟨64 + e.1, by omega⟩ from Fin.ext (by show (e.1 + 64) % 128 = 64 + e.1; omega)]
  · rw [if_neg h, h2 h, show low e = ⟨e.1 - 64, by omega⟩ from Fin.ext (by show e.1 % 64 = e.1 - 64; omega),
      show half e = ⟨e.1 - 64, by omega⟩ from Fin.ext (by show (e.1 + 64) % 128 = e.1 - 64; omega),
      show (⟨64 + (e.1 - 64), by omega⟩ : Fin 128) = e from Fin.ext (by show 64 + (e.1 - 64) = e.1; omega)]

def turn8 (t : FVec Ideal S4x2048x8x128 .f32) (c s : FVec Ideal S2048x64 .f32) : FVec Ideal S4x2048x8x128 .f32 :=
  concatenate S4x2048x8x128 3 [⟨S4x2048x8x64, (subf
      (mulf (extractStridedSlice S4x2048x8x64 ![0, 0, 0, 0] t slices_S4x2048x8x128_S4x2048x8x64_0_0_0_0)
        (broadcastInDim S4x2048x8x64 ![0, 1, 2, 3] bcast_S1x2048x1x64_S4x2048x8x64_0_1_2_3 (broadcastInDim S1x2048x1x64 ![1, 3] bcast_S2048x64_S1x2048x1x64_1_3 c)))
      (mulf (extractStridedSlice S4x2048x8x64 ![0, 0, 0, 64] t slices_S4x2048x8x128_S4x2048x8x64_0_0_0_64)
        (broadcastInDim S4x2048x8x64 ![0, 1, 2, 3] bcast_S1x2048x1x64_S4x2048x8x64_0_1_2_3 (broadcastInDim S1x2048x1x64 ![1, 3] bcast_S2048x64_S1x2048x1x64_1_3 s))))⟩,
    ⟨S4x2048x8x64, (addf
      (mulf (extractStridedSlice S4x2048x8x64 ![0, 0, 0, 64] t slices_S4x2048x8x128_S4x2048x8x64_0_0_0_64)
        (broadcastInDim S4x2048x8x64 ![0, 1, 2, 3] bcast_S1x2048x1x64_S4x2048x8x64_0_1_2_3 (broadcastInDim S1x2048x1x64 ![1, 3] bcast_S2048x64_S1x2048x1x64_1_3 c)))
      (mulf (extractStridedSlice S4x2048x8x64 ![0, 0, 0, 0] t slices_S4x2048x8x128_S4x2048x8x64_0_0_0_0)
        (broadcastInDim S4x2048x8x64 ![0, 1, 2, 3] bcast_S1x2048x1x64_S4x2048x8x64_0_1_2_3 (broadcastInDim S1x2048x1x64 ![1, 3] bcast_S2048x64_S1x2048x1x64_1_3 s))))⟩]
    concatenates_S4x2048x8x64_S4x2048x8x64_S4x2048x8x128_d3

theorem turn8_at (t : FVec Ideal S4x2048x8x128 .f32) (c s : FVec Ideal S2048x64 .f32) (b : Fin 4) (r : Fin 2048) (h : Fin 8) (e : Fin 128) :
    turn8 t c s (ix4 b r h e) = turn (fun d => c (ix2 r d)) (fun d => s (ix2 r d)) (fun d => t (ix4 b r h d)) e := by
  refine turn_halves _ _ _ e _ (fun he => ?_) (fun he => ?_)
  · pointwise [turn8, he]
  · pointwise [turn8, he]

def turn2 (t : FVec Ideal S4x2048x2x128 .f32) (c s : FVec Ideal S2048x64 .f32) : FVec Ideal S4x2048x2x128 .f32 :=
  concatenate S4x2048x2x128 3 [⟨S4x2048x2x64, (subf
      (mulf (extractStridedSlice S4x2048x2x64 ![0, 0, 0, 0] t slices_S4x2048x2x128_S4x2048x2x64_0_0_0_0)
        (broadcastInDim S4x2048x2x64 ![0, 1, 2, 3] bcast_S1x2048x1x64_S4x2048x2x64_0_1_2_3 (broadcastInDim S1x2048x1x64 ![1, 3] bcast_S2048x64_S1x2048x1x64_1_3 c)))
      (mulf (extractStridedSlice S4x2048x2x64 ![0, 0, 0, 64] t slices_S4x2048x2x128_S4x2048x2x64_0_0_0_64)
        (broadcastInDim S4x2048x2x64 ![0, 1, 2, 3] bcast_S1x2048x1x64_S4x2048x2x64_0_1_2_3 (broadcastInDim S1x2048x1x64 ![1, 3] bcast_S2048x64_S1x2048x1x64_1_3 s))))⟩,
    ⟨S4x2048x2x64, (addf
      (mulf (extractStridedSlice S4x2048x2x64 ![0, 0, 0, 64] t slices_S4x2048x2x128_S4x2048x2x64_0_0_0_64)
        (broadcastInDim S4x2048x2x64 ![0, 1, 2, 3] bcast_S1x2048x1x64_S4x2048x2x64_0_1_2_3 (broadcastInDim S1x2048x1x64 ![1, 3] bcast_S2048x64_S1x2048x1x64_1_3 c)))
      (mulf (extractStridedSlice S4x2048x2x64 ![0, 0, 0, 0] t slices_S4x2048x2x128_S4x2048x2x64_0_0_0_0)
        (broadcastInDim S4x2048x2x64 ![0, 1, 2, 3] bcast_S1x2048x1x64_S4x2048x2x64_0_1_2_3 (broadcastInDim S1x2048x1x64 ![1, 3] bcast_S2048x64_S1x2048x1x64_1_3 s))))⟩]
    concatenates_S4x2048x2x64_S4x2048x2x64_S4x2048x2x128_d3

theorem turn2_at (t : FVec Ideal S4x2048x2x128 .f32) (c s : FVec Ideal S2048x64 .f32) (b : Fin 4) (r : Fin 2048) (h : Fin 2) (e : Fin 128) :
    turn2 t c s (ix4 b r h e) = turn (fun d => c (ix2 r d)) (fun d => s (ix2 r d)) (fun d => t (ix4 b r h d)) e := by
  refine turn_halves _ _ _ e _ (fun he => ?_) (fun he => ?_)
  · pointwise [turn2, he]
  · pointwise [turn2, he]

def turn1 (t : FVec Ideal S4x2048x1x128 .f32) (c s : FVec Ideal S2048x64 .f32) : FVec Ideal S4x2048x1x128 .f32 :=
  concatenate S4x2048x1x128 3 [⟨S4x2048x1x64, (subf
      (mulf (extractStridedSlice S4x2048x1x64 ![0, 0, 0, 0] t slices_S4x2048x1x128_S4x2048x1x64_0_0_0_0)
        (broadcastInDim S4x2048x1x64 ![0, 1, 2, 3] bcast_S1x2048x1x64_S4x2048x1x64_0_1_2_3 (broadcastInDim S1x2048x1x64 ![1, 3] bcast_S2048x64_S1x2048x1x64_1_3 c)))
      (mulf (extractStridedSlice S4x2048x1x64 ![0, 0, 0, 64] t slices_S4x2048x1x128_S4x2048x1x64_0_0_0_64)
        (broadcastInDim S4x2048x1x64 ![0, 1, 2, 3] bcast_S1x2048x1x64_S4x2048x1x64_0_1_2_3 (broadcastInDim S1x2048x1x64 ![1, 3] bcast_S2048x64_S1x2048x1x64_1_3 s))))⟩,
    ⟨S4x2048x1x64, (addf
      (mulf (extractStridedSlice S4x2048x1x64 ![0, 0, 0, 64] t slices_S4x2048x1x128_S4x2048x1x64_0_0_0_64)
        (broadcastInDim S4x2048x1x64 ![0, 1, 2, 3] bcast_S1x2048x1x64_S4x2048x1x64_0_1_2_3 (broadcastInDim S1x2048x1x64 ![1, 3] bcast_S2048x64_S1x2048x1x64_1_3 c)))
      (mulf (extractStridedSlice S4x2048x1x64 ![0, 0, 0, 0] t slices_S4x2048x1x128_S4x2048x1x64_0_0_0_0)
        (broadcastInDim S4x2048x1x64 ![0, 1, 2, 3] bcast_S1x2048x1x64_S4x2048x1x64_0_1_2_3 (broadcastInDim S1x2048x1x64 ![1, 3] bcast_S2048x64_S1x2048x1x64_1_3 s))))⟩]
    concatenates_S4x2048x1x64_S4x2048x1x64_S4x2048x1x128_d3

theorem turn1_at (t : FVec Ideal S4x2048x1x128 .f32) (c s : FVec Ideal S2048x64 .f32) (b : Fin 4) (r : Fin 2048) (e : Fin 128) :
    turn1 t c s (ix4 b r 0 e) = turn (fun d => c (ix2 r d)) (fun d => s (ix2 r d)) (fun d => t (ix4 b r 0 d)) e := by
  refine turn_halves _ _ _ e _ (fun he => ?_) (fun he => ?_)
  · pointwise [turn1, he]
  · pointwise [turn1, he]

/-- The narrow angles' cosines and sines, the rest of the columns at one and at zero. -/
def padCos (c : FVec Ideal S2048x32 .f32) : FVec Ideal S2048x64 .f32 :=
  concatenate S2048x64 1 [⟨S2048x32, c⟩, ⟨S2048x32, (broadcastInDim S2048x32 ![] bcast_S_S2048x32 (constant S_ .f32 0x3F800000#32))⟩]
    concatenates_S2048x32_S2048x32_S2048x64_d1

theorem padCos_at (c : FVec Ideal S2048x32 .f32) (r : Fin 2048) (e : Fin 64) : padCos c (ix2 r e) = padded 1 (fun d => c (ix2 r d)) e := by
  unfold padded
  pointwise [padCos]

def padSin (c : FVec Ideal S2048x32 .f32) : FVec Ideal S2048x64 .f32 :=
  concatenate S2048x64 1 [⟨S2048x32, c⟩, ⟨S2048x32, (broadcastInDim S2048x32 ![] bcast_S_S2048x32 (constant S_ .f32 0x00000000#32))⟩]
    concatenates_S2048x32_S2048x32_S2048x64_d1

theorem padSin_at (c : FVec Ideal S2048x32 .f32) (r : Fin 2048) (e : Fin 64) : padSin c (ix2 r e) = padded 0 (fun d => c (ix2 r d)) e := by
  unfold padded
  pointwise [padSin]

/-! ## The grouped attention's results -/

def outQA (t : FVec Ideal S4x2048x8x128 .f32) : FVec Ideal S8192x1024 .bf16 :=
  truncf .bf16 (shapeCast _ (mulf t (broadcastInDim S4x2048x8x128 ![] bcast_S_S4x2048x8x128 (constant S_ .f32 0x3E0293EE#32)))
    shapeCasts_S4x2048x8x128_S8192x1024) bitsLt_bf16_f32

theorem outQA_at (t : FVec Ideal S4x2048x8x128 .f32) (R : Fin 8192) (e : Fin 1024) : outQA t (ix2 R e) =
    (t (ix4 (⟨R.1 / 2048, by omega⟩ : Fin 4) (⟨R.1 % 2048, by omega⟩ : Fin 2048) (⟨e.1 / 128, by omega⟩ : Fin 8) (⟨e.1 % 128, by omega⟩ : Fin 128)) *
      scaleA : EReal) := by
  pointwise [outQA]

def outKA (t : FVec Ideal S4x2048x2x128 .f32) : FVec Ideal S8192x256 .bf16 :=
  truncf .bf16 (shapeCast _ t shapeCasts_S4x2048x2x128_S8192x256) bitsLt_bf16_f32

theorem outKA_at (t : FVec Ideal S4x2048x2x128 .f32) (R : Fin 8192) (e : Fin 256) : outKA t (ix2 R e) =
    t (ix4 (⟨R.1 / 2048, by omega⟩ : Fin 4) (⟨R.1 % 2048, by omega⟩ : Fin 2048) (⟨e.1 / 128, by omega⟩ : Fin 2) (⟨e.1 % 128, by omega⟩ : Fin 128)) := by
  pointwise [outKA]

def vals2 (p : FVec Ideal S4x2048x3968 .f32) : FVec Ideal S4x2048x2x128 .f32 :=
  shapeCast _ (extractStridedSlice S4x2048x256 ![0, 0, 1280] p slices_S4x2048x3968_S4x2048x256_0_0_1280) shapeCasts_S4x2048x256_S4x2048x2x128

theorem vals2_at (p : FVec Ideal S4x2048x3968 .f32) (b : Fin 4) (r : Fin 2048) (h : Fin 2) (d : Fin 128) :
    vals2 p (ix4 b r h d) = p (ix3 b r (⟨1280 + (h.1 * 128 + d.1), by omega⟩ : Fin 3968)) := by
  pointwise [vals2]

/-! ## The low-rank attention's results -/

def heads8b (p : FVec Ideal S4x2048x3968 .f32) : FVec Ideal S4x2048x8x256 .f32 :=
  shapeCast _ (extractStridedSlice S4x2048x2048 ![0, 0, 1536] p slices_S4x2048x3968_S4x2048x2048_0_0_1536) shapeCasts_S4x2048x2048_S4x2048x8x256

theorem heads8b_at (p : FVec Ideal S4x2048x3968 .f32) (b : Fin 4) (r : Fin 2048) (h : Fin 8) (d : Fin 256) :
    heads8b p (ix4 b r h d) = p (ix3 b r (⟨1536 + (h.1 * 256 + d.1), by omega⟩ : Fin 3968)) := by
  pointwise [heads8b]

def lower (t : FVec Ideal S4x2048x8x256 .f32) : FVec Ideal S4x2048x8x128 .f32 :=
  extractStridedSlice S4x2048x8x128 ![0, 0, 0, 0] t slices_S4x2048x8x256_S4x2048x8x128_0_0_0_0
def upper (t : FVec Ideal S4x2048x8x256 .f32) : FVec Ideal S4x2048x8x128 .f32 :=
  extractStridedSlice S4x2048x8x128 ![0, 0, 0, 128] t slices_S4x2048x8x256_S4x2048x8x128_0_0_0_128

theorem lower_at (t : FVec Ideal S4x2048x8x256 .f32) (b : Fin 4) (r : Fin 2048) (h : Fin 8) (d : Fin 128) :
    lower t (ix4 b r h d) = t (ix4 b r h (⟨d.1, by omega⟩ : Fin 256)) := by
  pointwise [lower]

theorem upper_at (t : FVec Ideal S4x2048x8x256 .f32) (b : Fin 4) (r : Fin 2048) (h : Fin 8) (d : Fin 128) :
    upper t (ix4 b r h d) = t (ix4 b r h (⟨128 + d.1, by omega⟩ : Fin 256)) := by
  pointwise [upper]

/-- The two halves of each head side by side. -/
def pair (t u : FVec Ideal S4x2048x8x128 .f32) : FVec Ideal S4x2048x8x256 .f32 :=
  concatenate S4x2048x8x256 3 [⟨S4x2048x8x128, t⟩, ⟨S4x2048x8x128, u⟩] concatenates_S4x2048x8x128_S4x2048x8x128_S4x2048x8x256_d3

theorem pair_at (t u : FVec Ideal S4x2048x8x128 .f32) (b : Fin 4) (r : Fin 2048) (h : Fin 8) (d : Fin 256) : pair t u (ix4 b r h d) =
    if hd : d.1 < 128 then t (ix4 b r h (⟨d.1, hd⟩ : Fin 128)) else u (ix4 b r h (⟨d.1 - 128, by omega⟩ : Fin 128)) := by
  pointwise [pair]

def outQB (t : FVec Ideal S4x2048x8x256 .f32) : FVec Ideal S8192x2048 .bf16 :=
  truncf .bf16 (shapeCast _ (mulf t (broadcastInDim S4x2048x8x256 ![] bcast_S_S4x2048x8x256 (constant S_ .f32 0x3DD53B95#32)))
    shapeCasts_S4x2048x8x256_S8192x2048) bitsLt_bf16_f32

theorem outQB_at (t : FVec Ideal S4x2048x8x256 .f32) (R : Fin 8192) (e : Fin 2048) : outQB t (ix2 R e) =
    (t (ix4 (⟨R.1 / 2048, by omega⟩ : Fin 4) (⟨R.1 % 2048, by omega⟩ : Fin 2048) (⟨e.1 / 256, by omega⟩ : Fin 8) (⟨e.1 % 256, by omega⟩ : Fin 256)) *
      scaleB : EReal) := by
  pointwise [outQB]

def outKB (t : FVec Ideal S4x2048x8x256 .f32) : FVec Ideal S8192x2048 .bf16 :=
  truncf .bf16 (shapeCast _ t shapeCasts_S4x2048x8x256_S8192x2048) bitsLt_bf16_f32

theorem outKB_at (t : FVec Ideal S4x2048x8x256 .f32) (R : Fin 8192) (e : Fin 2048) : outKB t (ix2 R e) =
    t (ix4 (⟨R.1 / 2048, by omega⟩ : Fin 4) (⟨R.1 % 2048, by omega⟩ : Fin 2048) (⟨e.1 / 256, by omega⟩ : Fin 8) (⟨e.1 % 256, by omega⟩ : Fin 256)) := by
  pointwise [outKB]

def outVB (t : FVec Ideal S4x2048x8x128 .f32) : FVec Ideal S8192x1024 .bf16 :=
  truncf .bf16 (shapeCast _ t shapeCasts_S4x2048x8x128_S8192x1024) bitsLt_bf16_f32

theorem outVB_at (t : FVec Ideal S4x2048x8x128 .f32) (R : Fin 8192) (e : Fin 1024) : outVB t (ix2 R e) =
    t (ix4 (⟨R.1 / 2048, by omega⟩ : Fin 4) (⟨R.1 % 2048, by omega⟩ : Fin 2048) (⟨e.1 / 128, by omega⟩ : Fin 8) (⟨e.1 % 128, by omega⟩ : Fin 128)) := by
  pointwise [outVB]

/-- The low-rank part, normalised, and expanded. -/
def lowPart (p : FVec Ideal S4x2048x3968 .f32) : FVec Ideal S4x2048x256 .f32 :=
  extractStridedSlice S4x2048x256 ![0, 0, 3584] p slices_S4x2048x3968_S4x2048x256_0_0_3584

theorem lowPart_at (p : FVec Ideal S4x2048x3968 .f32) (b : Fin 4) (r : Fin 2048) (d : Fin 256) :
    lowPart p (ix3 b r d) = p (ix3 b r (⟨3584 + d.1, by omega⟩ : Fin 3968)) := by
  pointwise [lowPart]

def lowNorm (t : FVec Ideal S4x2048x256 .f32) (g : FVec Ideal S4x1x256 .f32) : FVec Ideal S4x2048x256 .f32 :=
  mulf (mulf t (broadcastInDim S4x2048x256 ![0, 1, 2] bcast_S4x2048x1_S4x2048x256_0_1_2 (Host.rsqrt (addf (Host.divf
    (broadcastInDim S4x2048x1 ![0, 1] bcast_S4x2048_S4x2048x1_0_1 (Host.reduceAdd (mulf t t) (constant S_ .f32 0x00000000#32)
      reducesTo_S4x2048x256_S4x2048_d2 h_S_)) (broadcastInDim S4x2048x1 ![] bcast_S_S4x2048x1 (constant S_ .f32 0x43800000#32)))
    (broadcastInDim S4x2048x1 ![] bcast_S_S4x2048x1 (constant S_ .f32 0x358637BD#32))))))
    (broadcastInDim S4x2048x256 ![0, 1, 2] bcast_S1x1x256_S4x2048x256_0_1_2 (broadcastInDim S1x1x256 ![2] bcast_S256_S1x1x256_2
      (shapeCast _ (extractStridedSlice S1x1x256 ![1, 0, 0] g slices_S4x1x256_S1x1x256_1_0_0) shapeCasts_S1x1x256_S256)))

theorem lowNorm_at (t : FVec Ideal S4x2048x256 .f32) (g : FVec Ideal S4x1x256 .f32) (b : Fin 4) (r : Fin 2048) (e : Fin 256) :
    lowNorm t g (ix3 b r e) = unit len256 (fun d => t (ix3 b r d)) (fun d => g (ix3 1 0 d)) e := by
  unfold unit
  pointwise [lowNorm]

def expand (t : FVec Ideal S4x2048x256 .f32) (w : FVec Ideal S4x256x1024 .bf16) : FVec Ideal S4x2048x8x128 .f32 :=
  shapeCast _ (Host.dotGeneral dot_S4x2048x256_S256x1024_S4x2048x1024_2_0_01_1_n_n none t (extf .f32 (shapeCast _
    (extractStridedSlice S1x256x1024 ![1, 0, 0] w slices_S4x256x1024_S1x256x1024_1_0_0) shapeCasts_S1x256x1024_S256x1024) bitsLt_bf16_f32))
    shapeCasts_S4x2048x1024_S4x2048x8x128

theorem expand_at (t : FVec Ideal S4x2048x256 .f32) (w : FVec Ideal S4x256x1024 .bf16) (b : Fin 4) (r : Fin 2048) (h : Fin 8) (e : Fin 128) :
    expand t w (ix4 b r h e) = (∑ d : Fin 256, t (ix3 b r d) * w (ix3 1 d (⟨h.1 * 128 + e.1, by omega⟩ : Fin 1024)) : EReal) := by
  pointwise [expand]

/-- The part of the keys that all heads share. -/
def shared (p : FVec Ideal S4x2048x3968 .f32) : FVec Ideal S4x2048x1x128 .f32 :=
  broadcastInDim S4x2048x1x128 ![0, 1, 3] bcast_S4x2048x128_S4x2048x1x128_0_1_3
    (extractStridedSlice S4x2048x128 ![0, 0, 3840] p slices_S4x2048x3968_S4x2048x128_0_0_3840)

theorem shared_at (p : FVec Ideal S4x2048x3968 .f32) (b : Fin 4) (r : Fin 2048) (d : Fin 128) :
    shared p (ix4 b r 0 d) = p (ix3 b r (⟨3840 + d.1, by omega⟩ : Fin 3968)) := by
  pointwise [shared]

def spread (t : FVec Ideal S4x2048x1x128 .f32) : FVec Ideal S4x2048x8x128 .f32 :=
  broadcastInDim S4x2048x8x128 ![0, 1, 2, 3] bcast_S4x2048x1x128_S4x2048x8x128_0_1_2_3 (broadcastInDim S4x2048x1x128 ![0, 1, 3]
    bcast_S4x2048x128_S4x2048x1x128_0_1_3 (shapeCast _ t shapeCasts_S4x2048x1x128_S4x2048x128))

theorem spread_at (t : FVec Ideal S4x2048x1x128 .f32) (b : Fin 4) (r : Fin 2048) (h : Fin 8) (d : Fin 128) :
    spread t (ix4 b r h d) = t (ix4 b r 0 d) := by
  pointwise [spread]

/-! ## The six results -/

section
variable (x : FVec Ideal S8192x2048 .f32) (md : FVec Ideal S4x8x6x2048 .f32) (g : FVec Ideal S4x1x2048 .f32)
  (w : FVec Ideal S4x2048x3968 .bf16)

/-- The projection of one row, in the arguments. -/
abbrev rowOf (R : Fin 8192) : Fin 3968 → EReal :=
  rowG (fun R d => x (ix2 R d)) (fun b k d => md (ix4 1 b k d)) (fun d => g (ix3 1 0 d)) (fun d e => w (ix3 1 d e)) R

/-- The turn of one row's heads. -/
abbrev rotOf (c s : FVec Ideal S2048x64 .f32) (R : Fin 8192) : (Fin 128 → EReal) → Fin 128 → EReal :=
  rotG (fun r e => c (ix2 r e)) (fun r e => s (ix2 r e)) R

def resultQA (n : FVec Ideal S4x1x128 .f32) (c s : FVec Ideal S2048x64 .f32) : FVec Ideal S8192x1024 .bf16 :=
  outQA (turn8 (norm8 (heads8 (projected x md g w)) n) c s)

theorem resultQA_at (n : FVec Ideal S4x1x128 .f32) (c s : FVec Ideal S2048x64 .f32) (R : Fin 8192) (e : Fin 1024) :
    resultQA x md g w n c s (ix2 R e) = qa (rotOf c s R) (rowOf x md g w R) (fun d => n (ix3 1 0 d)) e := by
  rw [resultQA, outQA_at, turn8_at]
  simp only [norm8_at, heads8_at, projected_at]
  rfl

def resultKA (n : FVec Ideal S4x1x128 .f32) (c s : FVec Ideal S2048x64 .f32) : FVec Ideal S8192x256 .bf16 :=
  outKA (turn2 (norm2 (heads2 (projected x md g w)) n) c s)

theorem resultKA_at (n : FVec Ideal S4x1x128 .f32) (c s : FVec Ideal S2048x64 .f32) (R : Fin 8192) (e : Fin 256) :
    resultKA x md g w n c s (ix2 R e) = ka (rotOf c s R) (rowOf x md g w R) (fun d => n (ix3 1 0 d)) e := by
  rw [resultKA, outKA_at, turn2_at]
  simp only [norm2_at, heads2_at, projected_at, ← Nat.add_assoc]
  rfl

def resultVA : FVec Ideal S8192x256 .bf16 := outKA (vals2 (projected x md g w))

theorem resultVA_at (R : Fin 8192) (e : Fin 256) : resultVA x md g w (ix2 R e) = va (rowOf x md g w R) e := by
  rw [resultVA, outKA_at, vals2_at, projected_at]
  exact congrArg (rowOf x md g w R) (Fin.ext (by show 1280 + (e.1 / 128 * 128 + e.1 % 128) = 1280 + e.1; omega))

def resultQB (c s : FVec Ideal S2048x32 .f32) : FVec Ideal S8192x2048 .bf16 :=
  outQB (pair (lower (heads8b (projected x md g w))) (turn8 (upper (heads8b (projected x md g w))) (padCos c) (padSin s)))

/-- The turn by the narrow angles. -/
abbrev rotOfB (c s : FVec Ideal S2048x32 .f32) (R : Fin 8192) : (Fin 128 → EReal) → Fin 128 → EReal :=
  rotG (fun r e => padded 1 (fun d => c (ix2 r d)) e) (fun r e => padded 0 (fun d => s (ix2 r d)) e) R

theorem resultQB_at (c s : FVec Ideal S2048x32 .f32) (R : Fin 8192) (e : Fin 2048) :
    resultQB x md g w c s (ix2 R e) = qb (rotOfB c s R) (rowOf x md g w R) e := by
  rw [resultQB, outQB_at, pair_at, qb]
  refine congrArg (· * scaleB) ?_
  by_cases h : e.1 % 256 < 128
  · rw [dif_pos h, if_pos h, lower_at, heads8b_at, projected_at]
    exact congrArg (rowOf x md g w R) (Fin.ext (by show 1536 + (e.1 / 256 * 256 + e.1 % 256) = 1536 + e.1; omega))
  · rw [dif_neg h, if_neg h, turn8_at]
    simp only [upper_at, heads8b_at, projected_at, padCos_at, padSin_at]
    refine congr (congrArg (rotOfB c s R) (funext fun d => ?_)) (Fin.ext (by show e.1 % 256 - 128 = e.1 % 128; omega))
    exact congrArg (rowOf x md g w R) (Fin.ext (by
      show 1536 + (e.1 / 256 * 256 + (128 + d.1)) = 1536 + (e.1 / 256 * 256 + 128) + d.1; omega))

def resultVB (n : FVec Ideal S4x1x256 .f32) (v : FVec Ideal S4x256x1024 .bf16) : FVec Ideal S8192x1024 .bf16 :=
  outVB (expand (lowNorm (lowPart (projected x md g w)) n) v)

/-- One cell expanded from the low-rank part. -/
theorem expanded_at (n : FVec Ideal S4x1x256 .f32) (v : FVec Ideal S4x256x1024 .bf16) (R : Fin 8192) (h : Fin 8) (d : Fin 128) :
    expand (lowNorm (lowPart (projected x md g w)) n) v
      (ix4 (⟨R.1 / 2048, by omega⟩ : Fin 4) (⟨R.1 % 2048, by omega⟩ : Fin 2048) h d) =
      vb (rowOf x md g w R) (fun d => n (ix3 1 0 d)) (fun k => v (ix3 1 k (⟨h.1 * 128 + d.1, by omega⟩ : Fin 1024))) := by
  rw [expand_at]
  simp only [lowNorm_at, lowPart_at, projected_at]
  rfl

theorem resultVB_at (n : FVec Ideal S4x1x256 .f32) (v : FVec Ideal S4x256x1024 .bf16) (R : Fin 8192) (e : Fin 1024) :
    resultVB x md g w n v (ix2 R e) = vb (rowOf x md g w R) (fun d => n (ix3 1 0 d)) (fun k => v (ix3 1 k e)) := by
  rw [resultVB, outVB_at, expanded_at]
  have he : (⟨e.1 / 128 * 128 + e.1 % 128, by omega⟩ : Fin 1024) = e := Fin.ext (by show e.1 / 128 * 128 + e.1 % 128 = e.1; omega)
  simp only [he]

def resultKB (n : FVec Ideal S4x1x256 .f32) (k : FVec Ideal S4x256x1024 .bf16) (c s : FVec Ideal S2048x32 .f32) :
    FVec Ideal S8192x2048 .bf16 :=
  outKB (pair (expand (lowNorm (lowPart (projected x md g w)) n) k)
    (spread (turn1 (shared (projected x md g w)) (padCos c) (padSin s))))

theorem resultKB_at (n : FVec Ideal S4x1x256 .f32) (k : FVec Ideal S4x256x1024 .bf16) (c s : FVec Ideal S2048x32 .f32) (R : Fin 8192)
    (e : Fin 2048) : resultKB x md g w n k c s (ix2 R e) =
      kb (rotOfB c s R) (rowOf x md g w R) (fun d => n (ix3 1 0 d)) (fun d e => k (ix3 1 d e)) e := by
  rw [resultKB, outKB_at, pair_at, kb]
  by_cases h : e.1 % 256 < 128
  · rw [dif_pos h, if_pos h, expanded_at]
    exact congrArg (fun i : Fin 1024 => vb (rowOf x md g w R) (fun d => n (ix3 1 0 d)) (fun d => k (ix3 1 d i)))
      (Fin.ext (by show e.1 / 256 * 128 + e.1 % 256 = e.1 / 256 * 128 + e.1 % 128; omega))
  · rw [dif_neg h, if_neg h, spread_at, turn1_at]
    simp only [shared_at, projected_at, padCos_at, padSin_at]
    exact congrArg (rotOfB c s R (fun d : Fin 128 => rowOf x md g w R ⟨3840 + d.1, by omega⟩))
      (Fin.ext (by show e.1 % 256 - 128 = e.1 % 128; omega))

end

end Cert.Reference6Ideal.Out
end
-- ==== Proof.TieProj.lean ====
/- The projections: what the kernel leaves in each of its six results is the reference's. -/
module

public import proofs.«01_k».proof.Proof.ProjArr
public import proofs.«01_k».proof.Proof.RefProj

@[expose] public section
noncomputable section
namespace Cert.TieProj
open Idealize.ShloMosaic Idealize.ShloMosaic.TcCoe Idealize.SL.Sem
open Cert.Kernel6Ideal Cert.Kernel6Ideal.Gen Cert.Kernel6Ideal.Proj Cert.Reference6Ideal.Out

variable (m : (ℓ : Loc nD τ sig) → Buf (Elt Ideal) ℓ) (c : Dev nD)

theorem queriesA : resultQA (m (c.tc.loc main_arg0)) (m (c.tc.loc main_arg1)) (m (c.tc.loc main_arg2)) (m (c.tc.loc main_arg3))
    (m (c.tc.loc main_arg4)) (m (c.tc.loc main_arg9)) (m (c.tc.loc main_arg10)) = (dats m 0 c).arrAt 13 cfg0.N := by
  rw [arr13]
  funext y
  obtain ⟨r, e, rfl⟩ : ∃ (r : Fin 8192) (e : Fin 1024), y = ix2 r e := ⟨y 0, y 1, by funext a; fin_cases a <;> rfl⟩
  exact resultQA_at _ _ _ _ _ _ _ r e

theorem keysA : resultKA (m (c.tc.loc main_arg0)) (m (c.tc.loc main_arg1)) (m (c.tc.loc main_arg2)) (m (c.tc.loc main_arg3))
    (m (c.tc.loc main_arg5)) (m (c.tc.loc main_arg9)) (m (c.tc.loc main_arg10)) = (dats m 0 c).arrAt 14 cfg0.N := by
  rw [arr14]
  funext y
  obtain ⟨r, e, rfl⟩ : ∃ (r : Fin 8192) (e : Fin 256), y = ix2 r e := ⟨y 0, y 1, by funext a; fin_cases a <;> rfl⟩
  exact resultKA_at _ _ _ _ _ _ _ r e

theorem valuesA : resultVA (m (c.tc.loc main_arg0)) (m (c.tc.loc main_arg1)) (m (c.tc.loc main_arg2)) (m (c.tc.loc main_arg3)) =
    (dats m 0 c).arrAt 15 cfg0.N := by
  rw [arr15]
  funext y
  obtain ⟨r, e, rfl⟩ : ∃ (r : Fin 8192) (e : Fin 256), y = ix2 r e := ⟨y 0, y 1, by funext a; fin_cases a <;> rfl⟩
  exact resultVA_at _ _ _ _ r e

theorem queriesB : resultQB (m (c.tc.loc main_arg0)) (m (c.tc.loc main_arg1)) (m (c.tc.loc main_arg2)) (m (c.tc.loc main_arg3))
    (m (c.tc.loc main_arg11)) (m (c.tc.loc main_arg12)) = (dats m 0 c).arrAt 16 cfg0.N := by
  rw [arr16]
  funext y
  obtain ⟨r, e, rfl⟩ : ∃ (r : Fin 8192) (e : Fin 2048), y = ix2 r e := ⟨y 0, y 1, by funext a; fin_cases a <;> rfl⟩
  exact resultQB_at _ _ _ _ _ _ r e

theorem keysB : resultKB (m (c.tc.loc main_arg0)) (m (c.tc.loc main_arg1)) (m (c.tc.loc main_arg2)) (m (c.tc.loc main_arg3))
    (m (c.tc.loc main_arg6)) (m (c.tc.loc main_arg7)) (m (c.tc.loc main_arg11)) (m (c.tc.loc main_arg12)) =
    (dats m 0 c).arrAt 17 cfg0.N := by
  rw [arr17]
  funext y
  obtain ⟨r, e, rfl⟩ : ∃ (r : Fin 8192) (e : Fin 2048), y = ix2 r e := ⟨y 0, y 1, by funext a; fin_cases a <;> rfl⟩
  exact resultKB_at _ _ _ _ _ _ _ _ r e

theorem valuesB : resultVB (m (c.tc.loc main_arg0)) (m (c.tc.loc main_arg1)) (m (c.tc.loc main_arg2)) (m (c.tc.loc main_arg3))
    (m (c.tc.loc main_arg6)) (m (c.tc.loc main_arg8)) = (dats m 0 c).arrAt 18 cfg0.N := by
  rw [arr18]
  funext y
  obtain ⟨r, e, rfl⟩ : ∃ (r : Fin 8192) (e : Fin 1024), y = ix2 r e := ⟨y 0, y 1, by funext a; fin_cases a <;> rfl⟩
  exact resultVB_at _ _ _ _ _ _ r e

end Cert.TieProj
end
-- ==== Proof.CtxCell.lean ====
/- The context rows' new cache entries at one cell, over the extended reals, as both programs compute them. -/
module

public import proofs.«01_k».proof.Proof.ProjCell

@[expose] public section
noncomputable section
namespace Cert.CtxCell
open Idealize.ShloMosaic
open Cert.ProjCell

/-- The projection of one row of the context, from the layer's modulations of the context. -/
def rowC (x : Fin 8192 → Fin 2048 → EReal) (md : Fin 6 → Fin 2048 → EReal) (g : Fin 2048 → EReal)
    (w : Fin 2048 → Fin 3968 → EReal) (b : Fin 32) (r : Fin 256) : Fin 3968 → EReal :=
  proj (x ⟨b.1 * 256 + r.1, by omega⟩) g (md 1) (md 0) w

/-- The grouped attention's key and value, by head. -/
def keyC (p : Fin 3968 → EReal) (g : Fin 128 → EReal) (h : Fin 2) (e : Fin 128) : EReal :=
  unit len128 (fun d : Fin 128 => p ⟨1024 + (h.1 * 128 + d.1), by omega⟩) g e
def valC (p : Fin 3968 → EReal) (h : Fin 2) (e : Fin 128) : EReal := p ⟨1280 + (h.1 * 128 + e.1), by omega⟩

/-- The shared part of the low-rank keys, the columns between left out. -/
def ropeC (p : Fin 3968 → EReal) (e : Fin 64) : EReal :=
  if h : e.1 < 32 then p ⟨3840 + e.1, by omega⟩ else p ⟨3840 + (64 + (e.1 - 32)), by omega⟩

end Cert.CtxCell
end
-- ==== Proof.CtxTiles.lean ====
/- The context rows' kernel: the arithmetic of each tile it stores into the caches, at one cell. -/
module

public import proofs.«01_k».proof.Proof.Gen.Kernel7Ideal.Value
public import Idealize.ShloMosaic.Lib.Pipeline.ReadBack
public import proofs.«01_k».proof.Proof.CtxCell

@[expose] public section
set_option maxRecDepth 16384
noncomputable section
namespace Cert.Kernel7Ideal.Ctx
open Idealize.ShloMosaic Idealize.ShloMosaic.TcCoe Idealize.SL.Sem
open Cert.Kernel7Ideal Cert.Kernel7Ideal.Gen Cert.ProjCell Cert.CtxCell

/-! ## The projection of 256 rows, as each of the two blocks of rows has it -/

theorem rows_upper (x : Vec Ideal S256x2048 .f32) (g : Vec Ideal S1x1x2048 .f32) (sc sh : Vec Ideal S1x1x1x2048 .f32)
    (w : Vec Ideal S1x2048x3968 .bf16) (r : Fin 256) (e : Fin 3968) : k0_pay2 x g sc sh w (ix2 r e) =
      proj (fun d => x (ix2 r d)) (fun d => g (ix3 0 0 d)) (fun d => sc (ix4 0 0 0 d)) (fun d => sh (ix4 0 0 0 d))
        (fun d e => w (ix3 0 d e)) e := by
  pointwise [k0_pay2]
  rfl

theorem rows_lower (x : Vec Ideal S256x2048 .f32) (g : Vec Ideal S1x1x2048 .f32) (sc sh : Vec Ideal S1x1x1x2048 .f32)
    (w : Vec Ideal S1x2048x3968 .bf16) (r : Fin 256) (e : Fin 3968) : k0_pay117 (k0_pay116 x g) sc sh w (ix2 r e) =
      proj (fun d => x (ix2 r d)) (fun d => g (ix3 0 0 d)) (fun d => sc (ix4 0 0 0 d)) (fun d => sh (ix4 0 0 0 d))
        (fun d e => w (ix3 0 d e)) e := by
  pointwise [k0_pay117, k0_pay116]
  rfl

variable (p : FVec Ideal S256x3968 .f32)

/-! ## The grouped attention's keys and values -/

theorem key_00 (g : Vec Ideal S1x1x128 .f32) (r : Fin 256) (e : Fin 128) :
    k0_pay23 p g (ix5 0 0 r 0 e) = keyC (fun e => p (ix2 r e)) (fun d => g (ix3 0 0 d)) 0 e := by
  unfold keyC unit
  pointwise [k0_pay23, k0_pay22, k0_pay21, k0_pay19]

theorem key_01 (g : Vec Ideal S1x1x128 .f32) (r : Fin 256) (e : Fin 128) :
    k0_pay27 (k0_pay19 p) (k0_pay21 g) (ix5 0 0 r 0 e) = keyC (fun e => p (ix2 r e)) (fun d => g (ix3 0 0 d)) 1 e := by
  unfold keyC unit
  pointwise [k0_pay27, k0_pay26, k0_pay21, k0_pay19]

theorem key_10 (g : Vec Ideal S1x1x128 .f32) (r : Fin 256) (e : Fin 128) :
    k0_pay137 (k0_pay133 p) g (ix5 0 0 r 0 e) = keyC (fun e => p (ix2 r e)) (fun d => g (ix3 0 0 d)) 0 e := by
  unfold keyC unit
  pointwise [k0_pay137, k0_pay136, k0_pay135, k0_pay133]

theorem key_11 (g : Vec Ideal S1x1x128 .f32) (r : Fin 256) (e : Fin 128) :
    k0_pay140 (k0_pay133 p) g (ix5 0 0 r 0 e) = keyC (fun e => p (ix2 r e)) (fun d => g (ix3 0 0 d)) 1 e := by
  unfold keyC unit
  pointwise [k0_pay140, k0_pay139, k0_pay135, k0_pay133]

theorem val_00 (r : Fin 256) (e : Fin 128) : k0_pay30 (k0_pay20 p) (ix5 0 0 r 0 e) = valC (fun e => p (ix2 r e)) 0 e := by
  unfold valC
  pointwise [k0_pay30, k0_pay20]

theorem val_01 (r : Fin 256) (e : Fin 128) : k0_pay32 (k0_pay31 (k0_pay20 p)) (ix5 0 0 r 0 e) = valC (fun e => p (ix2 r e)) 1 e := by
  unfold valC
  pointwise [k0_pay32, k0_pay31, k0_pay20]

theorem val_10 (r : Fin 256) (e : Fin 128) : k0_pay143 (k0_pay134 p) (ix5 0 0 r 0 e) = valC (fun e => p (ix2 r e)) 0 e := by
  unfold valC
  pointwise [k0_pay143, k0_pay134]

theorem val_11 (r : Fin 256) (e : Fin 128) : k0_pay144 (k0_pay134 p) (ix5 0 0 r 0 e) = valC (fun e => p (ix2 r e)) 1 e := by
  unfold valC
  pointwise [k0_pay144, k0_pay134]

/-! ## The low-rank part and the shared keys -/

theorem low_0 (g : Vec Ideal S1x1x256 .f32) (r e : Fin 256) :
    k0_pay54 p g (ix4 0 0 r e) = lowrank (fun e => p (ix2 r e)) (fun d => g (ix3 0 0 d)) e := by
  unfold lowrank unit
  pointwise [k0_pay54, k0_pay52]

theorem low_1 (g : Vec Ideal S1x1x256 .f32) (r e : Fin 256) :
    k0_pay167 (k0_pay165 p g) (ix4 0 0 r e) = lowrank (fun e => p (ix2 r e)) (fun d => g (ix3 0 0 d)) e := by
  unfold lowrank unit
  pointwise [k0_pay167, k0_pay165]

theorem rope_0 (r : Fin 256) (e : Fin 64) : k0_pay55 p (ix4 0 0 r e) = ropeC (fun e => p (ix2 r e)) e := by
  unfold ropeC
  pointwise [k0_pay55, k0_pay53]

theorem rope_1 (r : Fin 256) (e : Fin 64) : k0_pay168 (k0_pay166 p) (ix4 0 0 r e) = ropeC (fun e => p (ix2 r e)) e := by
  unfold ropeC
  pointwise [k0_pay168, k0_pay166]

end Cert.Kernel7Ideal.Ctx
end
-- ==== Proof.CtxBlocks.lean ====
/- The context rows' kernel: what one step leaves in the block of each cache, cell by cell. -/
module

public import proofs.«01_k».proof.Proof.CtxTiles

@[expose] public section
set_option maxRecDepth 16384
noncomputable section
namespace Cert.Kernel7Ideal.Ctx
open Idealize.ShloMosaic Idealize.ShloMosaic.TcCoe Idealize.SL.Sem
open Cert.Kernel7Ideal Cert.Kernel7Ideal.Gen Cert.ProjCell Cert.CtxCell

/-- A coordinate of an index of a box. -/
theorem emb_val {s : Shape} (off size : Fin s.rank → ℕ) (inb) (x : (Rect.unit (s := s) off size inb).shape.Idx) (a : Fin s.rank) :
    ((Rect.unit (s := s) off size inb).emb x a).1 = off a + (x a).1 := Rect.idx_unit_val off size inb x a

theorem idx : ∀ t : Fin cfg0.N, win0_0.index t = ![t.val, 0] ∧ win0_1.index t = ![1, 0, 0, 0] ∧ win0_2.index t = ![1, 0, 0] ∧
    win0_3.index t = ![1, 0, 0] ∧ win0_5.index t = ![1, 0, 0] ∧ win0_6.index t = ![1, 0, 0] ∧ win0_11.index t = ![t.val, 1, 0, 0, 0] ∧
    win0_12.index t = ![t.val, 1, 0, 0, 0] ∧ win0_13.index t = ![t.val, 1, 0, 0] ∧ win0_14.index t = ![t.val, 1, 0, 0] :=
  (by decide +kernel : ∀ t : Fin grid0.N, _)

theorem lt16 (t : Fin cfg0.N) : t.val < 16 := t.isLt

variable (m : (ℓ : Loc nD τ sig) → Buf (Elt Ideal) ℓ) (c : Dev nD)

/-! ## The blocks of the arguments -/

theorem block0 (t : Fin cfg0.N) (r : Fin 512) (d : Fin 2048) : iblk m c 0 t (ix2 r d) =
    m (c.tc.loc main_arg0) (ix2 (⟨512 * t.val + r.val, by have := lt16 t; omega⟩ : Fin 8192) d) := by
  blk_point [iblk, V, idx t]

theorem block1 (t : Fin cfg0.N) (k : Fin 6) (d : Fin 2048) : iblk m c 1 t (ix4 0 0 k d) = m (c.tc.loc main_arg1) (ix4 1 0 k d) := by
  blk_point [iblk, V, idx t]

theorem block2 (t : Fin cfg0.N) (d : Fin 2048) : iblk m c 2 t (ix3 0 0 d) = m (c.tc.loc main_arg2) (ix3 1 0 d) := by
  blk_point [iblk, V, idx t]

theorem block3 (t : Fin cfg0.N) (d : Fin 2048) (e : Fin 3968) : iblk m c 3 t (ix3 0 d e) = m (c.tc.loc main_arg3) (ix3 1 d e) := by
  blk_point [iblk, V, idx t]

theorem block5 (t : Fin cfg0.N) (d : Fin 128) : iblk m c 5 t (ix3 0 0 d) = m (c.tc.loc main_arg5) (ix3 1 0 d) := by
  blk_point [iblk, V, idx t]

theorem block6 (t : Fin cfg0.N) (d : Fin 256) : iblk m c 6 t (ix3 0 0 d) = m (c.tc.loc main_arg6) (ix3 1 0 d) := by
  blk_point [iblk, V, idx t]

/-! ## The projected rows -/

theorem ld_rows (x : Vec Ideal S512x2048 .f32) (r0 : ℕ) (hr : r0 ≤ 256) (h : ∀ a, ![r0, 0] a + S256x2048.size a ≤ S512x2048.size a)
    (r : Fin 256) (d : Fin 2048) : View.ld x (Rect.unit (s := S512x2048) ![r0, 0] S256x2048.size h) (ix2 r d) = x (ix2 (⟨r0 + r.1, by omega⟩ : Fin 512) d) := by
  pointwise []

theorem ld_mod (x : Vec Ideal S1x1x6x2048 .f32) (k : ℕ) (hk : k < 6) (h : ∀ a, ![0, 0, k, 0] a + S1x1x1x2048.size a ≤ S1x1x6x2048.size a)
    (d : Fin 2048) : View.ld x (Rect.unit (s := S1x1x6x2048) ![0, 0, k, 0] S1x1x1x2048.size h) (ix4 0 0 0 d) = x (ix4 0 0 (⟨k, hk⟩ : Fin 6) d) := by
  pointwise []

/-- The projection of one row of a context, from the arguments. -/
def row (b : Fin 32) (r : Fin 256) : Fin 3968 → EReal :=
  rowC (fun R d => m (c.tc.loc main_arg0) (ix2 R d)) (fun k d => m (c.tc.loc main_arg1) (ix4 1 0 k d))
    (fun d => m (c.tc.loc main_arg2) (ix3 1 0 d)) (fun d e => m (c.tc.loc main_arg3) (ix3 1 d e)) b r

/-- The context that a half of a step's rows is. -/
abbrev ctx (t : Fin cfg0.N) (i : Fin 2) : Fin 32 := ⟨2 * t.val + i.1, by have := lt16 t; omega⟩

theorem half_row (t : Fin cfg0.N) (i : Fin 2) (r0 : ℕ) (h0 : r0 = 256 * i.1) (h : ∀ a, ![r0, 0] a + S256x2048.size a ≤ S512x2048.size a)
    (r : Fin 256) (d : Fin 2048) : View.ld (iblk m c 0 t) (Rect.unit (s := S512x2048) ![r0, 0] S256x2048.size h) (ix2 r d) =
      m (c.tc.loc main_arg0) (ix2 (⟨(ctx t i).1 * 256 + r.1, by have := lt16 t; omega⟩ : Fin 8192) d) := by
  refine (ld_rows _ r0 (by omega) h r d).trans ((block0 m c t _ d).trans ?_)
  congr 2
  exact Fin.ext (by show 512 * t.val + (r0 + r.1) = (2 * t.val + i.1) * 256 + r.1; omega)

theorem mod_row (t : Fin cfg0.N) (k : ℕ) (hk : k < 6) (h : ∀ a, ![0, 0, k, 0] a + S1x1x1x2048.size a ≤ S1x1x6x2048.size a) (d : Fin 2048) :
    View.ld (iblk m c 1 t) (Rect.unit (s := S1x1x6x2048) ![0, 0, k, 0] S1x1x1x2048.size h) (ix4 0 0 0 d) =
      m (c.tc.loc main_arg1) (ix4 1 0 (⟨k, hk⟩ : Fin 6) d) :=
  (ld_mod _ k hk h d).trans (block1 m c t _ d)

/-- The first context's projected rows, and the second's, as a step computes them. -/
abbrev upper (t : Fin cfg0.N) : FVec Ideal S256x3968 .f32 :=
  k0_pay2 (View.ld (iblk m c 0 t) (Rect.unit ![0, 0] ![256, 2048] inb_S512x2048_S256x2048_0_0)) (iblk m c 2 t)
    (View.ld (iblk m c 1 t) (Rect.unit ![0, 0, 1, 0] ![1, 1, 1, 2048] inb_S1x1x6x2048_S1x1x1x2048_0_0_1_0))
    (View.ld (iblk m c 1 t) (Rect.unit ![0, 0, 0, 0] ![1, 1, 1, 2048] inb_S1x1x6x2048_S1x1x1x2048_0_0_0_0)) (iblk m c 3 t)
abbrev lower (t : Fin cfg0.N) : FVec Ideal S256x3968 .f32 :=
  k0_pay117 (k0_pay116 (View.ld (iblk m c 0 t) (Rect.unit ![256, 0] ![256, 2048] inb_S512x2048_S256x2048_256_0)) (iblk m c 2 t))
    (View.ld (iblk m c 1 t) (Rect.unit ![0, 0, 1, 0] ![1, 1, 1, 2048] inb_S1x1x6x2048_S1x1x1x2048_0_0_1_0))
    (View.ld (iblk m c 1 t) (Rect.unit ![0, 0, 0, 0] ![1, 1, 1, 2048] inb_S1x1x6x2048_S1x1x1x2048_0_0_0_0)) (iblk m c 3 t)

theorem upper_at (t : Fin cfg0.N) (r : Fin 256) : (fun e => upper m c t (ix2 r e)) = row m c (ctx t 0) r := by
  funext e
  refine (rows_upper _ _ _ _ _ r e).trans ?_
  exact proj_congr e (half_row m c t 0 0 rfl _ r) (block2 m c t) (mod_row m c t 1 (by decide) _) (mod_row m c t 0 (by decide) _) (block3 m c t)

theorem lower_at (t : Fin cfg0.N) (r : Fin 256) : (fun e => lower m c t (ix2 r e)) = row m c (ctx t 1) r := by
  funext e
  refine (rows_lower _ _ _ _ _ r e).trans ?_
  exact proj_congr e (half_row m c t 1 256 rfl _ r) (block2 m c t) (mod_row m c t 1 (by decide) _) (mod_row m c t 0 (by decide) _) (block3 m c t)

/-! ## A step's block of a cache, from its cells -/

def blk5 (t : Fin cfg0.N) (f : Fin 32 → Fin 256 → Fin 2 → Fin 128 → EReal) : Vec Ideal S2x1x256x2x128 .f32 := fun y =>
  f (ctx t (y 0)) (y 2) (y 3) (y 4)

theorem tile5 (t : Fin cfg0.N) (f : Fin 32 → Fin 256 → Fin 2 → Fin 128 → EReal) (v : FVec Ideal S1x1x256x1x128 .f32) (i h : Fin 2)
    (hv : ∀ (r : Fin 256) (e : Fin 128), v (ix5 0 0 r 0 e) = f (ctx t i) r h e)
    (i' h' : ℕ) (hi : i' = i.1) (hh : h' = h.1) (ho : ∀ a, ![i', 0, 0, h', 0] a + S1x1x256x1x128.size a ≤ S2x1x256x2x128.size a)
    (x : (Rect.unit (s := S2x1x256x2x128) ![i', 0, 0, h', 0] S1x1x256x1x128.size ho).shape.Idx) :
    v x = blk5 t f ((Rect.unit (s := S2x1x256x2x128) ![i', 0, 0, h', 0] S1x1x256x1x128.size ho).emb x) := by
  subst hi hh
  have y0 := emb_val _ _ ho x 0
  have y2 := emb_val _ _ ho x 2
  have y3 := emb_val _ _ ho x 3
  have y4 := emb_val _ _ ho x 4
  obtain ⟨a, b, r, k, e, rfl⟩ : ∃ (a b : Fin 1) (r : Fin 256) (k : Fin 1) (e : Fin 128), x = ix5 a b r k e :=
    ⟨x 0, x 1, x 2, x 3, x 4, by funext a; fin_cases a <;> rfl⟩
  obtain rfl : a = 0 := Subsingleton.elim _ _
  obtain rfl : b = 0 := Subsingleton.elim _ _
  obtain rfl : k = 0 := Subsingleton.elim _ _
  generalize (Rect.unit (s := S2x1x256x2x128) ![i.1, 0, 0, h.1, 0] S1x1x256x1x128.size ho).emb (ix5 0 0 r 0 e) = y at y0 y2 y3 y4 ⊢
  have z0 : y 0 = i := Fin.ext y0
  have z2 : y 2 = r := Fin.ext (y2.trans (Nat.zero_add _))
  have z3 : y 3 = h := Fin.ext y3
  have z4 : y 4 = e := Fin.ext (y4.trans (Nat.zero_add _))
  refine (hv r e).trans ?_
  unfold blk5
  rw [z0, z2, z3, z4]

def blkC (t : Fin cfg0.N) (f : Fin 32 → Fin 256 → Fin 256 → EReal) : Vec Ideal S2x1x256x256 .f32 := fun y => f (ctx t (y 0)) (y 2) (y 3)

theorem tileC (t : Fin cfg0.N) (f : Fin 32 → Fin 256 → Fin 256 → EReal) (v : FVec Ideal S1x1x256x256 .f32) (i : Fin 2)
    (hv : ∀ (r : Fin 256) (e : Fin 256), v (ix4 0 0 r e) = f (ctx t i) r e)
    (i' : ℕ) (hi : i' = i.1) (ho : ∀ a, ![i', 0, 0, 0] a + S1x1x256x256.size a ≤ S2x1x256x256.size a)
    (x : (Rect.unit (s := S2x1x256x256) ![i', 0, 0, 0] S1x1x256x256.size ho).shape.Idx) :
    v x = blkC t f ((Rect.unit (s := S2x1x256x256) ![i', 0, 0, 0] S1x1x256x256.size ho).emb x) := by
  subst hi
  have y0 := emb_val _ _ ho x 0
  have y2 := emb_val _ _ ho x 2
  have y3 := emb_val _ _ ho x 3
  obtain ⟨a, b, r, e, rfl⟩ : ∃ (a b : Fin 1) (r e : Fin 256), x = ix4 a b r e := ⟨x 0, x 1, x 2, x 3, by funext a; fin_cases a <;> rfl⟩
  obtain rfl : a = 0 := Subsingleton.elim _ _
  obtain rfl : b = 0 := Subsingleton.elim _ _
  generalize (Rect.unit (s := S2x1x256x256) ![i.1, 0, 0, 0] S1x1x256x256.size ho).emb (ix4 0 0 r e) = y at y0 y2 y3 ⊢
  have z0 : y 0 = i := Fin.ext y0
  have z2 : y 2 = r := Fin.ext (y2.trans (Nat.zero_add _))
  have z3 : y 3 = e := Fin.ext (y3.trans (Nat.zero_add _))
  refine (hv r e).trans ?_
  unfold blkC
  rw [z0, z2, z3]

def blkR (t : Fin cfg0.N) (f : Fin 32 → Fin 256 → Fin 64 → EReal) : Vec Ideal S2x1x256x64 .f32 := fun y => f (ctx t (y 0)) (y 2) (y 3)

theorem tileR (t : Fin cfg0.N) (f : Fin 32 → Fin 256 → Fin 64 → EReal) (v : FVec Ideal S1x1x256x64 .f32) (i : Fin 2)
    (hv : ∀ (r : Fin 256) (e : Fin 64), v (ix4 0 0 r e) = f (ctx t i) r e)
    (i' : ℕ) (hi : i' = i.1) (ho : ∀ a, ![i', 0, 0, 0] a + S1x1x256x64.size a ≤ S2x1x256x64.size a)
    (x : (Rect.unit (s := S2x1x256x64) ![i', 0, 0, 0] S1x1x256x64.size ho).shape.Idx) :
    v x = blkR t f ((Rect.unit (s := S2x1x256x64) ![i', 0, 0, 0] S1x1x256x64.size ho).emb x) := by
  subst hi
  have y0 := emb_val _ _ ho x 0
  have y2 := emb_val _ _ ho x 2
  have y3 := emb_val _ _ ho x 3
  obtain ⟨a, b, r, e, rfl⟩ : ∃ (a b : Fin 1) (r : Fin 256) (e : Fin 64), x = ix4 a b r e := ⟨x 0, x 1, x 2, x 3, by funext a; fin_cases a <;> rfl⟩
  obtain rfl : a = 0 := Subsingleton.elim _ _
  obtain rfl : b = 0 := Subsingleton.elim _ _
  generalize (Rect.unit (s := S2x1x256x64) ![i.1, 0, 0, 0] S1x1x256x64.size ho).emb (ix4 0 0 r e) = y at y0 y2 y3 ⊢
  have z0 : y 0 = i := Fin.ext y0
  have z2 : y 2 = r := Fin.ext (y2.trans (Nat.zero_add _))
  have z3 : y 3 = e := Fin.ext (y3.trans (Nat.zero_add _))
  refine (hv r e).trans ?_
  unfold blkR
  rw [z0, z2, z3]

end Cert.Kernel7Ideal.Ctx
end
-- ==== Proof.CtxArr.lean ====
/- The context rows' kernel: what it leaves in each of the four caches, cell by cell. -/
module

public import proofs.«01_k».proof.Proof.CtxBlocks
public import Idealize.ShloMosaic.Lib.Pipeline.ValueKit.Partial

@[expose] public section
set_option maxRecDepth 16384
noncomputable section
namespace Cert.Kernel7Ideal.Ctx
open Idealize.ShloMosaic Idealize.ShloMosaic.TcCoe Idealize.SL.Sem
open Cert.Kernel7Ideal Cert.Kernel7Ideal.Gen Cert.ProjCell Cert.CtxCell

variable (m : (ℓ : Loc nD τ sig) → Buf (Elt Ideal) ℓ) (c : Dev nD)

/-! ## The cells a step writes -/

def cellK (b : Fin 32) (r : Fin 256) (h : Fin 2) (e : Fin 128) : EReal :=
  keyC (row m c b r) (fun d => m (c.tc.loc main_arg5) (ix3 1 0 d)) h e
def cellV (b : Fin 32) (r : Fin 256) (h : Fin 2) (e : Fin 128) : EReal := valC (row m c b r) h e
def cellC (b : Fin 32) (r : Fin 256) (e : Fin 256) : EReal := lowrank (row m c b r) (fun d => m (c.tc.loc main_arg6) (ix3 1 0 d)) e
def cellR (b : Fin 32) (r : Fin 256) (e : Fin 64) : EReal := ropeC (row m c b r) e

theorem key_cell (t : Fin cfg0.N) (p : Fin 3968 → EReal) (i h : Fin 2) (r : Fin 256) (e : Fin 128) (hp : p = row m c (ctx t i) r) :
    keyC p (fun d => iblk m c 5 t (ix3 0 0 d)) h e = cellK m c (ctx t i) r h e := by
  rw [hp, cellK, show (fun d => iblk m c 5 t (ix3 0 0 d)) = fun d => m (c.tc.loc main_arg5) (ix3 1 0 d) from funext (block5 m c t)]

theorem val_cell (t : Fin cfg0.N) (p : Fin 3968 → EReal) (i h : Fin 2) (r : Fin 256) (e : Fin 128) (hp : p = row m c (ctx t i) r) :
    valC p h e = cellV m c (ctx t i) r h e := by
  rw [hp, cellV]

theorem low_cell (t : Fin cfg0.N) (p : Fin 3968 → EReal) (i : Fin 2) (r e : Fin 256) (hp : p = row m c (ctx t i) r) :
    lowrank p (fun d => iblk m c 6 t (ix3 0 0 d)) e = cellC m c (ctx t i) r e := by
  rw [hp, cellC, show (fun d => iblk m c 6 t (ix3 0 0 d)) = fun d => m (c.tc.loc main_arg6) (ix3 1 0 d) from funext (block6 m c t)]

theorem rope_cell (t : Fin cfg0.N) (p : Fin 3968 → EReal) (i : Fin 2) (r : Fin 256) (e : Fin 64) (hp : p = row m c (ctx t i) r) :
    ropeC p e = cellR m c (ctx t i) r e := by
  rw [hp, cellR]

/-! ## The blocks -/

theorem out11_eq (t : Fin cfg0.N) : (outsAt0 m c t).2.1 = blk5 t (cellK m c) := by
  unfold outsAt0 out0_A_11
  frame_out
  funext y
  refine View.canon_append_of_piecesOf _ [] [_, _, _, _] ?_ y (View.cover_of_tiledL _ ![1, 1, 256, 1, 128] (by sl_kernel_rfl) y)
  refine ⟨fun x => tile5 t _ _ 1 1 (fun r e => (key_11 (lower m c t) _ r e).trans (key_cell m c t _ 1 1 r e (lower_at m c t r))) 1 1 rfl rfl (by decide) x, ?_⟩
  refine ⟨fun x => tile5 t _ _ 1 0 (fun r e => (key_10 (lower m c t) _ r e).trans (key_cell m c t _ 1 0 r e (lower_at m c t r))) 1 0 rfl rfl (by decide) x, ?_⟩
  refine ⟨fun x => tile5 t _ _ 0 1 (fun r e => (key_01 (upper m c t) _ r e).trans (key_cell m c t _ 0 1 r e (upper_at m c t r))) 0 1 rfl rfl (by decide) x, ?_⟩
  refine ⟨fun x => tile5 t _ _ 0 0 (fun r e => (key_00 (upper m c t) _ r e).trans (key_cell m c t _ 0 0 r e (upper_at m c t r))) 0 0 rfl rfl (by decide) x, ?_⟩
  exact trivial

theorem out12_eq (t : Fin cfg0.N) : (outsAt0 m c t).2.2.1 = blk5 t (cellV m c) := by
  unfold outsAt0 out0_A_12
  frame_out
  funext y
  refine View.canon_append_of_piecesOf _ [] [_, _, _, _] ?_ y (View.cover_of_tiledL _ ![1, 1, 256, 1, 128] (by sl_kernel_rfl) y)
  refine ⟨fun x => tile5 t _ _ 1 1 (fun r e => (val_11 (lower m c t) r e).trans (val_cell m c t _ 1 1 r e (lower_at m c t r))) 1 1 rfl rfl (by decide) x, ?_⟩
  refine ⟨fun x => tile5 t _ _ 1 0 (fun r e => (val_10 (lower m c t) r e).trans (val_cell m c t _ 1 0 r e (lower_at m c t r))) 1 0 rfl rfl (by decide) x, ?_⟩
  refine ⟨fun x => tile5 t _ _ 0 1 (fun r e => (val_01 (upper m c t) r e).trans (val_cell m c t _ 0 1 r e (upper_at m c t r))) 0 1 rfl rfl (by decide) x, ?_⟩
  refine ⟨fun x => tile5 t _ _ 0 0 (fun r e => (val_00 (upper m c t) r e).trans (val_cell m c t _ 0 0 r e (upper_at m c t r))) 0 0 rfl rfl (by decide) x, ?_⟩
  exact trivial

theorem out13_eq (t : Fin cfg0.N) : (outsAt0 m c t).2.2.2.1 = blkC t (cellC m c) := by
  unfold outsAt0 out0_A_13
  frame_out
  funext y
  refine View.canon_append_of_piecesOf _ [] [_, _] ?_ y (View.cover_of_tiledL _ ![1, 1, 256, 256] (by sl_kernel_rfl) y)
  refine ⟨fun x => tileC t _ _ 1 (fun r e => (low_1 (lower m c t) _ r e).trans (low_cell m c t _ 1 r e (lower_at m c t r))) 1 rfl (by decide) x, ?_⟩
  refine ⟨fun x => tileC t _ _ 0 (fun r e => (low_0 (upper m c t) _ r e).trans (low_cell m c t _ 0 r e (upper_at m c t r))) 0 rfl (by decide) x, ?_⟩
  exact trivial

theorem out14_eq (t : Fin cfg0.N) : (outsAt0 m c t).2.2.2.2 = blkR t (cellR m c) := by
  unfold outsAt0 out0_A_14
  frame_out
  funext y
  refine View.canon_append_of_piecesOf _ [] [_, _] ?_ y (View.cover_of_tiledL _ ![1, 1, 256, 64] (by sl_kernel_rfl) y)
  refine ⟨fun x => tileR t _ _ 1 (fun r e => (rope_1 (lower m c t) r e).trans (rope_cell m c t _ 1 r e (lower_at m c t r))) 1 rfl (by decide) x, ?_⟩
  refine ⟨fun x => tileR t _ _ 0 (fun r e => (rope_0 (upper m c t) r e).trans (rope_cell m c t _ 0 r e (upper_at m c t r))) 0 rfl (by decide) x, ?_⟩
  exact trivial

/-! ## The caches -/

/-- A cache after the call: the layer's entries new, the others as they were. -/
def cache5 (f : Fin 32 → Fin 256 → Fin 2 → Fin 128 → EReal) (a : FVec Ideal S32x4x256x2x128 .f32) : FVec Ideal S32x4x256x2x128 .f32 := fun y =>
  if (y 1).val = 1 then f (y 0) (y 2) (y 3) (y 4) else a y

theorem cache5_new (t : Fin cfg0.N) (f : Fin 32 → Fin 256 → Fin 2 → Fin 128 → EReal) (a : FVec Ideal S32x4x256x2x128 .f32)
    (y : S2x1x256x2x128.Idx) (Y : S32x4x256x2x128.Idx) (z0 : (Y 0).val = t.val * 2 + (y 0).val) (z1 : (Y 1).val = 1 * 1 + (y 1).val)
    (z2 : (Y 2).val = (y 2).val) (z3 : (Y 3).val = (y 3).val) (z4 : (Y 4).val = (y 4).val) : blk5 t f y = cache5 f a Y := by
  have y1 : (y 1).val = 0 := Nat.lt_one_iff.mp (y 1).isLt
  have e0 : Y 0 = ctx t (y 0) := Fin.ext (z0.trans (by rw [Nat.mul_comm]))
  have e2 : Y 2 = y 2 := Fin.ext z2
  have e3 : Y 3 = y 3 := Fin.ext z3
  have e4 : Y 4 = y 4 := Fin.ext z4
  unfold cache5 blk5
  rw [if_pos (by rw [z1, y1]), e0, e2, e3, e4]

theorem cache5_old (f : Fin 32 → Fin 256 → Fin 2 → Fin 128 → EReal) (a : FVec Ideal S32x4x256x2x128 .f32) (j : S32x4x256x2x128.Idx)
    (h : ¬ (j 1).val / 1 = 1) : a j = cache5 f a j := (if_neg fun k => h (by rw [k])).symm

theorem cache5_at (f : Fin 32 → Fin 256 → Fin 2 → Fin 128 → EReal) (a : FVec Ideal S32x4x256x2x128 .f32) (b : Fin 32) (l : Fin 4)
    (r : Fin 256) (h : Fin 2) (e : Fin 128) : cache5 f a (ix5 b l r h e) = if l = 1 then f b r h e else a (ix5 b l r h e) :=
  if_congr (Fin.ext_iff (a := l) (b := 1)).symm rfl rfl

def cacheC (f : Fin 32 → Fin 256 → Fin 256 → EReal) (a : FVec Ideal S32x4x256x256 .f32) : FVec Ideal S32x4x256x256 .f32 := fun y =>
  if (y 1).val = 1 then f (y 0) (y 2) (y 3) else a y

theorem cacheC_new (t : Fin cfg0.N) (f : Fin 32 → Fin 256 → Fin 256 → EReal) (a : FVec Ideal S32x4x256x256 .f32)
    (y : S2x1x256x256.Idx) (Y : S32x4x256x256.Idx) (z0 : (Y 0).val = t.val * 2 + (y 0).val) (z1 : (Y 1).val = 1 * 1 + (y 1).val)
    (z2 : (Y 2).val = (y 2).val) (z3 : (Y 3).val = (y 3).val) : blkC t f y = cacheC f a Y := by
  have y1 : (y 1).val = 0 := Nat.lt_one_iff.mp (y 1).isLt
  have e0 : Y 0 = ctx t (y 0) := Fin.ext (z0.trans (by rw [Nat.mul_comm]))
  have e2 : Y 2 = y 2 := Fin.ext z2
  have e3 : Y 3 = y 3 := Fin.ext z3
  unfold cacheC blkC
  rw [if_pos (by rw [z1, y1]), e0, e2, e3]

theorem cacheC_old (f : Fin 32 → Fin 256 → Fin 256 → EReal) (a : FVec Ideal S32x4x256x256 .f32) (j : S32x4x256x256.Idx)
    (h : ¬ (j 1).val / 1 = 1) : a j = cacheC f a j := (if_neg fun k => h (by rw [k])).symm

theorem cacheC_at (f : Fin 32 → Fin 256 → Fin 256 → EReal) (a : FVec Ideal S32x4x256x256 .f32) (b : Fin 32) (l : Fin 4)
    (r : Fin 256) (e : Fin 256) : cacheC f a (ix4 b l r e) = if l = 1 then f b r e else a (ix4 b l r e) :=
  if_congr (Fin.ext_iff (a := l) (b := 1)).symm rfl rfl

def cacheR (f : Fin 32 → Fin 256 → Fin 64 → EReal) (a : FVec Ideal S32x4x256x64 .f32) : FVec Ideal S32x4x256x64 .f32 := fun y =>
  if (y 1).val = 1 then f (y 0) (y 2) (y 3) else a y

theorem cacheR_new (t : Fin cfg0.N) (f : Fin 32 → Fin 256 → Fin 64 → EReal) (a : FVec Ideal S32x4x256x64 .f32)
    (y : S2x1x256x64.Idx) (Y : S32x4x256x64.Idx) (z0 : (Y 0).val = t.val * 2 + (y 0).val) (z1 : (Y 1).val = 1 * 1 + (y 1).val)
    (z2 : (Y 2).val = (y 2).val) (z3 : (Y 3).val = (y 3).val) : blkR t f y = cacheR f a Y := by
  have y1 : (y 1).val = 0 := Nat.lt_one_iff.mp (y 1).isLt
  have e0 : Y 0 = ctx t (y 0) := Fin.ext (z0.trans (by rw [Nat.mul_comm]))
  have e2 : Y 2 = y 2 := Fin.ext z2
  have e3 : Y 3 = y 3 := Fin.ext z3
  unfold cacheR blkR
  rw [if_pos (by rw [z1, y1]), e0, e2, e3]

theorem cacheR_old (f : Fin 32 → Fin 256 → Fin 64 → EReal) (a : FVec Ideal S32x4x256x64 .f32) (j : S32x4x256x64.Idx)
    (h : ¬ (j 1).val / 1 = 1) : a j = cacheR f a j := (if_neg fun k => h (by rw [k])).symm

theorem cacheR_at (f : Fin 32 → Fin 256 → Fin 64 → EReal) (a : FVec Ideal S32x4x256x64 .f32) (b : Fin 32) (l : Fin 4)
    (r : Fin 256) (e : Fin 64) : cacheR f a (ix4 b l r e) = if l = 1 then f b r e else a (ix4 b l r e) :=
  if_congr (Fin.ext_iff (a := l) (b := 1)).symm rfl rfl

theorem entry11 : (dats m 0 c).A 11 = m (c.tc.loc main_arg10) := by
  rw [A_eq]
  show V m c main_v0_1 = _
  unfold V hostOps0
  after_results <;> rfl

theorem arr11 : (dats m 0 c).arrAt 11 cfg0.N = cache5 (cellK m c) (m (c.tc.loc main_arg10)) := by
  refine (dats m 0 c).arrAt_eq_of_coversWhere_of_agree 11 _ (fun β => β (1 : Fin 5) = 1) (by decide +kernel) (fun t hf y => ?_) (fun j hj => ?_)
  · blk_simp
    rw [after0_11, out11_eq]
    exact cache5_new t _ _ y ((win0_11.blk t).view.emb y) (by blk_point [idx t]) (by blk_point [idx t]) (by blk_point [idx t]) (by blk_point [idx t]) (by blk_point [idx t])
  · blk_simp [Pipeline.Window.cell_apply] at hj
    rw [entry11]
    exact cache5_old _ _ j hj

theorem entry12 : (dats m 0 c).A 12 = m (c.tc.loc main_arg11) := by
  rw [A_eq]
  show V m c main_v0_2 = _
  unfold V hostOps0
  after_results <;> rfl

theorem arr12 : (dats m 0 c).arrAt 12 cfg0.N = cache5 (cellV m c) (m (c.tc.loc main_arg11)) := by
  refine (dats m 0 c).arrAt_eq_of_coversWhere_of_agree 12 _ (fun β => β (1 : Fin 5) = 1) (by decide +kernel) (fun t hf y => ?_) (fun j hj => ?_)
  · blk_simp
    rw [after0_12, out12_eq]
    exact cache5_new t _ _ y ((win0_12.blk t).view.emb y) (by blk_point [idx t]) (by blk_point [idx t]) (by blk_point [idx t]) (by blk_point [idx t]) (by blk_point [idx t])
  · blk_simp [Pipeline.Window.cell_apply] at hj
    rw [entry12]
    exact cache5_old _ _ j hj

theorem entry13 : (dats m 0 c).A 13 = m (c.tc.loc main_arg12) := by
  rw [A_eq]
  show V m c main_v0_3 = _
  unfold V hostOps0
  after_results <;> rfl

theorem arr13 : (dats m 0 c).arrAt 13 cfg0.N = cacheC (cellC m c) (m (c.tc.loc main_arg12)) := by
  refine (dats m 0 c).arrAt_eq_of_coversWhere_of_agree 13 _ (fun β => β (1 : Fin 4) = 1) (by decide +kernel) (fun t hf y => ?_) (fun j hj => ?_)
  · blk_simp
    rw [after0_13, out13_eq]
    exact cacheC_new t _ _ y ((win0_13.blk t).view.emb y) (by blk_point [idx t]) (by blk_point [idx t]) (by blk_point [idx t]) (by blk_point [idx t])
  · blk_simp [Pipeline.Window.cell_apply] at hj
    rw [entry13]
    exact cacheC_old _ _ j hj

theorem entry14 : (dats m 0 c).A 14 = m (c.tc.loc main_arg13) := by
  rw [A_eq]
  show V m c main_v0_4 = _
  unfold V hostOps0
  after_results <;> rfl

theorem arr14 : (dats m 0 c).arrAt 14 cfg0.N = cacheR (cellR m c) (m (c.tc.loc main_arg13)) := by
  refine (dats m 0 c).arrAt_eq_of_coversWhere_of_agree 14 _ (fun β => β (1 : Fin 4) = 1) (by decide +kernel) (fun t hf y => ?_) (fun j hj => ?_)
  · blk_simp
    rw [after0_14, out14_eq]
    exact cacheR_new t _ _ y ((win0_14.blk t).view.emb y) (by blk_point [idx t]) (by blk_point [idx t]) (by blk_point [idx t]) (by blk_point [idx t])
  · blk_simp [Pipeline.Window.cell_apply] at hj
    rw [entry14]
    exact cacheR_old _ _ j hj

end Cert.Kernel7Ideal.Ctx
end
-- ==== Proof.RefCtx.lean ====
/- The context rows' new cache entries as the reference writes them: each result of its term at one cell. -/
module

public import proofs.«01_k».proof.Proof.Gen.Reference7Ideal.Run
public import proofs.«01_k».proof.Proof.CtxCell

@[expose] public section
set_option maxRecDepth 16384
noncomputable section
namespace Cert.Reference7Ideal.Out
open Idealize.ShloMosaic Idealize.ShloMosaic.TcCoe Idealize.SL.Sem
open Cert.Reference7Ideal Cert.Reference7Ideal.Gen Cert.ProjCell Cert.CtxCell
open Cert.FfnCell (len small normed)

/-! ## The rows and their projection -/

/-- The rows by context. -/
def rows (x : FVec Ideal S8192x2048 .f32) : FVec Ideal S32x256x2048 .f32 := shapeCast _ x shapeCasts_S8192x2048_S32x256x2048

theorem rows_at (x : FVec Ideal S8192x2048 .f32) (b : Fin 32) (r : Fin 256) (d : Fin 2048) :
    rows x (ix3 b r d) = x (ix2 (⟨b.1 * 256 + r.1, by omega⟩ : Fin 8192) d) := by
  pointwise [rows]

/-- The root mean square of each row, inverted. -/
def scale (x : FVec Ideal S32x256x2048 .f32) : FVec Ideal S32x256x1 .f32 :=
  Host.rsqrt (addf (Host.divf (broadcastInDim S32x256x1 ![0, 1] bcast_S32x256_S32x256x1_0_1
    (Host.reduceAdd (mulf x x) (constant S_ .f32 0x00000000#32) reducesTo_S32x256x2048_S32x256_d2 h_S_))
    (broadcastInDim S32x256x1 ![] bcast_S_S32x256x1 (constant S_ .f32 0x45000000#32)))
    (broadcastInDim S32x256x1 ![] bcast_S_S32x256x1 (constant S_ .f32 0x358637BD#32)))

theorem scale_at (x : FVec Ideal S32x256x2048 .f32) (b : Fin 32) (r : Fin 256) :
    scale x (ix3 b r 0) = Ideal.rsqrt (Ideal.div (∑ e : Fin 2048, x (ix3 b r e) * x (ix3 b r e)) len + small) := by
  pointwise [scale]

/-- The rows times one number each, times the weights, scaled and shifted. -/
def shifted (x : FVec Ideal S32x256x2048 .f32) (s : FVec Ideal S32x256x1 .f32) (md : FVec Ideal S4x8x6x2048 .f32)
    (g : FVec Ideal S4x1x2048 .f32) : FVec Ideal S32x256x2048 .f32 :=
  addf (mulf (mulf (mulf x (broadcastInDim S32x256x2048 ![0, 1, 2] bcast_S32x256x1_S32x256x2048_0_1_2 s))
    (broadcastInDim S32x256x2048 ![0, 1, 2] bcast_S1x1x2048_S32x256x2048_0_1_2 (broadcastInDim S1x1x2048 ![2] bcast_S2048_S1x1x2048_2
      (shapeCast _ (extractStridedSlice S1x1x2048 ![1, 0, 0] g slices_S4x1x2048_S1x1x2048_1_0_0) shapeCasts_S1x1x2048_S2048))))
    (broadcastInDim S32x256x2048 ![0, 1, 2] bcast_S1x1x2048_S32x256x2048_0_1_2 (broadcastInDim S1x1x2048 ![2] bcast_S2048_S1x1x2048_2
      (addf (broadcastInDim S2048 ![] bcast_S_S2048 (constant S_ .f32 0x3F800000#32))
        (shapeCast _ (extractStridedSlice S1x1x1x2048 ![1, 0, 1, 0] md slices_S4x8x6x2048_S1x1x1x2048_1_0_1_0) shapeCasts_S1x1x1x2048_S2048)))))
    (broadcastInDim S32x256x2048 ![0, 1, 2] bcast_S1x1x2048_S32x256x2048_0_1_2 (broadcastInDim S1x1x2048 ![2] bcast_S2048_S1x1x2048_2
      (shapeCast _ (extractStridedSlice S1x1x1x2048 ![1, 0, 0, 0] md slices_S4x8x6x2048_S1x1x1x2048_1_0_0_0) shapeCasts_S1x1x1x2048_S2048)))

theorem shifted_at (x : FVec Ideal S32x256x2048 .f32) (s : FVec Ideal S32x256x1 .f32) (md : FVec Ideal S4x8x6x2048 .f32)
    (g : FVec Ideal S4x1x2048 .f32) (b : Fin 32) (r : Fin 256) (d : Fin 2048) : shifted x s md g (ix3 b r d) =
      (x (ix3 b r d) * s (ix3 b r 0) * g (ix3 1 0 d) * (1 + md (ix4 1 0 1 d)) + md (ix4 1 0 0 d) : EReal) := by
  pointwise [shifted]

/-- The projection on the layer's columns. -/
def onto (h : FVec Ideal S32x256x2048 .f32) (w : FVec Ideal S4x2048x3968 .bf16) : FVec Ideal S32x256x3968 .f32 :=
  Host.dotGeneral dot_S32x256x2048_S2048x3968_S32x256x3968_2_0_01_1_n_n none h (extf .f32 (shapeCast _
    (extractStridedSlice S1x2048x3968 ![1, 0, 0] w slices_S4x2048x3968_S1x2048x3968_1_0_0) shapeCasts_S1x2048x3968_S2048x3968) bitsLt_bf16_f32)

theorem onto_at (h : FVec Ideal S32x256x2048 .f32) (w : FVec Ideal S4x2048x3968 .bf16) (b : Fin 32) (r : Fin 256) (e : Fin 3968) :
    onto h w (ix3 b r e) = (∑ d : Fin 2048, h (ix3 b r d) * w (ix3 1 d e) : EReal) := by
  pointwise [onto]

def projected (x : FVec Ideal S8192x2048 .f32) (md : FVec Ideal S4x8x6x2048 .f32) (g : FVec Ideal S4x1x2048 .f32)
    (w : FVec Ideal S4x2048x3968 .bf16) : FVec Ideal S32x256x3968 .f32 := onto (shifted (rows x) (scale (rows x)) md g) w

theorem projected_at (x : FVec Ideal S8192x2048 .f32) (md : FVec Ideal S4x8x6x2048 .f32) (g : FVec Ideal S4x1x2048 .f32)
    (w : FVec Ideal S4x2048x3968 .bf16) (b : Fin 32) (r : Fin 256) (e : Fin 3968) : projected x md g w (ix3 b r e) =
      rowC (fun R d => x (ix2 R d)) (fun k d => md (ix4 1 0 k d)) (fun d => g (ix3 1 0 d)) (fun d e => w (ix3 1 d e)) b r e := by
  rw [projected, onto_at]
  simp only [shifted_at, scale_at, rows_at]
  rfl

/-! ## The parts of the projection -/

def heads2 (p : FVec Ideal S32x256x3968 .f32) : FVec Ideal S32x256x2x128 .f32 :=
  shapeCast _ (extractStridedSlice S32x256x256 ![0, 0, 1024] p slices_S32x256x3968_S32x256x256_0_0_1024) shapeCasts_S32x256x256_S32x256x2x128

theorem heads2_at (p : FVec Ideal S32x256x3968 .f32) (b : Fin 32) (r : Fin 256) (h : Fin 2) (d : Fin 128) :
    heads2 p (ix4 b r h d) = p (ix3 b r (⟨1024 + (h.1 * 128 + d.1), by omega⟩ : Fin 3968)) := by
  pointwise [heads2]

def norm2 (t : FVec Ideal S32x256x2x128 .f32) (g : FVec Ideal S4x1x128 .f32) : FVec Ideal S32x256x2x128 .f32 :=
  mulf (mulf t (broadcastInDim S32x256x2x128 ![0, 1, 2, 3] bcast_S32x256x2x1_S32x256x2x128_0_1_2_3 (Host.rsqrt (addf (Host.divf
    (broadcastInDim S32x256x2x1 ![0, 1, 2] bcast_S32x256x2_S32x256x2x1_0_1_2 (Host.reduceAdd (mulf t t) (constant S_ .f32 0x00000000#32)
      reducesTo_S32x256x2x128_S32x256x2_d3 h_S_)) (broadcastInDim S32x256x2x1 ![] bcast_S_S32x256x2x1 (constant S_ .f32 0x43000000#32)))
    (broadcastInDim S32x256x2x1 ![] bcast_S_S32x256x2x1 (constant S_ .f32 0x358637BD#32))))))
    (broadcastInDim S32x256x2x128 ![0, 1, 2, 3] bcast_S1x1x1x128_S32x256x2x128_0_1_2_3 (broadcastInDim S1x1x1x128 ![3] bcast_S128_S1x1x1x128_3
      (shapeCast _ (extractStridedSlice S1x1x128 ![1, 0, 0] g slices_S4x1x128_S1x1x128_1_0_0) shapeCasts_S1x1x128_S128)))

theorem norm2_at (t : FVec Ideal S32x256x2x128 .f32) (g : FVec Ideal S4x1x128 .f32) (b : Fin 32) (r : Fin 256) (h : Fin 2) (e : Fin 128) :
    norm2 t g (ix4 b r h e) = unit len128 (fun d => t (ix4 b r h d)) (fun d => g (ix3 1 0 d)) e := by
  unfold unit
  pointwise [norm2]

def vals2 (p : FVec Ideal S32x256x3968 .f32) : FVec Ideal S32x256x2x128 .f32 :=
  shapeCast _ (extractStridedSlice S32x256x256 ![0, 0, 1280] p slices_S32x256x3968_S32x256x256_0_0_1280) shapeCasts_S32x256x256_S32x256x2x128

theorem vals2_at (p : FVec Ideal S32x256x3968 .f32) (b : Fin 32) (r : Fin 256) (h : Fin 2) (d : Fin 128) :
    vals2 p (ix4 b r h d) = p (ix3 b r (⟨1280 + (h.1 * 128 + d.1), by omega⟩ : Fin 3968)) := by
  pointwise [vals2]

def lowPart (p : FVec Ideal S32x256x3968 .f32) : FVec Ideal S32x256x256 .f32 :=
  extractStridedSlice S32x256x256 ![0, 0, 3584] p slices_S32x256x3968_S32x256x256_0_0_3584

theorem lowPart_at (p : FVec Ideal S32x256x3968 .f32) (b : Fin 32) (r : Fin 256) (d : Fin 256) :
    lowPart p (ix3 b r d) = p (ix3 b r (⟨3584 + d.1, by omega⟩ : Fin 3968)) := by
  pointwise [lowPart]

def lowNorm (t : FVec Ideal S32x256x256 .f32) (g : FVec Ideal S4x1x256 .f32) : FVec Ideal S32x256x256 .f32 :=
  mulf (mulf t (broadcastInDim S32x256x256 ![0, 1, 2] bcast_S32x256x1_S32x256x256_0_1_2 (Host.rsqrt (addf (Host.divf
    (broadcastInDim S32x256x1 ![0, 1] bcast_S32x256_S32x256x1_0_1 (Host.reduceAdd (mulf t t) (constant S_ .f32 0x00000000#32)
      reducesTo_S32x256x256_S32x256_d2 h_S_)) (broadcastInDim S32x256x1 ![] bcast_S_S32x256x1 (constant S_ .f32 0x43800000#32)))
    (broadcastInDim S32x256x1 ![] bcast_S_S32x256x1 (constant S_ .f32 0x358637BD#32))))))
    (broadcastInDim S32x256x256 ![0, 1, 2] bcast_S1x1x256_S32x256x256_0_1_2 (broadcastInDim S1x1x256 ![2] bcast_S256_S1x1x256_2
      (shapeCast _ (extractStridedSlice S1x1x256 ![1, 0, 0] g slices_S4x1x256_S1x1x256_1_0_0) shapeCasts_S1x1x256_S256)))

theorem lowNorm_at (t : FVec Ideal S32x256x256 .f32) (g : FVec Ideal S4x1x256 .f32) (b : Fin 32) (r : Fin 256) (e : Fin 256) :
    lowNorm t g (ix3 b r e) = unit len256 (fun d => t (ix3 b r d)) (fun d => g (ix3 1 0 d)) e := by
  unfold unit
  pointwise [lowNorm]

/-- The shared part of the low-rank keys, the columns between left out. -/
def rope (p : FVec Ideal S32x256x3968 .f32) : FVec Ideal S32x256x64 .f32 :=
  concatenate S32x256x64 2 [⟨S32x256x32, extractStridedSlice S32x256x32 ![0, 0, 0]
      (extractStridedSlice S32x256x128 ![0, 0, 3840] p slices_S32x256x3968_S32x256x128_0_0_3840) slices_S32x256x128_S32x256x32_0_0_0⟩,
    ⟨S32x256x32, extractStridedSlice S32x256x32 ![0, 0, 64]
      (extractStridedSlice S32x256x128 ![0, 0, 3840] p slices_S32x256x3968_S32x256x128_0_0_3840) slices_S32x256x128_S32x256x32_0_0_64⟩]
    concatenates_S32x256x32_S32x256x32_S32x256x64_d2

theorem rope_at (p : FVec Ideal S32x256x3968 .f32) (b : Fin 32) (r : Fin 256) (e : Fin 64) :
    rope p (ix3 b r e) = ropeC (fun e => p (ix3 b r e)) e := by
  unfold ropeC
  pointwise [rope]

/-! ## One layer of a cache replaced -/

def setHeads (a : FVec Ideal S32x4x256x2x128 .f32) (v : FVec Ideal S32x256x2x128 .f32) : FVec Ideal S32x4x256x2x128 .f32 :=
  concatenate S32x4x256x2x128 1 [⟨S32x1x256x2x128, extractStridedSlice S32x1x256x2x128 ![0, 0, 0, 0, 0] a slices_S32x4x256x2x128_S32x1x256x2x128_0_0_0_0_0⟩,
    ⟨S32x1x256x2x128, broadcastInDim S32x1x256x2x128 ![0, 2, 3, 4] bcast_S32x256x2x128_S32x1x256x2x128_0_2_3_4 v⟩,
    ⟨S32x2x256x2x128, extractStridedSlice S32x2x256x2x128 ![0, 2, 0, 0, 0] a slices_S32x4x256x2x128_S32x2x256x2x128_0_2_0_0_0⟩]
    concatenates_S32x1x256x2x128_S32x1x256x2x128_S32x2x256x2x128_S32x4x256x2x128_d1

theorem setHeads_at (a : FVec Ideal S32x4x256x2x128 .f32) (v : FVec Ideal S32x256x2x128 .f32) (b : Fin 32) (l : Fin 4) (r : Fin 256) (h : Fin 2) (e : Fin 128) :
    setHeads a v (ix5 b l r h e) = if l = 1 then v (ix4 b r h e) else a (ix5 b l r h e) := by
  fin_cases l <;> pointwise [setHeads]

def setLow (a : FVec Ideal S32x4x256x256 .f32) (v : FVec Ideal S32x256x256 .f32) : FVec Ideal S32x4x256x256 .f32 :=
  concatenate S32x4x256x256 1 [⟨S32x1x256x256, extractStridedSlice S32x1x256x256 ![0, 0, 0, 0] a slices_S32x4x256x256_S32x1x256x256_0_0_0_0⟩,
    ⟨S32x1x256x256, broadcastInDim S32x1x256x256 ![0, 2, 3] bcast_S32x256x256_S32x1x256x256_0_2_3 v⟩,
    ⟨S32x2x256x256, extractStridedSlice S32x2x256x256 ![0, 2, 0, 0] a slices_S32x4x256x256_S32x2x256x256_0_2_0_0⟩]
    concatenates_S32x1x256x256_S32x1x256x256_S32x2x256x256_S32x4x256x256_d1

theorem setLow_at (a : FVec Ideal S32x4x256x256 .f32) (v : FVec Ideal S32x256x256 .f32) (b : Fin 32) (l : Fin 4) (r : Fin 256) (e : Fin 256) :
    setLow a v (ix4 b l r e) = if l = 1 then v (ix3 b r e) else a (ix4 b l r e) := by
  fin_cases l <;> pointwise [setLow]

def setRope (a : FVec Ideal S32x4x256x64 .f32) (v : FVec Ideal S32x256x64 .f32) : FVec Ideal S32x4x256x64 .f32 :=
  concatenate S32x4x256x64 1 [⟨S32x1x256x64, extractStridedSlice S32x1x256x64 ![0, 0, 0, 0] a slices_S32x4x256x64_S32x1x256x64_0_0_0_0⟩,
    ⟨S32x1x256x64, broadcastInDim S32x1x256x64 ![0, 2, 3] bcast_S32x256x64_S32x1x256x64_0_2_3 v⟩,
    ⟨S32x2x256x64, extractStridedSlice S32x2x256x64 ![0, 2, 0, 0] a slices_S32x4x256x64_S32x2x256x64_0_2_0_0⟩]
    concatenates_S32x1x256x64_S32x1x256x64_S32x2x256x64_S32x4x256x64_d1

theorem setRope_at (a : FVec Ideal S32x4x256x64 .f32) (v : FVec Ideal S32x256x64 .f32) (b : Fin 32) (l : Fin 4) (r : Fin 256) (e : Fin 64) :
    setRope a v (ix4 b l r e) = if l = 1 then v (ix3 b r e) else a (ix4 b l r e) := by
  fin_cases l <;> pointwise [setRope]

/-! ## The results -/

variable (x : FVec Ideal S8192x2048 .f32) (md : FVec Ideal S4x8x6x2048 .f32) (g : FVec Ideal S4x1x2048 .f32)
  (w : FVec Ideal S4x2048x3968 .bf16)

def resultK (kn : FVec Ideal S4x1x128 .f32) (a : FVec Ideal S32x4x256x2x128 .f32) : FVec Ideal S32x4x256x2x128 .f32 :=
  setHeads a (norm2 (heads2 (projected x md g w)) kn)
def resultV (a : FVec Ideal S32x4x256x2x128 .f32) : FVec Ideal S32x4x256x2x128 .f32 :=
  setHeads a (vals2 (projected x md g w))
def resultC (kvn : FVec Ideal S4x1x256 .f32) (a : FVec Ideal S32x4x256x256 .f32) : FVec Ideal S32x4x256x256 .f32 :=
  setLow a (lowNorm (lowPart (projected x md g w)) kvn)
def resultR (a : FVec Ideal S32x4x256x64 .f32) : FVec Ideal S32x4x256x64 .f32 := setRope a (rope (projected x md g w))

/-- The projection of one row. -/
abbrev rowR (b : Fin 32) (r : Fin 256) : Fin 3968 → EReal :=
  rowC (fun R d => x (ix2 R d)) (fun k d => md (ix4 1 0 k d)) (fun d => g (ix3 1 0 d)) (fun d e => w (ix3 1 d e)) b r

theorem resultK_at (kn : FVec Ideal S4x1x128 .f32) (a : FVec Ideal S32x4x256x2x128 .f32) (b : Fin 32) (l : Fin 4) (r : Fin 256)
    (h : Fin 2) (e : Fin 128) : resultK x md g w kn a (ix5 b l r h e) =
      if l = 1 then keyC (rowR x md g w b r) (fun d => kn (ix3 1 0 d)) h e else a (ix5 b l r h e) := by
  rw [resultK, setHeads_at, norm2_at]
  simp only [heads2_at, projected_at]
  rfl

theorem resultV_at (a : FVec Ideal S32x4x256x2x128 .f32) (b : Fin 32) (l : Fin 4) (r : Fin 256) (h : Fin 2) (e : Fin 128) :
    resultV x md g w a (ix5 b l r h e) = if l = 1 then valC (rowR x md g w b r) h e else a (ix5 b l r h e) := by
  rw [resultV, setHeads_at, vals2_at, projected_at]
  rfl

theorem resultC_at (kvn : FVec Ideal S4x1x256 .f32) (a : FVec Ideal S32x4x256x256 .f32) (b : Fin 32) (l : Fin 4) (r : Fin 256)
    (e : Fin 256) : resultC x md g w kvn a (ix4 b l r e) =
      if l = 1 then lowrank (rowR x md g w b r) (fun d => kvn (ix3 1 0 d)) e else a (ix4 b l r e) := by
  rw [resultC, setLow_at, lowNorm_at]
  simp only [lowPart_at, projected_at]
  rfl

theorem resultR_at (a : FVec Ideal S32x4x256x64 .f32) (b : Fin 32) (l : Fin 4) (r : Fin 256) (e : Fin 64) :
    resultR x md g w a (ix4 b l r e) = if l = 1 then ropeC (rowR x md g w b r) e else a (ix4 b l r e) := by
  rw [resultR, setRope_at, rope_at]
  simp only [projected_at]

end Cert.Reference7Ideal.Out
end
-- ==== Proof.TieCtx.lean ====
/- The context rows: what the kernel leaves in each of the four caches is the reference's. -/
module

public import proofs.«01_k».proof.Proof.CtxArr
public import proofs.«01_k».proof.Proof.RefCtx

@[expose] public section
noncomputable section
namespace Cert.TieCtx
open Idealize.ShloMosaic Idealize.ShloMosaic.TcCoe Idealize.SL.Sem
open Cert.Kernel7Ideal Cert.Kernel7Ideal.Gen Cert.Kernel7Ideal.Ctx Cert.Reference7Ideal.Out

variable (m : (ℓ : Loc nD τ sig) → Buf (Elt Ideal) ℓ) (c : Dev nD)

theorem keys : resultK (m (c.tc.loc main_arg0)) (m (c.tc.loc main_arg1)) (m (c.tc.loc main_arg2)) (m (c.tc.loc main_arg3))
    (m (c.tc.loc main_arg5)) (m (c.tc.loc main_arg10)) = (dats m 0 c).arrAt 11 cfg0.N := by
  rw [arr11]
  funext y
  obtain ⟨b, l, r, h, e, rfl⟩ : ∃ (b : Fin 32) (l : Fin 4) (r : Fin 256) (h : Fin 2) (e : Fin 128), y = ix5 b l r h e :=
    ⟨y 0, y 1, y 2, y 3, y 4, by funext a; fin_cases a <;> rfl⟩
  exact (resultK_at _ _ _ _ _ _ b l r h e).trans (cache5_at (cellK m c) (m (c.tc.loc main_arg10)) b l r h e).symm

theorem values : resultV (m (c.tc.loc main_arg0)) (m (c.tc.loc main_arg1)) (m (c.tc.loc main_arg2)) (m (c.tc.loc main_arg3))
    (m (c.tc.loc main_arg11)) = (dats m 0 c).arrAt 12 cfg0.N := by
  rw [arr12]
  funext y
  obtain ⟨b, l, r, h, e, rfl⟩ : ∃ (b : Fin 32) (l : Fin 4) (r : Fin 256) (h : Fin 2) (e : Fin 128), y = ix5 b l r h e :=
    ⟨y 0, y 1, y 2, y 3, y 4, by funext a; fin_cases a <;> rfl⟩
  exact (resultV_at _ _ _ _ _ b l r h e).trans (cache5_at (cellV m c) (m (c.tc.loc main_arg11)) b l r h e).symm

theorem lows : resultC (m (c.tc.loc main_arg0)) (m (c.tc.loc main_arg1)) (m (c.tc.loc main_arg2)) (m (c.tc.loc main_arg3))
    (m (c.tc.loc main_arg6)) (m (c.tc.loc main_arg12)) = (dats m 0 c).arrAt 13 cfg0.N := by
  rw [arr13]
  funext y
  obtain ⟨b, l, r, e, rfl⟩ : ∃ (b : Fin 32) (l : Fin 4) (r e : Fin 256), y = ix4 b l r e := ⟨y 0, y 1, y 2, y 3, by funext a; fin_cases a <;> rfl⟩
  exact (resultC_at _ _ _ _ _ _ b l r e).trans (cacheC_at (cellC m c) (m (c.tc.loc main_arg12)) b l r e).symm

theorem ropes : resultR (m (c.tc.loc main_arg0)) (m (c.tc.loc main_arg1)) (m (c.tc.loc main_arg2)) (m (c.tc.loc main_arg3))
    (m (c.tc.loc main_arg13)) = (dats m 0 c).arrAt 14 cfg0.N := by
  rw [arr14]
  funext y
  obtain ⟨b, l, r, e, rfl⟩ : ∃ (b : Fin 32) (l : Fin 4) (r : Fin 256) (e : Fin 64), y = ix4 b l r e := ⟨y 0, y 1, y 2, y 3, by funext a; fin_cases a <;> rfl⟩
  exact (resultR_at _ _ _ _ _ b l r e).trans (cacheR_at (cellR m c) (m (c.tc.loc main_arg13)) b l r e).symm

end Cert.TieCtx
end
-- ==== Proof.lean ====
/- The claims of the certificate: each frame from its program's run, the value claim from the two sides at every cell. -/
module

public import proofs.«01_k».proof.Defs
public import proofs.«01_k».proof.Proof.Gen.Kernel.Frame
public import proofs.«01_k».proof.Proof.Gen.KernelIdeal.Value
public import proofs.«01_k».proof.Proof.Gen.ReferenceIdeal.Run
public import proofs.«01_k».proof.Proof.Gen.Reference2Ideal.Run
public import proofs.«01_k».proof.Proof.TieA
public import proofs.«01_k».proof.Proof.FfnBits
public import proofs.«01_k».proof.Proof.TieFfn
public import proofs.«01_k».proof.Proof.Outproj
public import proofs.«01_k».proof.Proof.Lastnorm
public import proofs.«01_k».proof.Proof.TieB
public import proofs.«01_k».proof.Proof.TieProj
public import proofs.«01_k».proof.Proof.TieCtx
public import proofs.«01_k».proof.Proof.Gen.Kernel3.Frame
public import proofs.«01_k».proof.Proof.Gen.Kernel3Ideal.Value
public import proofs.«01_k».proof.Proof.Gen.Reference3Ideal.Run
public import proofs.«01_k».proof.Proof.Gen.Kernel4.Frame
public import proofs.«01_k».proof.Proof.Gen.Kernel4Ideal.Value
public import proofs.«01_k».proof.Proof.Gen.Reference4Ideal.Run
public import proofs.«01_k».proof.Proof.Gen.Kernel5.Frame
public import proofs.«01_k».proof.Proof.Gen.Kernel5Ideal.Value
public import proofs.«01_k».proof.Proof.Gen.Reference5Ideal.Run
public import proofs.«01_k».proof.Proof.Gen.Kernel6.Frame
public import proofs.«01_k».proof.Proof.Gen.Kernel6Ideal.Value
public import proofs.«01_k».proof.Proof.Gen.Reference6Ideal.Run
public import proofs.«01_k».proof.Proof.Gen.Kernel7.Frame
public import proofs.«01_k».proof.Proof.Gen.Kernel7Ideal.Value
public import proofs.«01_k».proof.Proof.Gen.Reference7Ideal.Run
public import Idealize.ShloMosaic.Adequacy
public import Idealize.ShloMosaic.Init
public import Idealize.ShloMosaic.Lib.Quiescent
public import Idealize.ShloMosaic.Lib.Tactic.ValueTie

@[expose] public section

noncomputable section

namespace Cert.Proof

open Idealize.ShloMosaic Idealize.ShloMosaic.TcCoe Idealize.SL.Sem

theorem quiescent_ReferenceIdeal : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The kernel's grouped attention is the reference's, for finite queries and keys. -/
theorem algebraic_attention : algebraic_KernelIdeal_ReferenceIdeal_pre_finite_scores := by
  intro m ρ m' ρ' hpre hagree
  refine ⟨_, Cert.KernelIdeal.Value.run (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨hq, hk, hn⟩ := Cert.Finite.spec _ _ _ _ _ (hpre c)
  obtain ⟨a0, a1, a2, a3, a4⟩ := hagree c
  refine Eq.trans ?_ ((Cert.KernelIdeal.Out.arr m c).symm.trans (Cert.KernelIdeal.Value.final5 m c))
  rw [← a0, ← a1, ← a2, ← a3, ← a4]
  rw [← a0] at hq
  rw [← a1] at hk
  rw [← a2] at hn
  exact (Cert.TieA.tie m' c hq hk hn).symm

theorem quiescent_Reference2Ideal : quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

/-- The kernel's feed-forward layer is the reference's. -/
theorem algebraic_ffn : algebraic_Kernel2Ideal_Reference2Ideal := by
  intro m ρ m' ρ' _ hagree
  refine ⟨_, Cert.Kernel2Ideal.Ffn.run_value (F := Ideal) m ρ, ?_⟩
  refine (θ_run Cert.Reference2Ideal.defs _ _).mono (fun _ h c => ⟨(h c).1.trans ?_, (h c).2⟩)
    (Cert.Reference2Ideal.Value.run (F := Ideal) m' ρ')
  obtain ⟨a0, a1, a2, a3, a4, a5⟩ := hagree c
  exact Cert.TieFfn.tie m m' c a0 a1 a2 a3 a4 a5

theorem quiescent_Reference3Ideal : quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

/-- The kernel's output projection is the reference's. -/
theorem algebraic_outproj : algebraic_Kernel3Ideal_Reference3Ideal := by
  intro m ρ m' ρ' _ hagree
  refine ⟨_, Cert.Kernel3Ideal.Value.run_blocks (F := Ideal) m ρ, ?_⟩
  refine (θ_run Cert.Reference3Ideal.defs _ _).mono (fun _ h c => ⟨(h c).1.trans ?_, (h c).2⟩)
    (Cert.Reference3Ideal.Value.run (F := Ideal) m' ρ')
  obtain ⟨a0, a1, a2, a3, a4⟩ := hagree c
  refine Eq.trans ?_ (Cert.Outproj.tie m c)
  rw [← a0, ← a1, ← a2, ← a3, ← a4]
  rfl

theorem quiescent_Reference4Ideal : quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

/-- The kernel's last norm is the reference's. -/
theorem algebraic_lastnorm : algebraic_Kernel4Ideal_Reference4Ideal := by
  intro m ρ m' ρ' _ hagree
  refine ⟨_, Cert.Kernel4Ideal.Value.run_blocks (F := Ideal) m ρ, ?_⟩
  refine (θ_run Cert.Reference4Ideal.defs _ _).mono (fun _ h c => ⟨(h c).1.trans ?_, (h c).2⟩)
    (Cert.Reference4Ideal.Value.run (F := Ideal) m' ρ')
  obtain ⟨a0, a1⟩ := hagree c
  refine Eq.trans ?_ (Cert.Lastnorm.tie m c)
  rw [← a0, ← a1]
  rfl

theorem quiescent_Reference5Ideal : quiescent_Reference5Ideal := fun m ρ _ =>
  (θ_run Cert.Reference5Ideal.defs _ _).mono (fun r h => ⟨fun c => (h c).2, sem_eq_zero_of_no_sems (by decide) r.2⟩)
    (Cert.Reference5Ideal.Value.run (F := Ideal) m ρ)

/-- The kernel's low-rank attention is the reference's, for finite queries and keys. -/
theorem algebraic_lowrank : algebraic_Kernel5Ideal_Reference5Ideal_pre_finite_scores_b := by
  intro m ρ m' ρ' hpre hagree
  refine ⟨_, Cert.Kernel5Ideal.Value.run (F := Ideal) m ρ, ?_⟩
  refine (θ_run Cert.Reference5Ideal.defs _ _).mono (fun _ h c => ⟨(h c).1.trans ?_, (h c).2⟩)
    (Cert.Reference5Ideal.Value.run (F := Ideal) m' ρ')
  obtain ⟨hq, hk, hn⟩ := Cert.FiniteB.spec _ _ _ _ _ (hpre c)
  obtain ⟨a0, a1, a2, a3, a4⟩ := hagree c
  refine Eq.trans ?_ ((Cert.Kernel5Ideal.Out.arr m c).symm.trans (Cert.Kernel5Ideal.Value.final5 m c))
  rw [← a0, ← a1, ← a2, ← a3, ← a4]
  rw [← a0] at hq
  rw [← a1] at hk
  rw [← a2] at hn
  exact (Cert.TieB.tie m' c hq hk hn).symm

theorem quiescent_Reference6Ideal : quiescent_Reference6Ideal := fun m ρ _ =>
  (θ_run Cert.Reference6Ideal.defs _ _).mono (fun r h => ⟨fun c => (h c).2.2.2.2.2.2, sem_eq_zero_of_no_sems (by decide) r.2⟩)
    (Cert.Reference6Ideal.Value.run (F := Ideal) m ρ)

/-- The kernel's projections are the reference's. -/
theorem algebraic_proj : algebraic_Kernel6Ideal_Reference6Ideal := by
  intro m ρ m' ρ' _ hagree
  refine ⟨_, _, _, _, _, _, Cert.Kernel6Ideal.Value.run_blocks (F := Ideal) m ρ, ?_⟩
  refine (θ_run Cert.Reference6Ideal.defs _ _).mono (fun _ h c => ?_) (Cert.Reference6Ideal.Value.run (F := Ideal) m' ρ')
  obtain ⟨a0, a1, a2, a3, a4, a5, a6, a7, a8, a9, a10, a11, a12⟩ := hagree c
  obtain ⟨h0, h1, h2, h3, h4, h5, hr⟩ := h c
  refine ⟨h0.trans ?_, h1.trans ?_, h2.trans ?_, h3.trans ?_, h4.trans ?_, h5.trans ?_, hr⟩
  · refine Eq.trans ?_ (Cert.TieProj.queriesA m c)
    rw [← a0, ← a1, ← a2, ← a3, ← a4, ← a9, ← a10]
    rfl
  · refine Eq.trans ?_ (Cert.TieProj.keysA m c)
    rw [← a0, ← a1, ← a2, ← a3, ← a5, ← a9, ← a10]
    rfl
  · refine Eq.trans ?_ (Cert.TieProj.valuesA m c)
    rw [← a0, ← a1, ← a2, ← a3]
    rfl
  · refine Eq.trans ?_ (Cert.TieProj.queriesB m c)
    rw [← a0, ← a1, ← a2, ← a3, ← a11, ← a12]
    rfl
  · refine Eq.trans ?_ (Cert.TieProj.keysB m c)
    rw [← a0, ← a1, ← a2, ← a3, ← a6, ← a7, ← a11, ← a12]
    rfl
  · refine Eq.trans ?_ (Cert.TieProj.valuesB m c)
    rw [← a0, ← a1, ← a2, ← a3, ← a6, ← a8]
    rfl

theorem quiescent_Reference7Ideal : quiescent_Reference7Ideal := fun m ρ _ =>
  (θ_run Cert.Reference7Ideal.defs _ _).mono (fun r h => ⟨fun c => (h c).2.2.2.2, sem_eq_zero_of_no_sems (by decide) r.2⟩)
    (Cert.Reference7Ideal.Value.run (F := Ideal) m ρ)

/-- The kernel's four caches, after the context rows, are the reference's. -/
theorem algebraic_ctx : algebraic_Kernel7Ideal_Reference7Ideal := by
  intro m ρ m' ρ' _ hagree
  refine ⟨_, _, _, _, (θ_run Cert.Kernel7Ideal.defs _ _).mono (fun _ h c => (h c).2) (Cert.Kernel7Ideal.Value.run_blocks (F := Ideal) m ρ), ?_⟩
  refine (θ_run Cert.Reference7Ideal.defs _ _).mono (fun _ h c => ?_) (Cert.Reference7Ideal.Value.run (F := Ideal) m' ρ')
  obtain ⟨a0, a1, a2, a3, a4, a5, a6, a7, a8, a9, a10, a11, a12, a13⟩ := hagree c
  obtain ⟨h0, h1, h2, h3, hr⟩ := h c
  refine ⟨h0.trans ?_, h1.trans ?_, h2.trans ?_, h3.trans ?_, hr⟩
  · refine Eq.trans ?_ (Cert.TieCtx.keys m c)
    rw [← a0, ← a1, ← a2, ← a3, ← a5, ← a10]
    rfl
  · refine Eq.trans ?_ (Cert.TieCtx.values m c)
    rw [← a0, ← a1, ← a2, ← a3, ← a11]
    rfl
  · refine Eq.trans ?_ (Cert.TieCtx.lows m c)
    rw [← a0, ← a1, ← a2, ← a3, ← a6, ← a12]
    rfl
  · refine Eq.trans ?_ (Cert.TieCtx.ropes m c)
    rw [← a0, ← a1, ← a2, ← a3, ← a13]
    rfl

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts, Cert.Finite.facts, Cert.FiniteB.facts,
  fun m ρ _ => Cert.Kernel.Gen.frame m ρ, fun m ρ _ => Cert.KernelIdeal.Gen.frame m ρ,
  fun m ρ _ => Cert.KernelIdeal.Gen.frame m ρ, quiescent_ReferenceIdeal, fun m ρ _ => quiescent_ReferenceIdeal m ρ trivial,
  Cert.Kernel2.Ffn.quiescent_bits, fun m ρ _ => Cert.Kernel2Ideal.Ffn.frame_quiescent (F := Ideal) m ρ,
  quiescent_Reference2Ideal,
  fun m ρ _ => Cert.Kernel3.Gen.frame m ρ, fun m ρ _ => Cert.Kernel3Ideal.Gen.frame m ρ, quiescent_Reference3Ideal,
  fun m ρ _ => Cert.Kernel4.Gen.frame m ρ, fun m ρ _ => Cert.Kernel4Ideal.Gen.frame m ρ, quiescent_Reference4Ideal,
  fun m ρ _ => Cert.Kernel5.Gen.frame m ρ, fun m ρ _ => Cert.Kernel5Ideal.Gen.frame m ρ,
  fun m ρ _ => Cert.Kernel5Ideal.Gen.frame m ρ, quiescent_Reference5Ideal, fun m ρ _ => quiescent_Reference5Ideal m ρ trivial,
  fun m ρ _ => Cert.Kernel6.Gen.frame m ρ, fun m ρ _ => Cert.Kernel6Ideal.Gen.frame m ρ, quiescent_Reference6Ideal,
  fun m ρ _ => Cert.Kernel7.Gen.frame m ρ, fun m ρ _ => Cert.Kernel7Ideal.Gen.frame m ρ, quiescent_Reference7Ideal,
  (trivial : preserves_Kernel_KernelIdeal), algebraic_attention, (trivial : preserves_Kernel2_Kernel2Ideal), algebraic_ffn,
  (trivial : preserves_Kernel3_Kernel3Ideal), algebraic_outproj, (trivial : preserves_Kernel4_Kernel4Ideal), algebraic_lastnorm,
  (trivial : preserves_Kernel5_Kernel5Ideal), algebraic_lowrank,
  (trivial : preserves_Kernel6_Kernel6Ideal), algebraic_proj, (trivial : preserves_Kernel7_Kernel7Ideal), algebraic_ctx⟩

end Cert.Proof

end
